-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![4096, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![4096, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S8x128x128 : Shape := ⟨3, ![8, 128, 128]⟩
abbrev S3x128x1024 : Shape := ⟨3, ![3, 128, 1024]⟩
abbrev S3x1024x128 : Shape := ⟨3, ![3, 1024, 128]⟩
abbrev S18 : Shape := ⟨1, ![18]⟩
abbrev S8 : Shape := ⟨1, ![8]⟩
abbrev S_ : Shape := ⟨0, ![]⟩
abbrev S1x128x256 : Shape := ⟨3, ![1, 128, 256]⟩
abbrev S1x256x128 : Shape := ⟨3, ![1, 256, 128]⟩
abbrev S1 : Shape := ⟨1, ![1]⟩
abbrev S1x128x128 : Shape := ⟨3, ![1, 128, 128]⟩
abbrev S1x128x1024 : Shape := ⟨3, ![1, 128, 1024]⟩
abbrev S128x1024 : Shape := ⟨2, ![128, 1024]⟩
abbrev S1x1024x128 : Shape := ⟨3, ![1, 1024, 128]⟩
abbrev S1024x128 : Shape := ⟨2, ![1024, 128]⟩
abbrev S3x128x128 : Shape := ⟨3, ![3, 128, 128]⟩
abbrev S384x128 : Shape := ⟨2, ![384, 128]⟩
abbrev S384x1024 : Shape := ⟨2, ![384, 1024]⟩
abbrev S4x128x128 : Shape := ⟨3, ![4, 128, 128]⟩
abbrev S512x128 : Shape := ⟨2, ![512, 128]⟩
abbrev S512x1024 : Shape := ⟨2, ![512, 1024]⟩
abbrev S7x128x128 : Shape := ⟨3, ![7, 128, 128]⟩

abbrev nBuf : Space → Nat
  | .hbm => 8
  | .vmem => 13
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S8x128x128, .bf16⟩
  | .local _ .vmem, ⟨9, _⟩ => ⟨S8x128x128, .bf16⟩
  | .local _ .vmem, ⟨10, _⟩ => ⟨S8x128x128, .bf16⟩
  | .local _ .vmem, ⟨11, _⟩ => ⟨S3x128x1024, .bf16⟩
  | .local _ .vmem, ⟨12, _⟩ => ⟨S3x1024x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 2 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let c8_i32_6 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v22 : BitVec 32 := Scalar.muli c8_i32_6 v19
  let c8_i32_5 : BitVec 32 := 8#32
  let v20 : BitVec 32 := Scalar.remsi v2 c8_i32_5
  let c1_i32_7 : BitVec 32 := 1#32
  let v23 : BitVec 32 := Scalar.addi v20 c1_i32_7
  let c8_i32_8 : BitVec 32 := 8#32
  let v24 : BitVec 32 := Scalar.remsi v23 c8_i32_8
  let v25 : BitVec 32 := Scalar.addi v22 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_16 : BitVec 32 := 0#32
  let c8_i32_12 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v28 : BitVec 32 := Scalar.muli c8_i32_12 v19
  let c8_i32_5 : BitVec 32 := 8#32
  let v20 : BitVec 32 := Scalar.remsi v2 c8_i32_5
  let c2_i32 : BitVec 32 := 2#32
  let v29 : BitVec 32 := Scalar.addi v20 c2_i32
  let c8_i32_13 : BitVec 32 := 8#32
  let v30 : BitVec 32 := Scalar.remsi v29 c8_i32_13
  let v31 : BitVec 32 := Scalar.addi v28 v30
  let c1_i32_15 : BitVec 32 := 1#32
  let v32 : BitVec 32 := Scalar.muli v31 c1_i32_15
  let v33 : BitVec 32 := Scalar.addi c0_i32_16 v32
  v33.toNat
def k0_dev3 (d0 : Dev nD) : Nat :=
  let c0_i32_21 : BitVec 32 := 0#32
  let c8_i32_17 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v34 : BitVec 32 := Scalar.muli c8_i32_17 v19
  let c8_i32_5 : BitVec 32 := 8#32
  let v20 : BitVec 32 := Scalar.remsi v2 c8_i32_5
  let c3_i32 : BitVec 32 := 3#32
  let v35 : BitVec 32 := Scalar.addi v20 c3_i32
  let c8_i32_18 : BitVec 32 := 8#32
  let v36 : BitVec 32 := Scalar.remsi v35 c8_i32_18
  let v37 : BitVec 32 := Scalar.addi v34 v36
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_26 : BitVec 32 := 0#32
  let c8_i32_22 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v40 : BitVec 32 := Scalar.muli c8_i32_22 v19
  let c8_i32_5 : BitVec 32 := 8#32
  let v20 : BitVec 32 := Scalar.remsi v2 c8_i32_5
  let c4_i32 : BitVec 32 := 4#32
  let v41 : BitVec 32 := Scalar.addi v20 c4_i32
  let c8_i32_23 : BitVec 32 := 8#32
  let v42 : BitVec 32 := Scalar.remsi v41 c8_i32_23
  let v43 : BitVec 32 := Scalar.addi v40 v42
  let c1_i32_25 : BitVec 32 := 1#32
  let v44 : BitVec 32 := Scalar.muli v43 c1_i32_25
  let v45 : BitVec 32 := Scalar.addi c0_i32_26 v44
  v45.toNat
def k0_dev5 (d0 : Dev nD) : Nat :=
  let c0_i32_31 : BitVec 32 := 0#32
  let c8_i32_27 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v46 : BitVec 32 := Scalar.muli c8_i32_27 v19
  let c8_i32_5 : BitVec 32 := 8#32
  let v20 : BitVec 32 := Scalar.remsi v2 c8_i32_5
  let c5_i32 : BitVec 32 := 5#32
  let v47 : BitVec 32 := Scalar.addi v20 c5_i32
  let c8_i32_28 : BitVec 32 := 8#32
  let v48 : BitVec 32 := Scalar.remsi v47 c8_i32_28
  let v49 : BitVec 32 := Scalar.addi v46 v48
  let c1_i32_30 : BitVec 32 := 1#32
  let v50 : BitVec 32 := Scalar.muli v49 c1_i32_30
  let v51 : BitVec 32 := Scalar.addi c0_i32_31 v50
  v51.toNat
def k0_dev6 (d0 : Dev nD) : Nat :=
  let c0_i32_36 : BitVec 32 := 0#32
  let c8_i32_32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v52 : BitVec 32 := Scalar.muli c8_i32_32 v19
  let c8_i32_5 : BitVec 32 := 8#32
  let v20 : BitVec 32 := Scalar.remsi v2 c8_i32_5
  let c6_i32 : BitVec 32 := 6#32
  let v53 : BitVec 32 := Scalar.addi v20 c6_i32
  let c8_i32_33 : BitVec 32 := 8#32
  let v54 : BitVec 32 := Scalar.remsi v53 c8_i32_33
  let v55 : BitVec 32 := Scalar.addi v52 v54
  let c1_i32_35 : BitVec 32 := 1#32
  let v56 : BitVec 32 := Scalar.muli v55 c1_i32_35
  let v57 : BitVec 32 := Scalar.addi c0_i32_36 v56
  v57.toNat
def k0_dev7 (d0 : Dev nD) : Nat :=
  let c0_i32_41 : BitVec 32 := 0#32
  let c8_i32_37 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v58 : BitVec 32 := Scalar.muli c8_i32_37 v19
  let c8_i32_5 : BitVec 32 := 8#32
  let v20 : BitVec 32 := Scalar.remsi v2 c8_i32_5
  let c7_i32 : BitVec 32 := 7#32
  let v59 : BitVec 32 := Scalar.addi v20 c7_i32
  let c8_i32_38 : BitVec 32 := 8#32
  let v60 : BitVec 32 := Scalar.remsi v59 c8_i32_38
  let v61 : BitVec 32 := Scalar.addi v58 v60
  let c1_i32_40 : BitVec 32 := 1#32
  let v62 : BitVec 32 := Scalar.muli v61 c1_i32_40
  let v63 : BitVec 32 := Scalar.addi c0_i32_41 v62
  v63.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_44 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v64 : BitVec 32 := Scalar.addi v19 c1_i32_42
  let c4_i32_43 : BitVec 32 := 4#32
  let v65 : BitVec 32 := Scalar.remsi v64 c4_i32_43
  let v66 : BitVec 32 := Scalar.muli c8_i32_44 v65
  let v67 : BitVec 32 := Scalar.addi v20 v66
  let c1_i32_46 : BitVec 32 := 1#32
  let v68 : BitVec 32 := Scalar.muli v67 c1_i32_46
  let v69 : BitVec 32 := Scalar.addi c0_i32_47 v68
  v69.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_50 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v70 : BitVec 32 := Scalar.addi v19 c2_i32_48
  let c4_i32_49 : BitVec 32 := 4#32
  let v71 : BitVec 32 := Scalar.remsi v70 c4_i32_49
  let v72 : BitVec 32 := Scalar.muli c8_i32_50 v71
  let v73 : BitVec 32 := Scalar.addi v20 v72
  let c1_i32_52 : BitVec 32 := 1#32
  let v74 : BitVec 32 := Scalar.muli v73 c1_i32_52
  let v75 : BitVec 32 := Scalar.addi c0_i32_53 v74
  v75.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_56 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v76 : BitVec 32 := Scalar.addi v19 c3_i32_54
  let c4_i32_55 : BitVec 32 := 4#32
  let v77 : BitVec 32 := Scalar.remsi v76 c4_i32_55
  let v78 : BitVec 32 := Scalar.muli c8_i32_56 v77
  let v79 : BitVec 32 := Scalar.addi v20 v78
  let c1_i32_58 : BitVec 32 := 1#32
  let v80 : BitVec 32 := Scalar.muli v79 c1_i32_58
  let v81 : BitVec 32 := Scalar.addi c0_i32_59 v80
  v81.toNat
def k0_off1 (d0 : Dev nD) : Fin 3 → Nat :=
  let c0_61 : Index := 0#32
  let c0_62 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32 : BitVec 32 := 256#32
  let v85 : BitVec 32 := Scalar.muli v19 c256_i32
  let v86 : Index := Scalar.indexCast v85
  ![0, 0, v86.toNat]
def k0_off2 (d0 : Dev nD) : Fin 3 → Nat :=
  let c0_66 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_65 : BitVec 32 := 256#32
  let v93 : BitVec 32 := Scalar.muli v19 c256_i32_65
  let v94 : Index := Scalar.indexCast v93
  let c0_67 : Index := 0#32
  ![0, v94.toNat, 0]
def k0_off3 (d0 : Dev nD) : Fin 3 → Nat :=
  let c1 : Index := 1#32
  let c0_71 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_70 : BitVec 32 := 256#32
  let v101 : BitVec 32 := Scalar.muli v19 c256_i32_70
  let v102 : Index := Scalar.indexCast v101
  ![1, 0, v102.toNat]
def k0_off4 (d0 : Dev nD) : Fin 3 → Nat :=
  let c1_75 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_74 : BitVec 32 := 256#32
  let v109 : BitVec 32 := Scalar.muli v19 c256_i32_74
  let v110 : Index := Scalar.indexCast v109
  let c0_76 : Index := 0#32
  ![1, v110.toNat, 0]
def k0_off5 (d0 : Dev nD) : Fin 3 → Nat :=
  let c2 : Index := 2#32
  let c0_80 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_79 : BitVec 32 := 256#32
  let v117 : BitVec 32 := Scalar.muli v19 c256_i32_79
  let v118 : Index := Scalar.indexCast v117
  ![2, 0, v118.toNat]
def k0_off6 (d0 : Dev nD) : Fin 3 → Nat :=
  let c2_84 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_83 : BitVec 32 := 256#32
  let v125 : BitVec 32 := Scalar.muli v19 c256_i32_83
  let v126 : Index := Scalar.indexCast v125
  let c0_85 : Index := 0#32
  ![2, v126.toNat, 0]
def k0_off7 (d0 : Dev nD) : Fin 3 → Nat :=
  let c0_i32_91 : BitVec 32 := 0#32
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_89 : BitVec 32 := 256#32
  let v134 : BitVec 32 := Scalar.muli v19 c256_i32_89
  ![0, 0, v134.toNat]
def k0_dev11 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_94 : BitVec 32 := 1#32
  let v135 : BitVec 32 := Scalar.muli v133 c1_i32_94
  let v136 : BitVec 32 := Scalar.addi c0_i32_95 v135
  v136.toNat
def k0_off8 (d0 : Dev nD) : Fin 3 → Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_98 : BitVec 32 := 256#32
  let v145 : BitVec 32 := Scalar.muli v19 c256_i32_98
  let c0_i32_105 : BitVec 32 := 0#32
  ![0, v145.toNat, 0]
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_103 : BitVec 32 := 1#32
  let v146 : BitVec 32 := Scalar.muli v133 c1_i32_103
  let v147 : BitVec 32 := Scalar.addi c0_i32_104 v146
  v147.toNat
def k0_off9 (d0 : Dev nD) : Fin 3 → Nat :=
  let c1_i32_109 : BitVec 32 := 1#32
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_107 : BitVec 32 := 256#32
  let v156 : BitVec 32 := Scalar.muli v19 c256_i32_107
  ![1, 0, v156.toNat]
def k0_dev13 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_112 : BitVec 32 := 1#32
  let v157 : BitVec 32 := Scalar.muli v133 c1_i32_112
  let v158 : BitVec 32 := Scalar.addi c0_i32_113 v157
  v158.toNat
def k0_off10 (d0 : Dev nD) : Fin 3 → Nat :=
  let c1_i32_118 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_116 : BitVec 32 := 256#32
  let v167 : BitVec 32 := Scalar.muli v19 c256_i32_116
  let c0_i32_123 : BitVec 32 := 0#32
  ![1, v167.toNat, 0]
def k0_dev14 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_121 : BitVec 32 := 1#32
  let v168 : BitVec 32 := Scalar.muli v133 c1_i32_121
  let v169 : BitVec 32 := Scalar.addi c0_i32_122 v168
  v169.toNat
def k0_off11 (d0 : Dev nD) : Fin 3 → Nat :=
  let c2_i32_127 : BitVec 32 := 2#32
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_125 : BitVec 32 := 256#32
  let v178 : BitVec 32 := Scalar.muli v19 c256_i32_125
  ![2, 0, v178.toNat]
def k0_dev15 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_130 : BitVec 32 := 1#32
  let v179 : BitVec 32 := Scalar.muli v133 c1_i32_130
  let v180 : BitVec 32 := Scalar.addi c0_i32_131 v179
  v180.toNat
def k0_off12 (d0 : Dev nD) : Fin 3 → Nat :=
  let c2_i32_136 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_134 : BitVec 32 := 256#32
  let v189 : BitVec 32 := Scalar.muli v19 c256_i32_134
  let c0_i32_141 : BitVec 32 := 0#32
  ![2, v189.toNat, 0]
def k0_dev16 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_88 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_86 : BitVec 32 := 1#32
  let v130 : BitVec 32 := Scalar.addi v19 c1_i32_86
  let c4_i32_87 : BitVec 32 := 4#32
  let v131 : BitVec 32 := Scalar.remsi v130 c4_i32_87
  let v132 : BitVec 32 := Scalar.muli c8_i32_88 v131
  let v133 : BitVec 32 := Scalar.addi v20 v132
  let c1_i32_139 : BitVec 32 := 1#32
  let v190 : BitVec 32 := Scalar.muli v133 c1_i32_139
  let v191 : BitVec 32 := Scalar.addi c0_i32_140 v190
  v191.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_151 : BitVec 32 := 1#32
  let v205 : BitVec 32 := Scalar.muli v203 c1_i32_151
  let v206 : BitVec 32 := Scalar.addi c0_i32_152 v205
  v206.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_160 : BitVec 32 := 1#32
  let v216 : BitVec 32 := Scalar.muli v203 c1_i32_160
  let v217 : BitVec 32 := Scalar.addi c0_i32_161 v216
  v217.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_169 : BitVec 32 := 1#32
  let v227 : BitVec 32 := Scalar.muli v203 c1_i32_169
  let v228 : BitVec 32 := Scalar.addi c0_i32_170 v227
  v228.toNat
def k0_dev20 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_177 : BitVec 32 := 1#32
  let v238 : BitVec 32 := Scalar.muli v203 c1_i32_177
  let v239 : BitVec 32 := Scalar.addi c0_i32_178 v238
  v239.toNat
def k0_dev21 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_186 : BitVec 32 := 1#32
  let v249 : BitVec 32 := Scalar.muli v203 c1_i32_186
  let v250 : BitVec 32 := Scalar.addi c0_i32_187 v249
  v250.toNat
def k0_dev22 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_145 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_143 : BitVec 32 := 2#32
  let v200 : BitVec 32 := Scalar.addi v19 c2_i32_143
  let c4_i32_144 : BitVec 32 := 4#32
  let v201 : BitVec 32 := Scalar.remsi v200 c4_i32_144
  let v202 : BitVec 32 := Scalar.muli c8_i32_145 v201
  let v203 : BitVec 32 := Scalar.addi v20 v202
  let c1_i32_194 : BitVec 32 := 1#32
  let v260 : BitVec 32 := Scalar.muli v203 c1_i32_194
  let v261 : BitVec 32 := Scalar.addi c0_i32_195 v260
  v261.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_205 : BitVec 32 := 1#32
  let v275 : BitVec 32 := Scalar.muli v273 c1_i32_205
  let v276 : BitVec 32 := Scalar.addi c0_i32_206 v275
  v276.toNat
def k0_dev24 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_213 : BitVec 32 := 1#32
  let v286 : BitVec 32 := Scalar.muli v273 c1_i32_213
  let v287 : BitVec 32 := Scalar.addi c0_i32_214 v286
  v287.toNat
def k0_dev25 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_221 : BitVec 32 := 1#32
  let v297 : BitVec 32 := Scalar.muli v273 c1_i32_221
  let v298 : BitVec 32 := Scalar.addi c0_i32_222 v297
  v298.toNat
def k0_dev26 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_229 : BitVec 32 := 1#32
  let v308 : BitVec 32 := Scalar.muli v273 c1_i32_229
  let v309 : BitVec 32 := Scalar.addi c0_i32_230 v308
  v309.toNat
def k0_dev27 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_237 : BitVec 32 := 1#32
  let v319 : BitVec 32 := Scalar.muli v273 c1_i32_237
  let v320 : BitVec 32 := Scalar.addi c0_i32_238 v319
  v320.toNat
def k0_dev28 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_200 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v270 : BitVec 32 := Scalar.addi v19 c3_i32_198
  let c4_i32_199 : BitVec 32 := 4#32
  let v271 : BitVec 32 := Scalar.remsi v270 c4_i32_199
  let v272 : BitVec 32 := Scalar.muli c8_i32_200 v271
  let v273 : BitVec 32 := Scalar.addi v20 v272
  let c1_i32_245 : BitVec 32 := 1#32
  let v330 : BitVec 32 := Scalar.muli v273 c1_i32_245
  let v331 : BitVec 32 := Scalar.addi c0_i32_246 v330
  v331.toNat
def k0_dev29 (d0 : Dev nD) : Nat :=
  let c0_i32_262 : BitVec 32 := 0#32
  let c8_i32_254 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v346 : BitVec 32 := Scalar.muli c8_i32_254 v19
  let c8_i32_5 : BitVec 32 := 8#32
  let v20 : BitVec 32 := Scalar.remsi v2 c8_i32_5
  let c1_i32_255 : BitVec 32 := 1#32
  let v347 : BitVec 32 := Scalar.addi v20 c1_i32_255
  let c8_i32_256 : BitVec 32 := 8#32
  let v348 : BitVec 32 := Scalar.remsi v347 c8_i32_256
  let v349 : BitVec 32 := Scalar.addi v346 v348
  let c1_i32_261 : BitVec 32 := 1#32
  let v350 : BitVec 32 := Scalar.muli v349 c1_i32_261
  let v351 : BitVec 32 := Scalar.addi c0_i32_262 v350
  v351.toNat
def k0_dev30 (d0 : Dev nD) : Nat :=
  let c0_i32_275 : BitVec 32 := 0#32
  let c8_i32_267 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v360 : BitVec 32 := Scalar.muli c8_i32_267 v19
  let c8_i32_5 : BitVec 32 := 8#32
  let v20 : BitVec 32 := Scalar.remsi v2 c8_i32_5
  let c2_i32_268 : BitVec 32 := 2#32
  let v361 : BitVec 32 := Scalar.addi v20 c2_i32_268
  let c8_i32_269 : BitVec 32 := 8#32
  let v362 : BitVec 32 := Scalar.remsi v361 c8_i32_269
  let v363 : BitVec 32 := Scalar.addi v360 v362
  let c1_i32_274 : BitVec 32 := 1#32
  let v364 : BitVec 32 := Scalar.muli v363 c1_i32_274
  let v365 : BitVec 32 := Scalar.addi c0_i32_275 v364
  v365.toNat
def k0_dev31 (d0 : Dev nD) : Nat :=
  let c0_i32_288 : BitVec 32 := 0#32
  let c8_i32_280 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v374 : BitVec 32 := Scalar.muli c8_i32_280 v19
  let c8_i32_5 : BitVec 32 := 8#32
  let v20 : BitVec 32 := Scalar.remsi v2 c8_i32_5
  let c3_i32_281 : BitVec 32 := 3#32
  let v375 : BitVec 32 := Scalar.addi v20 c3_i32_281
  let c8_i32_282 : BitVec 32 := 8#32
  let v376 : BitVec 32 := Scalar.remsi v375 c8_i32_282
  let v377 : BitVec 32 := Scalar.addi v374 v376
  let c1_i32_287 : BitVec 32 := 1#32
  let v378 : BitVec 32 := Scalar.muli v377 c1_i32_287
  let v379 : BitVec 32 := Scalar.addi c0_i32_288 v378
  v379.toNat
def k0_dev32 (d0 : Dev nD) : Nat :=
  let c0_i32_301 : BitVec 32 := 0#32
  let c8_i32_293 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v388 : BitVec 32 := Scalar.muli c8_i32_293 v19
  let c8_i32_5 : BitVec 32 := 8#32
  let v20 : BitVec 32 := Scalar.remsi v2 c8_i32_5
  let c4_i32_294 : BitVec 32 := 4#32
  let v389 : BitVec 32 := Scalar.addi v20 c4_i32_294
  let c8_i32_295 : BitVec 32 := 8#32
  let v390 : BitVec 32 := Scalar.remsi v389 c8_i32_295
  let v391 : BitVec 32 := Scalar.addi v388 v390
  let c1_i32_300 : BitVec 32 := 1#32
  let v392 : BitVec 32 := Scalar.muli v391 c1_i32_300
  let v393 : BitVec 32 := Scalar.addi c0_i32_301 v392
  v393.toNat
def k0_dev33 (d0 : Dev nD) : Nat :=
  let c0_i32_314 : BitVec 32 := 0#32
  let c8_i32_306 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v402 : BitVec 32 := Scalar.muli c8_i32_306 v19
  let c8_i32_5 : BitVec 32 := 8#32
  let v20 : BitVec 32 := Scalar.remsi v2 c8_i32_5
  let c5_i32_307 : BitVec 32 := 5#32
  let v403 : BitVec 32 := Scalar.addi v20 c5_i32_307
  let c8_i32_308 : BitVec 32 := 8#32
  let v404 : BitVec 32 := Scalar.remsi v403 c8_i32_308
  let v405 : BitVec 32 := Scalar.addi v402 v404
  let c1_i32_313 : BitVec 32 := 1#32
  let v406 : BitVec 32 := Scalar.muli v405 c1_i32_313
  let v407 : BitVec 32 := Scalar.addi c0_i32_314 v406
  v407.toNat
def k0_dev34 (d0 : Dev nD) : Nat :=
  let c0_i32_327 : BitVec 32 := 0#32
  let c8_i32_319 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v416 : BitVec 32 := Scalar.muli c8_i32_319 v19
  let c8_i32_5 : BitVec 32 := 8#32
  let v20 : BitVec 32 := Scalar.remsi v2 c8_i32_5
  let c6_i32_320 : BitVec 32 := 6#32
  let v417 : BitVec 32 := Scalar.addi v20 c6_i32_320
  let c8_i32_321 : BitVec 32 := 8#32
  let v418 : BitVec 32 := Scalar.remsi v417 c8_i32_321
  let v419 : BitVec 32 := Scalar.addi v416 v418
  let c1_i32_326 : BitVec 32 := 1#32
  let v420 : BitVec 32 := Scalar.muli v419 c1_i32_326
  let v421 : BitVec 32 := Scalar.addi c0_i32_327 v420
  v421.toNat
def k0_dev35 (d0 : Dev nD) : Nat :=
  let c0_i32_340 : BitVec 32 := 0#32
  let c8_i32_332 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v430 : BitVec 32 := Scalar.muli c8_i32_332 v19
  let c8_i32_5 : BitVec 32 := 8#32
  let v20 : BitVec 32 := Scalar.remsi v2 c8_i32_5
  let c7_i32_333 : BitVec 32 := 7#32
  let v431 : BitVec 32 := Scalar.addi v20 c7_i32_333
  let c8_i32_334 : BitVec 32 := 8#32
  let v432 : BitVec 32 := Scalar.remsi v431 c8_i32_334
  let v433 : BitVec 32 := Scalar.addi v430 v432
  let c1_i32_339 : BitVec 32 := 1#32
  let v434 : BitVec 32 := Scalar.muli v433 c1_i32_339
  let v435 : BitVec 32 := Scalar.addi c0_i32_340 v434
  v435.toNat
def k0_off13 (d0 : Dev nD) (c1_i32_346 : BitVec 32) : Fin 3 → Nat :=
  let c0_i32_351 : BitVec 32 := 0#32
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_345 : BitVec 32 := 4#32
  let v444 : BitVec 32 := Scalar.addi v19 c4_i32_345
  let v445 : BitVec 32 := Scalar.subi v444 c1_i32_346
  let c4_i32_347 : BitVec 32 := 4#32
  let v446 : BitVec 32 := Scalar.remsi v445 c4_i32_347
  let c256_i32_349 : BitVec 32 := 256#32
  let v449 : BitVec 32 := Scalar.muli v446 c256_i32_349
  ![0, 0, v449.toNat]
def k0_off14 (d0 : Dev nD) (c1_i32_346 : BitVec 32) : Fin 3 → Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_345 : BitVec 32 := 4#32
  let v444 : BitVec 32 := Scalar.addi v19 c4_i32_345
  let v445 : BitVec 32 := Scalar.subi v444 c1_i32_346
  let c4_i32_347 : BitVec 32 := 4#32
  let v446 : BitVec 32 := Scalar.remsi v445 c4_i32_347
  let c256_i32_358 : BitVec 32 := 256#32
  let v458 : BitVec 32 := Scalar.muli v446 c256_i32_358
  let c0_i32_365 : BitVec 32 := 0#32
  ![0, v458.toNat, 0]
def k0_dev36 (d0 : Dev nD) : Nat :=
  let c0_i32_470 : BitVec 32 := 0#32
  let c8_i32_461 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v560 : BitVec 32 := Scalar.muli c8_i32_461 v19
  let c8_i32_5 : BitVec 32 := 8#32
  let v20 : BitVec 32 := Scalar.remsi v2 c8_i32_5
  let c8_i32_462 : BitVec 32 := 8#32
  let v561 : BitVec 32 := Scalar.addi v20 c8_i32_462
  let c1_i32_463 : BitVec 32 := 1#32
  let v562 : BitVec 32 := Scalar.subi v561 c1_i32_463
  let c8_i32_464 : BitVec 32 := 8#32
  let v563 : BitVec 32 := Scalar.remsi v562 c8_i32_464
  let v564 : BitVec 32 := Scalar.addi v560 v563
  let c1_i32_469 : BitVec 32 := 1#32
  let v565 : BitVec 32 := Scalar.muli v564 c1_i32_469
  let v566 : BitVec 32 := Scalar.addi c0_i32_470 v565
  v566.toNat
def k0_dev37 (d0 : Dev nD) : Nat :=
  let c0_i32_484 : BitVec 32 := 0#32
  let c8_i32_475 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v575 : BitVec 32 := Scalar.muli c8_i32_475 v19
  let c8_i32_5 : BitVec 32 := 8#32
  let v20 : BitVec 32 := Scalar.remsi v2 c8_i32_5
  let c8_i32_476 : BitVec 32 := 8#32
  let v576 : BitVec 32 := Scalar.addi v20 c8_i32_476
  let c2_i32_477 : BitVec 32 := 2#32
  let v577 : BitVec 32 := Scalar.subi v576 c2_i32_477
  let c8_i32_478 : BitVec 32 := 8#32
  let v578 : BitVec 32 := Scalar.remsi v577 c8_i32_478
  let v579 : BitVec 32 := Scalar.addi v575 v578
  let c1_i32_483 : BitVec 32 := 1#32
  let v580 : BitVec 32 := Scalar.muli v579 c1_i32_483
  let v581 : BitVec 32 := Scalar.addi c0_i32_484 v580
  v581.toNat
def k0_dev38 (d0 : Dev nD) : Nat :=
  let c0_i32_498 : BitVec 32 := 0#32
  let c8_i32_489 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v590 : BitVec 32 := Scalar.muli c8_i32_489 v19
  let c8_i32_5 : BitVec 32 := 8#32
  let v20 : BitVec 32 := Scalar.remsi v2 c8_i32_5
  let c8_i32_490 : BitVec 32 := 8#32
  let v591 : BitVec 32 := Scalar.addi v20 c8_i32_490
  let c3_i32_491 : BitVec 32 := 3#32
  let v592 : BitVec 32 := Scalar.subi v591 c3_i32_491
  let c8_i32_492 : BitVec 32 := 8#32
  let v593 : BitVec 32 := Scalar.remsi v592 c8_i32_492
  let v594 : BitVec 32 := Scalar.addi v590 v593
  let c1_i32_497 : BitVec 32 := 1#32
  let v595 : BitVec 32 := Scalar.muli v594 c1_i32_497
  let v596 : BitVec 32 := Scalar.addi c0_i32_498 v595
  v596.toNat
def k0_dev39 (d0 : Dev nD) : Nat :=
  let c0_i32_560 : BitVec 32 := 0#32
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v649 : BitVec 32 := Scalar.muli c8_i32_551 v19
  let c8_i32_5 : BitVec 32 := 8#32
  let v20 : BitVec 32 := Scalar.remsi v2 c8_i32_5
  let c8_i32_552 : BitVec 32 := 8#32
  let v650 : BitVec 32 := Scalar.addi v20 c8_i32_552
  let c4_i32_553 : BitVec 32 := 4#32
  let v651 : BitVec 32 := Scalar.subi v650 c4_i32_553
  let c8_i32_554 : BitVec 32 := 8#32
  let v652 : BitVec 32 := Scalar.remsi v651 c8_i32_554
  let v653 : BitVec 32 := Scalar.addi v649 v652
  let c1_i32_559 : BitVec 32 := 1#32
  let v654 : BitVec 32 := Scalar.muli v653 c1_i32_559
  let v655 : BitVec 32 := Scalar.addi c0_i32_560 v654
  v655.toNat
def k0_dev40 (d0 : Dev nD) : Nat :=
  let c0_i32_574 : BitVec 32 := 0#32
  let c8_i32_565 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v664 : BitVec 32 := Scalar.muli c8_i32_565 v19
  let c8_i32_5 : BitVec 32 := 8#32
  let v20 : BitVec 32 := Scalar.remsi v2 c8_i32_5
  let c8_i32_566 : BitVec 32 := 8#32
  let v665 : BitVec 32 := Scalar.addi v20 c8_i32_566
  let c5_i32_567 : BitVec 32 := 5#32
  let v666 : BitVec 32 := Scalar.subi v665 c5_i32_567
  let c8_i32_568 : BitVec 32 := 8#32
  let v667 : BitVec 32 := Scalar.remsi v666 c8_i32_568
  let v668 : BitVec 32 := Scalar.addi v664 v667
  let c1_i32_573 : BitVec 32 := 1#32
  let v669 : BitVec 32 := Scalar.muli v668 c1_i32_573
  let v670 : BitVec 32 := Scalar.addi c0_i32_574 v669
  v670.toNat
def k0_dev41 (d0 : Dev nD) : Nat :=
  let c0_i32_588 : BitVec 32 := 0#32
  let c8_i32_579 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v679 : BitVec 32 := Scalar.muli c8_i32_579 v19
  let c8_i32_5 : BitVec 32 := 8#32
  let v20 : BitVec 32 := Scalar.remsi v2 c8_i32_5
  let c8_i32_580 : BitVec 32 := 8#32
  let v680 : BitVec 32 := Scalar.addi v20 c8_i32_580
  let c6_i32_581 : BitVec 32 := 6#32
  let v681 : BitVec 32 := Scalar.subi v680 c6_i32_581
  let c8_i32_582 : BitVec 32 := 8#32
  let v682 : BitVec 32 := Scalar.remsi v681 c8_i32_582
  let v683 : BitVec 32 := Scalar.addi v679 v682
  let c1_i32_587 : BitVec 32 := 1#32
  let v684 : BitVec 32 := Scalar.muli v683 c1_i32_587
  let v685 : BitVec 32 := Scalar.addi c0_i32_588 v684
  v685.toNat
def k0_dev42 (d0 : Dev nD) : Nat :=
  let c0_i32_602 : BitVec 32 := 0#32
  let c8_i32_593 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v694 : BitVec 32 := Scalar.muli c8_i32_593 v19
  let c8_i32_5 : BitVec 32 := 8#32
  let v20 : BitVec 32 := Scalar.remsi v2 c8_i32_5
  let c8_i32_594 : BitVec 32 := 8#32
  let v695 : BitVec 32 := Scalar.addi v20 c8_i32_594
  let c7_i32_595 : BitVec 32 := 7#32
  let v696 : BitVec 32 := Scalar.subi v695 c7_i32_595
  let c8_i32_596 : BitVec 32 := 8#32
  let v697 : BitVec 32 := Scalar.remsi v696 c8_i32_596
  let v698 : BitVec 32 := Scalar.addi v694 v697
  let c1_i32_601 : BitVec 32 := 1#32
  let v699 : BitVec 32 := Scalar.muli v698 c1_i32_601
  let v700 : BitVec 32 := Scalar.addi c0_i32_602 v699
  v700.toNat
def k0_dev43 (d0 : Dev nD) : Nat :=
  let c0_i32_818 : BitVec 32 := 0#32
  let c8_i32_810 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v857 : BitVec 32 := Scalar.muli c8_i32_810 v19
  let c8_i32_5 : BitVec 32 := 8#32
  let v20 : BitVec 32 := Scalar.remsi v2 c8_i32_5
  let c1_i32_811 : BitVec 32 := 1#32
  let v858 : BitVec 32 := Scalar.addi v20 c1_i32_811
  let c8_i32_812 : BitVec 32 := 8#32
  let v859 : BitVec 32 := Scalar.remsi v858 c8_i32_812
  let v860 : BitVec 32 := Scalar.addi v857 v859
  let c1_i32_817 : BitVec 32 := 1#32
  let v861 : BitVec 32 := Scalar.muli v860 c1_i32_817
  let v862 : BitVec 32 := Scalar.addi c0_i32_818 v861
  v862.toNat
def k0_dev44 (d0 : Dev nD) : Nat :=
  let c0_i32_831 : BitVec 32 := 0#32
  let c8_i32_823 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v871 : BitVec 32 := Scalar.muli c8_i32_823 v19
  let c8_i32_5 : BitVec 32 := 8#32
  let v20 : BitVec 32 := Scalar.remsi v2 c8_i32_5
  let c2_i32_824 : BitVec 32 := 2#32
  let v872 : BitVec 32 := Scalar.addi v20 c2_i32_824
  let c8_i32_825 : BitVec 32 := 8#32
  let v873 : BitVec 32 := Scalar.remsi v872 c8_i32_825
  let v874 : BitVec 32 := Scalar.addi v871 v873
  let c1_i32_830 : BitVec 32 := 1#32
  let v875 : BitVec 32 := Scalar.muli v874 c1_i32_830
  let v876 : BitVec 32 := Scalar.addi c0_i32_831 v875
  v876.toNat
def k0_dev45 (d0 : Dev nD) : Nat :=
  let c0_i32_844 : BitVec 32 := 0#32
  let c8_i32_836 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v885 : BitVec 32 := Scalar.muli c8_i32_836 v19
  let c8_i32_5 : BitVec 32 := 8#32
  let v20 : BitVec 32 := Scalar.remsi v2 c8_i32_5
  let c3_i32_837 : BitVec 32 := 3#32
  let v886 : BitVec 32 := Scalar.addi v20 c3_i32_837
  let c8_i32_838 : BitVec 32 := 8#32
  let v887 : BitVec 32 := Scalar.remsi v886 c8_i32_838
  let v888 : BitVec 32 := Scalar.addi v885 v887
  let c1_i32_843 : BitVec 32 := 1#32
  let v889 : BitVec 32 := Scalar.muli v888 c1_i32_843
  let v890 : BitVec 32 := Scalar.addi c0_i32_844 v889
  v890.toNat
def k0_dev46 (d0 : Dev nD) : Nat :=
  let c0_i32_857 : BitVec 32 := 0#32
  let c8_i32_849 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v899 : BitVec 32 := Scalar.muli c8_i32_849 v19
  let c8_i32_5 : BitVec 32 := 8#32
  let v20 : BitVec 32 := Scalar.remsi v2 c8_i32_5
  let c4_i32_850 : BitVec 32 := 4#32
  let v900 : BitVec 32 := Scalar.addi v20 c4_i32_850
  let c8_i32_851 : BitVec 32 := 8#32
  let v901 : BitVec 32 := Scalar.remsi v900 c8_i32_851
  let v902 : BitVec 32 := Scalar.addi v899 v901
  let c1_i32_856 : BitVec 32 := 1#32
  let v903 : BitVec 32 := Scalar.muli v902 c1_i32_856
  let v904 : BitVec 32 := Scalar.addi c0_i32_857 v903
  v904.toNat
def k0_dev47 (d0 : Dev nD) : Nat :=
  let c0_i32_870 : BitVec 32 := 0#32
  let c8_i32_862 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v913 : BitVec 32 := Scalar.muli c8_i32_862 v19
  let c8_i32_5 : BitVec 32 := 8#32
  let v20 : BitVec 32 := Scalar.remsi v2 c8_i32_5
  let c5_i32_863 : BitVec 32 := 5#32
  let v914 : BitVec 32 := Scalar.addi v20 c5_i32_863
  let c8_i32_864 : BitVec 32 := 8#32
  let v915 : BitVec 32 := Scalar.remsi v914 c8_i32_864
  let v916 : BitVec 32 := Scalar.addi v913 v915
  let c1_i32_869 : BitVec 32 := 1#32
  let v917 : BitVec 32 := Scalar.muli v916 c1_i32_869
  let v918 : BitVec 32 := Scalar.addi c0_i32_870 v917
  v918.toNat
def k0_dev48 (d0 : Dev nD) : Nat :=
  let c0_i32_883 : BitVec 32 := 0#32
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v927 : BitVec 32 := Scalar.muli c8_i32_875 v19
  let c8_i32_5 : BitVec 32 := 8#32
  let v20 : BitVec 32 := Scalar.remsi v2 c8_i32_5
  let c6_i32_876 : BitVec 32 := 6#32
  let v928 : BitVec 32 := Scalar.addi v20 c6_i32_876
  let c8_i32_877 : BitVec 32 := 8#32
  let v929 : BitVec 32 := Scalar.remsi v928 c8_i32_877
  let v930 : BitVec 32 := Scalar.addi v927 v929
  let c1_i32_882 : BitVec 32 := 1#32
  let v931 : BitVec 32 := Scalar.muli v930 c1_i32_882
  let v932 : BitVec 32 := Scalar.addi c0_i32_883 v931
  v932.toNat
def k0_dev49 (d0 : Dev nD) : Nat :=
  let c0_i32_896 : BitVec 32 := 0#32
  let c8_i32_888 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v941 : BitVec 32 := Scalar.muli c8_i32_888 v19
  let c8_i32_5 : BitVec 32 := 8#32
  let v20 : BitVec 32 := Scalar.remsi v2 c8_i32_5
  let c7_i32_889 : BitVec 32 := 7#32
  let v942 : BitVec 32 := Scalar.addi v20 c7_i32_889
  let c8_i32_890 : BitVec 32 := 8#32
  let v943 : BitVec 32 := Scalar.remsi v942 c8_i32_890
  let v944 : BitVec 32 := Scalar.addi v941 v943
  let c1_i32_895 : BitVec 32 := 1#32
  let v945 : BitVec 32 := Scalar.muli v944 c1_i32_895
  let v946 : BitVec 32 := Scalar.addi c0_i32_896 v945
  v946.toNat
def k0_off15 (d0 : Dev nD) (c1_i32_902 : BitVec 32) : Fin 3 → Nat :=
  let c1_i32_907 : BitVec 32 := 1#32
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_901 : BitVec 32 := 4#32
  let v955 : BitVec 32 := Scalar.addi v19 c4_i32_901
  let v956 : BitVec 32 := Scalar.subi v955 c1_i32_902
  let c4_i32_903 : BitVec 32 := 4#32
  let v957 : BitVec 32 := Scalar.remsi v956 c4_i32_903
  let c256_i32_905 : BitVec 32 := 256#32
  let v960 : BitVec 32 := Scalar.muli v957 c256_i32_905
  ![1, 0, v960.toNat]
def k0_off16 (d0 : Dev nD) (c1_i32_902 : BitVec 32) : Fin 3 → Nat :=
  let c1_i32_916 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_901 : BitVec 32 := 4#32
  let v955 : BitVec 32 := Scalar.addi v19 c4_i32_901
  let v956 : BitVec 32 := Scalar.subi v955 c1_i32_902
  let c4_i32_903 : BitVec 32 := 4#32
  let v957 : BitVec 32 := Scalar.remsi v956 c4_i32_903
  let c256_i32_914 : BitVec 32 := 256#32
  let v969 : BitVec 32 := Scalar.muli v957 c256_i32_914
  let c0_i32_921 : BitVec 32 := 0#32
  ![1, v969.toNat, 0]
def k0_dev50 (d0 : Dev nD) : Nat :=
  let c0_i32_1027 : BitVec 32 := 0#32
  let c8_i32_1018 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1071 : BitVec 32 := Scalar.muli c8_i32_1018 v19
  let c8_i32_5 : BitVec 32 := 8#32
  let v20 : BitVec 32 := Scalar.remsi v2 c8_i32_5
  let c8_i32_1019 : BitVec 32 := 8#32
  let v1072 : BitVec 32 := Scalar.addi v20 c8_i32_1019
  let c1_i32_1020 : BitVec 32 := 1#32
  let v1073 : BitVec 32 := Scalar.subi v1072 c1_i32_1020
  let c8_i32_1021 : BitVec 32 := 8#32
  let v1074 : BitVec 32 := Scalar.remsi v1073 c8_i32_1021
  let v1075 : BitVec 32 := Scalar.addi v1071 v1074
  let c1_i32_1026 : BitVec 32 := 1#32
  let v1076 : BitVec 32 := Scalar.muli v1075 c1_i32_1026
  let v1077 : BitVec 32 := Scalar.addi c0_i32_1027 v1076
  v1077.toNat
def k0_dev51 (d0 : Dev nD) : Nat :=
  let c0_i32_1041 : BitVec 32 := 0#32
  let c8_i32_1032 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1086 : BitVec 32 := Scalar.muli c8_i32_1032 v19
  let c8_i32_5 : BitVec 32 := 8#32
  let v20 : BitVec 32 := Scalar.remsi v2 c8_i32_5
  let c8_i32_1033 : BitVec 32 := 8#32
  let v1087 : BitVec 32 := Scalar.addi v20 c8_i32_1033
  let c2_i32_1034 : BitVec 32 := 2#32
  let v1088 : BitVec 32 := Scalar.subi v1087 c2_i32_1034
  let c8_i32_1035 : BitVec 32 := 8#32
  let v1089 : BitVec 32 := Scalar.remsi v1088 c8_i32_1035
  let v1090 : BitVec 32 := Scalar.addi v1086 v1089
  let c1_i32_1040 : BitVec 32 := 1#32
  let v1091 : BitVec 32 := Scalar.muli v1090 c1_i32_1040
  let v1092 : BitVec 32 := Scalar.addi c0_i32_1041 v1091
  v1092.toNat
def k0_dev52 (d0 : Dev nD) : Nat :=
  let c0_i32_1055 : BitVec 32 := 0#32
  let c8_i32_1046 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1101 : BitVec 32 := Scalar.muli c8_i32_1046 v19
  let c8_i32_5 : BitVec 32 := 8#32
  let v20 : BitVec 32 := Scalar.remsi v2 c8_i32_5
  let c8_i32_1047 : BitVec 32 := 8#32
  let v1102 : BitVec 32 := Scalar.addi v20 c8_i32_1047
  let c3_i32_1048 : BitVec 32 := 3#32
  let v1103 : BitVec 32 := Scalar.subi v1102 c3_i32_1048
  let c8_i32_1049 : BitVec 32 := 8#32
  let v1104 : BitVec 32 := Scalar.remsi v1103 c8_i32_1049
  let v1105 : BitVec 32 := Scalar.addi v1101 v1104
  let c1_i32_1054 : BitVec 32 := 1#32
  let v1106 : BitVec 32 := Scalar.muli v1105 c1_i32_1054
  let v1107 : BitVec 32 := Scalar.addi c0_i32_1055 v1106
  v1107.toNat
def k0_dev53 (d0 : Dev nD) : Nat :=
  let c0_i32_1118 : BitVec 32 := 0#32
  let c8_i32_1109 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1160 : BitVec 32 := Scalar.muli c8_i32_1109 v19
  let c8_i32_5 : BitVec 32 := 8#32
  let v20 : BitVec 32 := Scalar.remsi v2 c8_i32_5
  let c8_i32_1110 : BitVec 32 := 8#32
  let v1161 : BitVec 32 := Scalar.addi v20 c8_i32_1110
  let c4_i32_1111 : BitVec 32 := 4#32
  let v1162 : BitVec 32 := Scalar.subi v1161 c4_i32_1111
  let c8_i32_1112 : BitVec 32 := 8#32
  let v1163 : BitVec 32 := Scalar.remsi v1162 c8_i32_1112
  let v1164 : BitVec 32 := Scalar.addi v1160 v1163
  let c1_i32_1117 : BitVec 32 := 1#32
  let v1165 : BitVec 32 := Scalar.muli v1164 c1_i32_1117
  let v1166 : BitVec 32 := Scalar.addi c0_i32_1118 v1165
  v1166.toNat
def k0_dev54 (d0 : Dev nD) : Nat :=
  let c0_i32_1132 : BitVec 32 := 0#32
  let c8_i32_1123 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1175 : BitVec 32 := Scalar.muli c8_i32_1123 v19
  let c8_i32_5 : BitVec 32 := 8#32
  let v20 : BitVec 32 := Scalar.remsi v2 c8_i32_5
  let c8_i32_1124 : BitVec 32 := 8#32
  let v1176 : BitVec 32 := Scalar.addi v20 c8_i32_1124
  let c5_i32_1125 : BitVec 32 := 5#32
  let v1177 : BitVec 32 := Scalar.subi v1176 c5_i32_1125
  let c8_i32_1126 : BitVec 32 := 8#32
  let v1178 : BitVec 32 := Scalar.remsi v1177 c8_i32_1126
  let v1179 : BitVec 32 := Scalar.addi v1175 v1178
  let c1_i32_1131 : BitVec 32 := 1#32
  let v1180 : BitVec 32 := Scalar.muli v1179 c1_i32_1131
  let v1181 : BitVec 32 := Scalar.addi c0_i32_1132 v1180
  v1181.toNat
def k0_dev55 (d0 : Dev nD) : Nat :=
  let c0_i32_1146 : BitVec 32 := 0#32
  let c8_i32_1137 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1190 : BitVec 32 := Scalar.muli c8_i32_1137 v19
  let c8_i32_5 : BitVec 32 := 8#32
  let v20 : BitVec 32 := Scalar.remsi v2 c8_i32_5
  let c8_i32_1138 : BitVec 32 := 8#32
  let v1191 : BitVec 32 := Scalar.addi v20 c8_i32_1138
  let c6_i32_1139 : BitVec 32 := 6#32
  let v1192 : BitVec 32 := Scalar.subi v1191 c6_i32_1139
  let c8_i32_1140 : BitVec 32 := 8#32
  let v1193 : BitVec 32 := Scalar.remsi v1192 c8_i32_1140
  let v1194 : BitVec 32 := Scalar.addi v1190 v1193
  let c1_i32_1145 : BitVec 32 := 1#32
  let v1195 : BitVec 32 := Scalar.muli v1194 c1_i32_1145
  let v1196 : BitVec 32 := Scalar.addi c0_i32_1146 v1195
  v1196.toNat
def k0_dev56 (d0 : Dev nD) : Nat :=
  let c0_i32_1160 : BitVec 32 := 0#32
  let c8_i32_1151 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1205 : BitVec 32 := Scalar.muli c8_i32_1151 v19
  let c8_i32_5 : BitVec 32 := 8#32
  let v20 : BitVec 32 := Scalar.remsi v2 c8_i32_5
  let c8_i32_1152 : BitVec 32 := 8#32
  let v1206 : BitVec 32 := Scalar.addi v20 c8_i32_1152
  let c7_i32_1153 : BitVec 32 := 7#32
  let v1207 : BitVec 32 := Scalar.subi v1206 c7_i32_1153
  let c8_i32_1154 : BitVec 32 := 8#32
  let v1208 : BitVec 32 := Scalar.remsi v1207 c8_i32_1154
  let v1209 : BitVec 32 := Scalar.addi v1205 v1208
  let c1_i32_1159 : BitVec 32 := 1#32
  let v1210 : BitVec 32 := Scalar.muli v1209 c1_i32_1159
  let v1211 : BitVec 32 := Scalar.addi c0_i32_1160 v1210
  v1211.toNat
def k0_dev57 (d0 : Dev nD) : Nat :=
  let c0_i32_1376 : BitVec 32 := 0#32
  let c8_i32_1368 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1368 : BitVec 32 := Scalar.muli c8_i32_1368 v19
  let c8_i32_5 : BitVec 32 := 8#32
  let v20 : BitVec 32 := Scalar.remsi v2 c8_i32_5
  let c1_i32_1369 : BitVec 32 := 1#32
  let v1369 : BitVec 32 := Scalar.addi v20 c1_i32_1369
  let c8_i32_1370 : BitVec 32 := 8#32
  let v1370 : BitVec 32 := Scalar.remsi v1369 c8_i32_1370
  let v1371 : BitVec 32 := Scalar.addi v1368 v1370
  let c1_i32_1375 : BitVec 32 := 1#32
  let v1372 : BitVec 32 := Scalar.muli v1371 c1_i32_1375
  let v1373 : BitVec 32 := Scalar.addi c0_i32_1376 v1372
  v1373.toNat
def k0_dev58 (d0 : Dev nD) : Nat :=
  let c0_i32_1389 : BitVec 32 := 0#32
  let c8_i32_1381 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1382 : BitVec 32 := Scalar.muli c8_i32_1381 v19
  let c8_i32_5 : BitVec 32 := 8#32
  let v20 : BitVec 32 := Scalar.remsi v2 c8_i32_5
  let c2_i32_1382 : BitVec 32 := 2#32
  let v1383 : BitVec 32 := Scalar.addi v20 c2_i32_1382
  let c8_i32_1383 : BitVec 32 := 8#32
  let v1384 : BitVec 32 := Scalar.remsi v1383 c8_i32_1383
  let v1385 : BitVec 32 := Scalar.addi v1382 v1384
  let c1_i32_1388 : BitVec 32 := 1#32
  let v1386 : BitVec 32 := Scalar.muli v1385 c1_i32_1388
  let v1387 : BitVec 32 := Scalar.addi c0_i32_1389 v1386
  v1387.toNat
def k0_dev59 (d0 : Dev nD) : Nat :=
  let c0_i32_1402 : BitVec 32 := 0#32
  let c8_i32_1394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1396 : BitVec 32 := Scalar.muli c8_i32_1394 v19
  let c8_i32_5 : BitVec 32 := 8#32
  let v20 : BitVec 32 := Scalar.remsi v2 c8_i32_5
  let c3_i32_1395 : BitVec 32 := 3#32
  let v1397 : BitVec 32 := Scalar.addi v20 c3_i32_1395
  let c8_i32_1396 : BitVec 32 := 8#32
  let v1398 : BitVec 32 := Scalar.remsi v1397 c8_i32_1396
  let v1399 : BitVec 32 := Scalar.addi v1396 v1398
  let c1_i32_1401 : BitVec 32 := 1#32
  let v1400 : BitVec 32 := Scalar.muli v1399 c1_i32_1401
  let v1401 : BitVec 32 := Scalar.addi c0_i32_1402 v1400
  v1401.toNat
def k0_dev60 (d0 : Dev nD) : Nat :=
  let c0_i32_1415 : BitVec 32 := 0#32
  let c8_i32_1407 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1410 : BitVec 32 := Scalar.muli c8_i32_1407 v19
  let c8_i32_5 : BitVec 32 := 8#32
  let v20 : BitVec 32 := Scalar.remsi v2 c8_i32_5
  let c4_i32_1408 : BitVec 32 := 4#32
  let v1411 : BitVec 32 := Scalar.addi v20 c4_i32_1408
  let c8_i32_1409 : BitVec 32 := 8#32
  let v1412 : BitVec 32 := Scalar.remsi v1411 c8_i32_1409
  let v1413 : BitVec 32 := Scalar.addi v1410 v1412
  let c1_i32_1414 : BitVec 32 := 1#32
  let v1414 : BitVec 32 := Scalar.muli v1413 c1_i32_1414
  let v1415 : BitVec 32 := Scalar.addi c0_i32_1415 v1414
  v1415.toNat
def k0_dev61 (d0 : Dev nD) : Nat :=
  let c0_i32_1428 : BitVec 32 := 0#32
  let c8_i32_1420 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1424 : BitVec 32 := Scalar.muli c8_i32_1420 v19
  let c8_i32_5 : BitVec 32 := 8#32
  let v20 : BitVec 32 := Scalar.remsi v2 c8_i32_5
  let c5_i32_1421 : BitVec 32 := 5#32
  let v1425 : BitVec 32 := Scalar.addi v20 c5_i32_1421
  let c8_i32_1422 : BitVec 32 := 8#32
  let v1426 : BitVec 32 := Scalar.remsi v1425 c8_i32_1422
  let v1427 : BitVec 32 := Scalar.addi v1424 v1426
  let c1_i32_1427 : BitVec 32 := 1#32
  let v1428 : BitVec 32 := Scalar.muli v1427 c1_i32_1427
  let v1429 : BitVec 32 := Scalar.addi c0_i32_1428 v1428
  v1429.toNat
def k0_dev62 (d0 : Dev nD) : Nat :=
  let c0_i32_1441 : BitVec 32 := 0#32
  let c8_i32_1433 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1438 : BitVec 32 := Scalar.muli c8_i32_1433 v19
  let c8_i32_5 : BitVec 32 := 8#32
  let v20 : BitVec 32 := Scalar.remsi v2 c8_i32_5
  let c6_i32_1434 : BitVec 32 := 6#32
  let v1439 : BitVec 32 := Scalar.addi v20 c6_i32_1434
  let c8_i32_1435 : BitVec 32 := 8#32
  let v1440 : BitVec 32 := Scalar.remsi v1439 c8_i32_1435
  let v1441 : BitVec 32 := Scalar.addi v1438 v1440
  let c1_i32_1440 : BitVec 32 := 1#32
  let v1442 : BitVec 32 := Scalar.muli v1441 c1_i32_1440
  let v1443 : BitVec 32 := Scalar.addi c0_i32_1441 v1442
  v1443.toNat
def k0_dev63 (d0 : Dev nD) : Nat :=
  let c0_i32_1454 : BitVec 32 := 0#32
  let c8_i32_1446 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1452 : BitVec 32 := Scalar.muli c8_i32_1446 v19
  let c8_i32_5 : BitVec 32 := 8#32
  let v20 : BitVec 32 := Scalar.remsi v2 c8_i32_5
  let c7_i32_1447 : BitVec 32 := 7#32
  let v1453 : BitVec 32 := Scalar.addi v20 c7_i32_1447
  let c8_i32_1448 : BitVec 32 := 8#32
  let v1454 : BitVec 32 := Scalar.remsi v1453 c8_i32_1448
  let v1455 : BitVec 32 := Scalar.addi v1452 v1454
  let c1_i32_1453 : BitVec 32 := 1#32
  let v1456 : BitVec 32 := Scalar.muli v1455 c1_i32_1453
  let v1457 : BitVec 32 := Scalar.addi c0_i32_1454 v1456
  v1457.toNat
def k0_off17 (d0 : Dev nD) (c1_i32_1460 : BitVec 32) : Fin 3 → Nat :=
  let c2_i32_1465 : BitVec 32 := 2#32
  let c0_i32_1470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_1459 : BitVec 32 := 4#32
  let v1466 : BitVec 32 := Scalar.addi v19 c4_i32_1459
  let v1467 : BitVec 32 := Scalar.subi v1466 c1_i32_1460
  let c4_i32_1461 : BitVec 32 := 4#32
  let v1468 : BitVec 32 := Scalar.remsi v1467 c4_i32_1461
  let c256_i32_1463 : BitVec 32 := 256#32
  let v1471 : BitVec 32 := Scalar.muli v1468 c256_i32_1463
  ![2, 0, v1471.toNat]
def k0_off18 (d0 : Dev nD) (c1_i32_1460 : BitVec 32) : Fin 3 → Nat :=
  let c2_i32_1474 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_1459 : BitVec 32 := 4#32
  let v1466 : BitVec 32 := Scalar.addi v19 c4_i32_1459
  let v1467 : BitVec 32 := Scalar.subi v1466 c1_i32_1460
  let c4_i32_1461 : BitVec 32 := 4#32
  let v1468 : BitVec 32 := Scalar.remsi v1467 c4_i32_1461
  let c256_i32_1472 : BitVec 32 := 256#32
  let v1480 : BitVec 32 := Scalar.muli v1468 c256_i32_1472
  let c0_i32_1479 : BitVec 32 := 0#32
  ![2, v1480.toNat, 0]
def k0_dev64 (d0 : Dev nD) : Nat :=
  let c0_i32_1585 : BitVec 32 := 0#32
  let c8_i32_1576 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1582 : BitVec 32 := Scalar.muli c8_i32_1576 v19
  let c8_i32_5 : BitVec 32 := 8#32
  let v20 : BitVec 32 := Scalar.remsi v2 c8_i32_5
  let c8_i32_1577 : BitVec 32 := 8#32
  let v1583 : BitVec 32 := Scalar.addi v20 c8_i32_1577
  let c1_i32_1578 : BitVec 32 := 1#32
  let v1584 : BitVec 32 := Scalar.subi v1583 c1_i32_1578
  let c8_i32_1579 : BitVec 32 := 8#32
  let v1585 : BitVec 32 := Scalar.remsi v1584 c8_i32_1579
  let v1586 : BitVec 32 := Scalar.addi v1582 v1585
  let c1_i32_1584 : BitVec 32 := 1#32
  let v1587 : BitVec 32 := Scalar.muli v1586 c1_i32_1584
  let v1588 : BitVec 32 := Scalar.addi c0_i32_1585 v1587
  v1588.toNat
def k0_dev65 (d0 : Dev nD) : Nat :=
  let c0_i32_1599 : BitVec 32 := 0#32
  let c8_i32_1590 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1597 : BitVec 32 := Scalar.muli c8_i32_1590 v19
  let c8_i32_5 : BitVec 32 := 8#32
  let v20 : BitVec 32 := Scalar.remsi v2 c8_i32_5
  let c8_i32_1591 : BitVec 32 := 8#32
  let v1598 : BitVec 32 := Scalar.addi v20 c8_i32_1591
  let c2_i32_1592 : BitVec 32 := 2#32
  let v1599 : BitVec 32 := Scalar.subi v1598 c2_i32_1592
  let c8_i32_1593 : BitVec 32 := 8#32
  let v1600 : BitVec 32 := Scalar.remsi v1599 c8_i32_1593
  let v1601 : BitVec 32 := Scalar.addi v1597 v1600
  let c1_i32_1598 : BitVec 32 := 1#32
  let v1602 : BitVec 32 := Scalar.muli v1601 c1_i32_1598
  let v1603 : BitVec 32 := Scalar.addi c0_i32_1599 v1602
  v1603.toNat
def k0_dev66 (d0 : Dev nD) : Nat :=
  let c0_i32_1613 : BitVec 32 := 0#32
  let c8_i32_1604 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1612 : BitVec 32 := Scalar.muli c8_i32_1604 v19
  let c8_i32_5 : BitVec 32 := 8#32
  let v20 : BitVec 32 := Scalar.remsi v2 c8_i32_5
  let c8_i32_1605 : BitVec 32 := 8#32
  let v1613 : BitVec 32 := Scalar.addi v20 c8_i32_1605
  let c3_i32_1606 : BitVec 32 := 3#32
  let v1614 : BitVec 32 := Scalar.subi v1613 c3_i32_1606
  let c8_i32_1607 : BitVec 32 := 8#32
  let v1615 : BitVec 32 := Scalar.remsi v1614 c8_i32_1607
  let v1616 : BitVec 32 := Scalar.addi v1612 v1615
  let c1_i32_1612 : BitVec 32 := 1#32
  let v1617 : BitVec 32 := Scalar.muli v1616 c1_i32_1612
  let v1618 : BitVec 32 := Scalar.addi c0_i32_1613 v1617
  v1618.toNat
def k0_dev67 (d0 : Dev nD) : Nat :=
  let c0_i32_1676 : BitVec 32 := 0#32
  let c8_i32_1667 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1671 : BitVec 32 := Scalar.muli c8_i32_1667 v19
  let c8_i32_5 : BitVec 32 := 8#32
  let v20 : BitVec 32 := Scalar.remsi v2 c8_i32_5
  let c8_i32_1668 : BitVec 32 := 8#32
  let v1672 : BitVec 32 := Scalar.addi v20 c8_i32_1668
  let c4_i32_1669 : BitVec 32 := 4#32
  let v1673 : BitVec 32 := Scalar.subi v1672 c4_i32_1669
  let c8_i32_1670 : BitVec 32 := 8#32
  let v1674 : BitVec 32 := Scalar.remsi v1673 c8_i32_1670
  let v1675 : BitVec 32 := Scalar.addi v1671 v1674
  let c1_i32_1675 : BitVec 32 := 1#32
  let v1676 : BitVec 32 := Scalar.muli v1675 c1_i32_1675
  let v1677 : BitVec 32 := Scalar.addi c0_i32_1676 v1676
  v1677.toNat
def k0_dev68 (d0 : Dev nD) : Nat :=
  let c0_i32_1690 : BitVec 32 := 0#32
  let c8_i32_1681 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1686 : BitVec 32 := Scalar.muli c8_i32_1681 v19
  let c8_i32_5 : BitVec 32 := 8#32
  let v20 : BitVec 32 := Scalar.remsi v2 c8_i32_5
  let c8_i32_1682 : BitVec 32 := 8#32
  let v1687 : BitVec 32 := Scalar.addi v20 c8_i32_1682
  let c5_i32_1683 : BitVec 32 := 5#32
  let v1688 : BitVec 32 := Scalar.subi v1687 c5_i32_1683
  let c8_i32_1684 : BitVec 32 := 8#32
  let v1689 : BitVec 32 := Scalar.remsi v1688 c8_i32_1684
  let v1690 : BitVec 32 := Scalar.addi v1686 v1689
  let c1_i32_1689 : BitVec 32 := 1#32
  let v1691 : BitVec 32 := Scalar.muli v1690 c1_i32_1689
  let v1692 : BitVec 32 := Scalar.addi c0_i32_1690 v1691
  v1692.toNat
def k0_dev69 (d0 : Dev nD) : Nat :=
  let c0_i32_1704 : BitVec 32 := 0#32
  let c8_i32_1695 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1701 : BitVec 32 := Scalar.muli c8_i32_1695 v19
  let c8_i32_5 : BitVec 32 := 8#32
  let v20 : BitVec 32 := Scalar.remsi v2 c8_i32_5
  let c8_i32_1696 : BitVec 32 := 8#32
  let v1702 : BitVec 32 := Scalar.addi v20 c8_i32_1696
  let c6_i32_1697 : BitVec 32 := 6#32
  let v1703 : BitVec 32 := Scalar.subi v1702 c6_i32_1697
  let c8_i32_1698 : BitVec 32 := 8#32
  let v1704 : BitVec 32 := Scalar.remsi v1703 c8_i32_1698
  let v1705 : BitVec 32 := Scalar.addi v1701 v1704
  let c1_i32_1703 : BitVec 32 := 1#32
  let v1706 : BitVec 32 := Scalar.muli v1705 c1_i32_1703
  let v1707 : BitVec 32 := Scalar.addi c0_i32_1704 v1706
  v1707.toNat
def k0_dev70 (d0 : Dev nD) : Nat :=
  let c0_i32_1718 : BitVec 32 := 0#32
  let c8_i32_1709 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1716 : BitVec 32 := Scalar.muli c8_i32_1709 v19
  let c8_i32_5 : BitVec 32 := 8#32
  let v20 : BitVec 32 := Scalar.remsi v2 c8_i32_5
  let c8_i32_1710 : BitVec 32 := 8#32
  let v1717 : BitVec 32 := Scalar.addi v20 c8_i32_1710
  let c7_i32_1711 : BitVec 32 := 7#32
  let v1718 : BitVec 32 := Scalar.subi v1717 c7_i32_1711
  let c8_i32_1712 : BitVec 32 := 8#32
  let v1719 : BitVec 32 := Scalar.remsi v1718 c8_i32_1712
  let v1720 : BitVec 32 := Scalar.addi v1716 v1719
  let c1_i32_1717 : BitVec 32 := 1#32
  let v1721 : BitVec 32 := Scalar.muli v1720 c1_i32_1717
  let v1722 : BitVec 32 := Scalar.addi c0_i32_1718 v1721
  v1722.toNat
def k0_dev71 (d0 : Dev nD) : Nat :=
  let c0_i32_2056_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_2053_r0 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2051_r0 : BitVec 32 := 1#32
  let v1985_r0 : BitVec 32 := Scalar.addi v19 c1_i32_2051_r0
  let c4_i32_2052_r0 : BitVec 32 := 4#32
  let v1986_r0 : BitVec 32 := Scalar.remsi v1985_r0 c4_i32_2052_r0
  let v1987_r0 : BitVec 32 := Scalar.muli c8_i32_2053_r0 v1986_r0
  let v1988_r0 : BitVec 32 := Scalar.addi v20 v1987_r0
  let c1_i32_2055_r0 : BitVec 32 := 1#32
  let v1989_r0 : BitVec 32 := Scalar.muli v1988_r0 c1_i32_2055_r0
  let v1990_r0 : BitVec 32 := Scalar.addi c0_i32_2056_r0 v1989_r0
  v1990_r0.toNat
def k0_dev72 (d0 : Dev nD) : Nat :=
  let c0_i32_2062_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_2059_r0 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2057_r0 : BitVec 32 := 2#32
  let v1991_r0 : BitVec 32 := Scalar.addi v19 c2_i32_2057_r0
  let c4_i32_2058_r0 : BitVec 32 := 4#32
  let v1992_r0 : BitVec 32 := Scalar.remsi v1991_r0 c4_i32_2058_r0
  let v1993_r0 : BitVec 32 := Scalar.muli c8_i32_2059_r0 v1992_r0
  let v1994_r0 : BitVec 32 := Scalar.addi v20 v1993_r0
  let c1_i32_2061_r0 : BitVec 32 := 1#32
  let v1995_r0 : BitVec 32 := Scalar.muli v1994_r0 c1_i32_2061_r0
  let v1996_r0 : BitVec 32 := Scalar.addi c0_i32_2062_r0 v1995_r0
  v1996_r0.toNat
def k0_dev73 (d0 : Dev nD) : Nat :=
  let c0_i32_2068_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c8_i32_2065_r0 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2063_r0 : BitVec 32 := 3#32
  let v1997_r0 : BitVec 32 := Scalar.addi v19 c3_i32_2063_r0
  let c4_i32_2064_r0 : BitVec 32 := 4#32
  let v1998_r0 : BitVec 32 := Scalar.remsi v1997_r0 c4_i32_2064_r0
  let v1999_r0 : BitVec 32 := Scalar.muli c8_i32_2065_r0 v1998_r0
  let v2000_r0 : BitVec 32 := Scalar.addi v20 v1999_r0
  let c1_i32_2067_r0 : BitVec 32 := 1#32
  let v2001_r0 : BitVec 32 := Scalar.muli v2000_r0 c1_i32_2067_r0
  let v2002_r0 : BitVec 32 := Scalar.addi c0_i32_2068_r0 v2001_r0
  v2002_r0.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x128 : Shape := ⟨2, ![4096, 128]⟩
abbrev S128x8192 : Shape := ⟨2, ![128, 8192]⟩
abbrev S8192x128 : Shape := ⟨2, ![8192, 128]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S128x8192, .f32⟩
  | .hbm, ⟨3, _⟩ => ⟨S128x8192, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x128, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x128, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mesh.lean ====
/- The mesh of 32 devices as 4 rows of 8, the peers each device addresses, the memrefs of the kernel and the parts
   of its scratch buffers that one transfer moves. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.K

open Cert.KernelIdeal Cert.KernelIdeal.Gen
open Idealize.ShloMosaic
open Idealize.ShloMosaic.TcCoe

/-! ## Peers -/

set_option backward.proofsInPublic true in
/-- The device `r` places further along device `c`'s row of eight. -/
def row (c : Dev nD) (r : ℕ) : Dev nD := ⟨8 * (c.val / 8) + (c.val % 8 + r) % 8, by have := c.isLt; have : nD = 32 := rfl; omega⟩
set_option backward.proofsInPublic true in
/-- The device `r` places further along device `c`'s column of four. -/
def col (c : Dev nD) (r : ℕ) : Dev nD := ⟨c.val % 8 + 8 * ((c.val / 8 + r) % 4), by have := c.isLt; have : nD = 32 := rfl; omega⟩

theorem row_val (c : Dev nD) (r : ℕ) : (row c r).val = 8 * (c.val / 8) + (c.val % 8 + r) % 8 := rfl
theorem col_val (c : Dev nD) (r : ℕ) : (col c r).val = c.val % 8 + 8 * ((c.val / 8 + r) % 4) := rfl
theorem row_row (c : Dev nD) (r s : ℕ) (h : (r + s) % 8 = 0) : row (row c r) s = c := by
  apply Fin.ext; have := c.isLt; have : nD = 32 := rfl
  simp only [row_val]; omega
theorem col_col (c : Dev nD) (r s : ℕ) (h : (r + s) % 4 = 0) : col (col c r) s = c := by
  apply Fin.ext; have := c.isLt; have : nD = 32 := rfl
  simp only [col_val]; omega
theorem row_zero (c : Dev nD) : row c 0 = c := by
  apply Fin.ext; simp only [row_val]; omega
theorem row_eight (c : Dev nD) : row c 8 = c := by
  apply Fin.ext; simp only [row_val]; omega

/-! ## Memrefs -/

abbrev M0 : Memref sig .tc .vmem S128x128 .f32 := Memref.whole cc0_stg0_0
abbrev M1 : Memref sig .tc .vmem S128x256 .f32 := Memref.whole cc0_stg1_0
abbrev M2 : Memref sig .tc .vmem S256x128 .f32 := Memref.whole cc0_stg2_0
abbrev M3 : Memref sig .tc .vmem S128x256 .f32 := Memref.whole cc0_stg3_0
abbrev M4 : Memref sig .tc .vmem S256x128 .f32 := Memref.whole cc0_stg4_0
abbrev M5 : Memref sig .tc .vmem S128x256 .f32 := Memref.whole cc0_stg5_0
abbrev M6 : Memref sig .tc .vmem S256x128 .f32 := Memref.whole cc0_stg6_0
abbrev M7 : Memref sig .tc .vmem S128x128 .f32 := Memref.whole cc0_stg7_0
abbrev M8 : Memref sig .tc .vmem S8x128x128 .bf16 := Memref.whole cc0_scratch0
abbrev M9 : Memref sig .tc .vmem S8x128x128 .bf16 := Memref.whole cc0_scratch1
abbrev M10 : Memref sig .tc .vmem S8x128x128 .bf16 := Memref.whole cc0_scratch2
abbrev M11 : Memref sig .tc .vmem S3x128x1024 .bf16 := Memref.whole cc0_scratch3
abbrev M12 : Memref sig .tc .vmem S3x1024x128 .bf16 := Memref.whole cc0_scratch4
theorem H0 : M0.IsWhole := Memref.isWhole_whole _
theorem H1 : M1.IsWhole := Memref.isWhole_whole _
theorem H2 : M2.IsWhole := Memref.isWhole_whole _
theorem H3 : M3.IsWhole := Memref.isWhole_whole _
theorem H4 : M4.IsWhole := Memref.isWhole_whole _
theorem H5 : M5.IsWhole := Memref.isWhole_whole _
theorem H6 : M6.IsWhole := Memref.isWhole_whole _
theorem H7 : M7.IsWhole := Memref.isWhole_whole _
theorem H8 : M8.IsWhole := Memref.isWhole_whole _
theorem H9 : M9.IsWhole := Memref.isWhole_whole _
theorem H10 : M10.IsWhole := Memref.isWhole_whole _
theorem H11 : M11.IsWhole := Memref.isWhole_whole _
theorem H12 : M12.IsWhole := Memref.isWhole_whole _

/-- The runtime's barrier semaphore and the one the kernel scopes for its exit. -/
abbrev barS : Sem sig := (SemArray.scalar (sig.barrier 0 rfl) : Sems sig S_).sem
abbrev exitS : Sem sig := (cc0_scoped0 : Sems sig S_).sem

set_option backward.proofsInPublic true in
/-- The DMA semaphore of number `n`. -/
def dq (n : ℕ) : DmaSem sig := if h : n < 76 then (⟨n, h⟩ : Fin 76) else (⟨0, by decide⟩ : Fin 76)
theorem dq_val {n : ℕ} (h : n < 76) : (dq n).val = n := by unfold dq; rw [dif_pos h]
theorem dq_of (q : DmaSem sig) : dq q.val = q := by
  apply Fin.ext; exact dq_val q.isLt
theorem dq_inj {n m : ℕ} (h : n < 76) (h' : m < 76) (e : dq n = dq m) : n = m := by
  rw [← dq_val h, ← dq_val h', e]

theorem bar_ne_exit : barS ≠ exitS := by decide

/-! ## Offsets and device numbers of the kernel, in closed form -/

theorem dev1_eq (c : Dev nD) : (⟨k0_dev1 c, k0_dev1_lt c⟩ : Dev nD) = row c 1 := by
  apply Fin.ext; revert c; decide +kernel

theorem dev2_eq (c : Dev nD) : (⟨k0_dev2 c, k0_dev2_lt c⟩ : Dev nD) = row c 2 := by
  apply Fin.ext; revert c; decide +kernel

theorem dev3_eq (c : Dev nD) : (⟨k0_dev3 c, k0_dev3_lt c⟩ : Dev nD) = row c 3 := by
  apply Fin.ext; revert c; decide +kernel

theorem dev4_eq (c : Dev nD) : (⟨k0_dev4 c, k0_dev4_lt c⟩ : Dev nD) = row c 4 := by
  apply Fin.ext; revert c; decide +kernel

theorem dev5_eq (c : Dev nD) : (⟨k0_dev5 c, k0_dev5_lt c⟩ : Dev nD) = row c 5 := by
  apply Fin.ext; revert c; decide +kernel

theorem dev6_eq (c : Dev nD) : (⟨k0_dev6 c, k0_dev6_lt c⟩ : Dev nD) = row c 6 := by
  apply Fin.ext; revert c; decide +kernel

theorem dev7_eq (c : Dev nD) : (⟨k0_dev7 c, k0_dev7_lt c⟩ : Dev nD) = row c 7 := by
  apply Fin.ext; revert c; decide +kernel

theorem dev8_eq (c : Dev nD) : (⟨k0_dev8 c, k0_dev8_lt c⟩ : Dev nD) = col c 1 := by
  apply Fin.ext; revert c; decide +kernel

theorem dev9_eq (c : Dev nD) : (⟨k0_dev9 c, k0_dev9_lt c⟩ : Dev nD) = col c 2 := by
  apply Fin.ext; revert c; decide +kernel

theorem dev10_eq (c : Dev nD) : (⟨k0_dev10 c, k0_dev10_lt c⟩ : Dev nD) = col c 3 := by
  apply Fin.ext; revert c; decide +kernel

theorem dev11_eq (c : Dev nD) : (⟨k0_dev11 c, k0_dev11_lt c⟩ : Dev nD) = col c 1 := by
  apply Fin.ext; revert c; decide +kernel

theorem dev12_eq (c : Dev nD) : (⟨k0_dev12 c, k0_dev12_lt c⟩ : Dev nD) = col c 1 := by
  apply Fin.ext; revert c; decide +kernel

theorem dev13_eq (c : Dev nD) : (⟨k0_dev13 c, k0_dev13_lt c⟩ : Dev nD) = col c 1 := by
  apply Fin.ext; revert c; decide +kernel

theorem dev14_eq (c : Dev nD) : (⟨k0_dev14 c, k0_dev14_lt c⟩ : Dev nD) = col c 1 := by
  apply Fin.ext; revert c; decide +kernel

theorem dev15_eq (c : Dev nD) : (⟨k0_dev15 c, k0_dev15_lt c⟩ : Dev nD) = col c 1 := by
  apply Fin.ext; revert c; decide +kernel

theorem dev16_eq (c : Dev nD) : (⟨k0_dev16 c, k0_dev16_lt c⟩ : Dev nD) = col c 1 := by
  apply Fin.ext; revert c; decide +kernel

theorem dev17_eq (c : Dev nD) : (⟨k0_dev17 c, k0_dev17_lt c⟩ : Dev nD) = col c 2 := by
  apply Fin.ext; revert c; decide +kernel

theorem dev18_eq (c : Dev nD) : (⟨k0_dev18 c, k0_dev18_lt c⟩ : Dev nD) = col c 2 := by
  apply Fin.ext; revert c; decide +kernel

theorem dev19_eq (c : Dev nD) : (⟨k0_dev19 c, k0_dev19_lt c⟩ : Dev nD) = col c 2 := by
  apply Fin.ext; revert c; decide +kernel

theorem dev20_eq (c : Dev nD) : (⟨k0_dev20 c, k0_dev20_lt c⟩ : Dev nD) = col c 2 := by
  apply Fin.ext; revert c; decide +kernel

theorem dev21_eq (c : Dev nD) : (⟨k0_dev21 c, k0_dev21_lt c⟩ : Dev nD) = col c 2 := by
  apply Fin.ext; revert c; decide +kernel

theorem dev22_eq (c : Dev nD) : (⟨k0_dev22 c, k0_dev22_lt c⟩ : Dev nD) = col c 2 := by
  apply Fin.ext; revert c; decide +kernel

theorem dev23_eq (c : Dev nD) : (⟨k0_dev23 c, k0_dev23_lt c⟩ : Dev nD) = col c 3 := by
  apply Fin.ext; revert c; decide +kernel

theorem dev24_eq (c : Dev nD) : (⟨k0_dev24 c, k0_dev24_lt c⟩ : Dev nD) = col c 3 := by
  apply Fin.ext; revert c; decide +kernel

theorem dev25_eq (c : Dev nD) : (⟨k0_dev25 c, k0_dev25_lt c⟩ : Dev nD) = col c 3 := by
  apply Fin.ext; revert c; decide +kernel

theorem dev26_eq (c : Dev nD) : (⟨k0_dev26 c, k0_dev26_lt c⟩ : Dev nD) = col c 3 := by
  apply Fin.ext; revert c; decide +kernel

theorem dev27_eq (c : Dev nD) : (⟨k0_dev27 c, k0_dev27_lt c⟩ : Dev nD) = col c 3 := by
  apply Fin.ext; revert c; decide +kernel

theorem dev28_eq (c : Dev nD) : (⟨k0_dev28 c, k0_dev28_lt c⟩ : Dev nD) = col c 3 := by
  apply Fin.ext; revert c; decide +kernel

theorem dev29_eq (c : Dev nD) : (⟨k0_dev29 c, k0_dev29_lt c⟩ : Dev nD) = row c 1 := by
  apply Fin.ext; revert c; decide +kernel

theorem dev30_eq (c : Dev nD) : (⟨k0_dev30 c, k0_dev30_lt c⟩ : Dev nD) = row c 2 := by
  apply Fin.ext; revert c; decide +kernel

theorem dev31_eq (c : Dev nD) : (⟨k0_dev31 c, k0_dev31_lt c⟩ : Dev nD) = row c 3 := by
  apply Fin.ext; revert c; decide +kernel

theorem dev32_eq (c : Dev nD) : (⟨k0_dev32 c, k0_dev32_lt c⟩ : Dev nD) = row c 4 := by
  apply Fin.ext; revert c; decide +kernel

theorem dev33_eq (c : Dev nD) : (⟨k0_dev33 c, k0_dev33_lt c⟩ : Dev nD) = row c 5 := by
  apply Fin.ext; revert c; decide +kernel

theorem dev34_eq (c : Dev nD) : (⟨k0_dev34 c, k0_dev34_lt c⟩ : Dev nD) = row c 6 := by
  apply Fin.ext; revert c; decide +kernel

theorem dev35_eq (c : Dev nD) : (⟨k0_dev35 c, k0_dev35_lt c⟩ : Dev nD) = row c 7 := by
  apply Fin.ext; revert c; decide +kernel

theorem dev36_eq (c : Dev nD) : (⟨k0_dev36 c, k0_dev36_lt c⟩ : Dev nD) = row c 7 := by
  apply Fin.ext; revert c; decide +kernel

theorem dev37_eq (c : Dev nD) : (⟨k0_dev37 c, k0_dev37_lt c⟩ : Dev nD) = row c 6 := by
  apply Fin.ext; revert c; decide +kernel

theorem dev38_eq (c : Dev nD) : (⟨k0_dev38 c, k0_dev38_lt c⟩ : Dev nD) = row c 5 := by
  apply Fin.ext; revert c; decide +kernel

theorem dev39_eq (c : Dev nD) : (⟨k0_dev39 c, k0_dev39_lt c⟩ : Dev nD) = row c 4 := by
  apply Fin.ext; revert c; decide +kernel

theorem dev40_eq (c : Dev nD) : (⟨k0_dev40 c, k0_dev40_lt c⟩ : Dev nD) = row c 3 := by
  apply Fin.ext; revert c; decide +kernel

theorem dev41_eq (c : Dev nD) : (⟨k0_dev41 c, k0_dev41_lt c⟩ : Dev nD) = row c 2 := by
  apply Fin.ext; revert c; decide +kernel

theorem dev42_eq (c : Dev nD) : (⟨k0_dev42 c, k0_dev42_lt c⟩ : Dev nD) = row c 1 := by
  apply Fin.ext; revert c; decide +kernel

theorem dev43_eq (c : Dev nD) : (⟨k0_dev43 c, k0_dev43_lt c⟩ : Dev nD) = row c 1 := by
  apply Fin.ext; revert c; decide +kernel

theorem dev44_eq (c : Dev nD) : (⟨k0_dev44 c, k0_dev44_lt c⟩ : Dev nD) = row c 2 := by
  apply Fin.ext; revert c; decide +kernel

theorem dev45_eq (c : Dev nD) : (⟨k0_dev45 c, k0_dev45_lt c⟩ : Dev nD) = row c 3 := by
  apply Fin.ext; revert c; decide +kernel

theorem dev46_eq (c : Dev nD) : (⟨k0_dev46 c, k0_dev46_lt c⟩ : Dev nD) = row c 4 := by
  apply Fin.ext; revert c; decide +kernel

theorem dev47_eq (c : Dev nD) : (⟨k0_dev47 c, k0_dev47_lt c⟩ : Dev nD) = row c 5 := by
  apply Fin.ext; revert c; decide +kernel

theorem dev48_eq (c : Dev nD) : (⟨k0_dev48 c, k0_dev48_lt c⟩ : Dev nD) = row c 6 := by
  apply Fin.ext; revert c; decide +kernel

theorem dev49_eq (c : Dev nD) : (⟨k0_dev49 c, k0_dev49_lt c⟩ : Dev nD) = row c 7 := by
  apply Fin.ext; revert c; decide +kernel

theorem dev50_eq (c : Dev nD) : (⟨k0_dev50 c, k0_dev50_lt c⟩ : Dev nD) = row c 7 := by
  apply Fin.ext; revert c; decide +kernel

theorem dev51_eq (c : Dev nD) : (⟨k0_dev51 c, k0_dev51_lt c⟩ : Dev nD) = row c 6 := by
  apply Fin.ext; revert c; decide +kernel

theorem dev52_eq (c : Dev nD) : (⟨k0_dev52 c, k0_dev52_lt c⟩ : Dev nD) = row c 5 := by
  apply Fin.ext; revert c; decide +kernel

theorem dev53_eq (c : Dev nD) : (⟨k0_dev53 c, k0_dev53_lt c⟩ : Dev nD) = row c 4 := by
  apply Fin.ext; revert c; decide +kernel

theorem dev54_eq (c : Dev nD) : (⟨k0_dev54 c, k0_dev54_lt c⟩ : Dev nD) = row c 3 := by
  apply Fin.ext; revert c; decide +kernel

theorem dev55_eq (c : Dev nD) : (⟨k0_dev55 c, k0_dev55_lt c⟩ : Dev nD) = row c 2 := by
  apply Fin.ext; revert c; decide +kernel

theorem dev56_eq (c : Dev nD) : (⟨k0_dev56 c, k0_dev56_lt c⟩ : Dev nD) = row c 1 := by
  apply Fin.ext; revert c; decide +kernel

theorem dev57_eq (c : Dev nD) : (⟨k0_dev57 c, k0_dev57_lt c⟩ : Dev nD) = row c 1 := by
  apply Fin.ext; revert c; decide +kernel

theorem dev58_eq (c : Dev nD) : (⟨k0_dev58 c, k0_dev58_lt c⟩ : Dev nD) = row c 2 := by
  apply Fin.ext; revert c; decide +kernel

theorem dev59_eq (c : Dev nD) : (⟨k0_dev59 c, k0_dev59_lt c⟩ : Dev nD) = row c 3 := by
  apply Fin.ext; revert c; decide +kernel

theorem dev60_eq (c : Dev nD) : (⟨k0_dev60 c, k0_dev60_lt c⟩ : Dev nD) = row c 4 := by
  apply Fin.ext; revert c; decide +kernel

theorem dev61_eq (c : Dev nD) : (⟨k0_dev61 c, k0_dev61_lt c⟩ : Dev nD) = row c 5 := by
  apply Fin.ext; revert c; decide +kernel

theorem dev62_eq (c : Dev nD) : (⟨k0_dev62 c, k0_dev62_lt c⟩ : Dev nD) = row c 6 := by
  apply Fin.ext; revert c; decide +kernel

theorem dev63_eq (c : Dev nD) : (⟨k0_dev63 c, k0_dev63_lt c⟩ : Dev nD) = row c 7 := by
  apply Fin.ext; revert c; decide +kernel

theorem dev64_eq (c : Dev nD) : (⟨k0_dev64 c, k0_dev64_lt c⟩ : Dev nD) = row c 7 := by
  apply Fin.ext; revert c; decide +kernel

theorem dev65_eq (c : Dev nD) : (⟨k0_dev65 c, k0_dev65_lt c⟩ : Dev nD) = row c 6 := by
  apply Fin.ext; revert c; decide +kernel

theorem dev66_eq (c : Dev nD) : (⟨k0_dev66 c, k0_dev66_lt c⟩ : Dev nD) = row c 5 := by
  apply Fin.ext; revert c; decide +kernel

theorem dev67_eq (c : Dev nD) : (⟨k0_dev67 c, k0_dev67_lt c⟩ : Dev nD) = row c 4 := by
  apply Fin.ext; revert c; decide +kernel

theorem dev68_eq (c : Dev nD) : (⟨k0_dev68 c, k0_dev68_lt c⟩ : Dev nD) = row c 3 := by
  apply Fin.ext; revert c; decide +kernel

theorem dev69_eq (c : Dev nD) : (⟨k0_dev69 c, k0_dev69_lt c⟩ : Dev nD) = row c 2 := by
  apply Fin.ext; revert c; decide +kernel

theorem dev70_eq (c : Dev nD) : (⟨k0_dev70 c, k0_dev70_lt c⟩ : Dev nD) = row c 1 := by
  apply Fin.ext; revert c; decide +kernel

theorem dev71_eq (c : Dev nD) : (⟨k0_dev71 c, k0_dev71_lt c⟩ : Dev nD) = col c 1 := by
  apply Fin.ext; revert c; decide +kernel

theorem dev72_eq (c : Dev nD) : (⟨k0_dev72 c, k0_dev72_lt c⟩ : Dev nD) = col c 2 := by
  apply Fin.ext; revert c; decide +kernel

theorem dev73_eq (c : Dev nD) : (⟨k0_dev73 c, k0_dev73_lt c⟩ : Dev nD) = col c 3 := by
  apply Fin.ext; revert c; decide +kernel

theorem off1_eq (c : Dev nD) : k0_off1 c = ![0, 0, 256 * (c.val / 8)] := by
  revert c; decide +kernel

theorem off2_eq (c : Dev nD) : k0_off2 c = ![0, 256 * (c.val / 8), 0] := by
  revert c; decide +kernel

theorem off3_eq (c : Dev nD) : k0_off3 c = ![1, 0, 256 * (c.val / 8)] := by
  revert c; decide +kernel

theorem off4_eq (c : Dev nD) : k0_off4 c = ![1, 256 * (c.val / 8), 0] := by
  revert c; decide +kernel

theorem off5_eq (c : Dev nD) : k0_off5 c = ![2, 0, 256 * (c.val / 8)] := by
  revert c; decide +kernel

theorem off6_eq (c : Dev nD) : k0_off6 c = ![2, 256 * (c.val / 8), 0] := by
  revert c; decide +kernel

theorem off7_eq (c : Dev nD) : k0_off7 c = ![0, 0, 256 * (c.val / 8)] := by
  revert c; decide +kernel

theorem off8_eq (c : Dev nD) : k0_off8 c = ![0, 256 * (c.val / 8), 0] := by
  revert c; decide +kernel

theorem off9_eq (c : Dev nD) : k0_off9 c = ![1, 0, 256 * (c.val / 8)] := by
  revert c; decide +kernel

theorem off10_eq (c : Dev nD) : k0_off10 c = ![1, 256 * (c.val / 8), 0] := by
  revert c; decide +kernel

theorem off11_eq (c : Dev nD) : k0_off11 c = ![2, 0, 256 * (c.val / 8)] := by
  revert c; decide +kernel

theorem off12_eq (c : Dev nD) : k0_off12 c = ![2, 256 * (c.val / 8), 0] := by
  revert c; decide +kernel

theorem off13_1_eq (c : Dev nD) : k0_off13 c 1#32 = ![0, 0, 256 * ((c.val / 8 + 3) % 4)] := by
  revert c; decide +kernel

theorem off13_2_eq (c : Dev nD) : k0_off13 c 2#32 = ![0, 0, 256 * ((c.val / 8 + 2) % 4)] := by
  revert c; decide +kernel

theorem off13_3_eq (c : Dev nD) : k0_off13 c 3#32 = ![0, 0, 256 * ((c.val / 8 + 1) % 4)] := by
  revert c; decide +kernel

theorem off14_1_eq (c : Dev nD) : k0_off14 c 1#32 = ![0, 256 * ((c.val / 8 + 3) % 4), 0] := by
  revert c; decide +kernel

theorem off14_2_eq (c : Dev nD) : k0_off14 c 2#32 = ![0, 256 * ((c.val / 8 + 2) % 4), 0] := by
  revert c; decide +kernel

theorem off14_3_eq (c : Dev nD) : k0_off14 c 3#32 = ![0, 256 * ((c.val / 8 + 1) % 4), 0] := by
  revert c; decide +kernel

theorem off15_1_eq (c : Dev nD) : k0_off15 c 1#32 = ![1, 0, 256 * ((c.val / 8 + 3) % 4)] := by
  revert c; decide +kernel

theorem off15_2_eq (c : Dev nD) : k0_off15 c 2#32 = ![1, 0, 256 * ((c.val / 8 + 2) % 4)] := by
  revert c; decide +kernel

theorem off15_3_eq (c : Dev nD) : k0_off15 c 3#32 = ![1, 0, 256 * ((c.val / 8 + 1) % 4)] := by
  revert c; decide +kernel

theorem off16_1_eq (c : Dev nD) : k0_off16 c 1#32 = ![1, 256 * ((c.val / 8 + 3) % 4), 0] := by
  revert c; decide +kernel

theorem off16_2_eq (c : Dev nD) : k0_off16 c 2#32 = ![1, 256 * ((c.val / 8 + 2) % 4), 0] := by
  revert c; decide +kernel

theorem off16_3_eq (c : Dev nD) : k0_off16 c 3#32 = ![1, 256 * ((c.val / 8 + 1) % 4), 0] := by
  revert c; decide +kernel

theorem off17_1_eq (c : Dev nD) : k0_off17 c 1#32 = ![2, 0, 256 * ((c.val / 8 + 3) % 4)] := by
  revert c; decide +kernel

theorem off17_2_eq (c : Dev nD) : k0_off17 c 2#32 = ![2, 0, 256 * ((c.val / 8 + 2) % 4)] := by
  revert c; decide +kernel

theorem off17_3_eq (c : Dev nD) : k0_off17 c 3#32 = ![2, 0, 256 * ((c.val / 8 + 1) % 4)] := by
  revert c; decide +kernel

theorem off18_1_eq (c : Dev nD) : k0_off18 c 1#32 = ![2, 256 * ((c.val / 8 + 3) % 4), 0] := by
  revert c; decide +kernel

theorem off18_2_eq (c : Dev nD) : k0_off18 c 2#32 = ![2, 256 * ((c.val / 8 + 2) % 4), 0] := by
  revert c; decide +kernel

theorem off18_3_eq (c : Dev nD) : k0_off18 c 3#32 = ![2, 256 * ((c.val / 8 + 1) % 4), 0] := by
  revert c; decide +kernel

end Cert.K
-- ==== Proof.Slots.lean ====
/- The parts of the scratch buffers that the transfers move, as sets of indices, and what a transfer leaves there. -/
module

public import proofs.«01_k».proof.Proof.Mesh
public import Idealize.ShloMosaic.Lib.ValueIdxCore

@[expose] public section

noncomputable section

namespace Cert.K

open Cert.KernelIdeal Cert.KernelIdeal.Gen
open Idealize.ShloMosaic
open Idealize.ShloMosaic.TcCoe
open Idealize.ShloMosaic.ValueIdx

variable {F : FTy → Type} [FloatOps F]

/-! ## Sets -/

/-- Slot `r` of an eight-slot buffer. -/
def xs (r : ℕ) : Finset S8x128x128.Idx := Finset.univ.filter fun i => (i 0).val = r
/-- Slots `a` to `b - 1` of an eight-slot buffer. -/
def xr (a b : ℕ) : Finset S8x128x128.Idx := Finset.univ.filter fun i => a ≤ (i 0).val ∧ (i 0).val < b
/-- Column block `q` of layer `l` of the input-side weights. -/
def ws (l q : ℕ) : Finset S3x128x1024.Idx := Finset.univ.filter fun i => (i 0).val = l ∧ (i 2).val / 256 = q
/-- Row block `q` of layer `l` of the output-side weights. -/
def wos (l q : ℕ) : Finset S3x1024x128.Idx := Finset.univ.filter fun i => (i 0).val = l ∧ (i 1).val / 256 = q

theorem mem_xs {r : ℕ} {i : S8x128x128.Idx} : i ∈ xs r ↔ (i 0).val = r := by simp [xs]
theorem mem_xr {a b : ℕ} {i : S8x128x128.Idx} : i ∈ xr a b ↔ a ≤ (i 0).val ∧ (i 0).val < b := by simp [xr]
theorem mem_ws {l q : ℕ} {i : S3x128x1024.Idx} : i ∈ ws l q ↔ (i 0).val = l ∧ (i 2).val / 256 = q := by simp [ws]
theorem mem_wos {l q : ℕ} {i : S3x1024x128.Idx} : i ∈ wos l q ↔ (i 0).val = l ∧ (i 1).val / 256 = q := by simp [wos]

/-! ## The views a transfer uses -/

abbrev slot8 (r : ℕ) (h : ∀ a, (![r, 0, 0] : Fin 3 → ℕ) a + S1x128x128.size a ≤ S8x128x128.size a) : Memref sig .tc .vmem S128x128 .bf16 :=
  (M8.slice (Rect.unit (s := S8x128x128) ![r, 0, 0] S1x128x128.size h) (fun _ => rfl)).squeeze S128x128 squeezes_S1x128x128_S128x128
abbrev slot9 (r : ℕ) (h : ∀ a, (![r, 0, 0] : Fin 3 → ℕ) a + S1x128x128.size a ≤ S8x128x128.size a) : Memref sig .tc .vmem S128x128 .bf16 :=
  (M9.slice (Rect.unit (s := S8x128x128) ![r, 0, 0] S1x128x128.size h) (fun _ => rfl)).squeeze S128x128 squeezes_S1x128x128_S128x128
abbrev slot10 (r : ℕ) (h : ∀ a, (![r, 0, 0] : Fin 3 → ℕ) a + S1x128x128.size a ≤ S8x128x128.size a) : Memref sig .tc .vmem S128x128 .bf16 :=
  (M10.slice (Rect.unit (s := S8x128x128) ![r, 0, 0] S1x128x128.size h) (fun _ => rfl)).squeeze S128x128 squeezes_S1x128x128_S128x128
abbrev slot11 (off : Fin 3 → ℕ) (h : ∀ a, off a + S1x128x256.size a ≤ S3x128x1024.size a) : Memref sig .tc .vmem S128x256 .bf16 :=
  (M11.slice (Rect.unit (s := S3x128x1024) off S1x128x256.size h) (fun _ => rfl)).squeeze S128x256 squeezes_S1x128x256_S128x256
abbrev slot12 (off : Fin 3 → ℕ) (h : ∀ a, off a + S1x256x128.size a ≤ S3x1024x128.size a) : Memref sig .tc .vmem S256x128 .bf16 :=
  (M12.slice (Rect.unit (s := S3x1024x128) off S1x256x128.size h) (fun _ => rfl)).squeeze S256x128 squeezes_S1x256x128_S256x128

theorem rect8_set (a b : ℕ) (sz : Fin 3 → ℕ) (hsz : sz = ![b, 128, 128]) (h : ∀ x, (![a, 0, 0] : Fin 3 → ℕ) x + sz x ≤ S8x128x128.size x) :
    (Rect.unit (s := S8x128x128) ![a, 0, 0] sz h).set = xr a (a + b) := by
  subst hsz
  ext i
  rw [Rect.mem_set_unit, mem_xr]
  have h1 : (i 1).val < 128 := (i 1).isLt
  have h2 : (i 2).val < 128 := (i 2).isLt
  constructor
  · intro hh; exact hh 0
  · intro hh x
    match x with
    | ⟨0, _⟩ => exact hh
    | ⟨1, _⟩ => exact ⟨Nat.zero_le _, by show (i 1).val < 0 + 128; omega⟩
    | ⟨2, _⟩ => exact ⟨Nat.zero_le _, by show (i 2).val < 0 + 128; omega⟩
theorem xr_succ (r : ℕ) : xr r (r + 1) = xs r := by
  ext i; rw [mem_xr, mem_xs]; omega
theorem slot8_set (r : ℕ) (h) : (slot8 r h).view.set = xs r := by
  show (View.reshape _ _ _).set = _
  rw [View.set_reshape]
  exact (View.set_slice_whole _ _).trans ((rect8_set r 1 _ (by decide) h).trans (xr_succ r))
theorem slot9_set (r : ℕ) (h) : (slot9 r h).view.set = xs r := by
  show (View.reshape _ _ _).set = _
  rw [View.set_reshape]
  exact (View.set_slice_whole _ _).trans ((rect8_set r 1 _ (by decide) h).trans (xr_succ r))
theorem slot10_set (r : ℕ) (h) : (slot10 r h).view.set = xs r := by
  show (View.reshape _ _ _).set = _
  rw [View.set_reshape]
  exact (View.set_slice_whole _ _).trans ((rect8_set r 1 _ (by decide) h).trans (xr_succ r))
theorem rect11_set (l q : ℕ) (h : ∀ a, (![l, 0, 256 * q] : Fin 3 → ℕ) a + S1x128x256.size a ≤ S3x128x1024.size a) :
    (Rect.unit (s := S3x128x1024) ![l, 0, 256 * q] S1x128x256.size h).set = ws l q := by
  ext i
  rw [Rect.mem_set_unit, mem_ws]
  have h1 : (i 1).val < 128 := (i 1).isLt
  constructor
  · intro hh
    have a0 : l ≤ (i 0).val ∧ (i 0).val < l + 1 := hh 0
    have a2 : 256 * q ≤ (i 2).val ∧ (i 2).val < 256 * q + 256 := hh 2
    omega
  · intro hh x
    match x with
    | ⟨0, _⟩ => show l ≤ (i 0).val ∧ (i 0).val < l + 1; omega
    | ⟨1, _⟩ => exact ⟨Nat.zero_le _, by show (i 1).val < 0 + 128; omega⟩
    | ⟨2, _⟩ => show 256 * q ≤ (i 2).val ∧ (i 2).val < 256 * q + 256; omega
theorem rect12_set (l q : ℕ) (h : ∀ a, (![l, 256 * q, 0] : Fin 3 → ℕ) a + S1x256x128.size a ≤ S3x1024x128.size a) :
    (Rect.unit (s := S3x1024x128) ![l, 256 * q, 0] S1x256x128.size h).set = wos l q := by
  ext i
  rw [Rect.mem_set_unit, mem_wos]
  have h1 : (i 2).val < 128 := (i 2).isLt
  constructor
  · intro hh
    have a0 : l ≤ (i 0).val ∧ (i 0).val < l + 1 := hh 0
    have a2 : 256 * q ≤ (i 1).val ∧ (i 1).val < 256 * q + 256 := hh 1
    omega
  · intro hh x
    match x with
    | ⟨0, _⟩ => show l ≤ (i 0).val ∧ (i 0).val < l + 1; omega
    | ⟨1, _⟩ => show 256 * q ≤ (i 1).val ∧ (i 1).val < 256 * q + 256; omega
    | ⟨2, _⟩ => exact ⟨Nat.zero_le _, by show (i 2).val < 0 + 128; omega⟩
theorem slot11_set (l q : ℕ) (h) : (slot11 ![l, 0, 256 * q] h).view.set = ws l q := by
  show (View.reshape _ _ _).set = _
  rw [View.set_reshape]
  exact (View.set_slice_whole _ _).trans (rect11_set l q h)
theorem slot12_set (l q : ℕ) (h) : (slot12 ![l, 256 * q, 0] h).view.set = wos l q := by
  show (View.reshape _ _ _).set = _
  rw [View.set_reshape]
  exact (View.set_slice_whole _ _).trans (rect12_set l q h)

/-! ## What a transfer leaves -/

/-- An all-gather transfer: slot 0 of the sender lands in slot `r`. -/
theorem ag_copy (r : ℕ) (h h0) (fd fs : S8x128x128.Idx → Elt F .bf16) (i : S8x128x128.Idx) (hi : i ∈ xs r) :
    (slot8 r h).view.write (Elt F) fd ((slot8 0 h0).view.read (Elt F) fs) Finset.univ i = fs (ix3 (0 : Fin 8) (i 1) (i 2)) := by
  rw [← slot8_set r h] at hi
  obtain ⟨j, -, rfl⟩ := Finset.mem_map.mp hi
  rw [View.write_emb_of_mem _ _ (Finset.mem_univ j), View.read_apply]
  show fs _ = fs _
  congr 1
  funext a
  match a with
  | ⟨0, _⟩ =>
    apply Fin.ext
    have h' : ((Shape.reshapeEquiv (s := S1x128x128) (s' := S128x128) squeezes_S1x128x128_S128x128.numel_eq j) (0 : Fin 3)).val < 1 :=
      ((Shape.reshapeEquiv (s := S1x128x128) (s' := S128x128) squeezes_S1x128x128_S128x128.numel_eq j) (0 : Fin 3)).isLt
    exact (by rw [Nat.lt_one_iff.mp h'] : 0 + 1 * ((Shape.reshapeEquiv (s := S1x128x128) (s' := S128x128) squeezes_S1x128x128_S128x128.numel_eq j) (0 : Fin 3)).val = 0)
  | ⟨1, _⟩ => rfl
  | ⟨2, _⟩ => rfl
/-- A reduce-scatter transfer: slot `r` of the sender's partial sums lands in slot `r`. -/
theorem rs_copy (r : ℕ) (h h') (fd fs : S8x128x128.Idx → Elt F .bf16) (i : S8x128x128.Idx) (hi : i ∈ xs r) :
    (slot10 r h).view.write (Elt F) fd ((slot9 r h').view.read (Elt F) fs) Finset.univ i = fs i := by
  rw [← slot10_set r h] at hi
  obtain ⟨j, -, rfl⟩ := Finset.mem_map.mp hi
  rw [View.write_emb_of_mem _ _ (Finset.mem_univ j), View.read_apply]
  rfl
theorem win_copy (off : Fin 3 → ℕ) (h) (fd fs : S3x128x1024.Idx → Elt F .bf16) (i : S3x128x1024.Idx) (hi : i ∈ (slot11 off h).view.set) :
    (slot11 off h).view.write (Elt F) fd ((slot11 off h).view.read (Elt F) fs) Finset.univ i = fs i := by
  obtain ⟨j, -, rfl⟩ := Finset.mem_map.mp hi
  rw [View.write_emb_of_mem _ _ (Finset.mem_univ j), View.read_apply]
  rfl
theorem wout_copy (off : Fin 3 → ℕ) (h) (fd fs : S3x1024x128.Idx → Elt F .bf16) (i : S3x1024x128.Idx) (hi : i ∈ (slot12 off h).view.set) :
    (slot12 off h).view.write (Elt F) fd ((slot12 off h).view.read (Elt F) fs) Finset.univ i = fs i := by
  obtain ⟨j, -, rfl⟩ := Finset.mem_map.mp hi
  rw [View.write_emb_of_mem _ _ (Finset.mem_univ j), View.read_apply]
  rfl

/-! ## Amounts -/

theorem amt8 (r : ℕ) (h) : (slot8 r h).view.dmaCredit = 1024 := by
  show sig.dmaCredit .tc (Kind.table .tc .vmem) (8 : Fin 13) S128x128 .bf16 = 1024
  decide +kernel
theorem amt9 (r : ℕ) (h) : (slot9 r h).view.dmaCredit = 1024 := by
  show sig.dmaCredit .tc (Kind.table .tc .vmem) (9 : Fin 13) S128x128 .bf16 = 1024
  decide +kernel
theorem amt10 (r : ℕ) (h) : (slot10 r h).view.dmaCredit = 1024 := by
  show sig.dmaCredit .tc (Kind.table .tc .vmem) (10 : Fin 13) S128x128 .bf16 = 1024
  decide +kernel
theorem amt11 (off h) : (slot11 off h).view.dmaCredit = 2048 := by
  show sig.dmaCredit .tc (Kind.table .tc .vmem) (11 : Fin 13) S128x256 .bf16 = 2048
  decide +kernel
theorem amt12 (off h) : (slot12 off h).view.dmaCredit = 2048 := by
  show sig.dmaCredit .tc (Kind.table .tc .vmem) (12 : Fin 13) S256x128 .bf16 = 2048
  decide +kernel

theorem sem13_0 : ((cc0_scratch5.slice (Rect.unit (s := S18) ![7] S1.size inb_S18_S1_7)).squeeze S_ squeezes_S1_S_).sem = dq 15 := by decide
end Cert.K
-- ==== Proof.Sched.lean ====
/- The contents every buffer of the kernel takes, as functions of the arguments, and the schedule of what each
   semaphore's increment hands over. -/
module

public import proofs.«01_k».proof.Proof.Slots

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- The kernel's arguments, device by device. -/
structure Inp (F : FTy → Type) where
  x : Dev nD → Vec F S128x128 .f32
  wi : ℕ → Dev nD → Vec F S128x256 .f32
  wo : ℕ → Dev nD → Vec F S256x128 .f32

variable (I : Inp F)

set_option backward.proofsInPublic true in
/-- The device of row `q` in device `c`'s column. -/
def colDev (c : Dev nD) (q : ℕ) : Dev nD := ⟨8 * (q % 4) + c.val % 8, by have : nD = 32 := rfl; omega⟩

set_option backward.proofsInPublic true in
/-- All three layers' input-side weights as device `c` gathers them along its column. -/
def winC (c : Dev nD) (i : S3x128x1024.Idx) : Elt F .bf16 :=
  k0_pay1 (I.wi (i 0).val (colDev c ((i 2).val / 256))) (ix3 (0 : Fin 1) (i 1) (⟨(i 2).val % 256, Nat.mod_lt _ (by decide)⟩ : Fin 256))
set_option backward.proofsInPublic true in
/-- All three layers' output-side weights as device `c` gathers them along its column. -/
def woutC (c : Dev nD) (i : S3x1024x128.Idx) : Elt F .bf16 :=
  k0_pay2 (I.wo (i 0).val (colDev c ((i 1).val / 256))) (ix3 (0 : Fin 1) (⟨(i 1).val % 256, Nat.mod_lt _ (by decide)⟩ : Fin 256) (i 2))
set_option backward.proofsInPublic true in
def winL (l : ℕ) (c : Dev nD) : Vec F S1x128x1024 .bf16 := fun i => winC I c (ix3 (⟨l % 3, Nat.mod_lt _ (by decide)⟩ : Fin 3) (i 1) (i 2))
set_option backward.proofsInPublic true in
def woutL (l : ℕ) (c : Dev nD) : Vec F S1x1024x128 .bf16 := fun i => woutC I c (ix3 (⟨l % 3, Nat.mod_lt _ (by decide)⟩ : Fin 3) (i 1) (i 2))

/-- The gathered activations of device `c`'s row: slot `r` holds those of the device `r` places before it. -/
def xqC (X : Dev nD → Vec F S1x128x128 .bf16) (c : Dev nD) (i : S8x128x128.Idx) : Elt F .bf16 :=
  X (row c (8 - (i 0).val)) (ix3 (0 : Fin 1) (i 1) (i 2))
set_option backward.proofsInPublic true in
/-- `n` slots of an eight-slot buffer from slot `a` on. -/
def slotsC (a n : ℕ) (f : S8x128x128.Idx → Elt F .bf16) : Vec F ⟨3, ![n, 128, 128]⟩ .bf16 :=
  fun i => f (ix3 (⟨(a + (i 0).val) % 8, Nat.mod_lt _ (by decide)⟩ : Fin 8) (i 1) (i 2))

/-- Device `c`'s own partial sums of its own activations. -/
def ownP (l : ℕ) (X : Dev nD → Vec F S1x128x128 .bf16) (c : Dev nD) : FVec F S128x128 .f32 :=
  k0_pay12 (k0_pay10 (woutL I l c)) (k0_pay11 (winL I l c) (X c)) (constant S128x128 .f32 0x00000000#32)
/-- Its partial sums of the activations in slots 1 to 3, and 4 to 7. -/
def partA (l : ℕ) (X : Dev nD → Vec F S1x128x128 .bf16) (c : Dev nD) : FVec F S3x128x128 .bf16 :=
  k0_pay13 (k0_pay9 (winL I l c)) (k0_pay10 (woutL I l c)) (slotsC 1 3 (xqC X c))
def partB (l : ℕ) (X : Dev nD → Vec F S1x128x128 .bf16) (c : Dev nD) : FVec F S4x128x128 .bf16 :=
  k0_pay14 (k0_pay9 (winL I l c)) (k0_pay10 (woutL I l c)) (slotsC 4 4 (xqC X c))
set_option backward.proofsInPublic true in
def partC (l : ℕ) (X : Dev nD → Vec F S1x128x128 .bf16) (c : Dev nD) (i : S8x128x128.Idx) : Elt F .bf16 :=
  if (i 0).val < 4 then partA I l X c (ix3 (⟨((i 0).val - 1) % 3, Nat.mod_lt _ (by decide)⟩ : Fin 3) (i 1) (i 2))
  else partB I l X c (ix3 (⟨((i 0).val - 4) % 4, Nat.mod_lt _ (by decide)⟩ : Fin 4) (i 1) (i 2))
/-- The partial sums device `c` receives: slot `r` from the device `r` places after it. -/
def rsC (l : ℕ) (X : Dev nD → Vec F S1x128x128 .bf16) (c : Dev nD) (i : S8x128x128.Idx) : Elt F .bf16 :=
  partC I l X (row c (i 0).val) i
/-- Device `c`'s sum of one layer, and what it is rounded to for the next. -/
def accC (l : ℕ) (X : Dev nD → Vec F S1x128x128 .bf16) (c : Dev nD) : FVec F S128x128 .f32 :=
  k0_pay15 (ownP I l X c) (slotsC 1 7 (rsC I l X c))
/-- The activations entering layer `l`. -/
def actC : ℕ → Dev nD → Vec F S1x128x128 .bf16
  | 0, c => k0_pay8 (I.x c)
  | l + 1, c => k0_pay16 (accC I l (actC l) c)
/-- The kernel's result on device `c`. -/
def resC (c : Dev nD) : FVec F S128x128 .f32 := accC I 2 (actC I 2) c

/-! ## The resource algebra -/

abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Ownership of the scratch buffers -/

/-- The share numbered `n` of an infinite division of a share, and what is left after the first `n`. -/
def restSh : ℕ → PosShare TreeShare
  | 0 => fullShare
  | n + 1 => (restSh n).right
def sh (n : ℕ) : PosShare TreeShare := (restSh n).left

def xqP (c : Dev nD) (S : Finset S8x128x128.Idx) (q : PosShare TreeShare) (f : S8x128x128.Idx → Elt F .bf16) : sProp 𝕄 :=
  ((c : Thread nD τ).loc cc0_scratch0) ↦[S]{q} f
def ptP (c : Dev nD) (S : Finset S8x128x128.Idx) (q : PosShare TreeShare) (f : S8x128x128.Idx → Elt F .bf16) : sProp 𝕄 :=
  ((c : Thread nD τ).loc cc0_scratch1) ↦[S]{q} f
def rsP (c : Dev nD) (S : Finset S8x128x128.Idx) (q : PosShare TreeShare) (f : S8x128x128.Idx → Elt F .bf16) : sProp 𝕄 :=
  ((c : Thread nD τ).loc cc0_scratch2) ↦[S]{q} f
def wiP (c : Dev nD) (S : Finset S3x128x1024.Idx) (q : PosShare TreeShare) (f : S3x128x1024.Idx → Elt F .bf16) : sProp 𝕄 :=
  ((c : Thread nD τ).loc cc0_scratch3) ↦[S]{q} f
def woP (c : Dev nD) (S : Finset S3x1024x128.Idx) (q : PosShare TreeShare) (f : S3x1024x128.Idx → Elt F .bf16) : sProp 𝕄 :=
  ((c : Thread nD τ).loc cc0_scratch4) ↦[S]{q} f

omit [FloatOps F] in
instance xqP_storable (c : Dev nD) (S q f) : BI.Storable (upEmb : UEmb _ 𝕄) (xqP (F := F) c S q f) := by unfold xqP; infer_instance
omit [FloatOps F] in
instance ptP_storable (c : Dev nD) (S q f) : BI.Storable (upEmb : UEmb _ 𝕄) (ptP (F := F) c S q f) := by unfold ptP; infer_instance
omit [FloatOps F] in
instance rsP_storable (c : Dev nD) (S q f) : BI.Storable (upEmb : UEmb _ 𝕄) (rsP (F := F) c S q f) := by unfold rsP; infer_instance
omit [FloatOps F] in
instance wiP_storable (c : Dev nD) (S q f) : BI.Storable (upEmb : UEmb _ 𝕄) (wiP (F := F) c S q f) := by unfold wiP; infer_instance
omit [FloatOps F] in
instance woP_storable (c : Dev nD) (S q f) : BI.Storable (upEmb : UEmb _ 𝕄) (woP (F := F) c S q f) := by unfold woP; infer_instance

/-- Weight slot `k` (layer `k / 2`; input side if `k` is even) and block `q` of device `c`, holding the weights … -/
def wP (k q : ℕ) (c : Dev nD) (π : PosShare TreeShare) : sProp 𝕄 :=
  if k % 2 = 0 then wiP c (ws (k / 2) q) π (winC I c) else woP c (wos (k / 2) q) π (woutC I c)
/-- … and holding anything. -/
def wE (k q : ℕ) (c : Dev nD) : sProp 𝕄 :=
  if k % 2 = 0 then iprop(∃ f, wiP (F := F) c (ws (k / 2) q) fullShare f) else iprop(∃ f, woP (F := F) c (wos (k / 2) q) fullShare f)
omit [FloatOps F] in
instance wE_storable (k q c) : BI.Storable (upEmb : UEmb _ 𝕄) (wE (F := F) k q c) := by unfold wE; split <;> infer_instance
instance wP_storable (k q c π) : BI.Storable (upEmb : UEmb _ 𝕄) (wP (F := F) I k q c π) := by unfold wP; split <;> infer_instance

/-! ## Cells -/

abbrev barCell (c : Dev nD) : GSem nD τ sig := ((c : Thread nD τ), .reg barS)
abbrev exitCell (c : Dev nD) : GSem nD τ sig := ((c : Thread nD τ), .reg exitS)
abbrev dcell (c : Dev nD) (n : ℕ) : GSem nD τ sig := ((c : Thread nD τ), .dma (dq n))

/-- Slot `r` of device `p`'s gather buffer with the round that may next be written into it, while a layer follows. -/
def xqMove (p : Dev nD) (r l : ℕ) : sProp 𝕄 :=
  if l < 3 then iprop((∃ f, xqP (F := F) p (xs r) fullShare f) ∗ reached ER (dcell p (52 + r)) l) else iprop(emp)
omit [FloatOps F] in
instance xqMove_storable (p r l) : BI.Storable (upEmb : UEmb _ 𝕄) (xqMove (F := F) p r l) := by unfold xqMove; split <;> infer_instance

/-- Slot `r` of device `p`'s receive buffer of partial sums, and the round that may next be written into it. -/
def rsMove (p : Dev nD) (r l : ℕ) : sProp 𝕄 :=
  iprop((∃ f, rsP (F := F) p (xs r) fullShare f) ∗ reached ER (dcell p (68 + r)) l)
omit [FloatOps F] in
instance rsMove_storable (p r l) : BI.Storable (upEmb : UEmb _ 𝕄) (rsMove (F := F) p r l) := by unfold rsMove; infer_instance

/-- What a peer's entry signal `d` hands device `c`: a row peer its slot of the gather buffer, a column peer its six
    weight slots, that `c` will write. -/
def barPay (c : Dev nD) (d : ℕ) : sProp 𝕄 :=
  if d < 7 then iprop(∃ f, xqP (F := F) (row c (7 - d)) (xs (7 - d)) fullShare f)
  else bigSep (Finset.range 6) fun k => wE (F := F) k (c.val / 8) (col c (10 - d))
omit [FloatOps F] in
instance barPay_storable (c d) : BI.Storable (upEmb : UEmb _ 𝕄) (barPay (F := F) c d) := by unfold barPay; split <;> infer_instance

def wsendPay (c : Dev nD) (i : ℕ) : sProp 𝕄 := wP I (i % 6) (c.val / 8) c (sh (i / 6 + 1))
def wrecvPay (c : Dev nD) (i : ℕ) : sProp 𝕄 := wP I (i % 6) ((c.val / 8 + (3 - i / 6)) % 4) c fullShare
def agsPay (c : Dev nD) (r l : ℕ) : sProp 𝕄 := xqP c (xs 0) (sh r) (xqC (actC I l) c)
def agrPay (c : Dev nD) (r l : ℕ) : sProp 𝕄 :=
  iprop(xqP c (xs r) fullShare (xqC (actC I l) c) ∗ rsMove (F := F) (row c (8 - r)) r l)
def rssPay (c : Dev nD) (r l : ℕ) : sProp 𝕄 := ptP c (xs r) fullShare (partC I l (actC I l) c)
def rsrPay (c : Dev nD) (r l : ℕ) : sProp 𝕄 :=
  iprop(rsP c (xs r) fullShare (rsC I l (actC I l) c) ∗ xqMove (F := F) (row c r) r (l + 1))
/-- What round `l` of device `c`'s DMA semaphore `n` hands over. -/
def dmaPay (c : Dev nD) (n l : ℕ) : sProp 𝕄 :=
  if n < 26 then wsendPay I c (n - 8) else if n < 44 then wrecvPay I c (n - 26)
  else if n < 52 then agsPay I c (n - 44) l else if n < 60 then agrPay I c (n - 52) l
  else if n < 68 then rssPay I c (n - 60) l else rsrPay I c (n - 68) l
instance dmaPay_storable (c n l) : BI.Storable (upEmb : UEmb _ 𝕄) (dmaPay I c n l) := by
  unfold dmaPay wsendPay wrecvPay agsPay agrPay rssPay rsrPay
  (repeat' split) <;> infer_instance

def dutyReg (s : Sem sig) (r : ℕ) : Finset ℕ :=
  if r = 0 then (if s = barS then Finset.range 10 else if s = exitS then Finset.range 3 else ∅) else ∅
def dutyDma (n r : ℕ) : Finset ℕ :=
  if 8 ≤ n ∧ n < 44 ∧ r = 0 ∨ 44 ≤ n ∧ n < 76 ∧ (n - 44) % 8 ≠ 0 ∧ r < 3 then {0} else ∅
def amtDma (n : ℕ) : ℕ := if n < 44 then 2048 else 1024

/-- The kernel's schedule: a barrier cell has ten duties (seven row peers, three column peers), an exit cell three, a
    weight cell one, a gather or scatter cell one in each of the three layers. -/
def Rd : Rounds.Schedule (GSem nD τ sig) ℕ 𝕄 where
  duties g r := if g.1.2 = .tc then (match g.2 with | .reg s => dutyReg s r | .dma q => dutyDma q.val r) else ∅
  unitless _ := False
  amount g _ _ := match g.2 with | .reg s => 1 | .dma q => amtDma q.val
  payload g r d := match g.2 with | .reg s => (if s = barS then barPay g.1.1 d else iprop(emp)) | .dma q => dmaPay I g.1.1 q.val r
  amount_pos g r d _ := by
    rcases g.2 with s | q
    · exact Nat.one_pos
    · show 0 < amtDma q.val
      unfold amtDma; split <;> decide

instance Rd_payload_storable (g : GSem nD τ sig) (r d : ℕ) : BI.Storable (upEmb : UEmb _ 𝕄) ((Rd I).payload g r d) := by
  rcases g with ⟨t, s | q⟩
  · show BI.Storable upEmb (if s = barS then barPay (F := F) t.1 d else iprop(emp))
    split <;> infer_instance
  · show BI.Storable upEmb (dmaPay I t.1 q.val r)
    infer_instance

/-! ## The schedule read at the cells -/

theorem duties_bar (c : Dev nD) : (Rd I).duties (barCell c) 0 = Finset.range 10 := rfl
theorem duties_exit (c : Dev nD) : (Rd I).duties (exitCell c) 0 = Finset.range 3 := by
  show dutyReg exitS 0 = _
  unfold dutyReg; rw [if_pos rfl, if_neg bar_ne_exit.symm, if_pos rfl]
theorem duties_dma (c : Dev nD) (n l : ℕ) (h : n < 76) (hd : 8 ≤ n ∧ n < 44 ∧ l = 0 ∨ 44 ≤ n ∧ n < 76 ∧ (n - 44) % 8 ≠ 0 ∧ l < 3) :
    (Rd I).duties (dcell c n) l = {0} := by
  show dutyDma (dq n).val l = _
  rw [dq_val h]; unfold dutyDma; rw [if_pos hd]
theorem payload_bar (c : Dev nD) (d : ℕ) : (Rd I).payload (barCell c) 0 d = barPay (F := F) c d := rfl
theorem payload_exit (c : Dev nD) (d : ℕ) : (Rd I).payload (exitCell c) 0 d = iprop(emp) := by
  exact (if_neg bar_ne_exit.symm : (if exitS = barS then barPay (F := F) c d else iprop(emp)) = iprop(emp))
theorem payload_dma (c : Dev nD) (n l d : ℕ) (h : n < 76) : (Rd I).payload (dcell c n) l d = dmaPay I c n l := by
  show dmaPay I c (dq n).val l = _
  rw [dq_val h]
theorem amount_dma (c : Dev nD) (n l d : ℕ) (h : n < 76) : (Rd I).amount (dcell c n) l d = amtDma n := by
  show amtDma (dq n).val = _
  rw [dq_val h]
theorem expect_bar (c : Dev nD) : (Rd I).expect (barCell c) 0 = 10 := by
  unfold Schedule.expect Schedule.amountOf; rw [duties_bar]; rfl
theorem expect_exit (c : Dev nD) : (Rd I).expect (exitCell c) 0 = 3 := by
  unfold Schedule.expect Schedule.amountOf; rw [duties_exit]; rfl
theorem expect_dma (c : Dev nD) (n l : ℕ) (h : n < 76) (hd : 8 ≤ n ∧ n < 44 ∧ l = 0 ∨ 44 ≤ n ∧ n < 76 ∧ (n - 44) % 8 ≠ 0 ∧ l < 3) :
    (Rd I).expect (dcell c n) l = amtDma n := by
  unfold Schedule.expect Schedule.amountOf; rw [duties_dma I c n l h hd, Finset.sum_singleton, amount_dma I c n l 0 h]
theorem rest_dma (c : Dev nD) (n l : ℕ) (h : n < 76) (hd : 8 ≤ n ∧ n < 44 ∧ l = 0 ∨ 44 ≤ n ∧ n < 76 ∧ (n - 44) % 8 ≠ 0 ∧ l < 3) :
    bigSep ((Rd I).duties (dcell c n) l \ ∅) (fun d => (Rd I).payload (dcell c n) l d) = dmaPay I c n l := by
  rw [Finset.sdiff_empty, duties_dma I c n l h hd, bigSep_singleton, payload_dma I c n l 0 h]
theorem rest_bar (c : Dev nD) :
    bigSep ((Rd I).duties (barCell c) 0 \ ∅) (fun d => (Rd I).payload (barCell c) 0 d) = bigSep (Finset.range 10) (fun d => barPay (F := F) c d) := by
  rw [Finset.sdiff_empty, duties_bar]; rfl
theorem duties_later (c : Dev nD) (n R : ℕ) (h : 8 ≤ n ∧ n < 44 ∧ R = 1 ∨ 44 ≤ n ∧ n < 76 ∧ R = 3 ∨ (n - 44) % 8 = 0 ∧ 44 ≤ n) (hn : n < 76) :
    ∀ r, R ≤ r → (Rd I).duties (dcell c n) r = ∅ := fun r hr => by
  show dutyDma (dq n).val r = _
  rw [dq_val hn]; unfold dutyDma; rw [if_neg (by omega)]
theorem duties_later_reg (c : Dev nD) (s : Sem sig) : ∀ r, 1 ≤ r → (Rd I).duties ((c : Thread nD τ), .reg s) r = ∅ := fun r hr => by
  show dutyReg s r = _
  unfold dutyReg; rw [if_neg (by omega)]

/-! ## What each device owes, in program order; the levels -/

/-- The device payment `j` of device `c` goes to. -/
def peer (c : Dev nD) (j : ℕ) : Dev nD :=
  if j < 7 then row c (j + 1) else if j < 10 then col c (j - 6) else if j < 28 then col c ((j - 10) / 6 + 1)
  else if j < 70 then (if (j - 28) % 14 < 7 then row c ((j - 28) % 14 + 1) else row c (8 - ((j - 28) % 14 - 6))) else col c (j - 69)
/-- The semaphore it raises, by how much, and its stage. -/
def psem (j : ℕ) : SemLoc sig :=
  if j < 10 then .reg barS else if j < 28 then .dma (dq (26 + (j - 10)))
  else if j < 70 then (if (j - 28) % 14 < 7 then .dma (dq (52 + ((j - 28) % 14 + 1))) else .dma (dq (68 + ((j - 28) % 14 - 6)))) else .reg exitS
def pamt (j : ℕ) : ℕ := if j < 10 then 1 else if j < 28 then 2048 else if j < 70 then 1024 else 1
def pstage (j : ℕ) : ℕ :=
  if j < 10 then 1 else if j < 28 then 2 else if j < 70 then (if (j - 28) % 14 < 7 then 3 + 2 * ((j - 28) / 14) else 4 + 2 * ((j - 28) / 14)) else 9

/-- What device `c` owes before its payment `n`. -/
def owed (c : Dev nD) (n : ℕ) : CellTallies nD τ sig ℕ :=
  ∑ j ∈ Finset.Ico n 73, tallyAt ((peer c j : Thread nD τ), psem j) (pstage j) (pamt j)
theorem owed_succ (c : Dev nD) (n : ℕ) (h : n < 73) :
    owed c n = owed c (n + 1) + tallyAt ((peer c n : Thread nD τ), psem n) (pstage n) (pamt n) := by
  unfold owed
  rw [show Finset.Ico n 73 = insert n (Finset.Ico (n + 1) 73) by ext x; simp only [Finset.mem_Ico, Finset.mem_insert]; omega,
    Finset.sum_insert (by rw [Finset.mem_Ico]; omega), add_comm]
theorem owed_end (c : Dev nD) : owed c 73 = 0 := by unfold owed; rw [Finset.Ico_self, Finset.sum_empty]

def L (g : GSem nD τ sig) : Finset ℕ := if g.1.2 = .tc then Finset.range 12 else ∅
def lv (g : GSem nD τ sig) (ι : ℕ) : ℕ := ι
theorem L_of_ne (g : GSem nD τ sig) (h : g.1.2 ≠ .tc) : L g = ∅ := if_neg h
theorem L_tc (c : Dev nD) (sm : SemLoc sig) : L ((c : Thread nD τ), sm) = Finset.range 12 := if_pos rfl

theorem owed_pos {c : Dev nD} {n : ℕ} {g : GSem nD τ sig} {u : ℕ} (h : 0 < owed c n g u) :
    ∃ j, n ≤ j ∧ j < 73 ∧ g = ((peer c j : Thread nD τ), psem j) ∧ u = pstage j := by
  unfold owed at h
  rw [Finset.sum_apply, Finsupp.finset_sum_apply] at h
  obtain ⟨j, hj, hp⟩ := Finset.exists_ne_zero_of_sum_ne_zero h.ne'
  rw [tallyAt_apply] at hp
  by_cases hh : g = ((peer c j : Thread nD τ), psem j) ∧ u = pstage j
  · exact ⟨j, (Finset.mem_Ico.mp hj).1, (Finset.mem_Ico.mp hj).2, hh⟩
  · rw [if_neg hh] at hp; exact absurd rfl hp
theorem pstage_lt {j : ℕ} : pstage j < 12 := by unfold pstage; split_ifs <;> omega
theorem pstage_mono {i j : ℕ} (h : i ≤ j) (hj : j < 73) : pstage i ≤ pstage j := by unfold pstage; split_ifs <;> omega

omit [FloatOps F] in
/-- A device may wait at stage `ι` when everything it still owes is of a later stage. -/
theorem mayWait (c : Dev nD) (sm : SemLoc sig) (ι n : ℕ) (hι : ι < 12) (h : n < 73 → ι < pstage n) :
    (levAts L lv : sProp 𝕄) ⊢ MayWait (c : Thread nD τ) sm ι (owed c n) :=
  MayOwe.of_cut (L := L) (lev := lv) ι (fun p hp => by rw [Finset.mem_singleton.mp hp, L_tc]; exact Finset.mem_range.mpr hι)
    (fun g u hg => by
      obtain ⟨j, _, _, rfl, rfl⟩ := owed_pos hg
      rw [L_tc]; exact Finset.mem_range.mpr pstage_lt)
    (fun p hp => by rw [Finset.mem_singleton.mp hp]; exact le_refl _)
    (fun g u hg => by
      obtain ⟨j, h1, h2, rfl, rfl⟩ := owed_pos hg
      exact lt_of_lt_of_le (h (by omega)) (pstage_mono h1 h2))

end Cert.K
-- ==== Proof.Steps.lean ====
/- What one operation of the kernel does to a device's state: a barrier signal, a transfer, a wait. -/
module

public import proofs.«01_k».proof.Proof.Sched
public import Idealize.SL.BI.BigOpNat

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

abbrev 𝒱₀ : Variants := Variants.none

/-! ## The context every device works in -/

set_option backward.proofsInPublic true in
/-- The kernel's own 70 semaphores: the barrier, the exit, and the DMA semaphores 8 to 75. -/
def ksem (k : Fin 70) : SemLoc sig := if k.val = 0 then .reg barS else if k.val = 1 then .reg exitS else .dma (dq (k.val + 6))
abbrev kcell (ck : Dev nD × Fin 70) : GSem nD τ sig := ((ck.1 : Thread nD τ), ksem ck.2)

/-- Every cell's invariant under some name, that each has reached its first round, and the levels. -/
def Ctx : sProp 𝕄 :=
  iprop((bigSep Finset.univ fun ck : Dev nD × Fin 70 => iprop((∃ κ, cellInv ER (Rd I) κ (kcell ck)) ∗ reached ER (kcell ck) 0)) ∗ levAts L lv)
instance Ctx_persistent : BI.Persistent (Ctx I) := by unfold Ctx; infer_instance

theorem ctx_lev : Ctx I ⊢ (levAts L lv : sProp 𝕄) := by
  unfold Ctx; iintro ⟨-, #H⟩; iexact H
theorem ctx_mayWait (c : Dev nD) (sm : SemLoc sig) (ι n : ℕ) (hι : ι < 12) (h : n < 73 → ι < pstage n) :
    Ctx I ⊢ (MayWait (c : Thread nD τ) sm ι (owed c n) : sProp 𝕄) := by
  unfold Ctx
  iintro ⟨-, #H⟩
  iapply (mayWait (F := F) c sm ι n hι h); iexact H
theorem ctx_cell (ck : Dev nD × Fin 70) : Ctx I ⊢ iprop((∃ κ, cellInv ER (Rd I) κ (kcell ck)) ∗ reached ER (kcell ck) 0) := by
  unfold Ctx
  have h : (bigSep Finset.univ fun ck : Dev nD × Fin 70 => (iprop((∃ κ, cellInv ER (Rd I) κ (kcell ck)) ∗ reached ER (kcell ck) 0) : sProp 𝕄))
      ⊢ iprop((∃ κ, cellInv ER (Rd I) κ (kcell ck)) ∗ reached ER (kcell ck) 0) := bigSep_elim (Finset.mem_univ ck)
  iintro ⟨#H, -⟩
  iapply h; iexact H
theorem kcell_dma (p : Dev nD) (n : ℕ) (h : 8 ≤ n ∧ n < 76) : kcell (p, ⟨n - 6, by omega⟩) = dcell p n := by
  show ((p : Thread nD τ), ksem ⟨n - 6, _⟩) = _
  unfold ksem
  rw [if_neg (by show ¬ n - 6 = 0; omega), if_neg (by show ¬ n - 6 = 1; omega)]
  show ((p : Thread nD τ), SemLoc.dma (dq (n - 6 + 6))) = _
  rw [Nat.sub_add_cancel (by omega)]
theorem ctx_dma (p : Dev nD) (n : ℕ) (h : 8 ≤ n ∧ n < 76) : Ctx I ⊢ iprop((∃ κ, cellInv ER (Rd I) κ (dcell p n)) ∗ reached ER (dcell p n) 0) := by
  rw [← kcell_dma p n h]; exact ctx_cell I _
theorem ctx_bar (p : Dev nD) : Ctx I ⊢ iprop((∃ κ, cellInv ER (Rd I) κ (barCell p)) ∗ reached ER (barCell p) 0) := ctx_cell I (p, 0)
theorem ctx_exit (p : Dev nD) : Ctx I ⊢ iprop((∃ κ, cellInv ER (Rd I) κ (exitCell p)) ∗ reached ER (exitCell p) 0) := ctx_cell I (p, 1)

/-- What device `c` owes from payment `j` on. -/
def Ow (c : Dev nD) (j : ℕ) : sProp 𝕄 := iprop(∃ W, owes (Ix := ℕ) (Val := Elt F) (Name := ℕ) (U := UU) (Lvl := ℕ) (c : Thread nD τ) (owed c j) W)

/-! ## Families advanced one member at a time -/

/-- Members `lo` to `a - 1` are done (`Q`), `a` to `hi - 1` are to come (`P`). -/
def Fam (P Q : ℕ → sProp 𝕄) (lo hi a : ℕ) : sProp 𝕄 := iprop(bigSep (Finset.Ico a hi) P ∗ bigSep (Finset.Ico lo a) Q)
omit [FloatOps F] in
theorem fam_step {P Q : ℕ → sProp 𝕄} {lo hi a : ℕ} (h : a < hi) (h' : lo ≤ a) :
    Fam P Q lo hi a ⊢ iprop(P a ∗ (Q a -∗ Fam P Q lo hi (a + 1))) := by
  unfold Fam
  rw [bigSep_Ico_succ_bot h, bigSep_Ico_succ_top h']
  iintro ⟨⟨Ha, Hr⟩, Hd⟩
  isplitl [Ha]; · iexact Ha
  iintro Hq
  isplitl [Hr]; · iexact Hr
  isplitl [Hq]; · iexact Hq
  iexact Hd
omit [FloatOps F] in
theorem fam_start {P Q : ℕ → sProp 𝕄} {lo hi : ℕ} : bigSep (Finset.Ico lo hi) P ⊢ Fam P Q lo hi lo := by
  unfold Fam
  rw [Finset.Ico_self, bigSep_empty]
  iintro H
  isplitl [H]; · iexact H
  iempintro
omit [FloatOps F] in
theorem fam_done {P Q : ℕ → sProp 𝕄} {lo hi : ℕ} : Fam P Q lo hi hi ⊢ bigSep (Finset.Ico lo hi) Q := by
  unfold Fam
  iintro ⟨-, H⟩
  iexact H

/-! ## Signals -/

/-- The `j`-th entry signal: its token, and what it hands over. -/
def barRes (c : Dev nD) (j : ℕ) : sProp 𝕄 := iprop(dutyTok ER (barCell (peer c j)) 0 j ∗ barPay (F := F) (peer c j) j)

theorem bar_step (c p : Dev nD) (j : ℕ) (hj : j < 10) (hp : p = peer c j) {w : Int} (hw : w = 1) {α : Type} {Q : α → sProp 𝕄}
    {k : PUnit → Prog (TpuEff nD τ sig (Elt F) Λ₀ .tc) α} :
    iprop(Ctx I ∗ Ow c j ∗ bigSep (Finset.Ico j 10) (barRes c))
      ⊢ iprop(((Ow (F := F) c (j + 1) ∗ bigSep (Finset.Ico (j + 1) 10) (barRes c)) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) barS w) k) Q) := by
  subst hp
  subst hw
  rw [bigSep_Ico_succ_bot hj]
  unfold Ow barRes
  iintro ⟨#HC, ⟨%W, HO⟩, ⟨Htok, Hpay⟩, Hrest⟩ Hk
  ihave ⟨⟨%κ, #HI⟩, #Hr⟩ := (ctx_bar I (peer c j)) $$ HC
  iapply (Rounds.wp_signal 𝒱₀ ER (Rd I) (c : Thread nD τ) none (dst := (peer c j : Thread nD τ)) (κ := κ) (r := 0)
      (d := j) (O₀ := owed c j) (by rw [duties_bar]; exact Finset.mem_range.mpr hj) (rfl : (Rd I).amount (barCell (peer c j)) 0 j = 1) 1 (owed c (j + 1))
      (by rw [owed_succ c j (by omega)]; congr 1; unfold psem pstage pamt; rw [if_pos hj, if_pos hj, if_pos hj]; rfl)) $$ [HO Htok Hpay]
  · isplitr; · iexact HI
    isplitl [HO]; · iexact HO
    isplitl [Htok]; · iexact Htok
    isplitl [Hpay]; · rw [payload_bar]; iexact Hpay
    iexact Hr
  iintro HO
  iapply Hk
  isplitl [HO]; · iexists W; iexact HO
  iexact Hrest

/-- The exit signals: nothing moves with them. -/
def exTok (c : Dev nD) (j : ℕ) : sProp 𝕄 := dutyTok ER (exitCell (col c (j + 1))) 0 j
theorem exit_step (c p : Dev nD) (j : ℕ) (hj : j < 3) (hp : p = peer c (70 + j)) {w : Int} (hw : w = 1) {α : Type} {Q : α → sProp 𝕄}
    {k : PUnit → Prog (TpuEff nD τ sig (Elt F) Λ₀ .tc) α} :
    iprop(Ctx I ∗ Ow c (70 + j) ∗ bigSep (Finset.Ico j 3) (exTok (F := F) c))
      ⊢ iprop(((Ow (F := F) c (70 + j + 1) ∗ bigSep (Finset.Ico (j + 1) 3) (exTok (F := F) c)) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) exitS w) k) Q) := by
  subst hp
  subst hw
  have hpe : peer c (70 + j) = col c (j + 1) := by
    unfold peer; rw [if_neg (by omega), if_neg (by omega), if_neg (by omega), if_neg (by omega), show 70 + j - 69 = j + 1 by omega]
  rw [bigSep_Ico_succ_bot hj]
  unfold Ow exTok
  rw [hpe]
  iintro ⟨#HC, ⟨%W, HO⟩, Htok, Hrest⟩ Hk
  ihave ⟨⟨%κ, #HI⟩, #Hr⟩ := (ctx_exit I (col c (j + 1))) $$ HC
  iapply (Rounds.wp_signal 𝒱₀ ER (Rd I) (c : Thread nD τ) none (dst := (col c (j + 1) : Thread nD τ)) (κ := κ) (r := 0)
      (d := j) (O₀ := owed c (70 + j)) (by rw [duties_exit]; exact Finset.mem_range.mpr hj) (rfl : (Rd I).amount (exitCell (col c (j + 1))) 0 j = 1) 9 (owed c (70 + j + 1))
      (by
        rw [owed_succ c (70 + j) (by omega), hpe]; congr 1; unfold psem pstage pamt
        rw [if_neg (by omega), if_neg (by omega), if_neg (by omega), if_neg (by omega), if_neg (by omega), if_neg (by omega), if_neg (by omega), if_neg (by omega),
          if_neg (by omega)]; rfl)) $$ [HO Htok]
  · isplitr; · iexact HI
    isplitl [HO]; · iexact HO
    isplitl [Htok]; · iexact Htok
    isplitr; · rw [payload_exit]; iempintro
    iexact Hr
  iintro HO
  iapply Hk
  isplitl [HO]; · iexists W; iexact HO
  iexact Hrest

/-! ## Waits -/

/-- The entry wait: every peer has arrived, and hands over what it lets this device write. -/
theorem bar_wait (c : Dev nD) {w : Int} (hw : w = 10) {α : Type} {Q : α → sProp 𝕄} {k : PUnit → Prog (TpuEff nD τ sig (Elt F) Λ₀ .tc) α} :
    iprop(Ctx I ∗ Ow c 10 ∗ cred (tallyAt (barCell c) 1 10) ∗ atPos ER (barCell c) 0 (∅ : Finset ℕ) 0)
      ⊢ iprop(((Ow (F := F) c 10 ∗ atPos ER (barCell c) 1 (∅ : Finset ℕ) 0 ∗ bigSep (Finset.range 10) (fun d => barPay (F := F) c d))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  unfold Ow
  iintro ⟨#HC, ⟨%W, HO⟩, Hc, Hat⟩ Hk
  ihave ⟨⟨%κ, #HI⟩, #Hr⟩ := (ctx_bar I c) $$ HC
  ihave #Hmw := (ctx_mayWait I c (.reg barS) 1 10 (by omega) (fun _ => by decide)) $$ HC
  iapply (Rounds.wp_wait_rest_token 𝒱₀ ER (Rd I) (c : Thread nD τ) none (κ := κ)
      (wpE_semWait_eq 𝒱₀ (c : Thread nD τ) none Set.univ) (Set.mem_univ _) 1 (O := owed c 10) (W := W) (R := 0) (m := 0) (T := ∅)
      (show 0 + 10 = _ by rw [expect_bar])) $$ [Hc HO Hat]
  · isplitr; · iexact HI
    isplitl [Hc]; · iexact Hc
    isplitl [HO]; · iexact HO
    isplitr; · iexact Hmw
    iexact Hat
  iintro ⟨HO, Hat, -, Hb⟩
  ihave Hb := (Entails.of_eq (rest_bar I c)) $$ Hb
  iapply Hk
  isplitl [HO]; · iexists _; iexact HO
  isplitl [Hat]; · iexact Hat
  iexact Hb
theorem exit_wait (c : Dev nD) {w : Int} (hw : w = 3) {α : Type} {Q : α → sProp 𝕄} {k : PUnit → Prog (TpuEff nD τ sig (Elt F) Λ₀ .tc) α} :
    iprop(Ctx I ∗ Ow c 73 ∗ cred (tallyAt (exitCell c) 9 3) ∗ atPos ER (exitCell c) 0 (∅ : Finset ℕ) 0)
      ⊢ iprop(((Ow (F := F) c 73 ∗ atPos ER (exitCell c) 1 (∅ : Finset ℕ) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait exitS w) k) Q) := by
  subst hw
  unfold Ow
  iintro ⟨#HC, ⟨%W, HO⟩, Hc, Hat⟩ Hk
  ihave ⟨⟨%κ, #HI⟩, #Hr⟩ := (ctx_exit I c) $$ HC
  ihave #Hmw := (ctx_mayWait I c (.reg exitS) 9 73 (by omega) (fun h => absurd h (by omega))) $$ HC
  iapply (Rounds.wp_wait_rest_token 𝒱₀ ER (Rd I) (c : Thread nD τ) none (κ := κ)
      (wpE_semWait_eq 𝒱₀ (c : Thread nD τ) none Set.univ) (Set.mem_univ _) 9 (O := owed c 73) (W := W) (R := 0) (m := 0) (T := ∅)
      (show 0 + 3 = _ by rw [expect_exit])) $$ [Hc HO Hat]
  · isplitr; · iexact HI
    isplitl [Hc]; · iexact Hc
    isplitl [HO]; · iexact HO
    isplitr; · iexact Hmw
    iexact Hat
  iintro ⟨HO, Hat, -, -⟩
  iapply Hk
  isplitl [HO]; · iexists _; iexact HO
  iexact Hat

/-- A wait to come on DMA semaphore `n`, in round `l`, at stage `ι`: the credit and the position … -/
def pend (c : Dev nD) (n ι l : ℕ) : sProp 𝕄 := iprop(cred (tallyAt (dcell c n) ι (amtDma n)) ∗ atPos ER (dcell c n) l (∅ : Finset ℕ) 0)
/-- … and the wait done: the next position, and what the round handed over. -/
def got (c : Dev nD) (n l : ℕ) : sProp 𝕄 := iprop((atPos ER (dcell c n) (l + 1) (∅ : Finset ℕ) 0 ∗ reached ER (dcell c n) (l + 1)) ∗ dmaPay I c n l)

/-- Whether DMA semaphore `n` has a duty in round `l`. -/
abbrev Used (n l : ℕ) : Prop := 8 ≤ n ∧ n < 44 ∧ l = 0 ∨ 44 ≤ n ∧ n < 76 ∧ (n - 44) % 8 ≠ 0 ∧ l < 3

theorem dma_wait (c : Dev nD) (n ι l j : ℕ) (hu : Used n l) (hι : ι < 12) (hs : j < 73 → ι < pstage j) {q : DmaSem sig} (hq : q = dq n)
    {ss sd : Space} {s t : Shape} {e e' : EltTy} {src : Memref sig .tc ss s e} {dst : Memref sig .tc sd t e'} {h1 h2}
    (hk : dst.view.dmaCredit = amtDma n) {α : Type} {Q : α → sProp 𝕄} {k : PUnit → Prog (TpuEff nD τ sig (Elt F) Λ₀ .tc) α} :
    iprop(Ctx I ∗ Ow c j ∗ pend (F := F) c n ι l)
      ⊢ iprop(((Ow (F := F) c j ∗ got I c n l) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  have hn : n < 76 := by rcases hu with h | h <;> omega
  unfold Ow pend got
  iintro ⟨#HC, ⟨%W, HO⟩, Hc, Hat⟩ Hk
  ihave ⟨⟨%κ, #HI⟩, #Hr⟩ := (ctx_dma I c n (by omega)) $$ HC
  ihave #Hmw := (ctx_mayWait I c (.dma (dq n)) ι j hι hs) $$ HC
  iapply (Rounds.wp_wait_rest_token 𝒱₀ ER (Rd I) (c : Thread nD τ) none (κ := κ)
      (wpE_waitDma2_eq 𝒱₀ (c : Thread nD τ) none Set.univ) (Set.mem_univ _) ι (O := owed c j) (W := W) (R := l) (m := 0) (T := ∅)
      (by rw [Nat.zero_add, hk, expect_dma I c n l hn hu])) $$ [Hc HO Hat]
  · isplitr; · iexact HI
    isplitl [Hc]; · rw [hk]; iexact Hc
    isplitl [HO]; · iexact HO
    isplitr; · iexact Hmw
    iexact Hat
  iintro ⟨HO, Hat, #Hr', Hb⟩
  ihave Hb := (Entails.of_eq (rest_dma I c n l hn hu)) $$ Hb
  iapply Hk
  isplitl [HO]; · iexists _; iexact HO
  isplitl [Hat]
  · isplitl [Hat]; · iexact Hat
    iexact Hr'
  iexact Hb

/-- A run of waits on the semaphores `n lo, …, n (hi - 1)`, of which those before `a` are done. -/
def Wt (c : Dev nD) (n : ℕ → ℕ) (ι l lo hi a : ℕ) : sProp 𝕄 := Fam (fun t => pend c (n t) ι l) (fun t => got I c (n t) l) lo hi a

theorem wait_step (c : Dev nD) (n : ℕ → ℕ) (ι l lo hi a j : ℕ) (ha : lo ≤ a ∧ a < hi) (hu : Used (n a) l) (hι : ι < 12)
    (hs : j < 73 → ι < pstage j) {q : DmaSem sig} (hq : q = dq (n a))
    {ss sd : Space} {s t : Shape} {e e' : EltTy} {src : Memref sig .tc ss s e} {dst : Memref sig .tc sd t e'} {h1 h2}
    (hk : dst.view.dmaCredit = amtDma (n a)) {α : Type} {Q : α → sProp 𝕄} {k : PUnit → Prog (TpuEff nD τ sig (Elt F) Λ₀ .tc) α} :
    iprop(Ctx I ∗ Ow c j ∗ Wt I c n ι l lo hi a)
      ⊢ iprop(((Ow (F := F) c j ∗ Wt I c n ι l lo hi (a + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  unfold Wt
  iintro ⟨#HC, HO, HF⟩ Hk
  ihave ⟨Hp, Hf⟩ := (fam_step (P := fun t => pend (F := F) c (n t) ι l) (Q := fun t => got I c (n t) l) ha.2 ha.1) $$ HF
  iapply (dma_wait I c (n a) ι l j hu hι hs hq hk) $$ [HO Hp]
  · isplitr; · iexact HC
    isplitl [HO]; · iexact HO
    iexact Hp
  iintro ⟨HO, Hg⟩
  iapply Hk
  isplitl [HO]; · iexact HO
  iapply Hf; iexact Hg

/-! ## Transfers -/

/-- A transfer to another device: the source's share and the destination go into the two payloads. -/
theorem send_gen (c p : Dev nD) (j nS nR lS lR : ℕ) (N : ℕ) (hj : j < 73) (hp : p = peer c j) (hps : psem j = .dma (dq nR)) (hpa : pamt j = N)
    (huS : Used nS lS) (huR : Used nR lR) (hNS : amtDma nS = N) (hNR : amtDma nR = N)
    {qS qR : DmaSem sig} (hqS : qS = dq nS) (hqR : qR = dq nR)
    {s : Shape} {e : EltTy} {src dst : Memref sig .tc .vmem s e} {hsc : (dst : Memref sig (Dev.tc p : Thread nD τ).2.kind .vmem s e).view.ref.isScScratch = false}
    {hsrc : src.view.WordExact} {hdst : dst.view.WordExact}
    {hsem : DmaTarget.Typed .vmem (.dma qR) (.remote (Dev.tc p : Thread nD τ) (dst : Memref sig .tc .vmem s e) (.dma qS) hsc)}
    (hamt : dst.view.dmaCredit = N) (Sd : Finset (Idx (dst.view.loc (p : Thread nD τ)))) (hSd : dst.view.set = Sd)
    {πs : PosShare TreeShare} {fs : Buf (Elt F) (src.view.loc (c : Thread nD τ))} {fd : Buf (Elt F) (dst.view.loc (p : Thread nD τ))} (G : sProp 𝕄)
    (hpay₁ : (src.view.loc (c : Thread nD τ) ↦[src.view.set]{πs} fs : sProp 𝕄) ⊢ dmaPay I c nS lS)
    (hpay₂ : iprop((dst.view.loc (p : Thread nD τ) ↦[Sd]{fullShare} dst.view.write (Elt F) fd (src.view.read (Elt F) fs) Finset.univ) ∗ G) ⊢ dmaPay I p nR lR)
    {α : Type} {Q : α → sProp 𝕄} {k : PUnit → Prog (TpuEff nD τ sig (Elt F) Λ₀ .tc) α} :
    iprop(Ctx I ∗ Ow c j ∗ (src.view.loc (c : Thread nD τ) ↦[src.view.set]{πs} fs) ∗ ((dst.view.loc (p : Thread nD τ) ↦[Sd]{fullShare} fd) ∗ G)
        ∗ (dutyTok ER (dcell c nS) lS 0 ∗ reached ER (dcell c nS) lS) ∗ (dutyTok ER (dcell p nR) lR 0 ∗ reached ER (dcell p nR) lR))
      ⊢ iprop(((Ow (F := F) c (j + 1) ∗ cred (tallyAt (dcell c nS) 0 N)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc p : Thread nD τ) dst (.dma qS) hsc) (.dma qR) hsrc hdst hsem) k) Q) := by
  subst hqS; subst hqR; subst hSd
  have hn1 : nS < 76 := by rcases huS with h | h <;> omega
  have hn2 : nR < 76 := by rcases huR with h | h <;> omega
  unfold Ow
  iintro ⟨#HC, ⟨%W, HO⟩, Hsrc, Hdst, ⟨Ht1, #Hr1⟩, ⟨Ht2, #Hr2⟩⟩ Hk
  ihave ⟨⟨%κ₁, #HI1⟩, -⟩ := (ctx_dma I c nS (by omega)) $$ HC
  ihave ⟨⟨%κ₂, #HI2⟩, -⟩ := (ctx_dma I p nR (by omega)) $$ HC
  iapply (Rounds.wp_send_pointsTo_with 𝒱₀ ER (Rd I) (c : Thread nD τ) none (κ₁ := κ₁) (κ₂ := κ₂) (r₁ := lS) (r₂ := lR) (d₁ := 0) (d₂ := 0)
      (sS := .dma (dq nS)) (sem := .dma (dq nR)) (F := G) (fd := fd) (O₀ := owed c j) (by rw [duties_dma I c nS lS hn1 huS]; exact Finset.mem_singleton_self _)
      (by
        have h := duties_dma I p nR lR hn2 huR
        exact (Finset.ext_iff.mp h 0).mpr (Finset.mem_singleton_self _))
      (pstage j) 0 N hamt (by rw [amount_dma I c nS lS 0 hn1, hNS]) ((amount_dma I p nR lR 0 hn2).trans hNR) (owed c (j + 1))
      (by rw [owed_succ c j hj, hps, hpa, ← hp])
      (by rw [payload_dma I c nS lS 0 hn1]; exact hpay₁)
      (hpay₂.trans (Entails.of_eq (payload_dma I p nR lR 0 hn2).symm))) $$ [HO Hsrc Hdst Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists W; iexact HO
  iexact Hcr

end Cert.K
-- ==== Proof.Moves.lean ====
/- The kernel's three kinds of transfer, each as one step of a family. -/
module

public import proofs.«01_k».proof.Proof.Steps

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## Arithmetic of the mesh -/

theorem colDev_col (c : Dev nD) (r q : ℕ) : colDev (col c r) q = colDev c q := by
  apply Fin.ext
  show 8 * (q % 4) + (col c r).val % 8 = 8 * (q % 4) + c.val % 8
  rw [col_val]; omega
theorem col_row_of (c : Dev nD) (r : ℕ) : (col c r).val / 8 = (c.val / 8 + r) % 4 := by
  have h := c.isLt; have : nD = 32 := rfl
  rw [col_val]; omega
theorem winC_col (c : Dev nD) (r : ℕ) : winC I (col c r) = winC I c := by funext i; unfold winC; rw [colDev_col]
theorem woutC_col (c : Dev nD) (r : ℕ) : woutC I (col c r) = woutC I c := by funext i; unfold woutC; rw [colDev_col]
theorem row_back (c : Dev nD) (r : ℕ) (h : 1 ≤ r ∧ r < 8) : row (row c r) (8 - r) = c := row_row c r (8 - r) (by omega)
theorem row_forth (c : Dev nD) (r : ℕ) (h : 1 ≤ r ∧ r < 8) : row (row c (8 - r)) r = c := row_row c (8 - r) r (by omega)

theorem peer_w (c : Dev nD) (i : ℕ) (h : i < 18) : peer c (10 + i) = col c (i / 6 + 1) := by
  unfold peer; rw [if_neg (by omega), if_neg (by omega), if_pos (by omega), Nat.add_sub_cancel_left]
theorem peer_ag (c : Dev nD) (l r : ℕ) (hl : l < 3) (h : 1 ≤ r ∧ r < 8) : peer c (27 + 14 * l + r) = row c r := by
  unfold peer; rw [if_neg (by omega), if_neg (by omega), if_neg (by omega), if_pos (by omega), if_pos (by omega)]
  congr 1; omega
theorem peer_rs (c : Dev nD) (l r : ℕ) (hl : l < 3) (h : 1 ≤ r ∧ r < 8) : peer c (34 + 14 * l + r) = row c (8 - r) := by
  unfold peer; rw [if_neg (by omega), if_neg (by omega), if_neg (by omega), if_pos (by omega), if_neg (by omega)]
  congr 1; omega
theorem psem_w (i : ℕ) (h : i < 18) : psem (10 + i) = .dma (dq (26 + i)) := by
  unfold psem; rw [if_neg (by omega), if_pos (by omega), Nat.add_sub_cancel_left]
theorem psem_ag (l r : ℕ) (hl : l < 3) (h : 1 ≤ r ∧ r < 8) : psem (27 + 14 * l + r) = .dma (dq (52 + r)) := by
  unfold psem; rw [if_neg (by omega), if_neg (by omega), if_pos (by omega), if_pos (by omega)]
  congr 2; omega
theorem psem_rs (l r : ℕ) (hl : l < 3) (h : 1 ≤ r ∧ r < 8) : psem (34 + 14 * l + r) = .dma (dq (68 + r)) := by
  unfold psem; rw [if_neg (by omega), if_neg (by omega), if_pos (by omega), if_neg (by omega)]
  congr 2; omega
theorem pamt_w (i : ℕ) (h : i < 18) : pamt (10 + i) = 2048 := by
  unfold pamt; rw [if_neg (by omega), if_pos (by omega)]
theorem pamt_x (j : ℕ) (h : 28 ≤ j ∧ j < 70) : pamt j = 1024 := by
  unfold pamt; rw [if_neg (by omega), if_neg (by omega), if_pos (by omega)]

/-! ## The resources by cases -/

theorem wP_even {k : ℕ} (h : k % 2 = 0) (q : ℕ) (c : Dev nD) (π) : wP I k q c π = wiP c (ws (k / 2) q) π (winC I c) := if_pos h
theorem wP_odd {k : ℕ} (h : ¬ k % 2 = 0) (q : ℕ) (c : Dev nD) (π) : wP I k q c π = woP c (wos (k / 2) q) π (woutC I c) := if_neg h
theorem wE_even {k : ℕ} (h : k % 2 = 0) (q : ℕ) (c : Dev nD) : wE (F := F) k q c = iprop(∃ f, wiP (F := F) c (ws (k / 2) q) fullShare f) := if_pos h
theorem wE_odd {k : ℕ} (h : ¬ k % 2 = 0) (q : ℕ) (c : Dev nD) : wE (F := F) k q c = iprop(∃ f, woP (F := F) c (wos (k / 2) q) fullShare f) := if_neg h
theorem xqMove_lt {l : ℕ} (h : l < 3) (p : Dev nD) (r : ℕ) :
    xqMove (F := F) p r l = iprop((∃ f, xqP (F := F) p (xs r) fullShare f) ∗ reached ER (dcell p (52 + r)) l) := if_pos h
theorem xqMove_ge {l : ℕ} (h : ¬ l < 3) (p : Dev nD) (r : ℕ) : xqMove (F := F) p r l = iprop(emp) := if_neg h

/-! ## The payloads at the cells -/

theorem dmaPay_ws (c : Dev nD) (i l : ℕ) (h : i < 18) : dmaPay I c (8 + i) l = wsendPay I c i := by
  unfold dmaPay; rw [if_pos (by omega), Nat.add_sub_cancel_left]
theorem dmaPay_wr (c : Dev nD) (i l : ℕ) (h : i < 18) : dmaPay I c (26 + i) l = wrecvPay I c i := by
  unfold dmaPay; rw [if_neg (by omega), if_pos (by omega), Nat.add_sub_cancel_left]
theorem dmaPay_ags (c : Dev nD) (r l : ℕ) (h : r < 8) : dmaPay I c (44 + r) l = agsPay I c r l := by
  unfold dmaPay; rw [if_neg (by omega), if_neg (by omega), if_pos (by omega), Nat.add_sub_cancel_left]
theorem dmaPay_agr (c : Dev nD) (r l : ℕ) (h : r < 8) : dmaPay I c (52 + r) l = agrPay I c r l := by
  unfold dmaPay; rw [if_neg (by omega), if_neg (by omega), if_neg (by omega), if_pos (by omega), Nat.add_sub_cancel_left]
theorem dmaPay_rss (c : Dev nD) (r l : ℕ) (h : r < 8) : dmaPay I c (60 + r) l = rssPay I c r l := by
  unfold dmaPay; rw [if_neg (by omega), if_neg (by omega), if_neg (by omega), if_neg (by omega), if_pos (by omega), Nat.add_sub_cancel_left]
theorem dmaPay_rsr (c : Dev nD) (r l : ℕ) (h : r < 8) : dmaPay I c (68 + r) l = rsrPay I c r l := by
  unfold dmaPay; rw [if_neg (by omega), if_neg (by omega), if_neg (by omega), if_neg (by omega), if_neg (by omega), Nat.add_sub_cancel_left]

/-! ## The weights -/

/-- Weight transfer `i` to come: its two tokens, the share of the own slot it reads, the slot it fills … -/
def wsRes (c : Dev nD) (i : ℕ) : sProp 𝕄 :=
  iprop(dutyTok ER (dcell c (8 + i)) 0 0 ∗ dutyTok ER (dcell (col c (i / 6 + 1)) (26 + i)) 0 0
    ∗ wP I (i % 6) (c.val / 8) c (sh (i / 6 + 1)) ∗ wE (F := F) (i % 6) (c.val / 8) (col c (i / 6 + 1)))
/-- … and started: the credit for its completion. -/
def wsCr (c : Dev nD) (i : ℕ) : sProp 𝕄 := cred (tallyAt (dcell c (8 + i)) 0 2048)
def WS (c : Dev nD) (a : ℕ) : sProp 𝕄 := Fam (wsRes I c) (wsCr c) 0 18 a

section
variable {α : Type} {Q : α → sProp (MT nD τ sig ℕ (Elt F) ℕ UU ℕ)} {k : PUnit → Prog (TpuEff nD τ sig (Elt F) Λ₀ .tc) α}
variable (c p : Dev nD) {qS qR : DmaSem sig}

theorem wsend_in (i : ℕ) (hi : i < 18) (hev : i % 2 = 0) (hp : p = col c (i / 6 + 1)) (off : Fin 3 → ℕ) (h h')
    (ho : off = ![i % 6 / 2, 0, 256 * (c.val / 8)]) (hqS : qS = dq (8 + i)) (hqR : qR = dq (26 + i))
    {hsc : (slot11 off h' : Memref sig (Dev.tc p : Thread nD τ).2.kind .vmem _ _).view.ref.isScScratch = false} {hsrc : (slot11 off h).view.WordExact} {hdst : (slot11 off h').view.WordExact}
    {hsem : DmaTarget.Typed .vmem (.dma qR) (.remote (Dev.tc p : Thread nD τ) (slot11 off h' : Memref sig .tc .vmem _ _) (.dma qS) hsc)} :
    iprop(Ctx I ∗ Ow c (10 + i) ∗ WS I c i)
      ⊢ iprop(((Ow (F := F) c (10 + i + 1) ∗ WS I c (i + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot11 off h) (.remote (Dev.tc p : Thread nD τ) (slot11 off h') (.dma qS) hsc) (.dma qR) hsrc hdst hsem) k) Q) := by
  subst ho; subst hp
  unfold WS
  have hev' : i % 6 % 2 = 0 := by omega
  iintro ⟨#HC, HO, HF⟩ Hk
  ihave ⟨Hp, Hf⟩ := (fam_step (P := wsRes I c) (Q := wsCr (F := F) c) hi (Nat.zero_le i)) $$ HF
  unfold wsRes
  icases Hp with ⟨Ht1, Ht2, Hs, Hd⟩
  ihave Hs := (Entails.of_eq (wP_even I hev' (c.val / 8) c (sh (i / 6 + 1)))) $$ Hs
  ihave Hd := (Entails.of_eq (wE_even hev' (c.val / 8) (col c (i / 6 + 1)))) $$ Hd
  icases Hd with ⟨%fd, Hd⟩
  ihave ⟨-, #Hr1⟩ := (ctx_dma I c (8 + i) (by omega)) $$ HC
  ihave ⟨-, #Hr2⟩ := (ctx_dma I (col c (i / 6 + 1)) (26 + i) (by omega)) $$ HC
  iapply (send_gen I c (col c (i / 6 + 1)) (10 + i) (8 + i) (26 + i) 0 0 2048 (by omega) (peer_w c i hi).symm (psem_w i hi) (pamt_w i hi)
    (Or.inl (by omega)) (Or.inl (by omega)) (by unfold amtDma; rw [if_pos (by omega)]) (by unfold amtDma; rw [if_pos (by omega)]) hqS hqR
    (src := slot11 _ h) (dst := slot11 _ h') (amt11 _ _) (ws (i % 6 / 2) (c.val / 8)) (slot11_set _ _ _) (πs := sh (i / 6 + 1)) (fs := winC I c) (fd := fd) iprop(emp)
    (by
      rw [slot11_set, dmaPay_ws I c i 0 hi]; unfold wsendPay wP; rw [if_pos hev']; exact BI.Entails.refl _)
    (by
      rw [dmaPay_wr I _ i 0 hi]; unfold wrecvPay wP; rw [if_pos hev', winC_col, col_row_of,
        show ((c.val / 8 + (i / 6 + 1)) % 4 + (3 - i / 6)) % 4 = c.val / 8 by have := c.isLt; have : nD = 32 := rfl; omega]
      iintro ⟨H, -⟩
      unfold wiP
      ihave H := (Entails.of_eq (pointsTo_congr (fun x hx => win_copy _ _ fd (winC I c) x (by rw [slot11_set]; exact hx)))) $$ H
      iexact H)) $$ [HO Ht1 Ht2 Hs Hd]
  · isplitr; · iexact HC
    isplitl [HO]; · iexact HO
    isplitl [Hs]; · rw [slot11_set]; unfold wiP; iexact Hs
    isplitl [Hd]
    · isplitl [Hd]; · unfold wiP; iexact Hd
      iempintro
    isplitl [Ht1]
    · isplitl [Ht1]; · iexact Ht1
      iexact Hr1
    isplitl [Ht2]; · iexact Ht2
    iexact Hr2
  iintro ⟨HO, Hc⟩
  iapply Hk
  isplitl [HO]; · iexact HO
  iapply Hf; unfold wsCr; iexact Hc

theorem wsend_out (i : ℕ) (hi : i < 18) (hev : i % 2 = 1) (hp : p = col c (i / 6 + 1)) (off : Fin 3 → ℕ) (h h')
    (ho : off = ![i % 6 / 2, 256 * (c.val / 8), 0]) (hqS : qS = dq (8 + i)) (hqR : qR = dq (26 + i))
    {hsc : (slot12 off h' : Memref sig (Dev.tc p : Thread nD τ).2.kind .vmem _ _).view.ref.isScScratch = false} {hsrc : (slot12 off h).view.WordExact} {hdst : (slot12 off h').view.WordExact}
    {hsem : DmaTarget.Typed .vmem (.dma qR) (.remote (Dev.tc p : Thread nD τ) (slot12 off h' : Memref sig .tc .vmem _ _) (.dma qS) hsc)} :
    iprop(Ctx I ∗ Ow c (10 + i) ∗ WS I c i)
      ⊢ iprop(((Ow (F := F) c (10 + i + 1) ∗ WS I c (i + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot12 off h) (.remote (Dev.tc p : Thread nD τ) (slot12 off h') (.dma qS) hsc) (.dma qR) hsrc hdst hsem) k) Q) := by
  subst ho; subst hp
  unfold WS
  have hev' : ¬ i % 6 % 2 = 0 := by omega
  iintro ⟨#HC, HO, HF⟩ Hk
  ihave ⟨Hp, Hf⟩ := (fam_step (P := wsRes I c) (Q := wsCr (F := F) c) hi (Nat.zero_le i)) $$ HF
  unfold wsRes
  icases Hp with ⟨Ht1, Ht2, Hs, Hd⟩
  ihave Hs := (Entails.of_eq (wP_odd I hev' (c.val / 8) c (sh (i / 6 + 1)))) $$ Hs
  ihave Hd := (Entails.of_eq (wE_odd hev' (c.val / 8) (col c (i / 6 + 1)))) $$ Hd
  icases Hd with ⟨%fd, Hd⟩
  ihave ⟨-, #Hr1⟩ := (ctx_dma I c (8 + i) (by omega)) $$ HC
  ihave ⟨-, #Hr2⟩ := (ctx_dma I (col c (i / 6 + 1)) (26 + i) (by omega)) $$ HC
  iapply (send_gen I c (col c (i / 6 + 1)) (10 + i) (8 + i) (26 + i) 0 0 2048 (by omega) (peer_w c i hi).symm (psem_w i hi) (pamt_w i hi)
    (Or.inl (by omega)) (Or.inl (by omega)) (by unfold amtDma; rw [if_pos (by omega)]) (by unfold amtDma; rw [if_pos (by omega)]) hqS hqR
    (src := slot12 _ h) (dst := slot12 _ h') (amt12 _ _) (wos (i % 6 / 2) (c.val / 8)) (slot12_set _ _ _) (πs := sh (i / 6 + 1)) (fs := woutC I c) (fd := fd) iprop(emp)
    (by
      rw [slot12_set, dmaPay_ws I c i 0 hi]; unfold wsendPay wP; rw [if_neg hev']; exact BI.Entails.refl _)
    (by
      rw [dmaPay_wr I _ i 0 hi]; unfold wrecvPay wP; rw [if_neg hev', woutC_col, col_row_of,
        show ((c.val / 8 + (i / 6 + 1)) % 4 + (3 - i / 6)) % 4 = c.val / 8 by have := c.isLt; have : nD = 32 := rfl; omega]
      iintro ⟨H, -⟩
      unfold woP
      ihave H := (Entails.of_eq (pointsTo_congr (fun x hx => wout_copy _ _ fd (woutC I c) x (by rw [slot12_set]; exact hx)))) $$ H
      iexact H)) $$ [HO Ht1 Ht2 Hs Hd]
  · isplitr; · iexact HC
    isplitl [HO]; · iexact HO
    isplitl [Hs]; · rw [slot12_set]; unfold woP; iexact Hs
    isplitl [Hd]
    · isplitl [Hd]; · unfold woP; iexact Hd
      iempintro
    isplitl [Ht1]
    · isplitl [Ht1]; · iexact Ht1
      iexact Hr1
    isplitl [Ht2]; · iexact Ht2
    iexact Hr2
  iintro ⟨HO, Hc⟩
  iapply Hk
  isplitl [HO]; · iexact HO
  iapply Hf; unfold wsCr; iexact Hc

end

/-! ## The activations -/

/-- The all-gather transfer to the device `r` places on, to come: the tokens, the share of the own slot it reads, the slot
    it fills, and the receive slot it hands over along the way … -/
def agRes (c : Dev nD) (l r : ℕ) : sProp 𝕄 :=
  iprop((dutyTok ER (dcell c (44 + r)) l 0 ∗ reached ER (dcell c (44 + r)) l) ∗ dutyTok ER (dcell (row c r) (52 + r)) l 0
    ∗ xqP c (xs 0) (sh r) (xqC (actC I l) c) ∗ xqMove (F := F) (row c r) r l ∗ rsMove (F := F) c r l)
def agCr (c : Dev nD) (r : ℕ) : sProp 𝕄 := cred (tallyAt (dcell c (44 + r)) 0 1024)
def AG (c : Dev nD) (l a : ℕ) : sProp 𝕄 := Fam (agRes I c l) (agCr c) 1 8 a
/-- The reduce-scatter transfer of slot `r`, to come. -/
def rsRes (c : Dev nD) (l r : ℕ) : sProp 𝕄 :=
  iprop((dutyTok ER (dcell c (60 + r)) l 0 ∗ reached ER (dcell c (60 + r)) l) ∗ dutyTok ER (dcell (row c (8 - r)) (68 + r)) l 0
    ∗ ptP c (xs r) fullShare (partC I l (actC I l) c) ∗ rsMove (F := F) (row c (8 - r)) r l ∗ xqMove (F := F) c r (l + 1))
def rsCr (c : Dev nD) (r : ℕ) : sProp 𝕄 := cred (tallyAt (dcell c (60 + r)) 0 1024)
def RS (c : Dev nD) (l lo hi a : ℕ) : sProp 𝕄 := Fam (rsRes I c l) (rsCr c) lo hi a

section
variable {α : Type} {Q : α → sProp (MT nD τ sig ℕ (Elt F) ℕ UU ℕ)} {k : PUnit → Prog (TpuEff nD τ sig (Elt F) Λ₀ .tc) α}
variable (c p : Dev nD) {qS qR : DmaSem sig}

theorem agsend (l r : ℕ) (hl : l < 3) (hr : 1 ≤ r ∧ r < 8) (hp : p = row c r) (h h') (hqS : qS = dq (44 + r)) (hqR : qR = dq (52 + r))
    {hsc : (slot8 r h' : Memref sig (Dev.tc p : Thread nD τ).2.kind .vmem _ _).view.ref.isScScratch = false} {hsrc : (slot8 0 h).view.WordExact} {hdst : (slot8 r h').view.WordExact}
    {hsem : DmaTarget.Typed .vmem (.dma qR) (.remote (Dev.tc p : Thread nD τ) (slot8 r h' : Memref sig .tc .vmem _ _) (.dma qS) hsc)} :
    iprop(Ctx I ∗ Ow c (27 + 14 * l + r) ∗ AG I c l r)
      ⊢ iprop(((Ow (F := F) c (27 + 14 * l + r + 1) ∗ AG I c l (r + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot8 0 h) (.remote (Dev.tc p : Thread nD τ) (slot8 r h') (.dma qS) hsc) (.dma qR) hsrc hdst hsem) k) Q) := by
  subst hp
  unfold AG
  iintro ⟨#HC, HO, HF⟩ Hk
  ihave ⟨Hp, Hf⟩ := (fam_step (P := agRes I c l) (Q := agCr (F := F) c) hr.2 hr.1) $$ HF
  unfold agRes
  icases Hp with ⟨Ht1, Ht2, Hs, Hd, Hm⟩
  ihave Hd := (Entails.of_eq (xqMove_lt hl (row c r) r)) $$ Hd
  icases Hd with ⟨⟨%fd, Hd⟩, #Hr2⟩
  iapply (send_gen I c (row c r) (27 + 14 * l + r) (44 + r) (52 + r) l l 1024 (by omega) (peer_ag c l r hl hr).symm (psem_ag l r hl hr) (pamt_x _ (by omega))
    (Or.inr (by omega)) (Or.inr (by omega)) (by unfold amtDma; rw [if_neg (by omega)]) (by unfold amtDma; rw [if_neg (by omega)]) hqS hqR
    (src := slot8 0 h) (dst := slot8 r h') (amt8 _ _) (xs r) (slot8_set _ _) (πs := sh r) (fs := xqC (actC I l) c) (fd := fd) (rsMove (F := F) c r l)
    (by
      rw [slot8_set, dmaPay_ags I c r l hr.2]; unfold agsPay xqP; exact BI.Entails.refl _)
    (by
      rw [dmaPay_agr I _ r l hr.2]; unfold agrPay xqP; rw [row_back c r hr]
      iintro ⟨H, Hm⟩
      isplitl [H]
      · ihave H := (Entails.of_eq (pointsTo_congr (g := xqC (actC I l) (row c r)) (fun x hx => (ag_copy r _ _ fd (xqC (actC I l) c) x hx).trans (by
          unfold xqC
          rw [mem_xs.mp hx, row_back c r hr]
          show actC I l (row c (8 - 0)) _ = _
          rw [row_eight])))) $$ H
        iexact H
      iexact Hm)) $$ [HO Ht1 Ht2 Hs Hd Hm]
  · isplitr; · iexact HC
    isplitl [HO]; · iexact HO
    isplitl [Hs]; · rw [slot8_set]; unfold xqP; iexact Hs
    isplitl [Hd Hm]
    · isplitl [Hd]; · unfold xqP; iexact Hd
      iexact Hm
    isplitl [Ht1]; · iexact Ht1
    isplitl [Ht2]; · iexact Ht2
    iexact Hr2
  iintro ⟨HO, Hc⟩
  iapply Hk
  isplitl [HO]; · iexact HO
  iapply Hf; unfold agCr; iexact Hc

theorem rssend (l r lo hi : ℕ) (hl : l < 3) (hr : 1 ≤ r ∧ r < 8) (hlo : lo ≤ r ∧ r < hi) (hp : p = row c (8 - r)) (h h') (hqS : qS = dq (60 + r)) (hqR : qR = dq (68 + r))
    {hsc : (slot10 r h' : Memref sig (Dev.tc p : Thread nD τ).2.kind .vmem _ _).view.ref.isScScratch = false} {hsrc : (slot9 r h).view.WordExact} {hdst : (slot10 r h').view.WordExact}
    {hsem : DmaTarget.Typed .vmem (.dma qR) (.remote (Dev.tc p : Thread nD τ) (slot10 r h' : Memref sig .tc .vmem _ _) (.dma qS) hsc)} :
    iprop(Ctx I ∗ Ow c (34 + 14 * l + r) ∗ RS I c l lo hi r)
      ⊢ iprop(((Ow (F := F) c (34 + 14 * l + r + 1) ∗ RS I c l lo hi (r + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot9 r h) (.remote (Dev.tc p : Thread nD τ) (slot10 r h') (.dma qS) hsc) (.dma qR) hsrc hdst hsem) k) Q) := by
  subst hp
  unfold RS
  iintro ⟨#HC, HO, HF⟩ Hk
  ihave ⟨Hp, Hf⟩ := (fam_step (P := rsRes I c l) (Q := rsCr (F := F) c) hlo.2 hlo.1) $$ HF
  unfold rsRes rsMove
  icases Hp with ⟨Ht1, Ht2, Hs, ⟨⟨%fd, Hd⟩, #Hr2⟩, Hm⟩
  iapply (send_gen I c (row c (8 - r)) (34 + 14 * l + r) (60 + r) (68 + r) l l 1024 (by omega) (peer_rs c l r hl hr).symm (psem_rs l r hl hr) (pamt_x _ (by omega))
    (Or.inr (by omega)) (Or.inr (by omega)) (by unfold amtDma; rw [if_neg (by omega)]) (by unfold amtDma; rw [if_neg (by omega)]) hqS hqR
    (src := slot9 r h) (dst := slot10 r h') (amt10 _ _) (xs r) (slot10_set _ _) (πs := fullShare) (fs := partC I l (actC I l) c) (fd := fd) (xqMove (F := F) c r (l + 1))
    (by
      rw [slot9_set, dmaPay_rss I c r l hr.2]; unfold rssPay ptP; exact BI.Entails.refl _)
    (by
      rw [dmaPay_rsr I _ r l hr.2]; unfold rsrPay rsP; rw [row_forth c r hr]
      iintro ⟨H, Hm⟩
      isplitl [H]
      · ihave H := (Entails.of_eq (pointsTo_congr (g := rsC I l (actC I l) (row c (8 - r))) (fun x hx => (rs_copy r _ _ fd (partC I l (actC I l) c) x hx).trans (by
          unfold rsC
          rw [mem_xs.mp hx, row_forth c r hr])))) $$ H
        iexact H
      iexact Hm)) $$ [HO Ht1 Ht2 Hs Hd Hm]
  · isplitr; · iexact HC
    isplitl [HO]; · iexact HO
    isplitl [Hs]; · rw [slot9_set]; unfold ptP; iexact Hs
    isplitl [Hd Hm]
    · isplitl [Hd]; · unfold rsP; iexact Hd
      iexact Hm
    isplitl [Ht1]; · iexact Ht1
    isplitl [Ht2]; · iexact Ht2
    iexact Hr2
  iintro ⟨HO, Hc⟩
  iapply Hk
  isplitl [HO]; · iexact HO
  iapply Hf; unfold rsCr; iexact Hc

end

end Cert.K
-- ==== Proof.Mem.lean ====
/- The kernel's loads and stores on the parts of its buffers it owns. -/
module

public import proofs.«01_k».proof.Proof.Moves

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

variable {α : Type} {Q : α → sProp (MT nD τ sig ℕ (Elt F) ℕ UU ℕ)} (c : Dev nD)

/-! ## The five scratch buffers -/

theorem ld_8 (r : Rect S8x128x128) (S : Finset S8x128x128.Idx) (hS : r.set ⊆ S) {hl : M8.view.LoadsAt r.toLoadRect} {π : PosShare TreeShare} {f : S8x128x128.Idx → Elt F .bf16}
    {k : (r.shape.Idx → Elt F .bf16) → Prog (TpuEff nD τ sig (Elt F) Λ₀ .tc) α} :
    xqP c S π f ⊢ iprop((xqP c S π f -∗ wp frame (wpE (defs₀ (F := F)) 𝒱₀ (c : Thread nD τ) none) Set.univ (k fun j => f (r.emb j)) Q)
      -∗ wp frame (wpE (defs₀ (F := F)) 𝒱₀ (c : Thread nD τ) none) Set.univ (.op (.load M8 r.toLoadRect hl) k) Q) := by
  unfold xqP
  exact wp_load_rect 𝒱₀ (c : Thread nD τ) none Set.univ (m := M8) (r := r) (by
    have h : (M8.access r).set = r.set := View.set_slice_whole _ _
    rw [h]; exact hS)
theorem st_8 (r : Rect S8x128x128) (S : Finset S8x128x128.Idx) (hS : r.set = S) {w : r.shape.Idx → Elt F .bf16} {hx hm} {f : S8x128x128.Idx → Elt F .bf16}
    (g : S8x128x128.Idx → Elt F .bf16) (hg : ∀ j, w j = g (r.emb j)) {k : PUnit → Prog (TpuEff nD τ sig (Elt F) Λ₀ .tc) α} :
    xqP c S fullShare f ⊢ iprop((xqP c S fullShare g -∗ wp frame (wpE (defs₀ (F := F)) 𝒱₀ (c : Thread nD τ) none) Set.univ (k ⟨⟩) Q)
      -∗ wp frame (wpE (defs₀ (F := F)) 𝒱₀ (c : Thread nD τ) none) Set.univ (.op (.store M8 r w Finset.univ hx hm) k) Q) := by
  subst hS
  unfold xqP
  have h : (M8.access r).set = r.set := View.set_slice_whole _ _
  iintro H Hk
  iapply (wp_store 𝒱₀ (c : Thread nD τ) none Set.univ (m := M8) (r := r) (Mk := Finset.univ) (S := r.set) (by
    show (M8.access r).set ⊆ r.set
    rw [h])) $$ H
  iintro H
  iapply Hk
  ihave H := (Entails.of_eq (pointsTo_congr (g := g) (fun x hx => by
    have hx' : x ∈ (M8.access r).set := by rw [h]; exact hx
    obtain ⟨j, -, rfl⟩ := Finset.mem_map.mp hx'
    rw [View.write_emb_of_mem _ _ (Finset.mem_univ j)]
    exact hg j))) $$ H
  iexact H
theorem ld_9 (r : Rect S8x128x128) (S : Finset S8x128x128.Idx) (hS : r.set ⊆ S) {hl : M9.view.LoadsAt r.toLoadRect} {π : PosShare TreeShare} {f : S8x128x128.Idx → Elt F .bf16}
    {k : (r.shape.Idx → Elt F .bf16) → Prog (TpuEff nD τ sig (Elt F) Λ₀ .tc) α} :
    ptP c S π f ⊢ iprop((ptP c S π f -∗ wp frame (wpE (defs₀ (F := F)) 𝒱₀ (c : Thread nD τ) none) Set.univ (k fun j => f (r.emb j)) Q)
      -∗ wp frame (wpE (defs₀ (F := F)) 𝒱₀ (c : Thread nD τ) none) Set.univ (.op (.load M9 r.toLoadRect hl) k) Q) := by
  unfold ptP
  exact wp_load_rect 𝒱₀ (c : Thread nD τ) none Set.univ (m := M9) (r := r) (by
    have h : (M9.access r).set = r.set := View.set_slice_whole _ _
    rw [h]; exact hS)
theorem st_9 (r : Rect S8x128x128) (S : Finset S8x128x128.Idx) (hS : r.set = S) {w : r.shape.Idx → Elt F .bf16} {hx hm} {f : S8x128x128.Idx → Elt F .bf16}
    (g : S8x128x128.Idx → Elt F .bf16) (hg : ∀ j, w j = g (r.emb j)) {k : PUnit → Prog (TpuEff nD τ sig (Elt F) Λ₀ .tc) α} :
    ptP c S fullShare f ⊢ iprop((ptP c S fullShare g -∗ wp frame (wpE (defs₀ (F := F)) 𝒱₀ (c : Thread nD τ) none) Set.univ (k ⟨⟩) Q)
      -∗ wp frame (wpE (defs₀ (F := F)) 𝒱₀ (c : Thread nD τ) none) Set.univ (.op (.store M9 r w Finset.univ hx hm) k) Q) := by
  subst hS
  unfold ptP
  have h : (M9.access r).set = r.set := View.set_slice_whole _ _
  iintro H Hk
  iapply (wp_store 𝒱₀ (c : Thread nD τ) none Set.univ (m := M9) (r := r) (Mk := Finset.univ) (S := r.set) (by
    show (M9.access r).set ⊆ r.set
    rw [h])) $$ H
  iintro H
  iapply Hk
  ihave H := (Entails.of_eq (pointsTo_congr (g := g) (fun x hx => by
    have hx' : x ∈ (M9.access r).set := by rw [h]; exact hx
    obtain ⟨j, -, rfl⟩ := Finset.mem_map.mp hx'
    rw [View.write_emb_of_mem _ _ (Finset.mem_univ j)]
    exact hg j))) $$ H
  iexact H
theorem ld_10 (r : Rect S8x128x128) (S : Finset S8x128x128.Idx) (hS : r.set ⊆ S) {hl : M10.view.LoadsAt r.toLoadRect} {π : PosShare TreeShare} {f : S8x128x128.Idx → Elt F .bf16}
    {k : (r.shape.Idx → Elt F .bf16) → Prog (TpuEff nD τ sig (Elt F) Λ₀ .tc) α} :
    rsP c S π f ⊢ iprop((rsP c S π f -∗ wp frame (wpE (defs₀ (F := F)) 𝒱₀ (c : Thread nD τ) none) Set.univ (k fun j => f (r.emb j)) Q)
      -∗ wp frame (wpE (defs₀ (F := F)) 𝒱₀ (c : Thread nD τ) none) Set.univ (.op (.load M10 r.toLoadRect hl) k) Q) := by
  unfold rsP
  exact wp_load_rect 𝒱₀ (c : Thread nD τ) none Set.univ (m := M10) (r := r) (by
    have h : (M10.access r).set = r.set := View.set_slice_whole _ _
    rw [h]; exact hS)
theorem ld_11 (r : Rect S3x128x1024) (S : Finset S3x128x1024.Idx) (hS : r.set ⊆ S) {hl : M11.view.LoadsAt r.toLoadRect} {π : PosShare TreeShare} {f : S3x128x1024.Idx → Elt F .bf16}
    {k : (r.shape.Idx → Elt F .bf16) → Prog (TpuEff nD τ sig (Elt F) Λ₀ .tc) α} :
    wiP c S π f ⊢ iprop((wiP c S π f -∗ wp frame (wpE (defs₀ (F := F)) 𝒱₀ (c : Thread nD τ) none) Set.univ (k fun j => f (r.emb j)) Q)
      -∗ wp frame (wpE (defs₀ (F := F)) 𝒱₀ (c : Thread nD τ) none) Set.univ (.op (.load M11 r.toLoadRect hl) k) Q) := by
  unfold wiP
  exact wp_load_rect 𝒱₀ (c : Thread nD τ) none Set.univ (m := M11) (r := r) (by
    have h : (M11.access r).set = r.set := View.set_slice_whole _ _
    rw [h]; exact hS)
theorem st_11 (r : Rect S3x128x1024) (S : Finset S3x128x1024.Idx) (hS : r.set = S) {w : r.shape.Idx → Elt F .bf16} {hx hm} {f : S3x128x1024.Idx → Elt F .bf16}
    (g : S3x128x1024.Idx → Elt F .bf16) (hg : ∀ j, w j = g (r.emb j)) {k : PUnit → Prog (TpuEff nD τ sig (Elt F) Λ₀ .tc) α} :
    wiP c S fullShare f ⊢ iprop((wiP c S fullShare g -∗ wp frame (wpE (defs₀ (F := F)) 𝒱₀ (c : Thread nD τ) none) Set.univ (k ⟨⟩) Q)
      -∗ wp frame (wpE (defs₀ (F := F)) 𝒱₀ (c : Thread nD τ) none) Set.univ (.op (.store M11 r w Finset.univ hx hm) k) Q) := by
  subst hS
  unfold wiP
  have h : (M11.access r).set = r.set := View.set_slice_whole _ _
  iintro H Hk
  iapply (wp_store 𝒱₀ (c : Thread nD τ) none Set.univ (m := M11) (r := r) (Mk := Finset.univ) (S := r.set) (by
    show (M11.access r).set ⊆ r.set
    rw [h])) $$ H
  iintro H
  iapply Hk
  ihave H := (Entails.of_eq (pointsTo_congr (g := g) (fun x hx => by
    have hx' : x ∈ (M11.access r).set := by rw [h]; exact hx
    obtain ⟨j, -, rfl⟩ := Finset.mem_map.mp hx'
    rw [View.write_emb_of_mem _ _ (Finset.mem_univ j)]
    exact hg j))) $$ H
  iexact H
theorem ld_12 (r : Rect S3x1024x128) (S : Finset S3x1024x128.Idx) (hS : r.set ⊆ S) {hl : M12.view.LoadsAt r.toLoadRect} {π : PosShare TreeShare} {f : S3x1024x128.Idx → Elt F .bf16}
    {k : (r.shape.Idx → Elt F .bf16) → Prog (TpuEff nD τ sig (Elt F) Λ₀ .tc) α} :
    woP c S π f ⊢ iprop((woP c S π f -∗ wp frame (wpE (defs₀ (F := F)) 𝒱₀ (c : Thread nD τ) none) Set.univ (k fun j => f (r.emb j)) Q)
      -∗ wp frame (wpE (defs₀ (F := F)) 𝒱₀ (c : Thread nD τ) none) Set.univ (.op (.load M12 r.toLoadRect hl) k) Q) := by
  unfold woP
  exact wp_load_rect 𝒱₀ (c : Thread nD τ) none Set.univ (m := M12) (r := r) (by
    have h : (M12.access r).set = r.set := View.set_slice_whole _ _
    rw [h]; exact hS)
theorem st_12 (r : Rect S3x1024x128) (S : Finset S3x1024x128.Idx) (hS : r.set = S) {w : r.shape.Idx → Elt F .bf16} {hx hm} {f : S3x1024x128.Idx → Elt F .bf16}
    (g : S3x1024x128.Idx → Elt F .bf16) (hg : ∀ j, w j = g (r.emb j)) {k : PUnit → Prog (TpuEff nD τ sig (Elt F) Λ₀ .tc) α} :
    woP c S fullShare f ⊢ iprop((woP c S fullShare g -∗ wp frame (wpE (defs₀ (F := F)) 𝒱₀ (c : Thread nD τ) none) Set.univ (k ⟨⟩) Q)
      -∗ wp frame (wpE (defs₀ (F := F)) 𝒱₀ (c : Thread nD τ) none) Set.univ (.op (.store M12 r w Finset.univ hx hm) k) Q) := by
  subst hS
  unfold woP
  have h : (M12.access r).set = r.set := View.set_slice_whole _ _
  iintro H Hk
  iapply (wp_store 𝒱₀ (c : Thread nD τ) none Set.univ (m := M12) (r := r) (Mk := Finset.univ) (S := r.set) (by
    show (M12.access r).set ⊆ r.set
    rw [h])) $$ H
  iintro H
  iapply Hk
  ihave H := (Entails.of_eq (pointsTo_congr (g := g) (fun x hx => by
    have hx' : x ∈ (M12.access r).set := by rw [h]; exact hx
    obtain ⟨j, -, rfl⟩ := Finset.mem_map.mp hx'
    rw [View.write_emb_of_mem _ _ (Finset.mem_univ j)]
    exact hg j))) $$ H
  iexact H
/-! ## The staged arguments -/

omit [FloatOps F] in
theorem hz2 : (![0, 0] : Fin 2 → Nat) = fun _ => 0 := funext fun a => by fin_cases a <;> rfl
theorem ld_0 (f : S128x128.Idx → Elt F .f32) (h : ∀ a, (![0, 0] : Fin 2 → ℕ) a + S128x128.size a ≤ S128x128.size a) {hl : M0.view.LoadsAt (Rect.unit (s := S128x128) ![0, 0] S128x128.size h).toLoadRect}
    {k : (S128x128.Idx → Elt F .f32) → Prog (TpuEff nD τ sig (Elt F) Λ₀ .tc) α} :
    (((c : Thread nD τ).loc cc0_stg0_0) ↦{fullShare} f : sProp 𝕄) ⊢ iprop(((((c : Thread nD τ).loc cc0_stg0_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M0 (Rect.unit (s := S128x128) ![0, 0] S128x128.size h).toLoadRect hl) k) Q) := by
  iintro H Hk
  iapply (wp_load 𝒱₀ (c : Thread nD τ) none Set.univ (m := M0) (Finset.subset_univ _)) $$ H
  iintro H
  have e : M0.view.readAt (Elt F) (Rect.unit (s := S128x128) ![0, 0] S128x128.size h).toLoadRect f = f := Memref.readAt_unit_zero (Elt F) cc0_stg0_0 hz2 _ f
  rw [e]
  iapply Hk; iexact H
theorem ld_1 (f : S128x256.Idx → Elt F .f32) (h : ∀ a, (![0, 0] : Fin 2 → ℕ) a + S128x256.size a ≤ S128x256.size a) {hl : M1.view.LoadsAt (Rect.unit (s := S128x256) ![0, 0] S128x256.size h).toLoadRect}
    {k : (S128x256.Idx → Elt F .f32) → Prog (TpuEff nD τ sig (Elt F) Λ₀ .tc) α} :
    (((c : Thread nD τ).loc cc0_stg1_0) ↦{fullShare} f : sProp 𝕄) ⊢ iprop(((((c : Thread nD τ).loc cc0_stg1_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M1 (Rect.unit (s := S128x256) ![0, 0] S128x256.size h).toLoadRect hl) k) Q) := by
  iintro H Hk
  iapply (wp_load 𝒱₀ (c : Thread nD τ) none Set.univ (m := M1) (Finset.subset_univ _)) $$ H
  iintro H
  have e : M1.view.readAt (Elt F) (Rect.unit (s := S128x256) ![0, 0] S128x256.size h).toLoadRect f = f := Memref.readAt_unit_zero (Elt F) cc0_stg1_0 hz2 _ f
  rw [e]
  iapply Hk; iexact H
theorem ld_2 (f : S256x128.Idx → Elt F .f32) (h : ∀ a, (![0, 0] : Fin 2 → ℕ) a + S256x128.size a ≤ S256x128.size a) {hl : M2.view.LoadsAt (Rect.unit (s := S256x128) ![0, 0] S256x128.size h).toLoadRect}
    {k : (S256x128.Idx → Elt F .f32) → Prog (TpuEff nD τ sig (Elt F) Λ₀ .tc) α} :
    (((c : Thread nD τ).loc cc0_stg2_0) ↦{fullShare} f : sProp 𝕄) ⊢ iprop(((((c : Thread nD τ).loc cc0_stg2_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M2 (Rect.unit (s := S256x128) ![0, 0] S256x128.size h).toLoadRect hl) k) Q) := by
  iintro H Hk
  iapply (wp_load 𝒱₀ (c : Thread nD τ) none Set.univ (m := M2) (Finset.subset_univ _)) $$ H
  iintro H
  have e : M2.view.readAt (Elt F) (Rect.unit (s := S256x128) ![0, 0] S256x128.size h).toLoadRect f = f := Memref.readAt_unit_zero (Elt F) cc0_stg2_0 hz2 _ f
  rw [e]
  iapply Hk; iexact H
theorem ld_3 (f : S128x256.Idx → Elt F .f32) (h : ∀ a, (![0, 0] : Fin 2 → ℕ) a + S128x256.size a ≤ S128x256.size a) {hl : M3.view.LoadsAt (Rect.unit (s := S128x256) ![0, 0] S128x256.size h).toLoadRect}
    {k : (S128x256.Idx → Elt F .f32) → Prog (TpuEff nD τ sig (Elt F) Λ₀ .tc) α} :
    (((c : Thread nD τ).loc cc0_stg3_0) ↦{fullShare} f : sProp 𝕄) ⊢ iprop(((((c : Thread nD τ).loc cc0_stg3_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M3 (Rect.unit (s := S128x256) ![0, 0] S128x256.size h).toLoadRect hl) k) Q) := by
  iintro H Hk
  iapply (wp_load 𝒱₀ (c : Thread nD τ) none Set.univ (m := M3) (Finset.subset_univ _)) $$ H
  iintro H
  have e : M3.view.readAt (Elt F) (Rect.unit (s := S128x256) ![0, 0] S128x256.size h).toLoadRect f = f := Memref.readAt_unit_zero (Elt F) cc0_stg3_0 hz2 _ f
  rw [e]
  iapply Hk; iexact H
theorem ld_4 (f : S256x128.Idx → Elt F .f32) (h : ∀ a, (![0, 0] : Fin 2 → ℕ) a + S256x128.size a ≤ S256x128.size a) {hl : M4.view.LoadsAt (Rect.unit (s := S256x128) ![0, 0] S256x128.size h).toLoadRect}
    {k : (S256x128.Idx → Elt F .f32) → Prog (TpuEff nD τ sig (Elt F) Λ₀ .tc) α} :
    (((c : Thread nD τ).loc cc0_stg4_0) ↦{fullShare} f : sProp 𝕄) ⊢ iprop(((((c : Thread nD τ).loc cc0_stg4_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M4 (Rect.unit (s := S256x128) ![0, 0] S256x128.size h).toLoadRect hl) k) Q) := by
  iintro H Hk
  iapply (wp_load 𝒱₀ (c : Thread nD τ) none Set.univ (m := M4) (Finset.subset_univ _)) $$ H
  iintro H
  have e : M4.view.readAt (Elt F) (Rect.unit (s := S256x128) ![0, 0] S256x128.size h).toLoadRect f = f := Memref.readAt_unit_zero (Elt F) cc0_stg4_0 hz2 _ f
  rw [e]
  iapply Hk; iexact H
theorem ld_5 (f : S128x256.Idx → Elt F .f32) (h : ∀ a, (![0, 0] : Fin 2 → ℕ) a + S128x256.size a ≤ S128x256.size a) {hl : M5.view.LoadsAt (Rect.unit (s := S128x256) ![0, 0] S128x256.size h).toLoadRect}
    {k : (S128x256.Idx → Elt F .f32) → Prog (TpuEff nD τ sig (Elt F) Λ₀ .tc) α} :
    (((c : Thread nD τ).loc cc0_stg5_0) ↦{fullShare} f : sProp 𝕄) ⊢ iprop(((((c : Thread nD τ).loc cc0_stg5_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M5 (Rect.unit (s := S128x256) ![0, 0] S128x256.size h).toLoadRect hl) k) Q) := by
  iintro H Hk
  iapply (wp_load 𝒱₀ (c : Thread nD τ) none Set.univ (m := M5) (Finset.subset_univ _)) $$ H
  iintro H
  have e : M5.view.readAt (Elt F) (Rect.unit (s := S128x256) ![0, 0] S128x256.size h).toLoadRect f = f := Memref.readAt_unit_zero (Elt F) cc0_stg5_0 hz2 _ f
  rw [e]
  iapply Hk; iexact H
theorem ld_6 (f : S256x128.Idx → Elt F .f32) (h : ∀ a, (![0, 0] : Fin 2 → ℕ) a + S256x128.size a ≤ S256x128.size a) {hl : M6.view.LoadsAt (Rect.unit (s := S256x128) ![0, 0] S256x128.size h).toLoadRect}
    {k : (S256x128.Idx → Elt F .f32) → Prog (TpuEff nD τ sig (Elt F) Λ₀ .tc) α} :
    (((c : Thread nD τ).loc cc0_stg6_0) ↦{fullShare} f : sProp 𝕄) ⊢ iprop(((((c : Thread nD τ).loc cc0_stg6_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M6 (Rect.unit (s := S256x128) ![0, 0] S256x128.size h).toLoadRect hl) k) Q) := by
  iintro H Hk
  iapply (wp_load 𝒱₀ (c : Thread nD τ) none Set.univ (m := M6) (Finset.subset_univ _)) $$ H
  iintro H
  have e : M6.view.readAt (Elt F) (Rect.unit (s := S256x128) ![0, 0] S256x128.size h).toLoadRect f = f := Memref.readAt_unit_zero (Elt F) cc0_stg6_0 hz2 _ f
  rw [e]
  iapply Hk; iexact H
theorem ld_7 (f : S128x128.Idx → Elt F .f32) (h : ∀ a, (![0, 0] : Fin 2 → ℕ) a + S128x128.size a ≤ S128x128.size a) {hl : M7.view.LoadsAt (Rect.unit (s := S128x128) ![0, 0] S128x128.size h).toLoadRect}
    {k : (S128x128.Idx → Elt F .f32) → Prog (TpuEff nD τ sig (Elt F) Λ₀ .tc) α} :
    (((c : Thread nD τ).loc cc0_stg7_0) ↦{fullShare} f : sProp 𝕄) ⊢ iprop(((((c : Thread nD τ).loc cc0_stg7_0) ↦{fullShare} f) -∗ wp frame (wpE (defs₀ (F := F)) 𝒱₀ (c : Thread nD τ) none) Set.univ (k f) Q)
      -∗ wp frame (wpE (defs₀ (F := F)) 𝒱₀ (c : Thread nD τ) none) Set.univ (.op (.load M7 (Rect.unit (s := S128x128) ![0, 0] S128x128.size h).toLoadRect hl) k) Q) := by
  iintro H Hk
  iapply (wp_load 𝒱₀ (c : Thread nD τ) none Set.univ (m := M7) (Finset.subset_univ _)) $$ H
  iintro H
  have e : M7.view.readAt (Elt F) (Rect.unit (s := S128x128) ![0, 0] S128x128.size h).toLoadRect f = f := Memref.readAt_unit_zero (Elt F) cc0_stg7_0 hz2 _ f
  rw [e]
  iapply Hk; iexact H
theorem st_7 (f w : S128x128.Idx → Elt F .f32) (h : ∀ a, (![0, 0] : Fin 2 → ℕ) a + S128x128.size a ≤ S128x128.size a) {hx hm}
    {k : PUnit → Prog (TpuEff nD τ sig (Elt F) Λ₀ .tc) α} :
    (((c : Thread nD τ).loc cc0_stg7_0) ↦{fullShare} f : sProp 𝕄) ⊢ iprop(((((c : Thread nD τ).loc cc0_stg7_0) ↦{fullShare} w) -∗ wp frame (wpE (defs₀ (F := F)) 𝒱₀ (c : Thread nD τ) none) Set.univ (k ⟨⟩) Q)
      -∗ wp frame (wpE (defs₀ (F := F)) 𝒱₀ (c : Thread nD τ) none) Set.univ (.op (.store M7 (Rect.unit (s := S128x128) ![0, 0] S128x128.size h) w Finset.univ hx hm) k) Q) := by
  iintro H Hk
  iapply (wp_store 𝒱₀ (c : Thread nD τ) none Set.univ (m := M7) (r := Rect.unit (s := S128x128) ![0, 0] S128x128.size h) (Mk := Finset.univ) (Finset.subset_univ _)) $$ H
  iintro H
  have e : ((M7.access (Rect.unit (s := S128x128) ![0, 0] S128x128.size h)) : View sig .tc _ _ _).write (Elt F) f w Finset.univ = w :=
    Memref.write_access_unit_zero_univ (Elt F) cc0_stg7_0 hz2 _ f w
  rw [e]
  iapply Hk; iexact H

/-! ## The kernel's own loads and stores -/

/-- Layer `l`'s input-side weights, all four blocks; its output-side weights. -/
def wl (l : ℕ) : Finset S3x128x1024.Idx := Finset.univ.filter fun i => (i 0).val = l
def wol (l : ℕ) : Finset S3x1024x128.Idx := Finset.univ.filter fun i => (i 0).val = l
theorem mem_wl {l : ℕ} {i : S3x128x1024.Idx} : i ∈ wl l ↔ (i 0).val = l := by simp [wl]
theorem mem_wol {l : ℕ} {i : S3x1024x128.Idx} : i ∈ wol l ↔ (i 0).val = l := by simp [wol]

/-- Contents left open. -/
def xqE (c : Dev nD) (S : Finset S8x128x128.Idx) : sProp 𝕄 := iprop(∃ f, xqP (F := F) c S fullShare f)
def ptE (c : Dev nD) (S : Finset S8x128x128.Idx) : sProp 𝕄 := iprop(∃ f, ptP (F := F) c S fullShare f)

theorem colDev_self : colDev c (c.val / 8) = c := by
  apply Fin.ext
  have := c.isLt; have : nD = 32 := rfl
  show 8 * (c.val / 8 % 4) + c.val % 8 = c.val
  omega

theorem winC_of (i : S3x128x1024.Idx) (l : ℕ) (j : S1x128x256.Idx) (h0 : (i 0).val = l) (h1 : (i 1).val = (j 1).val)
    (h2 : (i 2).val = 256 * (c.val / 8) + (j 2).val) : winC I c i = k0_pay1 (I.wi l c) j := by
  have hj0 : (j 0).val = 0 := Nat.lt_one_iff.mp (j 0).isLt
  have hj2 : (j 2).val < 256 := (j 2).isLt
  have e : colDev c ((i 2).val / 256) = c := by
    rw [show (i 2).val / 256 = c.val / 8 by omega]; exact colDev_self c
  unfold winC
  rw [e, h0]
  congr 1
  funext a
  match a with
  | ⟨0, _⟩ => exact Fin.ext hj0.symm
  | ⟨1, _⟩ => exact Fin.ext h1
  | ⟨2, _⟩ => exact Fin.ext (show (i 2).val % 256 = (j 2).val by omega)
theorem woutC_of (i : S3x1024x128.Idx) (l : ℕ) (j : S1x256x128.Idx) (h0 : (i 0).val = l) (h1 : (i 1).val = 256 * (c.val / 8) + (j 1).val)
    (h2 : (i 2).val = (j 2).val) : woutC I c i = k0_pay2 (I.wo l c) j := by
  have hj0 : (j 0).val = 0 := Nat.lt_one_iff.mp (j 0).isLt
  have hj1 : (j 1).val < 256 := (j 1).isLt
  have e : colDev c ((i 1).val / 256) = c := by
    rw [show (i 1).val / 256 = c.val / 8 by omega]; exact colDev_self c
  unfold woutC
  rw [e, h0]
  congr 1
  funext a
  match a with
  | ⟨0, _⟩ => exact Fin.ext hj0.symm
  | ⟨1, _⟩ => exact Fin.ext (show (i 1).val % 256 = (j 1).val by omega)
  | ⟨2, _⟩ => exact Fin.ext h2

/-- The load before a store of a weight block reads something unused. -/
theorem dead_in (kk : ℕ) (l q : ℕ) (hk : kk = 2 * l) (off : Fin 3 → ℕ) (ho : off = ![l, 0, 256 * q]) (h) {hl : M11.view.LoadsAt (Rect.unit (s := S3x128x1024) off S1x128x256.size h).toLoadRect}
    {k : (S1x128x256.Idx → Elt F .bf16) → Prog (TpuEff nD τ sig (Elt F) Λ₀ .tc) α} :
    wE (F := F) kk q c ⊢ iprop((∀ v, wE (F := F) kk q c -∗ wp frame (wpE (defs₀ (F := F)) 𝒱₀ (c : Thread nD τ) none) Set.univ (k v) Q)
      -∗ wp frame (wpE (defs₀ (F := F)) 𝒱₀ (c : Thread nD τ) none) Set.univ (.op (.load M11 (Rect.unit (s := S3x128x1024) off S1x128x256.size h).toLoadRect hl) k) Q) := by
  subst ho; subst hk
  rw [wE_even (by omega), show 2 * l / 2 = l by omega]
  iintro ⟨%f, H⟩ Hk
  iapply (ld_11 c _ (ws l q) (le_of_eq (rect11_set l q h))) $$ H
  iintro H
  ispecialize Hk $$ %(fun j => f ((Rect.unit (s := S3x128x1024) ![l, 0, 256 * q] S1x128x256.size h).emb j))
  iapply Hk
  iexists f; iexact H
theorem dead_out (kk : ℕ) (l q : ℕ) (hk : kk = 2 * l + 1) (off : Fin 3 → ℕ) (ho : off = ![l, 256 * q, 0]) (h) {hl : M12.view.LoadsAt (Rect.unit (s := S3x1024x128) off S1x256x128.size h).toLoadRect}
    {k : (S1x256x128.Idx → Elt F .bf16) → Prog (TpuEff nD τ sig (Elt F) Λ₀ .tc) α} :
    wE (F := F) kk q c ⊢ iprop((∀ v, wE (F := F) kk q c -∗ wp frame (wpE (defs₀ (F := F)) 𝒱₀ (c : Thread nD τ) none) Set.univ (k v) Q)
      -∗ wp frame (wpE (defs₀ (F := F)) 𝒱₀ (c : Thread nD τ) none) Set.univ (.op (.load M12 (Rect.unit (s := S3x1024x128) off S1x256x128.size h).toLoadRect hl) k) Q) := by
  subst ho; subst hk
  rw [wE_odd (by omega), show (2 * l + 1) / 2 = l by omega]
  iintro ⟨%f, H⟩ Hk
  iapply (ld_12 c _ (wos l q) (le_of_eq (rect12_set l q h))) $$ H
  iintro H
  ispecialize Hk $$ %(fun j => f ((Rect.unit (s := S3x1024x128) ![l, 256 * q, 0] S1x256x128.size h).emb j))
  iapply Hk
  iexists f; iexact H
/-- The own weights of a layer stored. -/
theorem put_in (kk : ℕ) (l q : ℕ) (hq : q = c.val / 8) (hk : kk = 2 * l) (off : Fin 3 → ℕ) (ho : off = ![l, 0, 256 * q]) (h) {w : S1x128x256.Idx → Elt F .bf16} (hw : w = k0_pay1 (I.wi l c))
    {hx : (M11.access (Rect.unit (s := S3x128x1024) off S1x128x256.size h)).Stores Finset.univ} {hm} {k : PUnit → Prog (TpuEff nD τ sig (Elt F) Λ₀ .tc) α} :
    wE (F := F) kk q c ⊢ iprop((wP I kk q c fullShare -∗ wp frame (wpE (defs₀ (F := F)) 𝒱₀ (c : Thread nD τ) none) Set.univ (k ⟨⟩) Q)
      -∗ wp frame (wpE (defs₀ (F := F)) 𝒱₀ (c : Thread nD τ) none) Set.univ (.op (.store M11 (Rect.unit (s := S3x128x1024) off S1x128x256.size h) w Finset.univ hx hm) k) Q) := by
  subst ho; subst hk; subst hw; subst hq
  rw [wE_even (by omega), wP_even I (by omega), show 2 * l / 2 = l by omega]
  iintro ⟨%f, H⟩ Hk
  iapply (st_11 c _ (ws l (c.val / 8)) (rect11_set l (c.val / 8) h) (winC I c) (fun j => by
    have h0 : (j 0).val = 0 := Nat.lt_one_iff.mp (j 0).isLt
    exact (winC_of I c _ l j (show l + 1 * (j 0).val = l by omega) (show 0 + 1 * (j 1).val = (j 1).val by omega)
      (show 256 * (c.val / 8) + 1 * (j 2).val = 256 * (c.val / 8) + (j 2).val by omega)).symm)) $$ H
  iexact Hk
theorem put_out (kk : ℕ) (l q : ℕ) (hq : q = c.val / 8) (hk : kk = 2 * l + 1) (off : Fin 3 → ℕ) (ho : off = ![l, 256 * q, 0]) (h) {w : S1x256x128.Idx → Elt F .bf16} (hw : w = k0_pay2 (I.wo l c))
    {hx : (M12.access (Rect.unit (s := S3x1024x128) off S1x256x128.size h)).Stores Finset.univ} {hm} {k : PUnit → Prog (TpuEff nD τ sig (Elt F) Λ₀ .tc) α} :
    wE (F := F) kk q c ⊢ iprop((wP I kk q c fullShare -∗ wp frame (wpE (defs₀ (F := F)) 𝒱₀ (c : Thread nD τ) none) Set.univ (k ⟨⟩) Q)
      -∗ wp frame (wpE (defs₀ (F := F)) 𝒱₀ (c : Thread nD τ) none) Set.univ (.op (.store M12 (Rect.unit (s := S3x1024x128) off S1x256x128.size h) w Finset.univ hx hm) k) Q) := by
  subst ho; subst hk; subst hw; subst hq
  rw [wE_odd (by omega), wP_odd I (by omega), show (2 * l + 1) / 2 = l by omega]
  iintro ⟨%f, H⟩ Hk
  iapply (st_12 c _ (wos l (c.val / 8)) (rect12_set l (c.val / 8) h) (woutC I c) (fun j => by
    have h0 : (j 0).val = 0 := Nat.lt_one_iff.mp (j 0).isLt
    exact (woutC_of I c _ l j (show l + 1 * (j 0).val = l by omega)
      (show 256 * (c.val / 8) + 1 * (j 1).val = 256 * (c.val / 8) + (j 1).val by omega) (show 0 + 1 * (j 2).val = (j 2).val by omega)).symm)) $$ H
  iexact Hk

/-- All of a layer's weights read. -/
theorem get_in (l : ℕ) (hl3 : l < 3) (π : PosShare TreeShare) (h) {hl : M11.view.LoadsAt (Rect.unit (s := S3x128x1024) ![l, 0, 0] S1x128x1024.size h).toLoadRect}
    {k : (S1x128x1024.Idx → Elt F .bf16) → Prog (TpuEff nD τ sig (Elt F) Λ₀ .tc) α} :
    wiP c (wl l) π (winC I c) ⊢ iprop((wiP c (wl l) π (winC I c) -∗ wp frame (wpE (defs₀ (F := F)) 𝒱₀ (c : Thread nD τ) none) Set.univ (k (winL I l c)) Q)
      -∗ wp frame (wpE (defs₀ (F := F)) 𝒱₀ (c : Thread nD τ) none) Set.univ (.op (.load M11 (Rect.unit (s := S3x128x1024) ![l, 0, 0] S1x128x1024.size h).toLoadRect hl) k) Q) := by
  have e : (fun j => winC I c ((Rect.unit (s := S3x128x1024) ![l, 0, 0] S1x128x1024.size h).emb j)) = winL I l c := by
    funext j
    have h0 : (j 0).val = 0 := Nat.lt_one_iff.mp (j 0).isLt
    unfold winL
    congr 1
    funext a
    match a with
    | ⟨0, _⟩ => exact Fin.ext (show l + 1 * (j 0).val = l % 3 by omega)
    | ⟨1, _⟩ => exact Fin.ext (show 0 + 1 * (j 1).val = (j 1).val by omega)
    | ⟨2, _⟩ => exact Fin.ext (show 0 + 1 * (j 2).val = (j 2).val by omega)
  rw [← e]
  exact ld_11 c _ (wl l) (fun i hi => by
    have h0 : l ≤ (i 0).val ∧ (i 0).val < l + 1 := (Rect.mem_set_unit.mp hi) 0
    rw [mem_wl]; omega)
theorem get_out (l : ℕ) (hl3 : l < 3) (π : PosShare TreeShare) (h) {hl : M12.view.LoadsAt (Rect.unit (s := S3x1024x128) ![l, 0, 0] S1x1024x128.size h).toLoadRect}
    {k : (S1x1024x128.Idx → Elt F .bf16) → Prog (TpuEff nD τ sig (Elt F) Λ₀ .tc) α} :
    woP c (wol l) π (woutC I c) ⊢ iprop((woP c (wol l) π (woutC I c) -∗ wp frame (wpE (defs₀ (F := F)) 𝒱₀ (c : Thread nD τ) none) Set.univ (k (woutL I l c)) Q)
      -∗ wp frame (wpE (defs₀ (F := F)) 𝒱₀ (c : Thread nD τ) none) Set.univ (.op (.load M12 (Rect.unit (s := S3x1024x128) ![l, 0, 0] S1x1024x128.size h).toLoadRect hl) k) Q) := by
  have e : (fun j => woutC I c ((Rect.unit (s := S3x1024x128) ![l, 0, 0] S1x1024x128.size h).emb j)) = woutL I l c := by
    funext j
    have h0 : (j 0).val = 0 := Nat.lt_one_iff.mp (j 0).isLt
    unfold woutL
    congr 1
    funext a
    match a with
    | ⟨0, _⟩ => exact Fin.ext (show l + 1 * (j 0).val = l % 3 by omega)
    | ⟨1, _⟩ => exact Fin.ext (show 0 + 1 * (j 1).val = (j 1).val by omega)
    | ⟨2, _⟩ => exact Fin.ext (show 0 + 1 * (j 2).val = (j 2).val by omega)
  rw [← e]
  exact ld_12 c _ (wol l) (fun i hi => by
    have h0 : l ≤ (i 0).val ∧ (i 0).val < l + 1 := (Rect.mem_set_unit.mp hi) 0
    rw [mem_wol]; omega)

/-- Eight-slot buffers: slots `a` to `a + n - 1` read as a block. -/
theorem slots_emb (a n : ℕ) (han : a + n ≤ 8) (f : S8x128x128.Idx → Elt F .bf16) (sz : Fin 3 → ℕ) (hsz : sz = ![n, 128, 128]) (h : ∀ x, (![a, 0, 0] : Fin 3 → ℕ) x + sz x ≤ S8x128x128.size x)
    (j : (⟨3, sz⟩ : Shape).Idx) (j' : (⟨3, ![n, 128, 128]⟩ : Shape).Idx) (hj : ∀ x, (j x).val = (j' x).val) :
    f ((Rect.unit (s := S8x128x128) ![a, 0, 0] sz h).emb j) = slotsC a n f j' := by
  subst hsz
  unfold slotsC
  have h0 : (j' 0).val < n := (j' 0).isLt
  congr 1
  funext x
  match x with
  | ⟨0, _⟩ => exact Fin.ext (show a + 1 * (j 0).val = (a + (j' 0).val) % 8 by rw [hj 0]; omega)
  | ⟨1, _⟩ => exact Fin.ext (show 0 + 1 * (j 1).val = (j' 1).val by rw [hj 1]; omega)
  | ⟨2, _⟩ => exact Fin.ext (show 0 + 1 * (j 2).val = (j' 2).val by rw [hj 2]; omega)

theorem xqC_zero (X : Dev nD → Vec F S1x128x128 .bf16) (h) (j : S1x128x128.Idx) :
    xqC X c ((Rect.unit (s := S8x128x128) ![0, 0, 0] S1x128x128.size h).emb j) = X c j := by
  have h0 : (j 0).val = 0 := Nat.lt_one_iff.mp (j 0).isLt
  unfold xqC
  rw [show ((Rect.unit (s := S8x128x128) ![0, 0, 0] S1x128x128.size h).emb j 0).val = 0 by show 0 + 1 * (j 0).val = 0; omega]
  show X (row c 8) _ = _
  rw [row_eight]
  congr 1
  funext a
  match a with
  | ⟨0, _⟩ => exact Fin.ext h0.symm
  | ⟨1, _⟩ => exact Fin.ext (show 0 + 1 * (j 1).val = (j 1).val by omega)
  | ⟨2, _⟩ => exact Fin.ext (show 0 + 1 * (j 2).val = (j 2).val by omega)

theorem dead_x0 (h) {hl : M8.view.LoadsAt (Rect.unit (s := S8x128x128) ![0, 0, 0] S1x128x128.size h).toLoadRect}
    {k : (S1x128x128.Idx → Elt F .bf16) → Prog (TpuEff nD τ sig (Elt F) Λ₀ .tc) α} :
    xqE (F := F) c (xs 0) ⊢ iprop((∀ v, xqE (F := F) c (xs 0) -∗ wp frame (wpE (defs₀ (F := F)) 𝒱₀ (c : Thread nD τ) none) Set.univ (k v) Q)
      -∗ wp frame (wpE (defs₀ (F := F)) 𝒱₀ (c : Thread nD τ) none) Set.univ (.op (.load M8 (Rect.unit (s := S8x128x128) ![0, 0, 0] S1x128x128.size h).toLoadRect hl) k) Q) := by
  unfold xqE
  iintro ⟨%f, H⟩ Hk
  iapply (ld_8 c _ (xs 0) (le_of_eq ((rect8_set 0 1 _ (by decide) h).trans (xr_succ 0)))) $$ H
  iintro H
  ispecialize Hk $$ %(fun j => f ((Rect.unit (s := S8x128x128) ![0, 0, 0] S1x128x128.size h).emb j))
  iapply Hk
  iexists f; iexact H
theorem put_x0 (X : Dev nD → Vec F S1x128x128 .bf16) (h) {w : S1x128x128.Idx → Elt F .bf16} (hw : w = X c)
    {hx : (M8.access (Rect.unit (s := S8x128x128) ![0, 0, 0] S1x128x128.size h)).Stores Finset.univ} {hm} {k : PUnit → Prog (TpuEff nD τ sig (Elt F) Λ₀ .tc) α} :
    xqE (F := F) c (xs 0) ⊢ iprop((xqP c (xs 0) fullShare (xqC X c) -∗ wp frame (wpE (defs₀ (F := F)) 𝒱₀ (c : Thread nD τ) none) Set.univ (k ⟨⟩) Q)
      -∗ wp frame (wpE (defs₀ (F := F)) 𝒱₀ (c : Thread nD τ) none) Set.univ (.op (.store M8 (Rect.unit (s := S8x128x128) ![0, 0, 0] S1x128x128.size h) w Finset.univ hx hm) k) Q) := by
  subst hw
  unfold xqE
  iintro ⟨%f, H⟩ Hk
  iapply (st_8 c _ (xs 0) ((rect8_set 0 1 _ (by decide) h).trans (xr_succ 0)) (xqC X c) (fun j => (xqC_zero c X h j).symm)) $$ H
  iexact Hk
theorem get_x0 (X : Dev nD → Vec F S1x128x128 .bf16) (π : PosShare TreeShare) (h) {hl : M8.view.LoadsAt (Rect.unit (s := S8x128x128) ![0, 0, 0] S1x128x128.size h).toLoadRect}
    {k : (S1x128x128.Idx → Elt F .bf16) → Prog (TpuEff nD τ sig (Elt F) Λ₀ .tc) α} :
    xqP c (xs 0) π (xqC X c) ⊢ iprop((xqP c (xs 0) π (xqC X c) -∗ wp frame (wpE (defs₀ (F := F)) 𝒱₀ (c : Thread nD τ) none) Set.univ (k (X c)) Q)
      -∗ wp frame (wpE (defs₀ (F := F)) 𝒱₀ (c : Thread nD τ) none) Set.univ (.op (.load M8 (Rect.unit (s := S8x128x128) ![0, 0, 0] S1x128x128.size h).toLoadRect hl) k) Q) := by
  have e : (fun j => xqC X c ((Rect.unit (s := S8x128x128) ![0, 0, 0] S1x128x128.size h).emb j)) = X c := funext fun j => xqC_zero c X h j
  rw [← e]
  exact ld_8 c _ (xs 0) (le_of_eq ((rect8_set 0 1 _ (by decide) h).trans (xr_succ 0)))
theorem get_xA (f : S8x128x128.Idx → Elt F .bf16) (h) {hl : M8.view.LoadsAt (Rect.unit (s := S8x128x128) ![1, 0, 0] S3x128x128.size h).toLoadRect}
    {k : (S3x128x128.Idx → Elt F .bf16) → Prog (TpuEff nD τ sig (Elt F) Λ₀ .tc) α} :
    xqP c (xr 1 4) fullShare f ⊢ iprop((xqP c (xr 1 4) fullShare f -∗ wp frame (wpE (defs₀ (F := F)) 𝒱₀ (c : Thread nD τ) none) Set.univ (k (slotsC 1 3 f)) Q)
      -∗ wp frame (wpE (defs₀ (F := F)) 𝒱₀ (c : Thread nD τ) none) Set.univ (.op (.load M8 (Rect.unit (s := S8x128x128) ![1, 0, 0] S3x128x128.size h).toLoadRect hl) k) Q) := by
  have e : (fun j => f ((Rect.unit (s := S8x128x128) ![1, 0, 0] S3x128x128.size h).emb j)) = slotsC 1 3 f := funext fun j =>
    slots_emb 1 3 (by omega) f _ rfl h j j (fun _ => rfl)
  rw [← e]
  exact ld_8 c _ (xr 1 4) (le_of_eq (rect8_set 1 3 _ rfl h))
theorem dead_pA (h) {hl : M9.view.LoadsAt (Rect.unit (s := S8x128x128) ![1, 0, 0] S3x128x128.size h).toLoadRect}
    {k : (S3x128x128.Idx → Elt F .bf16) → Prog (TpuEff nD τ sig (Elt F) Λ₀ .tc) α} :
    ptE (F := F) c (xr 1 4) ⊢ iprop((∀ v, ptE (F := F) c (xr 1 4) -∗ wp frame (wpE (defs₀ (F := F)) 𝒱₀ (c : Thread nD τ) none) Set.univ (k v) Q)
      -∗ wp frame (wpE (defs₀ (F := F)) 𝒱₀ (c : Thread nD τ) none) Set.univ (.op (.load M9 (Rect.unit (s := S8x128x128) ![1, 0, 0] S3x128x128.size h).toLoadRect hl) k) Q) := by
  unfold ptE
  iintro ⟨%f, H⟩ Hk
  iapply (ld_9 c _ (xr 1 4) (le_of_eq (rect8_set 1 3 _ rfl h))) $$ H
  iintro H
  ispecialize Hk $$ %(fun j => f ((Rect.unit (s := S8x128x128) ![1, 0, 0] S3x128x128.size h).emb j))
  iapply Hk
  iexists f; iexact H
theorem put_pA (l : ℕ) (X : Dev nD → Vec F S1x128x128 .bf16) (h) {w : S3x128x128.Idx → Elt F .bf16} (hw : w = partA I l X c)
    {hx : (M9.access (Rect.unit (s := S8x128x128) ![1, 0, 0] S3x128x128.size h)).Stores Finset.univ} {hm} {k : PUnit → Prog (TpuEff nD τ sig (Elt F) Λ₀ .tc) α} :
    ptE (F := F) c (xr 1 4) ⊢ iprop((ptP c (xr 1 4) fullShare (partC I l X c) -∗ wp frame (wpE (defs₀ (F := F)) 𝒱₀ (c : Thread nD τ) none) Set.univ (k ⟨⟩) Q)
      -∗ wp frame (wpE (defs₀ (F := F)) 𝒱₀ (c : Thread nD τ) none) Set.univ (.op (.store M9 (Rect.unit (s := S8x128x128) ![1, 0, 0] S3x128x128.size h) w Finset.univ hx hm) k) Q) := by
  subst hw
  unfold ptE
  iintro ⟨%f, H⟩ Hk
  iapply (st_9 c _ (xr 1 4) (rect8_set 1 3 _ rfl h) (partC I l X c) (fun j => by
    have h0 : (j 0).val < 3 := (j 0).isLt
    have e0 : ((Rect.unit (s := S8x128x128) ![1, 0, 0] S3x128x128.size h).emb j 0).val = 1 + 1 * (j 0).val := rfl
    unfold partC
    rw [if_pos (by rw [e0]; omega)]
    congr 1
    funext x
    match x with
    | ⟨0, _⟩ => exact Fin.ext (show (j 0).val = (1 + 1 * (j 0).val - 1) % 3 by omega)
    | ⟨1, _⟩ => exact Fin.ext (show (j 1).val = 0 + 1 * (j 1).val by omega)
    | ⟨2, _⟩ => exact Fin.ext (show (j 2).val = 0 + 1 * (j 2).val by omega))) $$ H
  iexact Hk
theorem get_xB (f : S8x128x128.Idx → Elt F .bf16) (h) {hl : M8.view.LoadsAt (Rect.unit (s := S8x128x128) ![4, 0, 0] S4x128x128.size h).toLoadRect}
    {k : (S4x128x128.Idx → Elt F .bf16) → Prog (TpuEff nD τ sig (Elt F) Λ₀ .tc) α} :
    xqP c (xr 4 8) fullShare f ⊢ iprop((xqP c (xr 4 8) fullShare f -∗ wp frame (wpE (defs₀ (F := F)) 𝒱₀ (c : Thread nD τ) none) Set.univ (k (slotsC 4 4 f)) Q)
      -∗ wp frame (wpE (defs₀ (F := F)) 𝒱₀ (c : Thread nD τ) none) Set.univ (.op (.load M8 (Rect.unit (s := S8x128x128) ![4, 0, 0] S4x128x128.size h).toLoadRect hl) k) Q) := by
  have e : (fun j => f ((Rect.unit (s := S8x128x128) ![4, 0, 0] S4x128x128.size h).emb j)) = slotsC 4 4 f := funext fun j =>
    slots_emb 4 4 (by omega) f _ rfl h j j (fun _ => rfl)
  rw [← e]
  exact ld_8 c _ (xr 4 8) (le_of_eq (rect8_set 4 4 _ rfl h))
theorem dead_pB (h) {hl : M9.view.LoadsAt (Rect.unit (s := S8x128x128) ![4, 0, 0] S4x128x128.size h).toLoadRect}
    {k : (S4x128x128.Idx → Elt F .bf16) → Prog (TpuEff nD τ sig (Elt F) Λ₀ .tc) α} :
    ptE (F := F) c (xr 4 8) ⊢ iprop((∀ v, ptE (F := F) c (xr 4 8) -∗ wp frame (wpE (defs₀ (F := F)) 𝒱₀ (c : Thread nD τ) none) Set.univ (k v) Q)
      -∗ wp frame (wpE (defs₀ (F := F)) 𝒱₀ (c : Thread nD τ) none) Set.univ (.op (.load M9 (Rect.unit (s := S8x128x128) ![4, 0, 0] S4x128x128.size h).toLoadRect hl) k) Q) := by
  unfold ptE
  iintro ⟨%f, H⟩ Hk
  iapply (ld_9 c _ (xr 4 8) (le_of_eq (rect8_set 4 4 _ rfl h))) $$ H
  iintro H
  ispecialize Hk $$ %(fun j => f ((Rect.unit (s := S8x128x128) ![4, 0, 0] S4x128x128.size h).emb j))
  iapply Hk
  iexists f; iexact H
theorem put_pB (l : ℕ) (X : Dev nD → Vec F S1x128x128 .bf16) (h) {w : S4x128x128.Idx → Elt F .bf16} (hw : w = partB I l X c)
    {hx : (M9.access (Rect.unit (s := S8x128x128) ![4, 0, 0] S4x128x128.size h)).Stores Finset.univ} {hm} {k : PUnit → Prog (TpuEff nD τ sig (Elt F) Λ₀ .tc) α} :
    ptE (F := F) c (xr 4 8) ⊢ iprop((ptP c (xr 4 8) fullShare (partC I l X c) -∗ wp frame (wpE (defs₀ (F := F)) 𝒱₀ (c : Thread nD τ) none) Set.univ (k ⟨⟩) Q)
      -∗ wp frame (wpE (defs₀ (F := F)) 𝒱₀ (c : Thread nD τ) none) Set.univ (.op (.store M9 (Rect.unit (s := S8x128x128) ![4, 0, 0] S4x128x128.size h) w Finset.univ hx hm) k) Q) := by
  subst hw
  unfold ptE
  iintro ⟨%f, H⟩ Hk
  iapply (st_9 c _ (xr 4 8) (rect8_set 4 4 _ rfl h) (partC I l X c) (fun j => by
    have h0 : (j 0).val < 4 := (j 0).isLt
    have e0 : ((Rect.unit (s := S8x128x128) ![4, 0, 0] S4x128x128.size h).emb j 0).val = 4 + 1 * (j 0).val := rfl
    unfold partC
    rw [if_neg (by rw [e0]; omega)]
    congr 1
    funext x
    match x with
    | ⟨0, _⟩ => exact Fin.ext (show (j 0).val = (4 + 1 * (j 0).val - 4) % 4 by omega)
    | ⟨1, _⟩ => exact Fin.ext (show (j 1).val = 0 + 1 * (j 1).val by omega)
    | ⟨2, _⟩ => exact Fin.ext (show (j 2).val = 0 + 1 * (j 2).val by omega))) $$ H
  iexact Hk
theorem get_r (f : S8x128x128.Idx → Elt F .bf16) (h) {hl : M10.view.LoadsAt (Rect.unit (s := S8x128x128) ![1, 0, 0] S7x128x128.size h).toLoadRect}
    {k : (S7x128x128.Idx → Elt F .bf16) → Prog (TpuEff nD τ sig (Elt F) Λ₀ .tc) α} :
    rsP c (xr 1 8) fullShare f ⊢ iprop((rsP c (xr 1 8) fullShare f -∗ wp frame (wpE (defs₀ (F := F)) 𝒱₀ (c : Thread nD τ) none) Set.univ (k (slotsC 1 7 f)) Q)
      -∗ wp frame (wpE (defs₀ (F := F)) 𝒱₀ (c : Thread nD τ) none) Set.univ (.op (.load M10 (Rect.unit (s := S8x128x128) ![1, 0, 0] S7x128x128.size h).toLoadRect hl) k) Q) := by
  have e : (fun j => f ((Rect.unit (s := S8x128x128) ![1, 0, 0] S7x128x128.size h).emb j)) = slotsC 1 7 f := funext fun j =>
    slots_emb 1 7 (by omega) f _ rfl h j j (fun _ => rfl)
  rw [← e]
  exact ld_10 c _ (xr 1 8) (le_of_eq (rect8_set 1 7 _ rfl h))

end Cert.K
-- ==== Proof.Phases.lean ====
/- How what a device owns is regrouped between the kernel's phases. -/
module

public import proofs.«01_k».proof.Proof.Mem

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## Sums -/

omit [FloatOps F] in
theorem sepA (P Q R : sProp 𝕄) : iprop((P ∗ Q) ∗ R) = iprop(P ∗ Q ∗ R) := equiv_iff.mp ⟨BI.sep_assoc, BI.sep_assoc'⟩
omit [FloatOps F] in
theorem icoSplit (A : ℕ → sProp 𝕄) {a b c : ℕ} (hab : a ≤ b) (hbc : b ≤ c) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl

omit [FloatOps F] in
theorem bmono {S : Finset ℕ} {A B : ℕ → sProp 𝕄} (h : ∀ r ∈ S, A r ⊢ B r) : bigSep S A ⊢ bigSep S B := bigSep_mono h
omit [FloatOps F] in
theorem biEq {A B : sProp 𝕄} (h : A ⊢ B) (h' : B ⊢ A) : A = B := equiv_iff.mp ⟨h, h'⟩

/-! ## Shares -/

omit [FloatOps F] in
/-- The whole share of an own slot is a share for each transfer that reads it, and the rest. -/
theorem pt_shares {ℓ : Loc nD τ sig} {S : Finset (Idx ℓ)} {f : Buf (Elt F) ℓ} (a n : ℕ) (h : a ≤ n) :
    (ℓ ↦[S]{restSh a} f : sProp 𝕄) = iprop(bigSep (Finset.Ico a n) (fun r => (ℓ ↦[S]{sh r} f : sProp 𝕄)) ∗ ℓ ↦[S]{restSh n} f) := by
  induction n, h using Nat.le_induction with
  | base => rw [Finset.Ico_self, bigSep_empty]; exact equiv_iff.mp ⟨BI.emp_sep.2, BI.emp_sep.1⟩
  | succ n hn ih =>
    have hs : (ℓ ↦[S]{restSh n} f : sProp 𝕄) ⊣⊢ iprop((ℓ ↦[S]{sh n} f) ∗ ℓ ↦[S]{restSh (n + 1)} f) :=
      pointsTo_share (PosShare.mem_left_op_right (restSh n))
    rw [ih, bigSep_Ico_succ_top hn, BI.equiv_iff.mp ⟨hs.1, hs.2⟩]
    refine biEq ?_ ?_
    · iintro ⟨A, B, C⟩
      isplitr [C]
      · isplitl [B]; · iexact B
        iexact A
      iexact C
    · iintro ⟨⟨A, B⟩, C⟩
      isplitl [B]; · iexact B
      isplitl [A]; · iexact A
      iexact C

/-! ## A layer's transfers -/

abbrev ps (c : Dev nD) (n l : ℕ) : sProp 𝕄 := atPos ER (dcell c n) l (∅ : Finset ℕ) 0

/-- What device `c` holds for the transfers numbered `r` at the start of layer `l` … -/
def layS (c : Dev nD) (l r : ℕ) : sProp 𝕄 :=
  iprop((ps (F := F) c (44 + r) l ∗ ps (F := F) c (52 + r) l ∗ ps (F := F) c (60 + r) l ∗ ps (F := F) c (68 + r) l)
    ∗ (reached ER (dcell c (44 + r)) l ∗ reached ER (dcell c (60 + r)) l) ∗ xqMove (F := F) (row c r) r l ∗ rsMove (F := F) c r l)
/-- … the tokens and credits of the layer … -/
def ltok (c : Dev nD) (l r : ℕ) : sProp 𝕄 :=
  iprop((dutyTok ER (dcell c (44 + r)) l 0 ∗ dutyTok ER (dcell (row c r) (52 + r)) l 0) ∗ (dutyTok ER (dcell c (60 + r)) l 0 ∗ dutyTok ER (dcell (row c (8 - r)) (68 + r)) l 0)
    ∗ cred (tallyAt (dcell c (52 + r)) (3 + 2 * l) 1024) ∗ cred (tallyAt (dcell c (68 + r)) (4 + 2 * l) 1024))
/-- … and the tokens kept for the second kind of transfer. -/
def rsTok (c : Dev nD) (l r : ℕ) : sProp 𝕄 :=
  iprop((dutyTok ER (dcell c (60 + r)) l 0 ∗ reached ER (dcell c (60 + r)) l) ∗ dutyTok ER (dcell (row c (8 - r)) (68 + r)) l 0)

def lay (c : Dev nD) (l : ℕ) : sProp 𝕄 := bigSep (Finset.Ico 1 8) (layS (F := F) c l)
def ltoks (c : Dev nD) (l : ℕ) : sProp 𝕄 := bigSep (Finset.Ico 1 8) (ltok (F := F) c l)
def rsToks (c : Dev nD) (l lo hi : ℕ) : sProp 𝕄 := bigSep (Finset.Ico lo hi) (rsTok (F := F) c l)
def poss (c : Dev nD) (n l lo hi : ℕ) : sProp 𝕄 := bigSep (Finset.Ico lo hi) (fun r => ps (F := F) c (n + r) l)

theorem amt_hi {n : ℕ} (h : 44 ≤ n) : amtDma n = 1024 := if_neg (by omega)
theorem amt_lo {n : ℕ} (h : n < 44) : amtDma n = 2048 := if_pos h

theorem lay_one (c : Dev nD) (l r : ℕ) (hr : 1 ≤ r ∧ r < 8) :
    iprop(layS (F := F) c l r ∗ ltok (F := F) c l r ∗ xqP c (xs 0) (sh r) (xqC (actC I l) c))
      ⊢ iprop(agRes I c l r ∗ pend (F := F) c (52 + r) (3 + 2 * l) l ∗ pend (F := F) c (68 + r) (4 + 2 * l) l ∗ ps (F := F) c (44 + r) l ∗ ps (F := F) c (60 + r) l ∗ rsTok (F := F) c l r) := by
  unfold layS ltok agRes rsTok pend
  rw [amt_hi (show 44 ≤ 52 + r by omega), amt_hi (show 44 ≤ 68 + r by omega)]
  iintro ⟨⟨⟨P1, P2, P3, P4⟩, ⟨#R1, #R3⟩, HX, HR⟩, ⟨⟨T1, T2⟩, ⟨T3, T4⟩, C2, C4⟩, Hs⟩
  isplitl [T1 T2 Hs HX HR]
  · isplitl [T1]
    · isplitl [T1]; · iexact T1
      iexact R1
    isplitl [T2]; · iexact T2
    isplitl [Hs]; · iexact Hs
    isplitl [HX]; · iexact HX
    iexact HR
  isplitl [C2 P2]
  · isplitl [C2]; · iexact C2
    iexact P2
  isplitl [C4 P4]
  · isplitl [C4]; · iexact C4
    iexact P4
  isplitl [P1]; · iexact P1
  isplitl [P3]; · iexact P3
  isplitl [T3]
  · isplitl [T3]; · iexact T3
    iexact R3
  iexact T4

/-- The start of layer `l`, once its activations are stored. -/
theorem T_layer (c : Dev nD) (l : ℕ) :
    iprop(lay (F := F) c l ∗ ltoks (F := F) c l ∗ xqP c (xs 0) fullShare (xqC (actC I l) c))
      ⊢ iprop(AG I c l 1 ∗ xqP c (xs 0) (sh 0) (xqC (actC I l) c) ∗ xqP c (xs 0) (restSh 8) (xqC (actC I l) c)
        ∗ Wt I c (fun r => 52 + r) (3 + 2 * l) l 1 4 1 ∗ Wt I c (fun r => 52 + r) (3 + 2 * l) l 4 8 4 ∗ Wt I c (fun r => 68 + r) (4 + 2 * l) l 1 8 1
        ∗ poss (F := F) c 44 l 1 8 ∗ poss (F := F) c 60 l 1 8 ∗ rsToks (F := F) c l 1 4 ∗ rsToks (F := F) c l 4 8) := by
  have hsh : xqP c (xs 0) fullShare (xqC (actC I l) c) = iprop(xqP c (xs 0) (sh 0) (xqC (actC I l) c)
      ∗ bigSep (Finset.Ico 1 8) (fun r => xqP c (xs 0) (sh r) (xqC (actC I l) c)) ∗ xqP c (xs 0) (restSh 8) (xqC (actC I l) c)) := by
    unfold xqP
    rw [show (fullShare : PosShare TreeShare) = restSh 0 from rfl, pt_shares 0 8 (by omega), bigSep_Ico_succ_bot (by omega), sepA]
  have hp : iprop(lay (F := F) c l ∗ ltoks (F := F) c l ∗ bigSep (Finset.Ico 1 8) (fun r => xqP c (xs 0) (sh r) (xqC (actC I l) c)))
      ⊢ iprop(bigSep (Finset.Ico 1 8) (agRes I c l) ∗ bigSep (Finset.Ico 1 8) (fun r => pend (F := F) c (52 + r) (3 + 2 * l) l)
        ∗ bigSep (Finset.Ico 1 8) (fun r => pend (F := F) c (68 + r) (4 + 2 * l) l) ∗ poss (F := F) c 44 l 1 8 ∗ poss (F := F) c 60 l 1 8 ∗ rsToks (F := F) c l 1 8) := by
    unfold lay ltoks poss rsToks
    simp only [← bigSep_sep']
    exact bmono fun r hr => lay_one I c l r (Finset.mem_Ico.mp hr)
  rw [hsh]
  iintro ⟨HL, HT, H0, Hs, Hr⟩
  ihave ⟨H1, H2, H3, H4, H5, H6⟩ := hp $$ [HL HT Hs]
  · isplitl [HL]; · iexact HL
    isplitl [HT]; · iexact HT
    iexact Hs
  unfold AG Wt
  isplitl [H1]; · iapply (fam_start (F := F)) $$ H1
  isplitl [H0]; · iexact H0
  isplitl [Hr]; · iexact Hr
  ihave ⟨H2a, H2b⟩ := (Entails.of_eq (icoSplit (fun r => pend (F := F) c (52 + r) (3 + 2 * l) l) (show 1 ≤ 4 by omega) (show 4 ≤ 8 by omega))) $$ H2
  isplitl [H2a]; · iapply (fam_start (F := F)) $$ H2a
  isplitl [H2b]; · iapply (fam_start (F := F)) $$ H2b
  isplitl [H3]; · iapply (fam_start (F := F)) $$ H3
  isplitl [H4]; · iexact H4
  isplitl [H5]; · iexact H5
  unfold rsToks
  iapply (Entails.of_eq (icoSplit (rsTok (F := F) c l) (show 1 ≤ 4 by omega) (show 4 ≤ 8 by omega))) $$ H6

/-! ## Slots joined and split -/

theorem xs_disj (S : Finset ℕ) : ∀ t ∈ S, ∀ t' ∈ S, t ≠ t' → Disjoint (xs t) (xs t') := fun t _ t' _ hne =>
  Finset.disjoint_left.mpr fun i hi hi' => hne ((mem_xs.mp hi).symm.trans (mem_xs.mp hi'))
theorem xr_biUnion (a b : ℕ) : (Finset.Ico a b).biUnion xs = xr a b := by
  ext i; simp only [Finset.mem_biUnion, Finset.mem_Ico, mem_xs, mem_xr]
  exact ⟨fun ⟨r, h, e⟩ => e ▸ h, fun h => ⟨_, h, rfl⟩⟩
omit [FloatOps F] in
theorem xq_slots (c : Dev nD) (a b : ℕ) (π) (f) : xqP (F := F) c (xr a b) π f = bigSep (Finset.Ico a b) (fun r => xqP (F := F) c (xs r) π f) := by
  unfold xqP; rw [← xr_biUnion]; exact pointsTo_biUnion _ _ (xs_disj _)
omit [FloatOps F] in
theorem pt_slots (c : Dev nD) (a b : ℕ) (π) (f) : ptP (F := F) c (xr a b) π f = bigSep (Finset.Ico a b) (fun r => ptP (F := F) c (xs r) π f) := by
  unfold ptP; rw [← xr_biUnion]; exact pointsTo_biUnion _ _ (xs_disj _)
omit [FloatOps F] in
theorem rs_slots (c : Dev nD) (a b : ℕ) (π) (f) : rsP (F := F) c (xr a b) π f = bigSep (Finset.Ico a b) (fun r => rsP (F := F) c (xs r) π f) := by
  unfold rsP; rw [← xr_biUnion]; exact pointsTo_biUnion _ _ (xs_disj _)

/-! ## The activations received -/

/-- What the waits for the activations `lo` to `hi - 1` leave besides the slots. -/
def agL (c : Dev nD) (l lo hi : ℕ) : sProp 𝕄 :=
  bigSep (Finset.Ico lo hi) (fun r => iprop(ps (F := F) c (52 + r) (l + 1) ∗ reached ER (dcell c (52 + r)) (l + 1) ∗ rsMove (F := F) (row c (8 - r)) r l))
theorem T_A (c : Dev nD) (ι l lo hi : ℕ) (hhi : hi ≤ 8) :
    Wt I c (fun r => 52 + r) ι l lo hi hi ⊢ iprop(xqP c (xr lo hi) fullShare (xqC (actC I l) c) ∗ agL (F := F) c l lo hi) := by
  unfold Wt agL
  refine fam_done.trans ?_
  rw [xq_slots, ← bigSep_sep']
  refine bmono fun r hr => ?_
  have hr := Finset.mem_Ico.mp hr
  unfold got
  rw [dmaPay_agr I c r l (by omega)]
  unfold agrPay
  iintro ⟨⟨P, R⟩, X, M⟩
  isplitl [X]; · iexact X
  isplitl [P]; · iexact P
  isplitl [R]; · iexact R
  iexact M

def rsStart (c : Dev nD) (l lo hi : ℕ) : sProp 𝕄 :=
  iprop(ptP c (xr lo hi) fullShare (partC I l (actC I l) c) ∗ xqP c (xr lo hi) fullShare (xqC (actC I l) c) ∗ agL (F := F) c l lo hi ∗ rsToks (F := F) c l lo hi)
/-- The partial sums are ready to leave; with them go the slots just read. -/
theorem T_B (c : Dev nD) (l lo hi : ℕ) (hl : l < 2) : rsStart I c l lo hi ⊢ iprop(RS I c l lo hi lo ∗ poss (F := F) c 52 (l + 1) lo hi) := by
  have h : rsStart I c l lo hi ⊢ iprop(bigSep (Finset.Ico lo hi) (rsRes I c l) ∗ poss (F := F) c 52 (l + 1) lo hi) := by
    unfold rsStart agL rsToks poss
    rw [xq_slots, pt_slots]
    simp only [← bigSep_sep']
    refine bmono fun r hr => ?_
    unfold rsTok rsRes
    rw [xqMove_lt (by omega : l + 1 < 3)]
    iintro ⟨HP, HX, ⟨P, R, M⟩, T1, T2⟩
    isplitl [HP HX R M T1 T2]
    · isplitl [T1]; · iexact T1
      isplitl [T2]; · iexact T2
      isplitl [HP]; · iexact HP
      isplitl [M]; · iexact M
      isplitl [HX]; · iexists _; iexact HX
      iexact R
    iexact P
  unfold RS
  refine h.trans ?_
  iintro ⟨H, HP⟩
  isplitl [H]; · iapply (fam_start (F := F)) $$ H
  iexact HP
/-- In the last layer the slots stay. -/
theorem T_Blast (c : Dev nD) (lo hi : ℕ) :
    rsStart I c 2 lo hi ⊢ iprop(RS I c 2 lo hi lo ∗ poss (F := F) c 52 3 lo hi ∗ xqP c (xr lo hi) fullShare (xqC (actC I 2) c)) := by
  have h : rsStart I c 2 lo hi ⊢ iprop(bigSep (Finset.Ico lo hi) (rsRes I c 2) ∗ poss (F := F) c 52 3 lo hi ∗ xqP c (xr lo hi) fullShare (xqC (actC I 2) c)) := by
    unfold rsStart agL rsToks poss
    rw [xq_slots, pt_slots]
    simp only [← bigSep_sep']
    refine bmono fun r hr => ?_
    unfold rsTok rsRes
    rw [xqMove_ge (by omega : ¬ 2 + 1 < 3)]
    iintro ⟨HP, HX, ⟨P, R, M⟩, T1, T2⟩
    isplitl [HP M T1 T2]
    · isplitl [T1]; · iexact T1
      isplitl [T2]; · iexact T2
      isplitl [HP]; · iexact HP
      isplitl [M]; · iexact M
      iempintro
    isplitl [P]; · iexact P
    iexact HX
  unfold RS
  refine h.trans ?_
  iintro ⟨H, HP⟩
  isplitl [H]; · iapply (fam_start (F := F)) $$ H
  iexact HP

/-! ## The partial sums received -/

def rsL (c : Dev nD) (l : ℕ) : sProp 𝕄 :=
  bigSep (Finset.Ico 1 8) (fun r => iprop(ps (F := F) c (68 + r) (l + 1) ∗ reached ER (dcell c (68 + r)) (l + 1) ∗ xqMove (F := F) (row c r) r (l + 1)))
theorem T_rs (c : Dev nD) (ι l : ℕ) :
    Wt I c (fun r => 68 + r) ι l 1 8 8 ⊢ iprop(rsP c (xr 1 8) fullShare (rsC I l (actC I l) c) ∗ rsL (F := F) c l) := by
  unfold Wt rsL
  refine fam_done.trans ?_
  rw [rs_slots, ← bigSep_sep']
  refine bmono fun r hr => ?_
  have hr := Finset.mem_Ico.mp hr
  unfold got
  rw [dmaPay_rsr I c r l (by omega)]
  unfold rsrPay
  iintro ⟨⟨P, R⟩, X, M⟩
  isplitl [X]; · iexact X
  isplitl [P]; · iexact P
  isplitl [R]; · iexact R
  iexact M

/-! ## The waits for the own transfers -/

theorem T_ags (c : Dev nD) (l : ℕ) : iprop(AG I c l 8 ∗ poss (F := F) c 44 l 1 8) ⊢ Wt I c (fun r => 44 + r) 0 l 1 8 1 := by
  unfold AG Wt poss
  iintro ⟨H, HP⟩
  iapply (fam_start (F := F))
  ihave H := (fam_done (F := F)) $$ H
  have h : iprop(bigSep (Finset.Ico 1 8) (agCr (F := F) c) ∗ bigSep (Finset.Ico 1 8) (fun r => ps (F := F) c (44 + r) l)) ⊢ bigSep (Finset.Ico 1 8) (fun r => pend (F := F) c (44 + r) 0 l) := by
    rw [← bigSep_sep']
    refine bmono fun r hr => ?_
    unfold agCr pend; rw [amt_hi (by omega)]
  iapply h
  isplitl [H]; · iexact H
  iexact HP
theorem T_rss (c : Dev nD) (l : ℕ) : iprop(RS I c l 1 4 4 ∗ RS I c l 4 8 8 ∗ poss (F := F) c 60 l 1 8) ⊢ Wt I c (fun r => 60 + r) 0 l 1 8 1 := by
  unfold RS Wt poss
  iintro ⟨H, H', HP⟩
  iapply (fam_start (F := F))
  ihave H := (fam_done (F := F)) $$ H
  ihave H' := (fam_done (F := F)) $$ H'
  have h : iprop(bigSep (Finset.Ico 1 4) (rsCr (F := F) c) ∗ bigSep (Finset.Ico 4 8) (rsCr (F := F) c) ∗ bigSep (Finset.Ico 1 8) (fun r => ps (F := F) c (60 + r) l)) ⊢ bigSep (Finset.Ico 1 8) (fun r => pend (F := F) c (60 + r) 0 l) := by
    rw [← sepA, ← icoSplit _ (show 1 ≤ 4 by omega) (show 4 ≤ 8 by omega), ← bigSep_sep']
    refine bmono fun r hr => ?_
    unfold rsCr pend; rw [amt_hi (by omega)]
  iapply h
  isplitl [H]; · iexact H
  isplitl [H']; · iexact H'
  iexact HP

/-! ## The end of a layer -/

/-- What a layer leaves: every wait done. -/
def layEnd (c : Dev nD) (l : ℕ) : sProp 𝕄 :=
  iprop(rsP c (xr 1 8) fullShare (rsC I l (actC I l) c) ∗ rsL (F := F) c l ∗ poss (F := F) c 52 (l + 1) 1 4 ∗ poss (F := F) c 52 (l + 1) 4 8
    ∗ Wt I c (fun r => 44 + r) 0 l 1 8 8 ∗ Wt I c (fun r => 60 + r) 0 l 1 8 8
    ∗ xqP c (xs 0) (sh 0) (xqC (actC I l) c) ∗ xqP c (xs 0) (restSh 8) (xqC (actC I l) c))

theorem ags_back (c : Dev nD) (l : ℕ) : Wt I c (fun r => 44 + r) 0 l 1 8 8
    ⊢ iprop(bigSep (Finset.Ico 1 8) (fun r => xqP c (xs 0) (sh r) (xqC (actC I l) c)) ∗ poss (F := F) c 44 (l + 1) 1 8 ∗ bigSep (Finset.Ico 1 8) (fun r => reached ER (dcell c (44 + r)) (l + 1))) := by
  unfold Wt poss
  refine fam_done.trans ?_
  simp only [← bigSep_sep']
  refine bmono fun r hr => ?_
  have hr := Finset.mem_Ico.mp hr
  unfold got
  rw [dmaPay_ags I c r l (by omega)]
  unfold agsPay
  iintro ⟨⟨P, R⟩, X⟩
  isplitl [X]; · iexact X
  isplitl [P]; · iexact P
  iexact R
theorem rss_back (c : Dev nD) (l : ℕ) : Wt I c (fun r => 60 + r) 0 l 1 8 8
    ⊢ iprop(ptP c (xr 1 8) fullShare (partC I l (actC I l) c) ∗ poss (F := F) c 60 (l + 1) 1 8 ∗ bigSep (Finset.Ico 1 8) (fun r => reached ER (dcell c (60 + r)) (l + 1))) := by
  unfold Wt poss
  refine fam_done.trans ?_
  rw [pt_slots]
  simp only [← bigSep_sep']
  refine bmono fun r hr => ?_
  have hr := Finset.mem_Ico.mp hr
  unfold got
  rw [dmaPay_rss I c r l (by omega)]
  unfold rssPay
  iintro ⟨⟨P, R⟩, X⟩
  isplitl [X]; · iexact X
  isplitl [P]; · iexact P
  iexact R
omit [FloatOps F] in
theorem x0_join (c : Dev nD) (f : S8x128x128.Idx → Elt F .bf16) :
    iprop(xqP (F := F) c (xs 0) (sh 0) f ∗ bigSep (Finset.Ico 1 8) (fun r => xqP (F := F) c (xs 0) (sh r) f) ∗ xqP (F := F) c (xs 0) (restSh 8) f) ⊢ xqP (F := F) c (xs 0) fullShare f := by
  refine Entails.of_eq ?_
  unfold xqP
  rw [show (fullShare : PosShare TreeShare) = restSh 0 from rfl, pt_shares 0 8 (by omega), bigSep_Ico_succ_bot (show 0 < 8 by omega), sepA]

/-- A layer's end is the next one's start. -/
theorem T_end (c : Dev nD) (l : ℕ) : layEnd I c l ⊢ iprop(xqE (F := F) c (xs 0) ∗ lay (F := F) c (l + 1) ∗ ptE (F := F) c (xr 1 4) ∗ ptE (F := F) c (xr 4 8)) := by
  unfold layEnd xqE ptE
  iintro ⟨HR, HL, PA, PB, WA, WS, X0, XR⟩
  ihave ⟨XS, PS, RS⟩ := (ags_back I c l) $$ WA
  ihave ⟨PT, PS', RS'⟩ := (rss_back I c l) $$ WS
  isplitl [X0 XS XR]
  · iexists _
    iapply (x0_join c (xqC (actC I l) c))
    isplitl [X0]; · iexact X0
    isplitl [XS]; · iexact XS
    iexact XR
  isplitr [PT]
  · have h : iprop(rsP c (xr 1 8) fullShare (rsC I l (actC I l) c) ∗ rsL (F := F) c l ∗ (poss (F := F) c 52 (l + 1) 1 4 ∗ poss (F := F) c 52 (l + 1) 4 8)
        ∗ (poss (F := F) c 44 (l + 1) 1 8 ∗ bigSep (Finset.Ico 1 8) (fun r => reached ER (dcell c (44 + r)) (l + 1)))
        ∗ poss (F := F) c 60 (l + 1) 1 8 ∗ bigSep (Finset.Ico 1 8) (fun r => reached ER (dcell c (60 + r)) (l + 1))) ⊢ lay (F := F) c (l + 1) := by
      unfold rsL poss lay
      rw [rs_slots, ← icoSplit _ (show 1 ≤ 4 by omega) (show 4 ≤ 8 by omega)]
      simp only [← bigSep_sep']
      refine bmono fun r hr => ?_
      unfold layS rsMove
      iintro ⟨X, ⟨P4, R4, M⟩, P2, ⟨P1, R1⟩, P3, R3⟩
      isplitl [P1 P2 P3 P4]
      · isplitl [P1]; · iexact P1
        isplitl [P2]; · iexact P2
        isplitl [P3]; · iexact P3
        iexact P4
      isplitl [R1 R3]
      · isplitl [R1]; · iexact R1
        iexact R3
      isplitl [M]; · iexact M
      isplitl [X]; · iexists _; iexact X
      iexact R4
    iapply h
    isplitl [HR]; · iexact HR
    isplitl [HL]; · iexact HL
    isplitl [PA PB]
    · isplitl [PA]; · iexact PA
      iexact PB
    isplitl [PS RS]
    · isplitl [PS]; · iexact PS
      iexact RS
    isplitl [PS']; · iexact PS'
    iexact RS'
  ihave PT := (Entails.of_eq (pt_slots c 1 8 fullShare (partC I l (actC I l) c))) $$ PT
  ihave ⟨P1, P2⟩ := (Entails.of_eq (icoSplit (fun r => ptP c (xs r) fullShare (partC I l (actC I l) c)) (show 1 ≤ 4 by omega) (show 4 ≤ 8 by omega))) $$ PT
  isplitl [P1]
  · iexists _; iapply (Entails.of_eq (pt_slots c 1 4 fullShare (partC I l (actC I l) c)).symm) $$ P1
  iexists _; iapply (Entails.of_eq (pt_slots c 4 8 fullShare (partC I l (actC I l) c)).symm) $$ P2

/-- The end of the last layer: the buffers and the positions. -/
theorem T_fin (c : Dev nD) : layEnd I c 2 ⊢ iprop(xqP c (xs 0) fullShare (xqC (actC I 2) c) ∗ rsP c (xr 1 8) fullShare (rsC I 2 (actC I 2) c)
    ∗ ptP c (xr 1 8) fullShare (partC I 2 (actC I 2) c) ∗ poss (F := F) c 44 3 1 8 ∗ poss (F := F) c 52 3 1 8 ∗ poss (F := F) c 60 3 1 8 ∗ poss (F := F) c 68 3 1 8) := by
  unfold layEnd
  iintro ⟨HR, HL, PA, PB, WA, WS, X0, XR⟩
  ihave ⟨XS, PS, -⟩ := (ags_back I c 2) $$ WA
  ihave ⟨PT, PS', -⟩ := (rss_back I c 2) $$ WS
  isplitl [X0 XS XR]
  · iapply (x0_join c (xqC (actC I 2) c))
    isplitl [X0]; · iexact X0
    isplitl [XS]; · iexact XS
    iexact XR
  isplitl [HR]; · iexact HR
  isplitl [PT]; · iexact PT
  isplitl [PS]; · iexact PS
  isplitl [PA PB]
  · unfold poss
    iapply (Entails.of_eq (icoSplit (fun r => ps (F := F) c (52 + r) 3) (show 1 ≤ 4 by omega) (show 4 ≤ 8 by omega)).symm)
    isplitl [PA]; · iexact PA
    iexact PB
  isplitl [PS']; · iexact PS'
  unfold rsL poss
  have h : bigSep (Finset.Ico 1 8) (fun r => (iprop(ps (F := F) c (68 + r) (2 + 1) ∗ reached ER (dcell c (68 + r)) (2 + 1) ∗ xqMove (F := F) (row c r) r (2 + 1)) : sProp 𝕄))
      ⊢ bigSep (Finset.Ico 1 8) (fun r => ps (F := F) c (68 + r) 3) := bmono fun r _ => by iintro ⟨H, -⟩; iexact H
  iapply h; iexact HL

end Cert.K
-- ==== Proof.Weights.lean ====
/- How the weights and the buffers as a whole are divided at the start, and joined at the end. -/
module

public import proofs.«01_k».proof.Proof.Phases

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## Sums -/

omit [FloatOps F] in
theorem icoShift (A : ℕ → sProp 𝕄) (a b k : ℕ) : bigSep (Finset.Ico (a + k) (b + k)) A = bigSep (Finset.Ico a b) (fun i => A (i + k)) := by
  have e : Finset.Ico (a + k) (b + k) = (Finset.Ico a b).image (fun i => i + k) := by
    ext x
    simp only [Finset.mem_image, Finset.mem_Ico]
    exact ⟨fun h => ⟨x - k, by omega, by omega⟩, fun ⟨y, h, e⟩ => by omega⟩
  rw [e, bigSep_image_of_injOn (fun x _ y _ h => Nat.add_right_cancel h)]
omit [FloatOps F] in
theorem bcongr {A B : ℕ → sProp 𝕄} {a b : ℕ} (h : ∀ r, a ≤ r ∧ r < b → A r = B r) : bigSep (Finset.Ico a b) A = bigSep (Finset.Ico a b) B :=
  bigSep_congr fun r hr => h r (Finset.mem_Ico.mp hr)
omit [FloatOps F] in
theorem six (G : ℕ → ℕ → sProp 𝕄) : bigSep (Finset.Ico 0 18) (fun i => G (i % 6) (i / 6))
    = iprop(bigSep (Finset.Ico 0 6) (fun k => G k 0) ∗ bigSep (Finset.Ico 0 6) (fun k => G k 1) ∗ bigSep (Finset.Ico 0 6) (fun k => G k 2)) := by
  rw [icoSplit _ (show 0 ≤ 6 by omega) (show 6 ≤ 18 by omega), icoSplit _ (show 6 ≤ 12 by omega) (show 12 ≤ 18 by omega)]
  have h1 := icoShift (fun i => G (i % 6) (i / 6)) 0 6 6
  have h2 := icoShift (fun i => G (i % 6) (i / 6)) 0 6 12
  simp only [Nat.zero_add, Nat.reduceAdd] at h1 h2
  rw [h1, h2, bcongr (A := fun i => G (i % 6) (i / 6)) (B := fun k => G k 0) (fun r hr => by rw [Nat.mod_eq_of_lt hr.2, Nat.div_eq_of_lt hr.2]),
    bcongr (A := fun i => G ((i + 6) % 6) ((i + 6) / 6)) (B := fun k => G k 1) (fun r hr => by rw [show (r + 6) % 6 = r by omega, show (r + 6) / 6 = 1 by omega]),
    bcongr (A := fun i => G ((i + 12) % 6) ((i + 12) / 6)) (B := fun k => G k 2) (fun r hr => by rw [show (r + 12) % 6 = r by omega, show (r + 12) / 6 = 2 by omega])]
omit [FloatOps F] in
theorem ico6 (A : ℕ → sProp 𝕄) : bigSep (Finset.Ico 0 6) A = iprop(A 0 ∗ A 1 ∗ A 2 ∗ A 3 ∗ A 4 ∗ A 5) := by
  rw [bigSep_Ico_succ_bot (by omega), bigSep_Ico_succ_bot (by omega), bigSep_Ico_succ_bot (by omega), bigSep_Ico_succ_bot (by omega), bigSep_Ico_succ_bot (by omega), bigSep_Ico_one 5]
omit [FloatOps F] in
theorem rev7 (A : ℕ → sProp 𝕄) : bigSep (Finset.Ico 0 7) (fun d => A (7 - d)) = bigSep (Finset.Ico 1 8) A := by
  rw [show Finset.Ico 1 8 = (Finset.Ico 0 7).image (fun d => 7 - d) by decide,
    bigSep_image_of_injOn (fun a ha b hb h => by
      have := Finset.mem_Ico.mp (Finset.mem_coe.mp ha); have := Finset.mem_Ico.mp (Finset.mem_coe.mp hb)
      have h : 7 - a = 7 - b := h
      omega)]

/-! ## The weights -/

theorem wP_shares (k q : ℕ) (c : Dev nD) (a n : ℕ) (h : a ≤ n) :
    wP I k q c (restSh a) = iprop(bigSep (Finset.Ico a n) (fun r => wP I k q c (sh r)) ∗ wP I k q c (restSh n)) := by
  unfold wP
  by_cases hk : k % 2 = 0
  · simp only [if_pos hk]; unfold wiP; exact pt_shares a n h
  · simp only [if_neg hk]; unfold woP; exact pt_shares a n h

theorem wi_blocks (c : Dev nD) (l : ℕ) (π) : wiP c (wl l) π (winC I c)
    = bigSep (Finset.Ico 0 4) (fun j => wiP c (ws l ((c.val / 8 + (4 - j)) % 4)) π (winC I c)) := by
  have hs : wl l = (Finset.Ico 0 4).biUnion (fun j => ws l ((c.val / 8 + (4 - j)) % 4)) := by
    ext i
    have hi : (i 2).val < 1024 := (i 2).isLt
    simp only [Finset.mem_biUnion, Finset.mem_Ico, mem_wl, mem_ws]
    constructor
    · intro h; exact ⟨(c.val / 8 + 4 - (i 2).val / 256) % 4, by omega, h, by have := c.isLt; have : nD = 32 := rfl; omega⟩
    · rintro ⟨j, -, h, -⟩; exact h
  unfold wiP
  rw [hs]
  exact pointsTo_biUnion _ _ (fun t ht t' ht' hne => Finset.disjoint_left.mpr fun i hi hi' => hne (by
    have h1 := (mem_ws.mp hi).2; have h2 := (mem_ws.mp hi').2
    have := Finset.mem_Ico.mp ht; have := Finset.mem_Ico.mp ht'
    omega))
theorem wo_blocks (c : Dev nD) (l : ℕ) (π) : woP c (wol l) π (woutC I c)
    = bigSep (Finset.Ico 0 4) (fun j => woP c (wos l ((c.val / 8 + (4 - j)) % 4)) π (woutC I c)) := by
  have hs : wol l = (Finset.Ico 0 4).biUnion (fun j => wos l ((c.val / 8 + (4 - j)) % 4)) := by
    ext i
    have hi : (i 1).val < 1024 := (i 1).isLt
    simp only [Finset.mem_biUnion, Finset.mem_Ico, mem_wol, mem_wos]
    constructor
    · intro h; exact ⟨(c.val / 8 + 4 - (i 1).val / 256) % 4, by omega, h, by have := c.isLt; have : nD = 32 := rfl; omega⟩
    · rintro ⟨j, -, h, -⟩; exact h
  unfold woP
  rw [hs]
  exact pointsTo_biUnion _ _ (fun t ht t' ht' hne => Finset.disjoint_left.mpr fun i hi hi' => hne (by
    have h1 := (mem_wos.mp hi).2; have h2 := (mem_wos.mp hi').2
    have := Finset.mem_Ico.mp ht; have := Finset.mem_Ico.mp ht'
    omega))

/-- The own weights of layer `l`. -/
def ownW (c : Dev nD) (l : ℕ) (π : PosShare TreeShare) : sProp 𝕄 := iprop(wP I (2 * l) (c.val / 8) c π ∗ wP I (2 * l + 1) (c.val / 8) c π)
/-- The received weights of layer `l`, in the order they are awaited. -/
def recW (c : Dev nD) (l : ℕ) (π : PosShare TreeShare) : sProp 𝕄 :=
  bigSep (Finset.Ico 0 6) (fun t => wP I (2 * l + t % 2) ((c.val / 8 + (3 - t / 2)) % 4) c π)
def nW (l t : ℕ) : ℕ := 26 + (6 * (t / 2) + 2 * l + t % 2)

theorem joinW (c : Dev nD) (l : ℕ) (π) : iprop(ownW I c l π ∗ recW I c l π) = iprop(wiP c (wl l) π (winC I c) ∗ woP c (wol l) π (woutC I c)) := by
  unfold ownW recW
  rw [wi_blocks, wo_blocks, ico6]
  have hq : (c.val / 8 + 4) % 4 = c.val / 8 := by have := c.isLt; have : nD = 32 := rfl; omega
  rw [bigSep_Ico_succ_bot (show 0 < 4 by omega), bigSep_Ico_succ_bot (show 0 + 1 < 4 by omega), bigSep_Ico_succ_bot (show 0 + 1 + 1 < 4 by omega), bigSep_Ico_one 3,
    bigSep_Ico_succ_bot (show 0 < 4 by omega), bigSep_Ico_succ_bot (show 0 + 1 < 4 by omega), bigSep_Ico_succ_bot (show 0 + 1 + 1 < 4 by omega), bigSep_Ico_one 3]
  simp only [Nat.reduceMod, Nat.reduceDiv, Nat.reduceSub, Nat.reduceAdd, Nat.add_zero, hq,
    wP_even I (show 2 * l % 2 = 0 by omega), wP_odd I (show ¬ (2 * l + 1) % 2 = 0 by omega), show 2 * l / 2 = l by omega, show (2 * l + 1) / 2 = l by omega]
  refine biEq ?_ ?_
  · iintro ⟨⟨A, B⟩, A1, B1, A2, B2, A3, B3⟩
    isplitl [A A1 A2 A3]
    · isplitl [A]; · iexact A
      isplitl [A1]; · iexact A1
      isplitl [A2]; · iexact A2
      iexact A3
    isplitl [B]; · iexact B
    isplitl [B1]; · iexact B1
    isplitl [B2]; · iexact B2
    iexact B3
  · iintro ⟨⟨A, A1, A2, A3⟩, B, B1, B2, B3⟩
    isplitl [A B]
    · isplitl [A]; · iexact A
      iexact B
    isplitl [A1]; · iexact A1
    isplitl [B1]; · iexact B1
    isplitl [A2]; · iexact A2
    isplitl [B2]; · iexact B2
    isplitl [A3]; · iexact A3
    iexact B3

/-- What the entry wait hands over, sorted. -/
def xqM (c : Dev nD) : sProp 𝕄 := bigSep (Finset.Ico 1 8) (fun r => iprop(∃ f, xqP (F := F) (row c r) (xs r) fullShare f))
def wEs (c : Dev nD) (j : ℕ) : sProp 𝕄 := bigSep (Finset.Ico 0 6) (fun k => wE (F := F) k (c.val / 8) (col c (j + 1)))
omit [FloatOps F] in
theorem bar_sort (c : Dev nD) : bigSep (Finset.range 10) (fun d => barPay (F := F) c d)
    ⊢ iprop(xqM (F := F) c ∗ wEs (F := F) c 0 ∗ wEs (F := F) c 1 ∗ wEs (F := F) c 2) := by
  rw [Finset.range_eq_Ico, icoSplit _ (show 0 ≤ 7 by omega) (show 7 ≤ 10 by omega),
    bigSep_Ico_succ_bot (show 7 < 10 by omega), bigSep_Ico_succ_bot (show 7 + 1 < 10 by omega), bigSep_Ico_one 9]
  have h0 : bigSep (Finset.Ico 0 7) (fun d => barPay (F := F) c d) = xqM (F := F) c := by
    unfold xqM
    rw [← rev7]
    exact bcongr fun r hr => if_pos hr.2
  have h7 : barPay (F := F) c 7 = wEs (F := F) c 2 := by
    unfold barPay wEs; rw [if_neg (by omega), Finset.range_eq_Ico]
  have h8 : barPay (F := F) c 8 = wEs (F := F) c 1 := by
    unfold barPay wEs; rw [if_neg (by omega), Finset.range_eq_Ico]
  have h9 : barPay (F := F) c 9 = wEs (F := F) c 0 := by
    unfold barPay wEs; rw [if_neg (by omega), Finset.range_eq_Ico]
  rw [h0, h7, h8, h9]
  iintro ⟨A, B, C, D⟩
  isplitl [A]; · iexact A
  isplitl [D]; · iexact D
  isplitl [C]; · iexact C
  iexact B

/-- The tokens of the weight transfers. -/
def wtok (c : Dev nD) : sProp 𝕄 :=
  bigSep (Finset.Ico 0 18) (fun i => iprop(dutyTok ER (dcell c (8 + i)) 0 0 ∗ dutyTok ER (dcell (col c (i / 6 + 1)) (26 + i)) 0 0))

theorem own_split (c : Dev nD) (k : ℕ) : wP I k (c.val / 8) c fullShare
    = iprop(wP I k (c.val / 8) c (sh 0) ∗ wP I k (c.val / 8) c (sh 1) ∗ wP I k (c.val / 8) c (sh 2) ∗ wP I k (c.val / 8) c (sh 3) ∗ wP I k (c.val / 8) c (restSh 4)) := by
  rw [show (fullShare : PosShare TreeShare) = restSh 0 from rfl, wP_shares I k _ c 0 4 (by omega), bigSep_Ico_succ_bot (show 0 < 4 by omega), bigSep_Ico_succ_bot (show 0 + 1 < 4 by omega),
    bigSep_Ico_succ_bot (show 0 + 1 + 1 < 4 by omega), bigSep_Ico_one 3, sepA, sepA, sepA]

/-- The own weights are stored and every peer has arrived: the weight transfers may start. -/
theorem T_W0 (c : Dev nD) : iprop((wP I 0 (c.val / 8) c fullShare ∗ wP I 1 (c.val / 8) c fullShare ∗ wP I 2 (c.val / 8) c fullShare
      ∗ wP I 3 (c.val / 8) c fullShare ∗ wP I 4 (c.val / 8) c fullShare ∗ wP I 5 (c.val / 8) c fullShare)
      ∗ bigSep (Finset.range 10) (fun d => barPay (F := F) c d) ∗ wtok (F := F) c)
    ⊢ iprop(WS I c 0 ∗ xqM (F := F) c ∗ ownW I c 0 (sh 0) ∗ ownW I c 1 (sh 0) ∗ ownW I c 2 (sh 0) ∗ bigSep (Finset.Ico 0 6) (fun k => wP I k (c.val / 8) c (restSh 4))) := by
  rw [← ico6 (fun k => wP I k (c.val / 8) c fullShare)]
  have hsp : bigSep (Finset.Ico 0 6) (fun k => wP I k (c.val / 8) c fullShare) = iprop(bigSep (Finset.Ico 0 6) (fun k => wP I k (c.val / 8) c (sh 0))
      ∗ bigSep (Finset.Ico 0 6) (fun k => wP I k (c.val / 8) c (sh 1)) ∗ bigSep (Finset.Ico 0 6) (fun k => wP I k (c.val / 8) c (sh 2))
      ∗ bigSep (Finset.Ico 0 6) (fun k => wP I k (c.val / 8) c (sh 3)) ∗ bigSep (Finset.Ico 0 6) (fun k => wP I k (c.val / 8) c (restSh 4))) := by
    simp only [← bigSep_sep']
    exact bcongr fun k _ => own_split I c k
  have hres : iprop(wtok (F := F) c ∗ bigSep (Finset.Ico 0 18) (fun i => wP I (i % 6) (c.val / 8) c (sh (i / 6 + 1)))
      ∗ bigSep (Finset.Ico 0 18) (fun i => wE (F := F) (i % 6) (c.val / 8) (col c (i / 6 + 1)))) ⊢ bigSep (Finset.Ico 0 18) (wsRes I c) := by
    unfold wtok
    simp only [← bigSep_sep']
    refine bmono fun i _ => ?_
    unfold wsRes
    iintro ⟨⟨A, B⟩, C, D⟩
    isplitl [A]; · iexact A
    isplitl [B]; · iexact B
    isplitl [C]; · iexact C
    iexact D
  rw [hsp, six (fun k j => wP I k (c.val / 8) c (sh (j + 1))), six (fun k j => wE (F := F) k (c.val / 8) (col c (j + 1)))] at *
  iintro ⟨⟨S0, S1, S2, S3, S4⟩, HB, HT⟩
  ihave ⟨HX, E0, E1, E2⟩ := (bar_sort (F := F) c) $$ HB
  unfold wEs
  isplitl [S1 S2 S3 HT E0 E1 E2]
  · unfold WS
    iapply (fam_start (F := F))
    iapply hres
    isplitl [HT]; · iexact HT
    isplitl [S1 S2 S3]
    · isplitl [S1]; · iexact S1
      isplitl [S2]; · iexact S2
      iexact S3
    isplitl [E0]; · iexact E0
    isplitl [E1]; · iexact E1
    iexact E2
  isplitl [HX]; · iexact HX
  ihave ⟨A0, A1, A2, A3, A4, A5⟩ := (Entails.of_eq (ico6 (fun k => wP I k (c.val / 8) c (sh 0)))) $$ S0
  unfold ownW
  isplitl [A0 A1]
  · isplitl [A0]; · iexact A0
    iexact A1
  isplitl [A2 A3]
  · isplitl [A2]; · iexact A2
    iexact A3
  isplitl [A4 A5]
  · isplitl [A4]; · iexact A4
    iexact A5
  iexact S4

/-- The first layer's start. -/
theorem T_lay0 (c : Dev nD) : iprop(Ctx I ∗ xqM (F := F) c ∗ poss (F := F) c 44 0 1 8 ∗ poss (F := F) c 52 0 1 8 ∗ poss (F := F) c 60 0 1 8 ∗ poss (F := F) c 68 0 1 8
      ∗ bigSep (Finset.Ico 1 8) (fun r => iprop(∃ f, rsP (F := F) c (xs r) fullShare f))) ⊢ lay (F := F) c 0 := by
  have hR : Ctx I ⊢ (bigSep (Finset.Ico 1 8) (fun _ => Ctx I) : sProp 𝕄) := bigSep_of_persistent _ _
  have h : iprop(bigSep (Finset.Ico 1 8) (fun _ => Ctx I) ∗ xqM (F := F) c ∗ poss (F := F) c 44 0 1 8 ∗ poss (F := F) c 52 0 1 8 ∗ poss (F := F) c 60 0 1 8 ∗ poss (F := F) c 68 0 1 8
      ∗ bigSep (Finset.Ico 1 8) (fun r => iprop(∃ f, rsP (F := F) c (xs r) fullShare f))) ⊢ lay (F := F) c 0 := by
    unfold xqM poss lay
    simp only [← bigSep_sep']
    refine bmono fun r hr => ?_
    have hr := Finset.mem_Ico.mp hr
    unfold layS rsMove
    rw [xqMove_lt (by omega : 0 < 3)]
    iintro ⟨#HC, HX, P1, P2, P3, P4, HR⟩
    ihave ⟨-, #R1⟩ := (ctx_dma I c (44 + r) (by omega)) $$ HC
    ihave ⟨-, #R2⟩ := (ctx_dma I (row c r) (52 + r) (by omega)) $$ HC
    ihave ⟨-, #R3⟩ := (ctx_dma I c (60 + r) (by omega)) $$ HC
    ihave ⟨-, #R4⟩ := (ctx_dma I c (68 + r) (by omega)) $$ HC
    isplitl [P1 P2 P3 P4]
    · isplitl [P1]; · iexact P1
      isplitl [P2]; · iexact P2
      isplitl [P3]; · iexact P3
      iexact P4
    isplitr
    · isplitr; · iexact R1
      iexact R3
    isplitl [HX]
    · isplitl [HX]; · iexact HX
      iexact R2
    isplitl [HR]; · iexact HR
    iexact R4
  iintro ⟨#HC, H⟩
  iapply h
  isplitr
  · iapply hR; iexact HC
  iexact H

/-- A layer's weights, all received. -/
def wbag (c : Dev nD) (l : ℕ) : sProp 𝕄 := iprop(bigSep (Finset.Ico 0 6) (fun t => ps (F := F) c (nW l t) 1) ∗ recW I c l (restSh 1))
theorem T_Wl (c : Dev nD) (l : ℕ) (hl : l < 3) : iprop(Wt I c (nW l) 2 0 0 6 6 ∗ ownW I c l (sh 0))
    ⊢ iprop(wiP c (wl l) (sh 0) (winC I c) ∗ woP c (wol l) (sh 0) (woutC I c) ∗ wbag I c l) := by
  have h : bigSep (Finset.Ico 0 6) (fun t => got I c (nW l t) 0) ⊢ iprop(bigSep (Finset.Ico 0 6) (fun t => ps (F := F) c (nW l t) 1) ∗ recW I c l (sh 0) ∗ recW I c l (restSh 1)) := by
    unfold recW
    simp only [← bigSep_sep']
    refine bmono fun t ht => ?_
    have ht := Finset.mem_Ico.mp ht
    unfold got nW
    rw [dmaPay_wr I c _ 0 (by omega)]
    unfold wrecvPay
    rw [show (6 * (t / 2) + 2 * l + t % 2) % 6 = 2 * l + t % 2 by omega, show (6 * (t / 2) + 2 * l + t % 2) / 6 = t / 2 by omega,
      show (fullShare : PosShare TreeShare) = restSh 0 from rfl, wP_shares I _ _ c 0 1 (by omega), bigSep_Ico_one 0]
    iintro ⟨⟨P, -⟩, A, B⟩
    isplitl [P]; · iexact P
    isplitl [A]; · iexact A
    iexact B
  unfold Wt wbag
  iintro ⟨H, HO⟩
  ihave H := (fam_done (F := F)) $$ H
  ihave ⟨HP, HA, HB⟩ := h $$ H
  ihave ⟨H1, H2⟩ := (Entails.of_eq (joinW I c l (sh 0))) $$ [HO HA]
  · isplitl [HO]; · iexact HO
    iexact HA
  isplitl [H1]; · iexact H1
  isplitl [H2]; · iexact H2
  isplitl [HP]; · iexact HP
  iexact HB

theorem T_wsend (c : Dev nD) : iprop(WS I c 18 ∗ poss (F := F) c 8 0 0 18) ⊢ Wt I c (fun i => 8 + i) 0 0 0 18 0 := by
  unfold WS Wt poss
  iintro ⟨H, HP⟩
  iapply (fam_start (F := F))
  ihave H := (fam_done (F := F)) $$ H
  have h : iprop(bigSep (Finset.Ico 0 18) (wsCr (F := F) c) ∗ bigSep (Finset.Ico 0 18) (fun i => ps (F := F) c (8 + i) 0)) ⊢ bigSep (Finset.Ico 0 18) (fun i => pend (F := F) c (8 + i) 0 0) := by
    rw [← bigSep_sep']
    refine bmono fun i hi => ?_
    have hi := Finset.mem_Ico.mp hi
    unfold wsCr pend; rw [amt_lo (by omega)]
  iapply h
  isplitl [H]; · iexact H
  iexact HP

/-- What is held of layer `l`'s weights while the layer runs. -/
def wHeld (c : Dev nD) (l : ℕ) : sProp 𝕄 := iprop(wiP c (wl l) (sh 0) (winC I c) ∗ woP c (wol l) (sh 0) (woutC I c) ∗ wbag I c l)

theorem wfin_one (c : Dev nD) (l : ℕ) : iprop(wHeld I c l ∗ ownW I c l (restSh 1))
    ⊢ iprop(wiP c (wl l) fullShare (winC I c) ∗ woP c (wol l) fullShare (woutC I c) ∗ bigSep (Finset.Ico 0 6) (fun t => ps (F := F) c (nW l t) 1)) := by
  unfold wHeld wbag
  iintro ⟨⟨A, B, P, R⟩, O⟩
  ihave ⟨A', B'⟩ := (Entails.of_eq (joinW I c l (restSh 1))) $$ [O R]
  · isplitl [O]; · iexact O
    iexact R
  have hA : iprop(wiP c (wl l) (sh 0) (winC I c) ∗ wiP c (wl l) (restSh 1) (winC I c)) ⊢ wiP c (wl l) fullShare (winC I c) := by
    unfold wiP; exact (pointsTo_share (PosShare.mem_left_op_right fullShare)).2
  have hB : iprop(woP c (wol l) (sh 0) (woutC I c) ∗ woP c (wol l) (restSh 1) (woutC I c)) ⊢ woP c (wol l) fullShare (woutC I c) := by
    unfold woP; exact (pointsTo_share (PosShare.mem_left_op_right fullShare)).2
  isplitl [A A']
  · iapply hA
    isplitl [A]; · iexact A
    iexact A'
  isplitl [B B']
  · iapply hB
    isplitl [B]; · iexact B
    iexact B'
  iexact P

theorem T_wfin (c : Dev nD) : iprop(Wt I c (fun i => 8 + i) 0 0 0 18 18 ∗ bigSep (Finset.Ico 0 6) (fun k => wP I k (c.val / 8) c (restSh 4))
      ∗ wHeld I c 0 ∗ wHeld I c 1 ∗ wHeld I c 2)
    ⊢ iprop(wiP c Finset.univ fullShare (winC I c) ∗ woP c Finset.univ fullShare (woutC I c) ∗ poss (F := F) c 8 1 0 18
      ∗ bigSep (Finset.Ico 0 6) (fun t => ps (F := F) c (nW 0 t) 1) ∗ bigSep (Finset.Ico 0 6) (fun t => ps (F := F) c (nW 1 t) 1) ∗ bigSep (Finset.Ico 0 6) (fun t => ps (F := F) c (nW 2 t) 1)) := by
  have h : bigSep (Finset.Ico 0 18) (fun i => got I c (8 + i) 0) ⊢ iprop(poss (F := F) c 8 1 0 18 ∗ bigSep (Finset.Ico 0 18) (fun i => wP I (i % 6) (c.val / 8) c (sh (i / 6 + 1)))) := by
    unfold poss
    rw [← bigSep_sep']
    refine bmono fun i hi => ?_
    have hi := Finset.mem_Ico.mp hi
    unfold got
    rw [dmaPay_ws I c i 0 (by omega)]
    unfold wsendPay
    iintro ⟨⟨P, -⟩, A⟩
    isplitl [P]; · iexact P
    iexact A
  have hj : iprop((bigSep (Finset.Ico 0 6) (fun k => wP I k (c.val / 8) c (sh 1)) ∗ bigSep (Finset.Ico 0 6) (fun k => wP I k (c.val / 8) c (sh 2))
      ∗ bigSep (Finset.Ico 0 6) (fun k => wP I k (c.val / 8) c (sh 3))) ∗ bigSep (Finset.Ico 0 6) (fun k => wP I k (c.val / 8) c (restSh 4)))
      ⊢ bigSep (Finset.Ico 0 6) (fun k => wP I k (c.val / 8) c (restSh 1)) := by
    simp only [← bigSep_sep']
    refine bmono fun k _ => ?_
    rw [wP_shares I k _ c 1 4 (by omega), bigSep_Ico_succ_bot (show 1 < 4 by omega), bigSep_Ico_succ_bot (show 1 + 1 < 4 by omega), bigSep_Ico_one 3]
  have hwi : iprop(wiP c (wl 0) fullShare (winC I c) ∗ wiP c (wl 1) fullShare (winC I c) ∗ wiP c (wl 2) fullShare (winC I c)) ⊢ wiP c Finset.univ fullShare (winC I c) := by
    have hs : (Finset.univ : Finset S3x128x1024.Idx) = (Finset.Ico 0 3).biUnion wl := by
      ext i
      have hi : (i 0).val < 3 := (i 0).isLt
      simp only [Finset.mem_biUnion, Finset.mem_Ico, mem_wl, Finset.mem_univ, true_iff]
      exact ⟨_, ⟨Nat.zero_le _, hi⟩, rfl⟩
    unfold wiP
    rw [hs, pointsTo_biUnion _ _ (fun t _ t' _ hne => Finset.disjoint_left.mpr fun i hi hi' => hne ((mem_wl.mp hi).symm.trans (mem_wl.mp hi'))),
      bigSep_Ico_succ_bot (show 0 < 3 by omega), bigSep_Ico_succ_bot (show 0 + 1 < 3 by omega), bigSep_Ico_one 2]
  have hwo : iprop(woP c (wol 0) fullShare (woutC I c) ∗ woP c (wol 1) fullShare (woutC I c) ∗ woP c (wol 2) fullShare (woutC I c)) ⊢ woP c Finset.univ fullShare (woutC I c) := by
    have hs : (Finset.univ : Finset S3x1024x128.Idx) = (Finset.Ico 0 3).biUnion wol := by
      ext i
      have hi : (i 0).val < 3 := (i 0).isLt
      simp only [Finset.mem_biUnion, Finset.mem_Ico, mem_wol, Finset.mem_univ, true_iff]
      exact ⟨_, ⟨Nat.zero_le _, hi⟩, rfl⟩
    unfold woP
    rw [hs, pointsTo_biUnion _ _ (fun t _ t' _ hne => Finset.disjoint_left.mpr fun i hi hi' => hne ((mem_wol.mp hi).symm.trans (mem_wol.mp hi'))),
      bigSep_Ico_succ_bot (show 0 < 3 by omega), bigSep_Ico_succ_bot (show 0 + 1 < 3 by omega), bigSep_Ico_one 2]
  rw [six (fun k j => wP I k (c.val / 8) c (sh (j + 1)))] at h
  unfold Wt
  iintro ⟨H, HR, H0, H1, H2⟩
  ihave H := (fam_done (F := F)) $$ H
  ihave ⟨HP, HS⟩ := h $$ H
  ihave HS := hj $$ [HS HR]
  · isplitl [HS]; · iexact HS
    iexact HR
  ihave ⟨A0, A1, A2, A3, A4, A5⟩ := (Entails.of_eq (ico6 (fun k => wP I k (c.val / 8) c (restSh 1)))) $$ HS
  ihave ⟨I0, O0, P0⟩ := (wfin_one I c 0) $$ [H0 A0 A1]
  · isplitl [H0]; · iexact H0
    unfold ownW
    isplitl [A0]; · iexact A0
    iexact A1
  ihave ⟨I1, O1, P1⟩ := (wfin_one I c 1) $$ [H1 A2 A3]
  · isplitl [H1]; · iexact H1
    unfold ownW
    isplitl [A2]; · iexact A2
    iexact A3
  ihave ⟨I2, O2, P2⟩ := (wfin_one I c 2) $$ [H2 A4 A5]
  · isplitl [H2]; · iexact H2
    unfold ownW
    isplitl [A4]; · iexact A4
    iexact A5
  isplitl [I0 I1 I2]
  · iapply hwi
    isplitl [I0]; · iexact I0
    isplitl [I1]; · iexact I1
    iexact I2
  isplitl [O0 O1 O2]
  · iapply hwo
    isplitl [O0]; · iexact O0
    isplitl [O1]; · iexact O1
    iexact O2
  isplitl [HP]; · iexact HP
  isplitl [P0]; · iexact P0
  isplitl [P1]; · iexact P1
  iexact P2

end Cert.K
-- ==== Proof.Ready.lean ====
/- The changes of ownership between pieces, spelled out hypothesis by hypothesis. -/
module

public import proofs.«01_k».proof.Proof.Weights

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem T_W0' (c : Dev nD) : iprop(wP I 0 (c.val / 8) c fullShare ∗ wP I 1 (c.val / 8) c fullShare ∗ wP I 2 (c.val / 8) c fullShare
      ∗ wP I 3 (c.val / 8) c fullShare ∗ wP I 4 (c.val / 8) c fullShare ∗ wP I 5 (c.val / 8) c fullShare
      ∗ bigSep (Finset.range 10) (fun d => barPay (F := F) c d) ∗ wtok (F := F) c)
    ⊢ iprop(WS I c 0 ∗ xqM (F := F) c ∗ ownW I c 0 (sh 0) ∗ ownW I c 1 (sh 0) ∗ ownW I c 2 (sh 0) ∗ bigSep (Finset.Ico 0 6) (fun k => wP I k (c.val / 8) c (restSh 4))) := by
  iintro ⟨H0, H1, H2, H3, H4, H5, HB, HT⟩
  iapply (T_W0 I c)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HB]; · iexact HB
  iexact HT

theorem T_B' (c : Dev nD) (l lo hi : ℕ) (hl : l < 2) :
    iprop(ptP c (xr lo hi) fullShare (partC I l (actC I l) c) ∗ xqP c (xr lo hi) fullShare (xqC (actC I l) c) ∗ agL (F := F) c l lo hi ∗ rsToks (F := F) c l lo hi)
      ⊢ iprop(RS I c l lo hi lo ∗ poss (F := F) c 52 (l + 1) lo hi) := T_B I c l lo hi hl

theorem T_Blast' (c : Dev nD) (lo hi : ℕ) :
    iprop(ptP c (xr lo hi) fullShare (partC I 2 (actC I 2) c) ∗ xqP c (xr lo hi) fullShare (xqC (actC I 2) c) ∗ agL (F := F) c 2 lo hi ∗ rsToks (F := F) c 2 lo hi)
      ⊢ iprop(RS I c 2 lo hi lo ∗ poss (F := F) c 52 3 lo hi ∗ xqP c (xr lo hi) fullShare (xqC (actC I 2) c)) := T_Blast I c lo hi

theorem T_end' (c : Dev nD) (l : ℕ) :
    iprop(rsP c (xr 1 8) fullShare (rsC I l (actC I l) c) ∗ rsL (F := F) c l ∗ poss (F := F) c 52 (l + 1) 1 4 ∗ poss (F := F) c 52 (l + 1) 4 8
      ∗ Wt I c (fun r => 44 + r) 0 l 1 8 8 ∗ Wt I c (fun r => 60 + r) 0 l 1 8 8
      ∗ xqP c (xs 0) (sh 0) (xqC (actC I l) c) ∗ xqP c (xs 0) (restSh 8) (xqC (actC I l) c))
      ⊢ iprop(xqE (F := F) c (xs 0) ∗ lay (F := F) c (l + 1) ∗ ptE (F := F) c (xr 1 4) ∗ ptE (F := F) c (xr 4 8)) := T_end I c l

end Cert.K
-- ==== Proof.Parts1.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part1 (c : Dev nD) {K : (Σ' (d0 : Dev nD) (v19 : BitVec 32) (v20 : BitVec 32) (v21 : Sems sig S_), BitVec 32) → sProp 𝕄} :
    iprop(Ctx I ∗ Ow (F := F) c 0 ∗ bigSep (Finset.Ico 0 10) (barRes (F := F) c))
      ⊢ iprop((∀ (v19 : BitVec 32) (v20 : BitVec 32) (c8_i32_17 : BitVec 32), (Ow (F := F) c 2 ∗ bigSep (Finset.Ico 2 10) (barRes (F := F) c)) -∗ K ⟨c, v19, v20, SemArray.scalar (sig.barrier 0 rfl), c8_i32_17⟩)
        -∗ wp frame (wpE (defs₀ (F := F)) 𝒱₀ (c : Thread nD τ) none) Set.univ (k0_part1 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part1_eq_skeleton]; unfold k0_part1_skel
  simp only [semSignalWord, semWaitWord, Prog.lift, Prog.bind_op, Prog.bind_ret, Prog.pure_eq_ret, wp_deviceId]
  iintro ⟨#HC, HO, HBAR0⟩ Hk
  iapply (bar_step I c _ 0 (by omega) ((dev1_eq c).trans rfl) rfl) $$ [HO HBAR0]
  · isplitr; · iexact HC
    isplitl [HO]; · iexact HO
    iexact HBAR0
  iintro ⟨HO, HBAR1⟩
  iapply (bar_step I c _ 1 (by omega) ((dev2_eq c).trans rfl) rfl) $$ [HO HBAR1]
  · isplitr; · iexact HC
    isplitl [HO]; · iexact HO
    iexact HBAR1
  iintro ⟨HO, HBAR2⟩
  rw [wp_ret]; imodintro
  iapply Hk $$ %_ %_ %_ [HO HBAR2]
  · isplitl [HO]; · iexact HO
    iexact HBAR2

theorem part2 (c : Dev nD) (v19 : BitVec 32) (v20 : BitVec 32) (c8_i32_17 : BitVec 32) {K : (Σ' (v61 : BitVec 32), BitVec 32) → sProp 𝕄} :
    iprop(Ctx I ∗ Ow (F := F) c 2 ∗ bigSep (Finset.Ico 2 10) (barRes (F := F) c))
      ⊢ iprop((∀ (v61 : BitVec 32) (c1_i32_40 : BitVec 32), (Ow (F := F) c 6 ∗ bigSep (Finset.Ico 6 10) (barRes (F := F) c)) -∗ K ⟨v61, c1_i32_40⟩)
        -∗ wp frame (wpE (defs₀ (F := F)) 𝒱₀ (c : Thread nD τ) none) Set.univ (k0_part2 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 (SemArray.scalar (sig.barrier 0 rfl)) c8_i32_17) K) := by
  rw [k0_part2_eq_skeleton]; unfold k0_part2_skel
  simp only [semSignalWord, semWaitWord, Prog.lift, Prog.bind_op, Prog.bind_ret, Prog.pure_eq_ret, wp_deviceId]
  iintro ⟨#HC, HO, HBAR2⟩ Hk
  iapply (bar_step I c _ 2 (by omega) ((dev3_eq c).trans rfl) rfl) $$ [HO HBAR2]
  · isplitr; · iexact HC
    isplitl [HO]; · iexact HO
    iexact HBAR2
  iintro ⟨HO, HBAR3⟩
  iapply (bar_step I c _ 3 (by omega) ((dev4_eq c).trans rfl) rfl) $$ [HO HBAR3]
  · isplitr; · iexact HC
    isplitl [HO]; · iexact HO
    iexact HBAR3
  iintro ⟨HO, HBAR4⟩
  iapply (bar_step I c _ 4 (by omega) ((dev5_eq c).trans rfl) rfl) $$ [HO HBAR4]
  · isplitr; · iexact HC
    isplitl [HO]; · iexact HO
    iexact HBAR4
  iintro ⟨HO, HBAR5⟩
  iapply (bar_step I c _ 5 (by omega) ((dev6_eq c).trans rfl) rfl) $$ [HO HBAR5]
  · isplitr; · iexact HC
    isplitl [HO]; · iexact HO
    iexact HBAR5
  iintro ⟨HO, HBAR6⟩
  rw [wp_ret]; imodintro
  iapply Hk $$ %_ %_ [HO HBAR6]
  · isplitl [HO]; · iexact HO
    iexact HBAR6

theorem part3 (c : Dev nD) (v19 : BitVec 32) (v20 : BitVec 32) (v61 : BitVec 32) (c1_i32_40 : BitVec 32) {K : PUnit → sProp 𝕄} :
    iprop(Ctx I ∗ Ow (F := F) c 6 ∗ bigSep (Finset.Ico 6 10) (barRes (F := F) c) ∗ cred (tallyAt (barCell c) 1 10) ∗ atPos ER (barCell c) 0 (∅ : Finset ℕ) 0 ∗ (((c : Thread nD τ).loc cc0_stg1_0) ↦{fullShare} (I.wi 0 c)) ∗ wE (F := F) 0 (c.val / 8) c)
      ⊢ iprop(((Ow (F := F) c 10 ∗ bigSep (Finset.Ico 10 10) (barRes (F := F) c) ∗ atPos ER (barCell c) 1 (∅ : Finset ℕ) 0 ∗ bigSep (Finset.range 10) (fun d => barPay (F := F) c d) ∗ (((c : Thread nD τ).loc cc0_stg1_0) ↦{fullShare} (I.wi 0 c)) ∗ wP I 0 (c.val / 8) c fullShare) -∗ K ⟨⟩)
        -∗ wp frame (wpE (defs₀ (F := F)) 𝒱₀ (c : Thread nD τ) none) Set.univ (k0_part3 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 (SemArray.scalar (sig.barrier 0 rfl)) v61 c1_i32_40) K) := by
  rw [k0_part3_eq_skeleton]; unfold k0_part3_skel
  simp only [semSignalWord, semWaitWord, Prog.lift, Prog.bind_op, Prog.bind_ret, Prog.pure_eq_ret, wp_deviceId]
  iintro ⟨#HC, HO, HBAR6, HBCR, HBPOS0, HSTG1, HWE0⟩ Hk
  iapply (bar_step I c _ 6 (by omega) ((dev7_eq c).trans rfl) rfl) $$ [HO HBAR6]
  · isplitr; · iexact HC
    isplitl [HO]; · iexact HO
    iexact HBAR6
  iintro ⟨HO, HBAR7⟩
  iapply (bar_step I c _ 7 (by omega) ((dev8_eq c).trans rfl) rfl) $$ [HO HBAR7]
  · isplitr; · iexact HC
    isplitl [HO]; · iexact HO
    iexact HBAR7
  iintro ⟨HO, HBAR8⟩
  iapply (bar_step I c _ 8 (by omega) ((dev9_eq c).trans rfl) rfl) $$ [HO HBAR8]
  · isplitr; · iexact HC
    isplitl [HO]; · iexact HO
    iexact HBAR8
  iintro ⟨HO, HBAR9⟩
  iapply (bar_step I c _ 9 (by omega) ((dev10_eq c).trans rfl) rfl) $$ [HO HBAR9]
  · isplitr; · iexact HC
    isplitl [HO]; · iexact HO
    iexact HBAR9
  iintro ⟨HO, HBAR10⟩
  iapply (bar_wait I c rfl) $$ [HO HBCR HBPOS0]
  · isplitr; · iexact HC
    isplitl [HO]; · iexact HO
    isplitl [HBCR]; · iexact HBCR
    iexact HBPOS0
  iintro ⟨HO, HBPOS1, HBPAY⟩
  iapply (ld_1 c (I.wi 0 c) _) $$ [HSTG1]
  · iexact HSTG1
  iintro HSTG1
  iapply (dead_in c 0 0 (c.val / 8) rfl _ (off1_eq c) _) $$ [HWE0]
  · iexact HWE0
  iintro %v HWE0
  iapply (put_in I c 0 0 (c.val / 8) rfl rfl _ (off1_eq c) _ rfl) $$ [HWE0]
  · iexact HWE0
  iintro HWP0
  rw [wp_ret]; imodintro
  iapply Hk $$ [HO HBAR10 HBPOS1 HBPAY HSTG1 HWP0]
  · isplitl [HO]; · iexact HO
    isplitl [HBAR10]; · iexact HBAR10
    isplitl [HBPOS1]; · iexact HBPOS1
    isplitl [HBPAY]; · iexact HBPAY
    isplitl [HSTG1]; · iexact HSTG1
    iexact HWP0

theorem part4 (c : Dev nD) (v19 : BitVec 32) {K : (FVec F S256x128 .f32) → sProp 𝕄} :
    iprop(Ctx I ∗ Ow (F := F) c 10 ∗ (((c : Thread nD τ).loc cc0_stg2_0) ↦{fullShare} (I.wo 0 c)) ∗ wE (F := F) 1 (c.val / 8) c ∗ (((c : Thread nD τ).loc cc0_stg3_0) ↦{fullShare} (I.wi 1 c)) ∗ wE (F := F) 2 (c.val / 8) c ∗ (((c : Thread nD τ).loc cc0_stg4_0) ↦{fullShare} (I.wo 1 c)) ∗ wE (F := F) 3 (c.val / 8) c ∗ (((c : Thread nD τ).loc cc0_stg5_0) ↦{fullShare} (I.wi 2 c)) ∗ wE (F := F) 4 (c.val / 8) c ∗ (((c : Thread nD τ).loc cc0_stg6_0) ↦{fullShare} (I.wo 2 c)))
      ⊢ iprop((∀ (v123 : FVec F S256x128 .f32), ⌜v123 = k0_pay6 (I.wo 2 c)⌝ -∗ (Ow (F := F) c 10 ∗ (((c : Thread nD τ).loc cc0_stg2_0) ↦{fullShare} (I.wo 0 c)) ∗ wP I 1 (c.val / 8) c fullShare ∗ (((c : Thread nD τ).loc cc0_stg3_0) ↦{fullShare} (I.wi 1 c)) ∗ wP I 2 (c.val / 8) c fullShare ∗ (((c : Thread nD τ).loc cc0_stg4_0) ↦{fullShare} (I.wo 1 c)) ∗ wP I 3 (c.val / 8) c fullShare ∗ (((c : Thread nD τ).loc cc0_stg5_0) ↦{fullShare} (I.wi 2 c)) ∗ wP I 4 (c.val / 8) c fullShare ∗ (((c : Thread nD τ).loc cc0_stg6_0) ↦{fullShare} (I.wo 2 c))) -∗ K v123)
        -∗ wp frame (wpE (defs₀ (F := F)) 𝒱₀ (c : Thread nD τ) none) Set.univ (k0_part4 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19) K) := by
  rw [k0_part4_eq_skeleton]; unfold k0_part4_skel
  simp only [semSignalWord, semWaitWord, Prog.lift, Prog.bind_op, Prog.bind_ret, Prog.pure_eq_ret, wp_deviceId]
  iintro ⟨#HC, HO, HSTG2, HWE1, HSTG3, HWE2, HSTG4, HWE3, HSTG5, HWE4, HSTG6⟩ Hk
  iapply (ld_2 c (I.wo 0 c) _) $$ [HSTG2]
  · iexact HSTG2
  iintro HSTG2
  iapply (dead_out c 1 0 (c.val / 8) rfl _ (off2_eq c) _) $$ [HWE1]
  · iexact HWE1
  iintro %v HWE1
  iapply (put_out I c 1 0 (c.val / 8) rfl rfl _ (off2_eq c) _ rfl) $$ [HWE1]
  · iexact HWE1
  iintro HWP1
  iapply (ld_3 c (I.wi 1 c) _) $$ [HSTG3]
  · iexact HSTG3
  iintro HSTG3
  iapply (dead_in c 2 1 (c.val / 8) rfl _ (off3_eq c) _) $$ [HWE2]
  · iexact HWE2
  iintro %v HWE2
  iapply (put_in I c 2 1 (c.val / 8) rfl rfl _ (off3_eq c) _ rfl) $$ [HWE2]
  · iexact HWE2
  iintro HWP2
  iapply (ld_4 c (I.wo 1 c) _) $$ [HSTG4]
  · iexact HSTG4
  iintro HSTG4
  iapply (dead_out c 3 1 (c.val / 8) rfl _ (off4_eq c) _) $$ [HWE3]
  · iexact HWE3
  iintro %v HWE3
  iapply (put_out I c 3 1 (c.val / 8) rfl rfl _ (off4_eq c) _ rfl) $$ [HWE3]
  · iexact HWE3
  iintro HWP3
  iapply (ld_5 c (I.wi 2 c) _) $$ [HSTG5]
  · iexact HSTG5
  iintro HSTG5
  iapply (dead_in c 4 2 (c.val / 8) rfl _ (off5_eq c) _) $$ [HWE4]
  · iexact HWE4
  iintro %v HWE4
  iapply (put_in I c 4 2 (c.val / 8) rfl rfl _ (off5_eq c) _ rfl) $$ [HWE4]
  · iexact HWE4
  iintro HWP4
  iapply (ld_6 c (I.wo 2 c) _) $$ [HSTG6]
  · iexact HSTG6
  iintro HSTG6
  rw [wp_ret]; imodintro
  iapply Hk $$ %_ [] [HO HSTG2 HWP1 HSTG3 HWP2 HSTG4 HWP3 HSTG5 HWP4 HSTG6]
  · ipureintro; rfl
  · isplitl [HO]; · iexact HO
    isplitl [HSTG2]; · iexact HSTG2
    isplitl [HWP1]; · iexact HWP1
    isplitl [HSTG3]; · iexact HSTG3
    isplitl [HWP2]; · iexact HWP2
    isplitl [HSTG4]; · iexact HSTG4
    isplitl [HWP3]; · iexact HWP3
    isplitl [HSTG5]; · iexact HSTG5
    isplitl [HWP4]; · iexact HWP4
    iexact HSTG6

theorem part5 (c : Dev nD) (v19 : BitVec 32) (v20 : BitVec 32) (v123 : FVec F S256x128 .f32) (hv123 : v123 = k0_pay6 (I.wo 2 c)) {K : (Σ' (v133 : BitVec 32), BitVec 32) → sProp 𝕄} :
    iprop(Ctx I ∗ Ow (F := F) c 10 ∗ wE (F := F) 5 (c.val / 8) c ∗ wP I 0 (c.val / 8) c fullShare ∗ wP I 1 (c.val / 8) c fullShare ∗ wP I 2 (c.val / 8) c fullShare ∗ wP I 3 (c.val / 8) c fullShare ∗ wP I 4 (c.val / 8) c fullShare ∗ bigSep (Finset.range 10) (fun d => barPay (F := F) c d) ∗ wtok (F := F) c)
      ⊢ iprop((∀ (v133 : BitVec 32) (c256_i32_107 : BitVec 32), (Ow (F := F) c 12 ∗ xqM (F := F) c ∗ ownW I c 0 (sh 0) ∗ ownW I c 1 (sh 0) ∗ ownW I c 2 (sh 0) ∗ bigSep (Finset.Ico 0 6) (fun k => wP I k (c.val / 8) c (restSh 4)) ∗ WS I c 2) -∗ K ⟨v133, c256_i32_107⟩)
        -∗ wp frame (wpE (defs₀ (F := F)) 𝒱₀ (c : Thread nD τ) none) Set.univ (k0_part5 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v123) K) := by
  rw [k0_part5_eq_skeleton]; unfold k0_part5_skel
  simp only [semSignalWord, semWaitWord, Prog.lift, Prog.bind_op, Prog.bind_ret, Prog.pure_eq_ret, wp_deviceId]
  iintro ⟨#HC, HO, HWE5, HWP0, HWP1, HWP2, HWP3, HWP4, HBPAY, HWTOK⟩ Hk
  iapply (dead_out c 5 2 (c.val / 8) rfl _ (off6_eq c) _) $$ [HWE5]
  · iexact HWE5
  iintro %v HWE5
  iapply (put_out I c 5 2 (c.val / 8) rfl rfl _ (off6_eq c) _ (by subst hv123; rfl)) $$ [HWE5]
  · iexact HWE5
  iintro HWP5
  ihave ⟨HWS0, HXQM, HOWN0, HOWN1, HOWN2, HWREST⟩ := (T_W0' I c) $$ [HWP0 HWP1 HWP2 HWP3 HWP4 HWP5 HBPAY HWTOK]
  · isplitl [HWP0]; · iexact HWP0
    isplitl [HWP1]; · iexact HWP1
    isplitl [HWP2]; · iexact HWP2
    isplitl [HWP3]; · iexact HWP3
    isplitl [HWP4]; · iexact HWP4
    isplitl [HWP5]; · iexact HWP5
    isplitl [HBPAY]; · iexact HBPAY
    iexact HWTOK
  iapply (wsend_in I c _ 0 (by omega) rfl (dev11_eq c) _ _ _ (off7_eq c) rfl rfl) $$ [HO HWS0]
  · isplitr; · iexact HC
    isplitl [HO]; · iexact HO
    iexact HWS0
  iintro ⟨HO, HWS1⟩
  iapply (wsend_out I c _ 1 (by omega) rfl (dev12_eq c) _ _ _ (off8_eq c) rfl rfl) $$ [HO HWS1]
  · isplitr; · iexact HC
    isplitl [HO]; · iexact HO
    iexact HWS1
  iintro ⟨HO, HWS2⟩
  rw [wp_ret]; imodintro
  iapply Hk $$ %_ %_ [HO HXQM HOWN0 HOWN1 HOWN2 HWREST HWS2]
  · isplitl [HO]; · iexact HO
    isplitl [HXQM]; · iexact HXQM
    isplitl [HOWN0]; · iexact HOWN0
    isplitl [HOWN1]; · iexact HOWN1
    isplitl [HOWN2]; · iexact HOWN2
    isplitl [HWREST]; · iexact HWREST
    iexact HWS2

theorem part6 (c : Dev nD) (v19 : BitVec 32) (v133 : BitVec 32) (c256_i32_107 : BitVec 32) {K : PUnit → sProp 𝕄} :
    iprop(Ctx I ∗ Ow (F := F) c 12 ∗ WS I c 2)
      ⊢ iprop(((Ow (F := F) c 14 ∗ WS I c 4) -∗ K ⟨⟩)
        -∗ wp frame (wpE (defs₀ (F := F)) 𝒱₀ (c : Thread nD τ) none) Set.univ (k0_part6 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v133 c256_i32_107) K) := by
  rw [k0_part6_eq_skeleton]; unfold k0_part6_skel
  simp only [semSignalWord, semWaitWord, Prog.lift, Prog.bind_op, Prog.bind_ret, Prog.pure_eq_ret, wp_deviceId]
  iintro ⟨#HC, HO, HWS2⟩ Hk
  iapply (wsend_in I c _ 2 (by omega) rfl (dev13_eq c) _ _ _ (off9_eq c) rfl rfl) $$ [HO HWS2]
  · isplitr; · iexact HC
    isplitl [HO]; · iexact HO
    iexact HWS2
  iintro ⟨HO, HWS3⟩
  iapply (wsend_out I c _ 3 (by omega) rfl (dev14_eq c) _ _ _ (off10_eq c) rfl rfl) $$ [HO HWS3]
  · isplitr; · iexact HC
    isplitl [HO]; · iexact HO
    iexact HWS3
  iintro ⟨HO, HWS4⟩
  rw [wp_ret]; imodintro
  iapply Hk $$ [HO HWS4]
  · isplitl [HO]; · iexact HO
    iexact HWS4

theorem part7 (c : Dev nD) (v19 : BitVec 32) (v20 : BitVec 32) (v133 : BitVec 32) {K : (Σ' (v203 : BitVec 32) (v216 : BitVec 32), BitVec 32) → sProp 𝕄} :
    iprop(Ctx I ∗ Ow (F := F) c 14 ∗ WS I c 4)
      ⊢ iprop((∀ (v203 : BitVec 32) (v216 : BitVec 32) (c0_i32_161 : BitVec 32), (Ow (F := F) c 17 ∗ WS I c 7) -∗ K ⟨v203, v216, c0_i32_161⟩)
        -∗ wp frame (wpE (defs₀ (F := F)) 𝒱₀ (c : Thread nD τ) none) Set.univ (k0_part7 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v133) K) := by
  rw [k0_part7_eq_skeleton]; unfold k0_part7_skel
  simp only [semSignalWord, semWaitWord, Prog.lift, Prog.bind_op, Prog.bind_ret, Prog.pure_eq_ret, wp_deviceId]
  iintro ⟨#HC, HO, HWS4⟩ Hk
  iapply (wsend_in I c _ 4 (by omega) rfl (dev15_eq c) _ _ _ (off11_eq c) rfl rfl) $$ [HO HWS4]
  · isplitr; · iexact HC
    isplitl [HO]; · iexact HO
    iexact HWS4
  iintro ⟨HO, HWS5⟩
  iapply (wsend_out I c _ 5 (by omega) rfl (dev16_eq c) _ _ _ (off12_eq c) rfl rfl) $$ [HO HWS5]
  · isplitr; · iexact HC
    isplitl [HO]; · iexact HO
    iexact HWS5
  iintro ⟨HO, HWS6⟩
  iapply (wsend_in I c _ 6 (by omega) rfl (dev17_eq c) _ _ _ (off7_eq c) rfl rfl) $$ [HO HWS6]
  · isplitr; · iexact HC
    isplitl [HO]; · iexact HO
    iexact HWS6
  iintro ⟨HO, HWS7⟩
  rw [wp_ret]; imodintro
  iapply Hk $$ %_ %_ %_ [HO HWS7]
  · isplitl [HO]; · iexact HO
    iexact HWS7

theorem part8 (c : Dev nD) (v19 : BitVec 32) (v203 : BitVec 32) (v216 : BitVec 32) (c0_i32_161 : BitVec 32) {K : PUnit → sProp 𝕄} :
    iprop(Ctx I ∗ Ow (F := F) c 17 ∗ WS I c 7)
      ⊢ iprop(((Ow (F := F) c 20 ∗ WS I c 10) -∗ K ⟨⟩)
        -∗ wp frame (wpE (defs₀ (F := F)) 𝒱₀ (c : Thread nD τ) none) Set.univ (k0_part8 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v203 v216 c0_i32_161) K) := by
  rw [k0_part8_eq_skeleton]; unfold k0_part8_skel
  simp only [semSignalWord, semWaitWord, Prog.lift, Prog.bind_op, Prog.bind_ret, Prog.pure_eq_ret, wp_deviceId]
  iintro ⟨#HC, HO, HWS7⟩ Hk
  iapply (wsend_out I c _ 7 (by omega) rfl (dev18_eq c) _ _ _ (off8_eq c) rfl rfl) $$ [HO HWS7]
  · isplitr; · iexact HC
    isplitl [HO]; · iexact HO
    iexact HWS7
  iintro ⟨HO, HWS8⟩
  iapply (wsend_in I c _ 8 (by omega) rfl (dev19_eq c) _ _ _ (off9_eq c) rfl rfl) $$ [HO HWS8]
  · isplitr; · iexact HC
    isplitl [HO]; · iexact HO
    iexact HWS8
  iintro ⟨HO, HWS9⟩
  iapply (wsend_out I c _ 9 (by omega) rfl (dev20_eq c) _ _ _ (off10_eq c) rfl rfl) $$ [HO HWS9]
  · isplitr; · iexact HC
    isplitl [HO]; · iexact HO
    iexact HWS9
  iintro ⟨HO, HWS10⟩
  rw [wp_ret]; imodintro
  iapply Hk $$ [HO HWS10]
  · isplitl [HO]; · iexact HO
    iexact HWS10

theorem part9 (c : Dev nD) (v19 : BitVec 32) (v20 : BitVec 32) (v203 : BitVec 32) {K : (BitVec 32) → sProp 𝕄} :
    iprop(Ctx I ∗ Ow (F := F) c 20 ∗ WS I c 10)
      ⊢ iprop((∀ (v273 : BitVec 32), (Ow (F := F) c 22 ∗ WS I c 12) -∗ K v273)
        -∗ wp frame (wpE (defs₀ (F := F)) 𝒱₀ (c : Thread nD τ) none) Set.univ (k0_part9 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v203) K) := by
  rw [k0_part9_eq_skeleton]; unfold k0_part9_skel
  simp only [semSignalWord, semWaitWord, Prog.lift, Prog.bind_op, Prog.bind_ret, Prog.pure_eq_ret, wp_deviceId]
  iintro ⟨#HC, HO, HWS10⟩ Hk
  iapply (wsend_in I c _ 10 (by omega) rfl (dev21_eq c) _ _ _ (off11_eq c) rfl rfl) $$ [HO HWS10]
  · isplitr; · iexact HC
    isplitl [HO]; · iexact HO
    iexact HWS10
  iintro ⟨HO, HWS11⟩
  iapply (wsend_out I c _ 11 (by omega) rfl (dev22_eq c) _ _ _ (off12_eq c) rfl rfl) $$ [HO HWS11]
  · isplitr; · iexact HC
    isplitl [HO]; · iexact HO
    iexact HWS11
  iintro ⟨HO, HWS12⟩
  rw [wp_ret]; imodintro
  iapply Hk $$ %_ [HO HWS12]
  · isplitl [HO]; · iexact HO
    iexact HWS12

theorem part10 (c : Dev nD) (v19 : BitVec 32) (v273 : BitVec 32) {K : PUnit → sProp 𝕄} :
    iprop(Ctx I ∗ Ow (F := F) c 22 ∗ WS I c 12)
      ⊢ iprop(((Ow (F := F) c 25 ∗ WS I c 15) -∗ K ⟨⟩)
        -∗ wp frame (wpE (defs₀ (F := F)) 𝒱₀ (c : Thread nD τ) none) Set.univ (k0_part10 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v273) K) := by
  rw [k0_part10_eq_skeleton]; unfold k0_part10_skel
  simp only [semSignalWord, semWaitWord, Prog.lift, Prog.bind_op, Prog.bind_ret, Prog.pure_eq_ret, wp_deviceId]
  iintro ⟨#HC, HO, HWS12⟩ Hk
  iapply (wsend_in I c _ 12 (by omega) rfl (dev23_eq c) _ _ _ (off7_eq c) rfl rfl) $$ [HO HWS12]
  · isplitr; · iexact HC
    isplitl [HO]; · iexact HO
    iexact HWS12
  iintro ⟨HO, HWS13⟩
  iapply (wsend_out I c _ 13 (by omega) rfl (dev24_eq c) _ _ _ (off8_eq c) rfl rfl) $$ [HO HWS13]
  · isplitr; · iexact HC
    isplitl [HO]; · iexact HO
    iexact HWS13
  iintro ⟨HO, HWS14⟩
  iapply (wsend_in I c _ 14 (by omega) rfl (dev25_eq c) _ _ _ (off9_eq c) rfl rfl) $$ [HO HWS14]
  · isplitr; · iexact HC
    isplitl [HO]; · iexact HO
    iexact HWS14
  iintro ⟨HO, HWS15⟩
  rw [wp_ret]; imodintro
  iapply Hk $$ [HO HWS15]
  · isplitl [HO]; · iexact HO
    iexact HWS15

theorem part11 (c : Dev nD) (v19 : BitVec 32) (v273 : BitVec 32) {K : (FVec F S1x128x128 .bf16) → sProp 𝕄} :
    iprop(Ctx I ∗ Ow (F := F) c 25 ∗ WS I c 15 ∗ (((c : Thread nD τ).loc cc0_stg0_0) ↦{fullShare} (I.x c)) ∗ xqE (F := F) c (xs 0))
      ⊢ iprop((∀ (v345 : FVec F S1x128x128 .bf16), ⌜v345 = actC I 0 c⌝ -∗ (Ow (F := F) c 28 ∗ WS I c 18 ∗ (((c : Thread nD τ).loc cc0_stg0_0) ↦{fullShare} (I.x c)) ∗ xqE (F := F) c (xs 0)) -∗ K v345)
        -∗ wp frame (wpE (defs₀ (F := F)) 𝒱₀ (c : Thread nD τ) none) Set.univ (k0_part11 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v273) K) := by
  rw [k0_part11_eq_skeleton]; unfold k0_part11_skel
  simp only [semSignalWord, semWaitWord, Prog.lift, Prog.bind_op, Prog.bind_ret, Prog.pure_eq_ret, wp_deviceId]
  iintro ⟨#HC, HO, HWS15, HSTG0, HXE0⟩ Hk
  iapply (wsend_out I c _ 15 (by omega) rfl (dev26_eq c) _ _ _ (off10_eq c) rfl rfl) $$ [HO HWS15]
  · isplitr; · iexact HC
    isplitl [HO]; · iexact HO
    iexact HWS15
  iintro ⟨HO, HWS16⟩
  iapply (wsend_in I c _ 16 (by omega) rfl (dev27_eq c) _ _ _ (off11_eq c) rfl rfl) $$ [HO HWS16]
  · isplitr; · iexact HC
    isplitl [HO]; · iexact HO
    iexact HWS16
  iintro ⟨HO, HWS17⟩
  iapply (wsend_out I c _ 17 (by omega) rfl (dev28_eq c) _ _ _ (off12_eq c) rfl rfl) $$ [HO HWS17]
  · isplitr; · iexact HC
    isplitl [HO]; · iexact HO
    iexact HWS17
  iintro ⟨HO, HWS18⟩
  iapply (ld_0 c (I.x c) _) $$ [HSTG0]
  · iexact HSTG0
  iintro HSTG0
  iapply (dead_x0 c _) $$ [HXE0]
  · iexact HXE0
  iintro %v HXE0
  rw [wp_ret]; imodintro
  iapply Hk $$ %_ [] [HO HWS18 HSTG0 HXE0]
  · ipureintro; rfl
  · isplitl [HO]; · iexact HO
    isplitl [HWS18]; · iexact HWS18
    isplitl [HSTG0]; · iexact HSTG0
    iexact HXE0

end Cert.K
-- ==== Proof.Parts2.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part12 (c : Dev nD) (v19 : BitVec 32) (v20 : BitVec 32) (v345 : FVec F S1x128x128 .bf16) (hv345 : v345 = actC I 0 c) {K : (Σ' (v374 : BitVec 32), BitVec 32) → sProp 𝕄} :
    iprop(Ctx I ∗ Ow (F := F) c 28 ∗ xqE (F := F) c (xs 0) ∗ xqM (F := F) c ∗ poss (F := F) c 44 0 1 8 ∗ poss (F := F) c 52 0 1 8 ∗ poss (F := F) c 60 0 1 8 ∗ poss (F := F) c 68 0 1 8 ∗ bigSep (Finset.Ico 1 8) (fun r => iprop(∃ f, rsP (F := F) c (xs r) fullShare f)) ∗ ltoks (F := F) c 0)
      ⊢ iprop((∀ (v374 : BitVec 32) (c3_i32_281 : BitVec 32), (Ow (F := F) c 30 ∗ xqP c (xs 0) (sh 0) (xqC (actC I 0) c) ∗ xqP c (xs 0) (restSh 8) (xqC (actC I 0) c) ∗ Wt I c (fun r => 52 + r) 3 0 1 4 1 ∗ Wt I c (fun r => 52 + r) 3 0 4 8 4 ∗ Wt I c (fun r => 68 + r) 4 0 1 8 1 ∗ poss (F := F) c 44 0 1 8 ∗ poss (F := F) c 60 0 1 8 ∗ rsToks (F := F) c 0 1 4 ∗ rsToks (F := F) c 0 4 8 ∗ AG I c 0 3) -∗ K ⟨v374, c3_i32_281⟩)
        -∗ wp frame (wpE (defs₀ (F := F)) 𝒱₀ (c : Thread nD τ) none) Set.univ (k0_part12 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v345) K) := by
  rw [k0_part12_eq_skeleton]; unfold k0_part12_skel
  simp only [semSignalWord, semWaitWord, Prog.lift, Prog.bind_op, Prog.bind_ret, Prog.pure_eq_ret, wp_deviceId]
  iintro ⟨#HC, HO, HXE0, HXQM, HP44_0_1_8, HP52_0_1_8, HP60_0_1_8, HP68_0_1_8, HRSLOTS, HLTOK0⟩ Hk
  iapply (put_x0 c (actC I 0) _ (by subst hv345; rfl)) $$ [HXE0]
  · iexact HXE0
  iintro HX0F0
  ihave HLAY0 := (T_lay0 I c) $$ [HXQM HP44_0_1_8 HP52_0_1_8 HP60_0_1_8 HP68_0_1_8 HRSLOTS]
  · isplitr; · iexact HC
    isplitl [HXQM]; · iexact HXQM
    isplitl [HP44_0_1_8]; · iexact HP44_0_1_8
    isplitl [HP52_0_1_8]; · iexact HP52_0_1_8
    isplitl [HP60_0_1_8]; · iexact HP60_0_1_8
    isplitl [HP68_0_1_8]; · iexact HP68_0_1_8
    iexact HRSLOTS
  ihave ⟨HAG0_1, HX0S0, HX0R0, HWA0_1_1, HWA0_4_4, HWR0_1, HP44_0_1_8, HP60_0_1_8, HRT0_1, HRT0_4⟩ := (T_layer I c 0) $$ [HLAY0 HLTOK0 HX0F0]
  · isplitl [HLAY0]; · iexact HLAY0
    isplitl [HLTOK0]; · iexact HLTOK0
    iexact HX0F0
  iapply (agsend I c _ 0 1 (by omega) (by omega) (dev29_eq c) _ _ rfl rfl) $$ [HO HAG0_1]
  · isplitr; · iexact HC
    isplitl [HO]; · iexact HO
    iexact HAG0_1
  iintro ⟨HO, HAG0_2⟩
  iapply (agsend I c _ 0 2 (by omega) (by omega) (dev30_eq c) _ _ rfl rfl) $$ [HO HAG0_2]
  · isplitr; · iexact HC
    isplitl [HO]; · iexact HO
    iexact HAG0_2
  iintro ⟨HO, HAG0_3⟩
  rw [wp_ret]; imodintro
  iapply Hk $$ %_ %_ [HO HX0S0 HX0R0 HWA0_1_1 HWA0_4_4 HWR0_1 HP44_0_1_8 HP60_0_1_8 HRT0_1 HRT0_4 HAG0_3]
  · isplitl [HO]; · iexact HO
    isplitl [HX0S0]; · iexact HX0S0
    isplitl [HX0R0]; · iexact HX0R0
    isplitl [HWA0_1_1]; · iexact HWA0_1_1
    isplitl [HWA0_4_4]; · iexact HWA0_4_4
    isplitl [HWR0_1]; · iexact HWR0_1
    isplitl [HP44_0_1_8]; · iexact HP44_0_1_8
    isplitl [HP60_0_1_8]; · iexact HP60_0_1_8
    isplitl [HRT0_1]; · iexact HRT0_1
    isplitl [HRT0_4]; · iexact HRT0_4
    iexact HAG0_3

theorem part13 (c : Dev nD) (v19 : BitVec 32) (v20 : BitVec 32) (v374 : BitVec 32) (c3_i32_281 : BitVec 32) {K : (BitVec 32) → sProp 𝕄} :
    iprop(Ctx I ∗ Ow (F := F) c 30 ∗ AG I c 0 3)
      ⊢ iprop((∀ (v405 : BitVec 32), (Ow (F := F) c 32 ∗ AG I c 0 5) -∗ K v405)
        -∗ wp frame (wpE (defs₀ (F := F)) 𝒱₀ (c : Thread nD τ) none) Set.univ (k0_part13 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v374 c3_i32_281) K) := by
  rw [k0_part13_eq_skeleton]; unfold k0_part13_skel
  simp only [semSignalWord, semWaitWord, Prog.lift, Prog.bind_op, Prog.bind_ret, Prog.pure_eq_ret, wp_deviceId]
  iintro ⟨#HC, HO, HAG0_3⟩ Hk
  iapply (agsend I c _ 0 3 (by omega) (by omega) (dev31_eq c) _ _ rfl rfl) $$ [HO HAG0_3]
  · isplitr; · iexact HC
    isplitl [HO]; · iexact HO
    iexact HAG0_3
  iintro ⟨HO, HAG0_4⟩
  iapply (agsend I c _ 0 4 (by omega) (by omega) (dev32_eq c) _ _ rfl rfl) $$ [HO HAG0_4]
  · isplitr; · iexact HC
    isplitl [HO]; · iexact HO
    iexact HAG0_4
  iintro ⟨HO, HAG0_5⟩
  rw [wp_ret]; imodintro
  iapply Hk $$ %_ [HO HAG0_5]
  · isplitl [HO]; · iexact HO
    iexact HAG0_5

theorem part14 (c : Dev nD) (v19 : BitVec 32) (v20 : BitVec 32) (v405 : BitVec 32) {K : (BitVec 32) → sProp 𝕄} :
    iprop(Ctx I ∗ Ow (F := F) c 32 ∗ AG I c 0 5)
      ⊢ iprop((∀ (v433 : BitVec 32), (Ow (F := F) c 34 ∗ AG I c 0 7) -∗ K v433)
        -∗ wp frame (wpE (defs₀ (F := F)) 𝒱₀ (c : Thread nD τ) none) Set.univ (k0_part14 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v405) K) := by
  rw [k0_part14_eq_skeleton]; unfold k0_part14_skel
  simp only [semSignalWord, semWaitWord, Prog.lift, Prog.bind_op, Prog.bind_ret, Prog.pure_eq_ret, wp_deviceId]
  iintro ⟨#HC, HO, HAG0_5⟩ Hk
  iapply (agsend I c _ 0 5 (by omega) (by omega) (dev33_eq c) _ _ rfl rfl) $$ [HO HAG0_5]
  · isplitr; · iexact HC
    isplitl [HO]; · iexact HO
    iexact HAG0_5
  iintro ⟨HO, HAG0_6⟩
  iapply (agsend I c _ 0 6 (by omega) (by omega) (dev34_eq c) _ _ rfl rfl) $$ [HO HAG0_6]
  · isplitr; · iexact HC
    isplitl [HO]; · iexact HO
    iexact HAG0_6
  iintro ⟨HO, HAG0_7⟩
  rw [wp_ret]; imodintro
  iapply Hk $$ %_ [HO HAG0_7]
  · isplitl [HO]; · iexact HO
    iexact HAG0_7

theorem part15 (c : Dev nD) (v19 : BitVec 32) (v20 : BitVec 32) (v433 : BitVec 32) {K : PUnit → sProp 𝕄} :
    iprop(Ctx I ∗ Ow (F := F) c 34 ∗ AG I c 0 7 ∗ Wt I c (nW 0) 2 0 0 6 0)
      ⊢ iprop(((Ow (F := F) c 35 ∗ AG I c 0 8 ∗ Wt I c (nW 0) 2 0 0 6 1) -∗ K ⟨⟩)
        -∗ wp frame (wpE (defs₀ (F := F)) 𝒱₀ (c : Thread nD τ) none) Set.univ (k0_part15 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v433) K) := by
  rw [k0_part15_eq_skeleton]; unfold k0_part15_skel
  simp only [semSignalWord, semWaitWord, Prog.lift, Prog.bind_op, Prog.bind_ret, Prog.pure_eq_ret, wp_deviceId]
  iintro ⟨#HC, HO, HAG0_7, HWN0_0⟩ Hk
  iapply (agsend I c _ 0 7 (by omega) (by omega) (dev35_eq c) _ _ rfl rfl) $$ [HO HAG0_7]
  · isplitr; · iexact HC
    isplitl [HO]; · iexact HO
    iexact HAG0_7
  iintro ⟨HO, HAG0_8⟩
  iapply (wait_step I c (nW 0) 2 0 0 6 0 35 (by omega) (by decide) (by omega) (fun _ => by decide) rfl (amt11 _ _)) $$ [HO HWN0_0]
  · isplitr; · iexact HC
    isplitl [HO]; · iexact HO
    iexact HWN0_0
  iintro ⟨HO, HWN0_1⟩
  rw [wp_ret]; imodintro
  iapply Hk $$ [HO HAG0_8 HWN0_1]
  · isplitl [HO]; · iexact HO
    isplitl [HAG0_8]; · iexact HAG0_8
    iexact HWN0_1

theorem part16 (c : Dev nD) (v19 : BitVec 32) (v20 : BitVec 32) {K : (Σ' (v492 : BitVec 32), BitVec 32) → sProp 𝕄} :
    iprop(Ctx I ∗ Ow (F := F) c 35 ∗ Wt I c (nW 0) 2 0 0 6 1)
      ⊢ iprop((∀ (v492 : BitVec 32) (v494 : BitVec 32), (Ow (F := F) c 35 ∗ Wt I c (nW 0) 2 0 0 6 4) -∗ K ⟨v492, v494⟩)
        -∗ wp frame (wpE (defs₀ (F := F)) 𝒱₀ (c : Thread nD τ) none) Set.univ (k0_part16 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part16_eq_skeleton]; unfold k0_part16_skel
  simp only [semSignalWord, semWaitWord, Prog.lift, Prog.bind_op, Prog.bind_ret, Prog.pure_eq_ret, wp_deviceId]
  iintro ⟨#HC, HO, HWN0_1⟩ Hk
  iapply (wait_step I c (nW 0) 2 0 0 6 1 35 (by omega) (by decide) (by omega) (fun _ => by decide) rfl (amt12 _ _)) $$ [HO HWN0_1]
  · isplitr; · iexact HC
    isplitl [HO]; · iexact HO
    iexact HWN0_1
  iintro ⟨HO, HWN0_2⟩
  iapply (wait_step I c (nW 0) 2 0 0 6 2 35 (by omega) (by decide) (by omega) (fun _ => by decide) rfl (amt11 _ _)) $$ [HO HWN0_2]
  · isplitr; · iexact HC
    isplitl [HO]; · iexact HO
    iexact HWN0_2
  iintro ⟨HO, HWN0_3⟩
  iapply (wait_step I c (nW 0) 2 0 0 6 3 35 (by omega) (by decide) (by omega) (fun _ => by decide) rfl (amt12 _ _)) $$ [HO HWN0_3]
  · isplitr; · iexact HC
    isplitl [HO]; · iexact HO
    iexact HWN0_3
  iintro ⟨HO, HWN0_4⟩
  rw [wp_ret]; imodintro
  iapply Hk $$ %_ %_ [HO HWN0_4]
  · isplitl [HO]; · iexact HO
    iexact HWN0_4

theorem part17 (c : Dev nD) (v492 : BitVec 32) (v494 : BitVec 32) {K : (Σ' (v514 : FVec F S128x1024 .bf16) (v516 : FVec F S1024x128 .bf16) (v522 : FVec F S128x1024 .bf16), FVec F S128x128 .f32) → sProp 𝕄} :
    iprop(Ctx I ∗ Ow (F := F) c 35 ∗ Wt I c (nW 0) 2 0 0 6 4 ∗ ownW I c 0 (sh 0) ∗ xqP c (xs 0) (sh 0) (xqC (actC I 0) c))
      ⊢ iprop((∀ (v514 : FVec F S128x1024 .bf16) (v516 : FVec F S1024x128 .bf16) (v522 : FVec F S128x1024 .bf16) (cst_421 : FVec F S128x128 .f32), ⌜v514 = k0_pay9 (winL I 0 c)⌝ -∗ ⌜v516 = k0_pay10 (woutL I 0 c)⌝ -∗ ⌜v522 = k0_pay11 (winL I 0 c) (actC I 0 c)⌝ -∗ ⌜cst_421 = constant S128x128 .f32 0x00000000#32⌝ -∗ (Ow (F := F) c 35 ∗ wbag I c 0 ∗ wiP c (wl 0) (sh 0) (winC I c) ∗ woP c (wol 0) (sh 0) (woutC I c) ∗ xqP c (xs 0) (sh 0) (xqC (actC I 0) c)) -∗ K ⟨v514, v516, v522, cst_421⟩)
        -∗ wp frame (wpE (defs₀ (F := F)) 𝒱₀ (c : Thread nD τ) none) Set.univ (k0_part17 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v492 v494) K) := by
  rw [k0_part17_eq_skeleton]; unfold k0_part17_skel
  simp only [semSignalWord, semWaitWord, Prog.lift, Prog.bind_op, Prog.bind_ret, Prog.pure_eq_ret, wp_deviceId]
  iintro ⟨#HC, HO, HWN0_4, HOWN0, HX0S0⟩ Hk
  iapply (wait_step I c (nW 0) 2 0 0 6 4 35 (by omega) (by decide) (by omega) (fun _ => by decide) rfl (amt11 _ _)) $$ [HO HWN0_4]
  · isplitr; · iexact HC
    isplitl [HO]; · iexact HO
    iexact HWN0_4
  iintro ⟨HO, HWN0_5⟩
  iapply (wait_step I c (nW 0) 2 0 0 6 5 35 (by omega) (by decide) (by omega) (fun _ => by decide) rfl (amt12 _ _)) $$ [HO HWN0_5]
  · isplitr; · iexact HC
    isplitl [HO]; · iexact HO
    iexact HWN0_5
  iintro ⟨HO, HWN0_6⟩
  ihave ⟨HWIN0, HWON0, HWBAG0⟩ := (T_Wl I c 0 (by omega)) $$ [HWN0_6 HOWN0]
  · isplitl [HWN0_6]; · iexact HWN0_6
    iexact HOWN0
  iapply (get_in I c 0 (by omega) (sh 0) _) $$ [HWIN0]
  · iexact HWIN0
  iintro HWIN0
  iapply (get_out I c 0 (by omega) (sh 0) _) $$ [HWON0]
  · iexact HWON0
  iintro HWON0
  iapply (get_x0 c (actC I 0) (sh 0) _) $$ [HX0S0]
  · iexact HX0S0
  iintro HX0S0
  rw [wp_ret]; imodintro
  iapply Hk $$ %_ %_ %_ %_ [] [] [] [] [HO HWBAG0 HWIN0 HWON0 HX0S0]
  · ipureintro; rfl
  · ipureintro; rfl
  · ipureintro; rfl
  · ipureintro; rfl
  · isplitl [HO]; · iexact HO
    isplitl [HWBAG0]; · iexact HWBAG0
    isplitl [HWIN0]; · iexact HWIN0
    isplitl [HWON0]; · iexact HWON0
    iexact HX0S0

theorem part18 (c : Dev nD) (v20 : BitVec 32) (v516 : FVec F S1024x128 .bf16) (v522 : FVec F S128x1024 .bf16) (cst_421 : FVec F S128x128 .f32) (hv516 : v516 = k0_pay10 (woutL I 0 c)) (hv522 : v522 = k0_pay11 (winL I 0 c) (actC I 0 c)) (hcst_421 : cst_421 = constant S128x128 .f32 0x00000000#32) {K : (FVec F S128x128 .f32) → sProp 𝕄} :
    iprop(Ctx I ∗ Ow (F := F) c 35 ∗ Wt I c (fun r => 52 + r) 3 0 1 4 1)
      ⊢ iprop((∀ (v523 : FVec F S128x128 .f32), ⌜v523 = ownP I 0 (actC I 0) c⌝ -∗ (Ow (F := F) c 35 ∗ Wt I c (fun r => 52 + r) 3 0 1 4 4) -∗ K v523)
        -∗ wp frame (wpE (defs₀ (F := F)) 𝒱₀ (c : Thread nD τ) none) Set.univ (k0_part18 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20 v516 v522 cst_421) K) := by
  rw [k0_part18_eq_skeleton]; unfold k0_part18_skel
  simp only [semSignalWord, semWaitWord, Prog.lift, Prog.bind_op, Prog.bind_ret, Prog.pure_eq_ret, wp_deviceId]
  iintro ⟨#HC, HO, HWA0_1_1⟩ Hk
  iapply (wait_step I c (fun r => 52 + r) 3 0 1 4 1 35 (by omega) (by decide) (by omega) (fun _ => by decide) rfl (amt8 _ _)) $$ [HO HWA0_1_1]
  · isplitr; · iexact HC
    isplitl [HO]; · iexact HO
    iexact HWA0_1_1
  iintro ⟨HO, HWA0_1_2⟩
  iapply (wait_step I c (fun r => 52 + r) 3 0 1 4 2 35 (by omega) (by decide) (by omega) (fun _ => by decide) rfl (amt8 _ _)) $$ [HO HWA0_1_2]
  · isplitr; · iexact HC
    isplitl [HO]; · iexact HO
    iexact HWA0_1_2
  iintro ⟨HO, HWA0_1_3⟩
  iapply (wait_step I c (fun r => 52 + r) 3 0 1 4 3 35 (by omega) (by decide) (by omega) (fun _ => by decide) rfl (amt8 _ _)) $$ [HO HWA0_1_3]
  · isplitr; · iexact HC
    isplitl [HO]; · iexact HO
    iexact HWA0_1_3
  iintro ⟨HO, HWA0_1_4⟩
  subst hv516
  subst hv522
  subst hcst_421
  rw [wp_ret]; imodintro
  iapply Hk $$ %_ [] [HO HWA0_1_4]
  · ipureintro; rfl
  · isplitl [HO]; · iexact HO
    iexact HWA0_1_4

theorem part19 (c : Dev nD) (v19 : BitVec 32) (v20 : BitVec 32) (v514 : FVec F S128x1024 .bf16) (v516 : FVec F S1024x128 .bf16) (hv514 : v514 = k0_pay9 (winL I 0 c)) (hv516 : v516 = k0_pay10 (woutL I 0 c)) {K : (BitVec 32) → sProp 𝕄} :
    iprop(Ctx I ∗ Ow (F := F) c 35 ∗ Wt I c (fun r => 52 + r) 3 0 1 4 4 ∗ ptE (F := F) c (xr 1 4) ∗ rsToks (F := F) c 0 1 4)
      ⊢ iprop((∀ (v579 : BitVec 32), (Ow (F := F) c 36 ∗ poss (F := F) c 52 1 1 4 ∗ RS I c 0 1 4 2) -∗ K v579)
        -∗ wp frame (wpE (defs₀ (F := F)) 𝒱₀ (c : Thread nD τ) none) Set.univ (k0_part19 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v514 v516) K) := by
  rw [k0_part19_eq_skeleton]; unfold k0_part19_skel
  simp only [semSignalWord, semWaitWord, Prog.lift, Prog.bind_op, Prog.bind_ret, Prog.pure_eq_ret, wp_deviceId]
  iintro ⟨#HC, HO, HWA0_1_4, HPTE1, HRT0_1⟩ Hk
  ihave ⟨HXR0_1, HAGL0_1⟩ := (T_A I c 3 0 1 4 (by omega)) $$ [HWA0_1_4]
  · iexact HWA0_1_4
  iapply (get_xA c _ _) $$ [HXR0_1]
  · iexact HXR0_1
  iintro HXR0_1
  iapply (dead_pA c _) $$ [HPTE1]
  · iexact HPTE1
  iintro %v HPTE1
  iapply (put_pA I c 0 (actC I 0) _ (by subst hv514; subst hv516; rfl)) $$ [HPTE1]
  · iexact HPTE1
  iintro HPTF0_1
  ihave ⟨HRS0_1_1, HP52_1_1_4⟩ := (T_B' I c 0 1 4 (by omega)) $$ [HPTF0_1 HXR0_1 HAGL0_1 HRT0_1]
  · isplitl [HPTF0_1]; · iexact HPTF0_1
    isplitl [HXR0_1]; · iexact HXR0_1
    isplitl [HAGL0_1]; · iexact HAGL0_1
    iexact HRT0_1
  iapply (rssend I c _ 0 1 1 4 (by omega) (by omega) (by omega) (dev36_eq c) _ _ rfl rfl) $$ [HO HRS0_1_1]
  · isplitr; · iexact HC
    isplitl [HO]; · iexact HO
    iexact HRS0_1_1
  iintro ⟨HO, HRS0_1_2⟩
  rw [wp_ret]; imodintro
  iapply Hk $$ %_ [HO HP52_1_1_4 HRS0_1_2]
  · isplitl [HO]; · iexact HO
    isplitl [HP52_1_1_4]; · iexact HP52_1_1_4
    iexact HRS0_1_2

theorem part20 (c : Dev nD) (v19 : BitVec 32) (v20 : BitVec 32) (v579 : BitVec 32) {K : PUnit → sProp 𝕄} :
    iprop(Ctx I ∗ Ow (F := F) c 36 ∗ RS I c 0 1 4 2)
      ⊢ iprop(((Ow (F := F) c 38 ∗ RS I c 0 1 4 4) -∗ K ⟨⟩)
        -∗ wp frame (wpE (defs₀ (F := F)) 𝒱₀ (c : Thread nD τ) none) Set.univ (k0_part20 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v579) K) := by
  rw [k0_part20_eq_skeleton]; unfold k0_part20_skel
  simp only [semSignalWord, semWaitWord, Prog.lift, Prog.bind_op, Prog.bind_ret, Prog.pure_eq_ret, wp_deviceId]
  iintro ⟨#HC, HO, HRS0_1_2⟩ Hk
  iapply (rssend I c _ 0 2 1 4 (by omega) (by omega) (by omega) (dev37_eq c) _ _ rfl rfl) $$ [HO HRS0_1_2]
  · isplitr; · iexact HC
    isplitl [HO]; · iexact HO
    iexact HRS0_1_2
  iintro ⟨HO, HRS0_1_3⟩
  iapply (rssend I c _ 0 3 1 4 (by omega) (by omega) (by omega) (dev38_eq c) _ _ rfl rfl) $$ [HO HRS0_1_3]
  · isplitr; · iexact HC
    isplitl [HO]; · iexact HO
    iexact HRS0_1_3
  iintro ⟨HO, HRS0_1_4⟩
  rw [wp_ret]; imodintro
  iapply Hk $$ [HO HRS0_1_4]
  · isplitl [HO]; · iexact HO
    iexact HRS0_1_4

theorem part21 (c : Dev nD) (v20 : BitVec 32) {K : PUnit → sProp 𝕄} :
    iprop(Ctx I ∗ Ow (F := F) c 38 ∗ Wt I c (fun r => 52 + r) 3 0 4 8 4)
      ⊢ iprop(((Ow (F := F) c 38 ∗ Wt I c (fun r => 52 + r) 3 0 4 8 7) -∗ K ⟨⟩)
        -∗ wp frame (wpE (defs₀ (F := F)) 𝒱₀ (c : Thread nD τ) none) Set.univ (k0_part21 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part21_eq_skeleton]; unfold k0_part21_skel
  simp only [semSignalWord, semWaitWord, Prog.lift, Prog.bind_op, Prog.bind_ret, Prog.pure_eq_ret, wp_deviceId]
  iintro ⟨#HC, HO, HWA0_4_4⟩ Hk
  iapply (wait_step I c (fun r => 52 + r) 3 0 4 8 4 38 (by omega) (by decide) (by omega) (fun _ => by decide) rfl (amt8 _ _)) $$ [HO HWA0_4_4]
  · isplitr; · iexact HC
    isplitl [HO]; · iexact HO
    iexact HWA0_4_4
  iintro ⟨HO, HWA0_4_5⟩
  iapply (wait_step I c (fun r => 52 + r) 3 0 4 8 5 38 (by omega) (by decide) (by omega) (fun _ => by decide) rfl (amt8 _ _)) $$ [HO HWA0_4_5]
  · isplitr; · iexact HC
    isplitl [HO]; · iexact HO
    iexact HWA0_4_5
  iintro ⟨HO, HWA0_4_6⟩
  iapply (wait_step I c (fun r => 52 + r) 3 0 4 8 6 38 (by omega) (by decide) (by omega) (fun _ => by decide) rfl (amt8 _ _)) $$ [HO HWA0_4_6]
  · isplitr; · iexact HC
    isplitl [HO]; · iexact HO
    iexact HWA0_4_6
  iintro ⟨HO, HWA0_4_7⟩
  rw [wp_ret]; imodintro
  iapply Hk $$ [HO HWA0_4_7]
  · isplitl [HO]; · iexact HO
    iexact HWA0_4_7

end Cert.K
-- ==== Proof.Parts3.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part22 (c : Dev nD) (v19 : BitVec 32) (v20 : BitVec 32) (v514 : FVec F S128x1024 .bf16) (v516 : FVec F S1024x128 .bf16) (hv514 : v514 = k0_pay9 (winL I 0 c)) (hv516 : v516 = k0_pay10 (woutL I 0 c)) {K : (BitVec 32) → sProp 𝕄} :
    iprop(Ctx I ∗ Ow (F := F) c 38 ∗ Wt I c (fun r => 52 + r) 3 0 4 8 7 ∗ ptE (F := F) c (xr 4 8) ∗ rsToks (F := F) c 0 4 8)
      ⊢ iprop((∀ (v664 : BitVec 32), (Ow (F := F) c 39 ∗ poss (F := F) c 52 1 4 8 ∗ RS I c 0 4 8 5) -∗ K v664)
        -∗ wp frame (wpE (defs₀ (F := F)) 𝒱₀ (c : Thread nD τ) none) Set.univ (k0_part22 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v514 v516) K) := by
  rw [k0_part22_eq_skeleton]; unfold k0_part22_skel
  simp only [semSignalWord, semWaitWord, Prog.lift, Prog.bind_op, Prog.bind_ret, Prog.pure_eq_ret, wp_deviceId]
  iintro ⟨#HC, HO, HWA0_4_7, HPTE4, HRT0_4⟩ Hk
  iapply (wait_step I c (fun r => 52 + r) 3 0 4 8 7 38 (by omega) (by decide) (by omega) (fun _ => by decide) rfl (amt8 _ _)) $$ [HO HWA0_4_7]
  · isplitr; · iexact HC
    isplitl [HO]; · iexact HO
    iexact HWA0_4_7
  iintro ⟨HO, HWA0_4_8⟩
  ihave ⟨HXR0_4, HAGL0_4⟩ := (T_A I c 3 0 4 8 (by omega)) $$ [HWA0_4_8]
  · iexact HWA0_4_8
  iapply (get_xB c _ _) $$ [HXR0_4]
  · iexact HXR0_4
  iintro HXR0_4
  iapply (dead_pB c _) $$ [HPTE4]
  · iexact HPTE4
  iintro %v HPTE4
  iapply (put_pB I c 0 (actC I 0) _ (by subst hv514; subst hv516; rfl)) $$ [HPTE4]
  · iexact HPTE4
  iintro HPTF0_4
  ihave ⟨HRS0_4_4, HP52_1_4_8⟩ := (T_B' I c 0 4 8 (by omega)) $$ [HPTF0_4 HXR0_4 HAGL0_4 HRT0_4]
  · isplitl [HPTF0_4]; · iexact HPTF0_4
    isplitl [HXR0_4]; · iexact HXR0_4
    isplitl [HAGL0_4]; · iexact HAGL0_4
    iexact HRT0_4
  iapply (rssend I c _ 0 4 4 8 (by omega) (by omega) (by omega) (dev39_eq c) _ _ rfl rfl) $$ [HO HRS0_4_4]
  · isplitr; · iexact HC
    isplitl [HO]; · iexact HO
    iexact HRS0_4_4
  iintro ⟨HO, HRS0_4_5⟩
  rw [wp_ret]; imodintro
  iapply Hk $$ %_ [HO HP52_1_4_8 HRS0_4_5]
  · isplitl [HO]; · iexact HO
    isplitl [HP52_1_4_8]; · iexact HP52_1_4_8
    iexact HRS0_4_5

theorem part23 (c : Dev nD) (v19 : BitVec 32) (v20 : BitVec 32) (v664 : BitVec 32) {K : (BitVec 32) → sProp 𝕄} :
    iprop(Ctx I ∗ Ow (F := F) c 39 ∗ RS I c 0 4 8 5)
      ⊢ iprop((∀ (v694 : BitVec 32), (Ow (F := F) c 41 ∗ RS I c 0 4 8 7) -∗ K v694)
        -∗ wp frame (wpE (defs₀ (F := F)) 𝒱₀ (c : Thread nD τ) none) Set.univ (k0_part23 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v664) K) := by
  rw [k0_part23_eq_skeleton]; unfold k0_part23_skel
  simp only [semSignalWord, semWaitWord, Prog.lift, Prog.bind_op, Prog.bind_ret, Prog.pure_eq_ret, wp_deviceId]
  iintro ⟨#HC, HO, HRS0_4_5⟩ Hk
  iapply (rssend I c _ 0 5 4 8 (by omega) (by omega) (by omega) (dev40_eq c) _ _ rfl rfl) $$ [HO HRS0_4_5]
  · isplitr; · iexact HC
    isplitl [HO]; · iexact HO
    iexact HRS0_4_5
  iintro ⟨HO, HRS0_4_6⟩
  iapply (rssend I c _ 0 6 4 8 (by omega) (by omega) (by omega) (dev41_eq c) _ _ rfl rfl) $$ [HO HRS0_4_6]
  · isplitr; · iexact HC
    isplitl [HO]; · iexact HO
    iexact HRS0_4_6
  iintro ⟨HO, HRS0_4_7⟩
  rw [wp_ret]; imodintro
  iapply Hk $$ %_ [HO HRS0_4_7]
  · isplitl [HO]; · iexact HO
    iexact HRS0_4_7

theorem part24 (c : Dev nD) (v20 : BitVec 32) (v694 : BitVec 32) {K : PUnit → sProp 𝕄} :
    iprop(Ctx I ∗ Ow (F := F) c 41 ∗ RS I c 0 4 8 7 ∗ Wt I c (fun r => 68 + r) 4 0 1 8 1)
      ⊢ iprop(((Ow (F := F) c 42 ∗ RS I c 0 4 8 8 ∗ Wt I c (fun r => 68 + r) 4 0 1 8 2) -∗ K ⟨⟩)
        -∗ wp frame (wpE (defs₀ (F := F)) 𝒱₀ (c : Thread nD τ) none) Set.univ (k0_part24 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v20 v694) K) := by
  rw [k0_part24_eq_skeleton]; unfold k0_part24_skel
  simp only [semSignalWord, semWaitWord, Prog.lift, Prog.bind_op, Prog.bind_ret, Prog.pure_eq_ret, wp_deviceId]
  iintro ⟨#HC, HO, HRS0_4_7, HWR0_1⟩ Hk
  iapply (rssend I c _ 0 7 4 8 (by omega) (by omega) (by omega) (dev42_eq c) _ _ rfl rfl) $$ [HO HRS0_4_7]
  · isplitr; · iexact HC
    isplitl [HO]; · iexact HO
    iexact HRS0_4_7
  iintro ⟨HO, HRS0_4_8⟩
  iapply (wait_step I c (fun r => 68 + r) 4 0 1 8 1 42 (by omega) (by decide) (by omega) (fun _ => by decide) rfl (amt10 _ _)) $$ [HO HWR0_1]
  · isplitr; · iexact HC
    isplitl [HO]; · iexact HO
    iexact HWR0_1
  iintro ⟨HO, HWR0_2⟩
  rw [wp_ret]; imodintro
  iapply Hk $$ [HO HRS0_4_8 HWR0_2]
  · isplitl [HO]; · iexact HO
    isplitl [HRS0_4_8]; · iexact HRS0_4_8
    iexact HWR0_2

theorem part25 (c : Dev nD) (v20 : BitVec 32) {K : PUnit → sProp 𝕄} :
    iprop(Ctx I ∗ Ow (F := F) c 42 ∗ Wt I c (fun r => 68 + r) 4 0 1 8 2)
      ⊢ iprop(((Ow (F := F) c 42 ∗ Wt I c (fun r => 68 + r) 4 0 1 8 5) -∗ K ⟨⟩)
        -∗ wp frame (wpE (defs₀ (F := F)) 𝒱₀ (c : Thread nD τ) none) Set.univ (k0_part25 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part25_eq_skeleton]; unfold k0_part25_skel
  simp only [semSignalWord, semWaitWord, Prog.lift, Prog.bind_op, Prog.bind_ret, Prog.pure_eq_ret, wp_deviceId]
  iintro ⟨#HC, HO, HWR0_2⟩ Hk
  iapply (wait_step I c (fun r => 68 + r) 4 0 1 8 2 42 (by omega) (by decide) (by omega) (fun _ => by decide) rfl (amt10 _ _)) $$ [HO HWR0_2]
  · isplitr; · iexact HC
    isplitl [HO]; · iexact HO
    iexact HWR0_2
  iintro ⟨HO, HWR0_3⟩
  iapply (wait_step I c (fun r => 68 + r) 4 0 1 8 3 42 (by omega) (by decide) (by omega) (fun _ => by decide) rfl (amt10 _ _)) $$ [HO HWR0_3]
  · isplitr; · iexact HC
    isplitl [HO]; · iexact HO
    iexact HWR0_3
  iintro ⟨HO, HWR0_4⟩
  iapply (wait_step I c (fun r => 68 + r) 4 0 1 8 4 42 (by omega) (by decide) (by omega) (fun _ => by decide) rfl (amt10 _ _)) $$ [HO HWR0_4]
  · isplitr; · iexact HC
    isplitl [HO]; · iexact HO
    iexact HWR0_4
  iintro ⟨HO, HWR0_5⟩
  rw [wp_ret]; imodintro
  iapply Hk $$ [HO HWR0_5]
  · isplitl [HO]; · iexact HO
    iexact HWR0_5

theorem part26 (c : Dev nD) (v20 : BitVec 32) (v523 : FVec F S128x128 .f32) (hv523 : v523 = ownP I 0 (actC I 0) c) {K : (FVec F S128x128 .f32) → sProp 𝕄} :
    iprop(Ctx I ∗ Ow (F := F) c 42 ∗ Wt I c (fun r => 68 + r) 4 0 1 8 5)
      ⊢ iprop((∀ (v768 : FVec F S128x128 .f32), ⌜v768 = accC I 0 (actC I 0) c⌝ -∗ (Ow (F := F) c 42 ∗ rsL (F := F) c 0 ∗ rsP c (xr 1 8) fullShare (rsC I 0 (actC I 0) c)) -∗ K v768)
        -∗ wp frame (wpE (defs₀ (F := F)) 𝒱₀ (c : Thread nD τ) none) Set.univ (k0_part26 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20 v523) K) := by
  rw [k0_part26_eq_skeleton]; unfold k0_part26_skel
  simp only [semSignalWord, semWaitWord, Prog.lift, Prog.bind_op, Prog.bind_ret, Prog.pure_eq_ret, wp_deviceId]
  iintro ⟨#HC, HO, HWR0_5⟩ Hk
  iapply (wait_step I c (fun r => 68 + r) 4 0 1 8 5 42 (by omega) (by decide) (by omega) (fun _ => by decide) rfl (amt10 _ _)) $$ [HO HWR0_5]
  · isplitr; · iexact HC
    isplitl [HO]; · iexact HO
    iexact HWR0_5
  iintro ⟨HO, HWR0_6⟩
  iapply (wait_step I c (fun r => 68 + r) 4 0 1 8 6 42 (by omega) (by decide) (by omega) (fun _ => by decide) rfl (amt10 _ _)) $$ [HO HWR0_6]
  · isplitr; · iexact HC
    isplitl [HO]; · iexact HO
    iexact HWR0_6
  iintro ⟨HO, HWR0_7⟩
  iapply (wait_step I c (fun r => 68 + r) 4 0 1 8 7 42 (by omega) (by decide) (by omega) (fun _ => by decide) rfl (amt10 _ _)) $$ [HO HWR0_7]
  · isplitr; · iexact HC
    isplitl [HO]; · iexact HO
    iexact HWR0_7
  iintro ⟨HO, HWR0_8⟩
  ihave ⟨HRSP0, HRSL0⟩ := (T_rs I c 4 0) $$ [HWR0_8]
  · iexact HWR0_8
  iapply (get_r c _ _) $$ [HRSP0]
  · iexact HRSP0
  iintro HRSP0
  subst hv523
  rw [wp_ret]; imodintro
  iapply Hk $$ %_ [] [HO HRSL0 HRSP0]
  · ipureintro; rfl
  · isplitl [HO]; · iexact HO
    isplitl [HRSL0]; · iexact HRSL0
    iexact HRSP0

theorem part27 (c : Dev nD) {K : PUnit → sProp 𝕄} :
    iprop(Ctx I ∗ Ow (F := F) c 42 ∗ AG I c 0 8 ∗ poss (F := F) c 44 0 1 8)
      ⊢ iprop(((Ow (F := F) c 42 ∗ Wt I c (fun r => 44 + r) 0 0 1 8 5) -∗ K ⟨⟩)
        -∗ wp frame (wpE (defs₀ (F := F)) 𝒱₀ (c : Thread nD τ) none) Set.univ (k0_part27 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part27_eq_skeleton]; unfold k0_part27_skel
  simp only [semSignalWord, semWaitWord, Prog.lift, Prog.bind_op, Prog.bind_ret, Prog.pure_eq_ret, wp_deviceId]
  iintro ⟨#HC, HO, HAG0_8, HP44_0_1_8⟩ Hk
  ihave HWGS0_1 := (T_ags I c 0) $$ [HAG0_8 HP44_0_1_8]
  · isplitl [HAG0_8]; · iexact HAG0_8
    iexact HP44_0_1_8
  iapply (wait_step I c (fun r => 44 + r) 0 0 1 8 1 42 (by omega) (by decide) (by omega) (fun _ => by decide) rfl (amt8 _ _)) $$ [HO HWGS0_1]
  · isplitr; · iexact HC
    isplitl [HO]; · iexact HO
    iexact HWGS0_1
  iintro ⟨HO, HWGS0_2⟩
  iapply (wait_step I c (fun r => 44 + r) 0 0 1 8 2 42 (by omega) (by decide) (by omega) (fun _ => by decide) rfl (amt8 _ _)) $$ [HO HWGS0_2]
  · isplitr; · iexact HC
    isplitl [HO]; · iexact HO
    iexact HWGS0_2
  iintro ⟨HO, HWGS0_3⟩
  iapply (wait_step I c (fun r => 44 + r) 0 0 1 8 3 42 (by omega) (by decide) (by omega) (fun _ => by decide) rfl (amt8 _ _)) $$ [HO HWGS0_3]
  · isplitr; · iexact HC
    isplitl [HO]; · iexact HO
    iexact HWGS0_3
  iintro ⟨HO, HWGS0_4⟩
  iapply (wait_step I c (fun r => 44 + r) 0 0 1 8 4 42 (by omega) (by decide) (by omega) (fun _ => by decide) rfl (amt8 _ _)) $$ [HO HWGS0_4]
  · isplitr; · iexact HC
    isplitl [HO]; · iexact HO
    iexact HWGS0_4
  iintro ⟨HO, HWGS0_5⟩
  rw [wp_ret]; imodintro
  iapply Hk $$ [HO HWGS0_5]
  · isplitl [HO]; · iexact HO
    iexact HWGS0_5

theorem part28 (c : Dev nD) {K : PUnit → sProp 𝕄} :
    iprop(Ctx I ∗ Ow (F := F) c 42 ∗ Wt I c (fun r => 44 + r) 0 0 1 8 5 ∗ RS I c 0 1 4 4 ∗ RS I c 0 4 8 8 ∗ poss (F := F) c 60 0 1 8)
      ⊢ iprop(((Ow (F := F) c 42 ∗ Wt I c (fun r => 44 + r) 0 0 1 8 8 ∗ Wt I c (fun r => 60 + r) 0 0 1 8 2) -∗ K ⟨⟩)
        -∗ wp frame (wpE (defs₀ (F := F)) 𝒱₀ (c : Thread nD τ) none) Set.univ (k0_part28 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part28_eq_skeleton]; unfold k0_part28_skel
  simp only [semSignalWord, semWaitWord, Prog.lift, Prog.bind_op, Prog.bind_ret, Prog.pure_eq_ret, wp_deviceId]
  iintro ⟨#HC, HO, HWGS0_5, HRS0_1_4, HRS0_4_8, HP60_0_1_8⟩ Hk
  iapply (wait_step I c (fun r => 44 + r) 0 0 1 8 5 42 (by omega) (by decide) (by omega) (fun _ => by decide) rfl (amt8 _ _)) $$ [HO HWGS0_5]
  · isplitr; · iexact HC
    isplitl [HO]; · iexact HO
    iexact HWGS0_5
  iintro ⟨HO, HWGS0_6⟩
  iapply (wait_step I c (fun r => 44 + r) 0 0 1 8 6 42 (by omega) (by decide) (by omega) (fun _ => by decide) rfl (amt8 _ _)) $$ [HO HWGS0_6]
  · isplitr; · iexact HC
    isplitl [HO]; · iexact HO
    iexact HWGS0_6
  iintro ⟨HO, HWGS0_7⟩
  iapply (wait_step I c (fun r => 44 + r) 0 0 1 8 7 42 (by omega) (by decide) (by omega) (fun _ => by decide) rfl (amt8 _ _)) $$ [HO HWGS0_7]
  · isplitr; · iexact HC
    isplitl [HO]; · iexact HO
    iexact HWGS0_7
  iintro ⟨HO, HWGS0_8⟩
  ihave HWRS0_1 := (T_rss I c 0) $$ [HRS0_1_4 HRS0_4_8 HP60_0_1_8]
  · isplitl [HRS0_1_4]; · iexact HRS0_1_4
    isplitl [HRS0_4_8]; · iexact HRS0_4_8
    iexact HP60_0_1_8
  iapply (wait_step I c (fun r => 60 + r) 0 0 1 8 1 42 (by omega) (by decide) (by omega) (fun _ => by decide) rfl (amt9 _ _)) $$ [HO HWRS0_1]
  · isplitr; · iexact HC
    isplitl [HO]; · iexact HO
    iexact HWRS0_1
  iintro ⟨HO, HWRS0_2⟩
  rw [wp_ret]; imodintro
  iapply Hk $$ [HO HWGS0_8 HWRS0_2]
  · isplitl [HO]; · iexact HO
    isplitl [HWGS0_8]; · iexact HWGS0_8
    iexact HWRS0_2

theorem part29 (c : Dev nD) {K : PUnit → sProp 𝕄} :
    iprop(Ctx I ∗ Ow (F := F) c 42 ∗ Wt I c (fun r => 60 + r) 0 0 1 8 2)
      ⊢ iprop(((Ow (F := F) c 42 ∗ Wt I c (fun r => 60 + r) 0 0 1 8 5) -∗ K ⟨⟩)
        -∗ wp frame (wpE (defs₀ (F := F)) 𝒱₀ (c : Thread nD τ) none) Set.univ (k0_part29 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part29_eq_skeleton]; unfold k0_part29_skel
  simp only [semSignalWord, semWaitWord, Prog.lift, Prog.bind_op, Prog.bind_ret, Prog.pure_eq_ret, wp_deviceId]
  iintro ⟨#HC, HO, HWRS0_2⟩ Hk
  iapply (wait_step I c (fun r => 60 + r) 0 0 1 8 2 42 (by omega) (by decide) (by omega) (fun _ => by decide) rfl (amt9 _ _)) $$ [HO HWRS0_2]
  · isplitr; · iexact HC
    isplitl [HO]; · iexact HO
    iexact HWRS0_2
  iintro ⟨HO, HWRS0_3⟩
  iapply (wait_step I c (fun r => 60 + r) 0 0 1 8 3 42 (by omega) (by decide) (by omega) (fun _ => by decide) rfl (amt9 _ _)) $$ [HO HWRS0_3]
  · isplitr; · iexact HC
    isplitl [HO]; · iexact HO
    iexact HWRS0_3
  iintro ⟨HO, HWRS0_4⟩
  iapply (wait_step I c (fun r => 60 + r) 0 0 1 8 4 42 (by omega) (by decide) (by omega) (fun _ => by decide) rfl (amt9 _ _)) $$ [HO HWRS0_4]
  · isplitr; · iexact HC
    isplitl [HO]; · iexact HO
    iexact HWRS0_4
  iintro ⟨HO, HWRS0_5⟩
  rw [wp_ret]; imodintro
  iapply Hk $$ [HO HWRS0_5]
  · isplitl [HO]; · iexact HO
    iexact HWRS0_5

theorem part30 (c : Dev nD) (v19 : BitVec 32) (v20 : BitVec 32) (v768 : FVec F S128x128 .f32) (hv768 : v768 = accC I 0 (actC I 0) c) {K : PUnit → sProp 𝕄} :
    iprop(Ctx I ∗ Ow (F := F) c 42 ∗ Wt I c (fun r => 60 + r) 0 0 1 8 5 ∗ rsP c (xr 1 8) fullShare (rsC I 0 (actC I 0) c) ∗ rsL (F := F) c 0 ∗ poss (F := F) c 52 1 1 4 ∗ poss (F := F) c 52 1 4 8 ∗ Wt I c (fun r => 44 + r) 0 0 1 8 8 ∗ xqP c (xs 0) (sh 0) (xqC (actC I 0) c) ∗ xqP c (xs 0) (restSh 8) (xqC (actC I 0) c))
      ⊢ iprop(((Ow (F := F) c 42 ∗ lay (F := F) c 1 ∗ ptE (F := F) c (xr 1 4) ∗ ptE (F := F) c (xr 4 8) ∗ xqP c (xs 0) fullShare (xqC (actC I 1) c)) -∗ K ⟨⟩)
        -∗ wp frame (wpE (defs₀ (F := F)) 𝒱₀ (c : Thread nD τ) none) Set.univ (k0_part30 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v19 v20 v768) K) := by
  rw [k0_part30_eq_skeleton]; unfold k0_part30_skel
  simp only [semSignalWord, semWaitWord, Prog.lift, Prog.bind_op, Prog.bind_ret, Prog.pure_eq_ret, wp_deviceId]
  iintro ⟨#HC, HO, HWRS0_5, HRSP0, HRSL0, HP52_1_1_4, HP52_1_4_8, HWGS0_8, HX0S0, HX0R0⟩ Hk
  iapply (wait_step I c (fun r => 60 + r) 0 0 1 8 5 42 (by omega) (by decide) (by omega) (fun _ => by decide) rfl (amt9 _ _)) $$ [HO HWRS0_5]
  · isplitr; · iexact HC
    isplitl [HO]; · iexact HO
    iexact HWRS0_5
  iintro ⟨HO, HWRS0_6⟩
  iapply (wait_step I c (fun r => 60 + r) 0 0 1 8 6 42 (by omega) (by decide) (by omega) (fun _ => by decide) rfl (amt9 _ _)) $$ [HO HWRS0_6]
  · isplitr; · iexact HC
    isplitl [HO]; · iexact HO
    iexact HWRS0_6
  iintro ⟨HO, HWRS0_7⟩
  iapply (wait_step I c (fun r => 60 + r) 0 0 1 8 7 42 (by omega) (by decide) (by omega) (fun _ => by decide) rfl (amt9 _ _)) $$ [HO HWRS0_7]
  · isplitr; · iexact HC
    isplitl [HO]; · iexact HO
    iexact HWRS0_7
  iintro ⟨HO, HWRS0_8⟩
  ihave ⟨HXE0, HLAY1, HPTE1, HPTE4⟩ := (T_end' I c 0) $$ [HRSP0 HRSL0 HP52_1_1_4 HP52_1_4_8 HWGS0_8 HWRS0_8 HX0S0 HX0R0]
  · isplitl [HRSP0]; · iexact HRSP0
    isplitl [HRSL0]; · iexact HRSL0
    isplitl [HP52_1_1_4]; · iexact HP52_1_1_4
    isplitl [HP52_1_4_8]; · iexact HP52_1_4_8
    isplitl [HWGS0_8]; · iexact HWGS0_8
    isplitl [HWRS0_8]; · iexact HWRS0_8
    isplitl [HX0S0]; · iexact HX0S0
    iexact HX0R0
  iapply (dead_x0 c _) $$ [HXE0]
  · iexact HXE0
  iintro %v HXE0
  iapply (put_x0 c (actC I 1) _ (by subst hv768; rfl)) $$ [HXE0]
  · iexact HXE0
  iintro HX0F1
  rw [wp_ret]; imodintro
  iapply Hk $$ [HO HLAY1 HPTE1 HPTE4 HX0F1]
  · isplitl [HO]; · iexact HO
    isplitl [HLAY1]; · iexact HLAY1
    isplitl [HPTE1]; · iexact HPTE1
    isplitl [HPTE4]; · iexact HPTE4
    iexact HX0F1

end Cert.K
-- ==== Proof.Parts4.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part31 (c : Dev nD) (v19 : BitVec 32) (v20 : BitVec 32) {K : PUnit → sProp 𝕄} :
    iprop(Ctx I ∗ Ow (F := F) c 42 ∗ lay (F := F) c 1 ∗ ltoks (F := F) c 1 ∗ xqP c (xs 0) fullShare (xqC (actC I 1) c))
      ⊢ iprop(((Ow (F := F) c 44 ∗ xqP c (xs 0) (sh 0) (xqC (actC I 1) c) ∗ xqP c (xs 0) (restSh 8) (xqC (actC I 1) c) ∗ Wt I c (fun r => 52 + r) 5 1 1 4 1 ∗ Wt I c (fun r => 52 + r) 5 1 4 8 4 ∗ Wt I c (fun r => 68 + r) 6 1 1 8 1 ∗ poss (F := F) c 44 1 1 8 ∗ poss (F := F) c 60 1 1 8 ∗ rsToks (F := F) c 1 1 4 ∗ rsToks (F := F) c 1 4 8 ∗ AG I c 1 3) -∗ K ⟨⟩)
        -∗ wp frame (wpE (defs₀ (F := F)) 𝒱₀ (c : Thread nD τ) none) Set.univ (k0_part31 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part31_eq_skeleton]; unfold k0_part31_skel
  simp only [semSignalWord, semWaitWord, Prog.lift, Prog.bind_op, Prog.bind_ret, Prog.pure_eq_ret, wp_deviceId]
  iintro ⟨#HC, HO, HLAY1, HLTOK1, HX0F1⟩ Hk
  ihave ⟨HAG1_1, HX0S1, HX0R1, HWA1_1_1, HWA1_4_4, HWR1_1, HP44_1_1_8, HP60_1_1_8, HRT1_1, HRT1_4⟩ := (T_layer I c 1) $$ [HLAY1 HLTOK1 HX0F1]
  · isplitl [HLAY1]; · iexact HLAY1
    isplitl [HLTOK1]; · iexact HLTOK1
    iexact HX0F1
  iapply (agsend I c _ 1 1 (by omega) (by omega) (dev43_eq c) _ _ rfl rfl) $$ [HO HAG1_1]
  · isplitr; · iexact HC
    isplitl [HO]; · iexact HO
    iexact HAG1_1
  iintro ⟨HO, HAG1_2⟩
  iapply (agsend I c _ 1 2 (by omega) (by omega) (dev44_eq c) _ _ rfl rfl) $$ [HO HAG1_2]
  · isplitr; · iexact HC
    isplitl [HO]; · iexact HO
    iexact HAG1_2
  iintro ⟨HO, HAG1_3⟩
  rw [wp_ret]; imodintro
  iapply Hk $$ [HO HX0S1 HX0R1 HWA1_1_1 HWA1_4_4 HWR1_1 HP44_1_1_8 HP60_1_1_8 HRT1_1 HRT1_4 HAG1_3]
  · isplitl [HO]; · iexact HO
    isplitl [HX0S1]; · iexact HX0S1
    isplitl [HX0R1]; · iexact HX0R1
    isplitl [HWA1_1_1]; · iexact HWA1_1_1
    isplitl [HWA1_4_4]; · iexact HWA1_4_4
    isplitl [HWR1_1]; · iexact HWR1_1
    isplitl [HP44_1_1_8]; · iexact HP44_1_1_8
    isplitl [HP60_1_1_8]; · iexact HP60_1_1_8
    isplitl [HRT1_1]; · iexact HRT1_1
    isplitl [HRT1_4]; · iexact HRT1_4
    iexact HAG1_3

theorem part32 (c : Dev nD) (v19 : BitVec 32) (v20 : BitVec 32) {K : PUnit → sProp 𝕄} :
    iprop(Ctx I ∗ Ow (F := F) c 44 ∗ AG I c 1 3)
      ⊢ iprop(((Ow (F := F) c 46 ∗ AG I c 1 5) -∗ K ⟨⟩)
        -∗ wp frame (wpE (defs₀ (F := F)) 𝒱₀ (c : Thread nD τ) none) Set.univ (k0_part32 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part32_eq_skeleton]; unfold k0_part32_skel
  simp only [semSignalWord, semWaitWord, Prog.lift, Prog.bind_op, Prog.bind_ret, Prog.pure_eq_ret, wp_deviceId]
  iintro ⟨#HC, HO, HAG1_3⟩ Hk
  iapply (agsend I c _ 1 3 (by omega) (by omega) (dev45_eq c) _ _ rfl rfl) $$ [HO HAG1_3]
  · isplitr; · iexact HC
    isplitl [HO]; · iexact HO
    iexact HAG1_3
  iintro ⟨HO, HAG1_4⟩
  iapply (agsend I c _ 1 4 (by omega) (by omega) (dev46_eq c) _ _ rfl rfl) $$ [HO HAG1_4]
  · isplitr; · iexact HC
    isplitl [HO]; · iexact HO
    iexact HAG1_4
  iintro ⟨HO, HAG1_5⟩
  rw [wp_ret]; imodintro
  iapply Hk $$ [HO HAG1_5]
  · isplitl [HO]; · iexact HO
    iexact HAG1_5

theorem part33 (c : Dev nD) (v19 : BitVec 32) (v20 : BitVec 32) {K : (Σ' (v955 : BitVec 32), BitVec 32) → sProp 𝕄} :
    iprop(Ctx I ∗ Ow (F := F) c 46 ∗ AG I c 1 5)
      ⊢ iprop((∀ (v955 : BitVec 32) (c1_i32_902 : BitVec 32), (Ow (F := F) c 49 ∗ AG I c 1 8) -∗ K ⟨v955, c1_i32_902⟩)
        -∗ wp frame (wpE (defs₀ (F := F)) 𝒱₀ (c : Thread nD τ) none) Set.univ (k0_part33 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part33_eq_skeleton]; unfold k0_part33_skel
  simp only [semSignalWord, semWaitWord, Prog.lift, Prog.bind_op, Prog.bind_ret, Prog.pure_eq_ret, wp_deviceId]
  iintro ⟨#HC, HO, HAG1_5⟩ Hk
  iapply (agsend I c _ 1 5 (by omega) (by omega) (dev47_eq c) _ _ rfl rfl) $$ [HO HAG1_5]
  · isplitr; · iexact HC
    isplitl [HO]; · iexact HO
    iexact HAG1_5
  iintro ⟨HO, HAG1_6⟩
  iapply (agsend I c _ 1 6 (by omega) (by omega) (dev48_eq c) _ _ rfl rfl) $$ [HO HAG1_6]
  · isplitr; · iexact HC
    isplitl [HO]; · iexact HO
    iexact HAG1_6
  iintro ⟨HO, HAG1_7⟩
  iapply (agsend I c _ 1 7 (by omega) (by omega) (dev49_eq c) _ _ rfl rfl) $$ [HO HAG1_7]
  · isplitr; · iexact HC
    isplitl [HO]; · iexact HO
    iexact HAG1_7
  iintro ⟨HO, HAG1_8⟩
  rw [wp_ret]; imodintro
  iapply Hk $$ %_ %_ [HO HAG1_8]
  · isplitl [HO]; · iexact HO
    iexact HAG1_8

theorem part34 (c : Dev nD) (v19 : BitVec 32) (v20 : BitVec 32) (v955 : BitVec 32) (c1_i32_902 : BitVec 32) {K : (Σ' (v980 : BitVec 32) (v982 : BitVec 32), BitVec 32) → sProp 𝕄} :
    iprop(Ctx I ∗ Ow (F := F) c 49 ∗ Wt I c (nW 1) 2 0 0 6 0)
      ⊢ iprop((∀ (v980 : BitVec 32) (v982 : BitVec 32) (c1_i32_932 : BitVec 32), (Ow (F := F) c 49 ∗ Wt I c (nW 1) 2 0 0 6 2) -∗ K ⟨v980, v982, c1_i32_932⟩)
        -∗ wp frame (wpE (defs₀ (F := F)) 𝒱₀ (c : Thread nD τ) none) Set.univ (k0_part34 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v955 c1_i32_902) K) := by
  rw [k0_part34_eq_skeleton]; unfold k0_part34_skel
  simp only [semSignalWord, semWaitWord, Prog.lift, Prog.bind_op, Prog.bind_ret, Prog.pure_eq_ret, wp_deviceId]
  iintro ⟨#HC, HO, HWN1_0⟩ Hk
  iapply (wait_step I c (nW 1) 2 0 0 6 0 49 (by omega) (by decide) (by omega) (fun _ => by decide) rfl (amt11 _ _)) $$ [HO HWN1_0]
  · isplitr; · iexact HC
    isplitl [HO]; · iexact HO
    iexact HWN1_0
  iintro ⟨HO, HWN1_1⟩
  iapply (wait_step I c (nW 1) 2 0 0 6 1 49 (by omega) (by decide) (by omega) (fun _ => by decide) rfl (amt12 _ _)) $$ [HO HWN1_1]
  · isplitr; · iexact HC
    isplitl [HO]; · iexact HO
    iexact HWN1_1
  iintro ⟨HO, HWN1_2⟩
  rw [wp_ret]; imodintro
  iapply Hk $$ %_ %_ %_ [HO HWN1_2]
  · isplitl [HO]; · iexact HO
    iexact HWN1_2

theorem part35 (c : Dev nD) (v19 : BitVec 32) (v20 : BitVec 32) (v980 : BitVec 32) (v982 : BitVec 32) (c1_i32_932 : BitVec 32) {K : (Σ' (v1003 : BitVec 32) (v1005 : BitVec 32), BitVec 32) → sProp 𝕄} :
    iprop(Ctx I ∗ Ow (F := F) c 49 ∗ Wt I c (nW 1) 2 0 0 6 2)
      ⊢ iprop((∀ (v1003 : BitVec 32) (v1005 : BitVec 32) (c256_i32_958 : BitVec 32), (Ow (F := F) c 49 ∗ Wt I c (nW 1) 2 0 0 6 5) -∗ K ⟨v1003, v1005, c256_i32_958⟩)
        -∗ wp frame (wpE (defs₀ (F := F)) 𝒱₀ (c : Thread nD τ) none) Set.univ (k0_part35 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v980 v982 c1_i32_932) K) := by
  rw [k0_part35_eq_skeleton]; unfold k0_part35_skel
  simp only [semSignalWord, semWaitWord, Prog.lift, Prog.bind_op, Prog.bind_ret, Prog.pure_eq_ret, wp_deviceId]
  iintro ⟨#HC, HO, HWN1_2⟩ Hk
  iapply (wait_step I c (nW 1) 2 0 0 6 2 49 (by omega) (by decide) (by omega) (fun _ => by decide) rfl (amt11 _ _)) $$ [HO HWN1_2]
  · isplitr; · iexact HC
    isplitl [HO]; · iexact HO
    iexact HWN1_2
  iintro ⟨HO, HWN1_3⟩
  iapply (wait_step I c (nW 1) 2 0 0 6 3 49 (by omega) (by decide) (by omega) (fun _ => by decide) rfl (amt12 _ _)) $$ [HO HWN1_3]
  · isplitr; · iexact HC
    isplitl [HO]; · iexact HO
    iexact HWN1_3
  iintro ⟨HO, HWN1_4⟩
  iapply (wait_step I c (nW 1) 2 0 0 6 4 49 (by omega) (by decide) (by omega) (fun _ => by decide) rfl (amt11 _ _)) $$ [HO HWN1_4]
  · isplitr; · iexact HC
    isplitl [HO]; · iexact HO
    iexact HWN1_4
  iintro ⟨HO, HWN1_5⟩
  rw [wp_ret]; imodintro
  iapply Hk $$ %_ %_ %_ [HO HWN1_5]
  · isplitl [HO]; · iexact HO
    iexact HWN1_5

theorem part36 (c : Dev nD) (v20 : BitVec 32) (v1003 : BitVec 32) (v1005 : BitVec 32) (c256_i32_958 : BitVec 32) {K : (Σ' (v1025 : FVec F S128x1024 .bf16) (v1027 : FVec F S1024x128 .bf16), FVec F S128x128 .f32) → sProp 𝕄} :
    iprop(Ctx I ∗ Ow (F := F) c 49 ∗ Wt I c (nW 1) 2 0 0 6 5 ∗ ownW I c 1 (sh 0) ∗ xqP c (xs 0) (sh 0) (xqC (actC I 1) c) ∗ Wt I c (fun r => 52 + r) 5 1 1 4 1)
      ⊢ iprop((∀ (v1025 : FVec F S128x1024 .bf16) (v1027 : FVec F S1024x128 .bf16) (v1034 : FVec F S128x128 .f32), ⌜v1025 = k0_pay9 (winL I 1 c)⌝ -∗ ⌜v1027 = k0_pay10 (woutL I 1 c)⌝ -∗ ⌜v1034 = ownP I 1 (actC I 1) c⌝ -∗ (Ow (F := F) c 49 ∗ wbag I c 1 ∗ wiP c (wl 1) (sh 0) (winC I c) ∗ woP c (wol 1) (sh 0) (woutC I c) ∗ xqP c (xs 0) (sh 0) (xqC (actC I 1) c) ∗ Wt I c (fun r => 52 + r) 5 1 1 4 2) -∗ K ⟨v1025, v1027, v1034⟩)
        -∗ wp frame (wpE (defs₀ (F := F)) 𝒱₀ (c : Thread nD τ) none) Set.univ (k0_part36 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v20 v1003 v1005 c256_i32_958) K) := by
  rw [k0_part36_eq_skeleton]; unfold k0_part36_skel
  simp only [semSignalWord, semWaitWord, Prog.lift, Prog.bind_op, Prog.bind_ret, Prog.pure_eq_ret, wp_deviceId]
  iintro ⟨#HC, HO, HWN1_5, HOWN1, HX0S1, HWA1_1_1⟩ Hk
  iapply (wait_step I c (nW 1) 2 0 0 6 5 49 (by omega) (by decide) (by omega) (fun _ => by decide) rfl (amt12 _ _)) $$ [HO HWN1_5]
  · isplitr; · iexact HC
    isplitl [HO]; · iexact HO
    iexact HWN1_5
  iintro ⟨HO, HWN1_6⟩
  ihave ⟨HWIN1, HWON1, HWBAG1⟩ := (T_Wl I c 1 (by omega)) $$ [HWN1_6 HOWN1]
  · isplitl [HWN1_6]; · iexact HWN1_6
    iexact HOWN1
  iapply (get_in I c 1 (by omega) (sh 0) _) $$ [HWIN1]
  · iexact HWIN1
  iintro HWIN1
  iapply (get_out I c 1 (by omega) (sh 0) _) $$ [HWON1]
  · iexact HWON1
  iintro HWON1
  iapply (get_x0 c (actC I 1) (sh 0) _) $$ [HX0S1]
  · iexact HX0S1
  iintro HX0S1
  iapply (wait_step I c (fun r => 52 + r) 5 1 1 4 1 49 (by omega) (by decide) (by omega) (fun _ => by decide) rfl (amt8 _ _)) $$ [HO HWA1_1_1]
  · isplitr; · iexact HC
    isplitl [HO]; · iexact HO
    iexact HWA1_1_1
  iintro ⟨HO, HWA1_1_2⟩
  rw [wp_ret]; imodintro
  iapply Hk $$ %_ %_ %_ [] [] [] [HO HWBAG1 HWIN1 HWON1 HX0S1 HWA1_1_2]
  · ipureintro; rfl
  · ipureintro; rfl
  · ipureintro; rfl
  · isplitl [HO]; · iexact HO
    isplitl [HWBAG1]; · iexact HWBAG1
    isplitl [HWIN1]; · iexact HWIN1
    isplitl [HWON1]; · iexact HWON1
    isplitl [HX0S1]; · iexact HX0S1
    iexact HWA1_1_2

theorem part37 (c : Dev nD) (v20 : BitVec 32) (v1025 : FVec F S128x1024 .bf16) (v1027 : FVec F S1024x128 .bf16) (hv1025 : v1025 = k0_pay9 (winL I 1 c)) (hv1027 : v1027 = k0_pay10 (woutL I 1 c)) {K : PUnit → sProp 𝕄} :
    iprop(Ctx I ∗ Ow (F := F) c 49 ∗ Wt I c (fun r => 52 + r) 5 1 1 4 2 ∗ ptE (F := F) c (xr 1 4))
      ⊢ iprop(((Ow (F := F) c 49 ∗ agL (F := F) c 1 1 4 ∗ xqP c (xr 1 4) fullShare (xqC (actC I 1) c) ∗ ptP c (xr 1 4) fullShare (partC I 1 (actC I 1) c)) -∗ K ⟨⟩)
        -∗ wp frame (wpE (defs₀ (F := F)) 𝒱₀ (c : Thread nD τ) none) Set.univ (k0_part37 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20 v1025 v1027) K) := by
  rw [k0_part37_eq_skeleton]; unfold k0_part37_skel
  simp only [semSignalWord, semWaitWord, Prog.lift, Prog.bind_op, Prog.bind_ret, Prog.pure_eq_ret, wp_deviceId]
  iintro ⟨#HC, HO, HWA1_1_2, HPTE1⟩ Hk
  iapply (wait_step I c (fun r => 52 + r) 5 1 1 4 2 49 (by omega) (by decide) (by omega) (fun _ => by decide) rfl (amt8 _ _)) $$ [HO HWA1_1_2]
  · isplitr; · iexact HC
    isplitl [HO]; · iexact HO
    iexact HWA1_1_2
  iintro ⟨HO, HWA1_1_3⟩
  iapply (wait_step I c (fun r => 52 + r) 5 1 1 4 3 49 (by omega) (by decide) (by omega) (fun _ => by decide) rfl (amt8 _ _)) $$ [HO HWA1_1_3]
  · isplitr; · iexact HC
    isplitl [HO]; · iexact HO
    iexact HWA1_1_3
  iintro ⟨HO, HWA1_1_4⟩
  ihave ⟨HXR1_1, HAGL1_1⟩ := (T_A I c 5 1 1 4 (by omega)) $$ [HWA1_1_4]
  · iexact HWA1_1_4
  iapply (get_xA c _ _) $$ [HXR1_1]
  · iexact HXR1_1
  iintro HXR1_1
  iapply (dead_pA c _) $$ [HPTE1]
  · iexact HPTE1
  iintro %v HPTE1
  iapply (put_pA I c 1 (actC I 1) _ (by subst hv1025; subst hv1027; rfl)) $$ [HPTE1]
  · iexact HPTE1
  iintro HPTF1_1
  rw [wp_ret]; imodintro
  iapply Hk $$ [HO HAGL1_1 HXR1_1 HPTF1_1]
  · isplitl [HO]; · iexact HO
    isplitl [HAGL1_1]; · iexact HAGL1_1
    isplitl [HXR1_1]; · iexact HXR1_1
    iexact HPTF1_1

theorem part38 (c : Dev nD) (v19 : BitVec 32) (v20 : BitVec 32) {K : PUnit → sProp 𝕄} :
    iprop(Ctx I ∗ Ow (F := F) c 49 ∗ ptP c (xr 1 4) fullShare (partC I 1 (actC I 1) c) ∗ xqP c (xr 1 4) fullShare (xqC (actC I 1) c) ∗ agL (F := F) c 1 1 4 ∗ rsToks (F := F) c 1 1 4)
      ⊢ iprop(((Ow (F := F) c 51 ∗ poss (F := F) c 52 2 1 4 ∗ RS I c 1 1 4 3) -∗ K ⟨⟩)
        -∗ wp frame (wpE (defs₀ (F := F)) 𝒱₀ (c : Thread nD τ) none) Set.univ (k0_part38 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part38_eq_skeleton]; unfold k0_part38_skel
  simp only [semSignalWord, semWaitWord, Prog.lift, Prog.bind_op, Prog.bind_ret, Prog.pure_eq_ret, wp_deviceId]
  iintro ⟨#HC, HO, HPTF1_1, HXR1_1, HAGL1_1, HRT1_1⟩ Hk
  ihave ⟨HRS1_1_1, HP52_2_1_4⟩ := (T_B' I c 1 1 4 (by omega)) $$ [HPTF1_1 HXR1_1 HAGL1_1 HRT1_1]
  · isplitl [HPTF1_1]; · iexact HPTF1_1
    isplitl [HXR1_1]; · iexact HXR1_1
    isplitl [HAGL1_1]; · iexact HAGL1_1
    iexact HRT1_1
  iapply (rssend I c _ 1 1 1 4 (by omega) (by omega) (by omega) (dev50_eq c) _ _ rfl rfl) $$ [HO HRS1_1_1]
  · isplitr; · iexact HC
    isplitl [HO]; · iexact HO
    iexact HRS1_1_1
  iintro ⟨HO, HRS1_1_2⟩
  iapply (rssend I c _ 1 2 1 4 (by omega) (by omega) (by omega) (dev51_eq c) _ _ rfl rfl) $$ [HO HRS1_1_2]
  · isplitr; · iexact HC
    isplitl [HO]; · iexact HO
    iexact HRS1_1_2
  iintro ⟨HO, HRS1_1_3⟩
  rw [wp_ret]; imodintro
  iapply Hk $$ [HO HP52_2_1_4 HRS1_1_3]
  · isplitl [HO]; · iexact HO
    isplitl [HP52_2_1_4]; · iexact HP52_2_1_4
    iexact HRS1_1_3

theorem part39 (c : Dev nD) (v19 : BitVec 32) (v20 : BitVec 32) {K : PUnit → sProp 𝕄} :
    iprop(Ctx I ∗ Ow (F := F) c 51 ∗ RS I c 1 1 4 3 ∗ Wt I c (fun r => 52 + r) 5 1 4 8 4)
      ⊢ iprop(((Ow (F := F) c 52 ∗ RS I c 1 1 4 4 ∗ Wt I c (fun r => 52 + r) 5 1 4 8 5) -∗ K ⟨⟩)
        -∗ wp frame (wpE (defs₀ (F := F)) 𝒱₀ (c : Thread nD τ) none) Set.univ (k0_part39 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part39_eq_skeleton]; unfold k0_part39_skel
  simp only [semSignalWord, semWaitWord, Prog.lift, Prog.bind_op, Prog.bind_ret, Prog.pure_eq_ret, wp_deviceId]
  iintro ⟨#HC, HO, HRS1_1_3, HWA1_4_4⟩ Hk
  iapply (rssend I c _ 1 3 1 4 (by omega) (by omega) (by omega) (dev52_eq c) _ _ rfl rfl) $$ [HO HRS1_1_3]
  · isplitr; · iexact HC
    isplitl [HO]; · iexact HO
    iexact HRS1_1_3
  iintro ⟨HO, HRS1_1_4⟩
  iapply (wait_step I c (fun r => 52 + r) 5 1 4 8 4 52 (by omega) (by decide) (by omega) (fun _ => by decide) rfl (amt8 _ _)) $$ [HO HWA1_4_4]
  · isplitr; · iexact HC
    isplitl [HO]; · iexact HO
    iexact HWA1_4_4
  iintro ⟨HO, HWA1_4_5⟩
  rw [wp_ret]; imodintro
  iapply Hk $$ [HO HRS1_1_4 HWA1_4_5]
  · isplitl [HO]; · iexact HO
    isplitl [HRS1_1_4]; · iexact HRS1_1_4
    iexact HWA1_4_5

theorem part40 (c : Dev nD) (v20 : BitVec 32) (v1025 : FVec F S128x1024 .bf16) (v1027 : FVec F S1024x128 .bf16) (hv1025 : v1025 = k0_pay9 (winL I 1 c)) (hv1027 : v1027 = k0_pay10 (woutL I 1 c)) {K : (FVec F S4x128x128 .f32) → sProp 𝕄} :
    iprop(Ctx I ∗ Ow (F := F) c 52 ∗ Wt I c (fun r => 52 + r) 5 1 4 8 5)
      ⊢ iprop((∀ (v1155 : FVec F S4x128x128 .f32), ⌜v1155 = k0_pay21 (k0_pay9 (winL I 1 c)) (k0_pay10 (woutL I 1 c)) (slotsC 4 4 (xqC (actC I 1) c))⌝ -∗ (Ow (F := F) c 52 ∗ agL (F := F) c 1 4 8 ∗ xqP c (xr 4 8) fullShare (xqC (actC I 1) c)) -∗ K v1155)
        -∗ wp frame (wpE (defs₀ (F := F)) 𝒱₀ (c : Thread nD τ) none) Set.univ (k0_part40 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20 v1025 v1027) K) := by
  rw [k0_part40_eq_skeleton]; unfold k0_part40_skel
  simp only [semSignalWord, semWaitWord, Prog.lift, Prog.bind_op, Prog.bind_ret, Prog.pure_eq_ret, wp_deviceId]
  iintro ⟨#HC, HO, HWA1_4_5⟩ Hk
  iapply (wait_step I c (fun r => 52 + r) 5 1 4 8 5 52 (by omega) (by decide) (by omega) (fun _ => by decide) rfl (amt8 _ _)) $$ [HO HWA1_4_5]
  · isplitr; · iexact HC
    isplitl [HO]; · iexact HO
    iexact HWA1_4_5
  iintro ⟨HO, HWA1_4_6⟩
  iapply (wait_step I c (fun r => 52 + r) 5 1 4 8 6 52 (by omega) (by decide) (by omega) (fun _ => by decide) rfl (amt8 _ _)) $$ [HO HWA1_4_6]
  · isplitr; · iexact HC
    isplitl [HO]; · iexact HO
    iexact HWA1_4_6
  iintro ⟨HO, HWA1_4_7⟩
  iapply (wait_step I c (fun r => 52 + r) 5 1 4 8 7 52 (by omega) (by decide) (by omega) (fun _ => by decide) rfl (amt8 _ _)) $$ [HO HWA1_4_7]
  · isplitr; · iexact HC
    isplitl [HO]; · iexact HO
    iexact HWA1_4_7
  iintro ⟨HO, HWA1_4_8⟩
  ihave ⟨HXR1_4, HAGL1_4⟩ := (T_A I c 5 1 4 8 (by omega)) $$ [HWA1_4_8]
  · iexact HWA1_4_8
  iapply (get_xB c _ _) $$ [HXR1_4]
  · iexact HXR1_4
  iintro HXR1_4
  subst hv1025
  subst hv1027
  rw [wp_ret]; imodintro
  iapply Hk $$ %_ [] [HO HAGL1_4 HXR1_4]
  · ipureintro; rfl
  · isplitl [HO]; · iexact HO
    isplitl [HAGL1_4]; · iexact HAGL1_4
    iexact HXR1_4

end Cert.K
-- ==== Proof.Parts5.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part41 (c : Dev nD) (v19 : BitVec 32) (v20 : BitVec 32) (v1155 : FVec F S4x128x128 .f32) (hv1155 : v1155 = k0_pay21 (k0_pay9 (winL I 1 c)) (k0_pay10 (woutL I 1 c)) (slotsC 4 4 (xqC (actC I 1) c))) {K : PUnit → sProp 𝕄} :
    iprop(Ctx I ∗ Ow (F := F) c 52 ∗ ptE (F := F) c (xr 4 8) ∗ xqP c (xr 4 8) fullShare (xqC (actC I 1) c) ∗ agL (F := F) c 1 4 8 ∗ rsToks (F := F) c 1 4 8)
      ⊢ iprop(((Ow (F := F) c 53 ∗ poss (F := F) c 52 2 4 8 ∗ RS I c 1 4 8 5) -∗ K ⟨⟩)
        -∗ wp frame (wpE (defs₀ (F := F)) 𝒱₀ (c : Thread nD τ) none) Set.univ (k0_part41 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1155) K) := by
  rw [k0_part41_eq_skeleton]; unfold k0_part41_skel
  simp only [semSignalWord, semWaitWord, Prog.lift, Prog.bind_op, Prog.bind_ret, Prog.pure_eq_ret, wp_deviceId]
  iintro ⟨#HC, HO, HPTE4, HXR1_4, HAGL1_4, HRT1_4⟩ Hk
  iapply (dead_pB c _) $$ [HPTE4]
  · iexact HPTE4
  iintro %v HPTE4
  iapply (put_pB I c 1 (actC I 1) _ (by subst hv1155; rfl)) $$ [HPTE4]
  · iexact HPTE4
  iintro HPTF1_4
  ihave ⟨HRS1_4_4, HP52_2_4_8⟩ := (T_B' I c 1 4 8 (by omega)) $$ [HPTF1_4 HXR1_4 HAGL1_4 HRT1_4]
  · isplitl [HPTF1_4]; · iexact HPTF1_4
    isplitl [HXR1_4]; · iexact HXR1_4
    isplitl [HAGL1_4]; · iexact HAGL1_4
    iexact HRT1_4
  iapply (rssend I c _ 1 4 4 8 (by omega) (by omega) (by omega) (dev53_eq c) _ _ rfl rfl) $$ [HO HRS1_4_4]
  · isplitr; · iexact HC
    isplitl [HO]; · iexact HO
    iexact HRS1_4_4
  iintro ⟨HO, HRS1_4_5⟩
  rw [wp_ret]; imodintro
  iapply Hk $$ [HO HP52_2_4_8 HRS1_4_5]
  · isplitl [HO]; · iexact HO
    isplitl [HP52_2_4_8]; · iexact HP52_2_4_8
    iexact HRS1_4_5

theorem part42 (c : Dev nD) (v19 : BitVec 32) (v20 : BitVec 32) {K : PUnit → sProp 𝕄} :
    iprop(Ctx I ∗ Ow (F := F) c 53 ∗ RS I c 1 4 8 5)
      ⊢ iprop(((Ow (F := F) c 55 ∗ RS I c 1 4 8 7) -∗ K ⟨⟩)
        -∗ wp frame (wpE (defs₀ (F := F)) 𝒱₀ (c : Thread nD τ) none) Set.univ (k0_part42 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part42_eq_skeleton]; unfold k0_part42_skel
  simp only [semSignalWord, semWaitWord, Prog.lift, Prog.bind_op, Prog.bind_ret, Prog.pure_eq_ret, wp_deviceId]
  iintro ⟨#HC, HO, HRS1_4_5⟩ Hk
  iapply (rssend I c _ 1 5 4 8 (by omega) (by omega) (by omega) (dev54_eq c) _ _ rfl rfl) $$ [HO HRS1_4_5]
  · isplitr; · iexact HC
    isplitl [HO]; · iexact HO
    iexact HRS1_4_5
  iintro ⟨HO, HRS1_4_6⟩
  iapply (rssend I c _ 1 6 4 8 (by omega) (by omega) (by omega) (dev55_eq c) _ _ rfl rfl) $$ [HO HRS1_4_6]
  · isplitr; · iexact HC
    isplitl [HO]; · iexact HO
    iexact HRS1_4_6
  iintro ⟨HO, HRS1_4_7⟩
  rw [wp_ret]; imodintro
  iapply Hk $$ [HO HRS1_4_7]
  · isplitl [HO]; · iexact HO
    iexact HRS1_4_7

theorem part43 (c : Dev nD) (v20 : BitVec 32) {K : PUnit → sProp 𝕄} :
    iprop(Ctx I ∗ Ow (F := F) c 55 ∗ RS I c 1 4 8 7 ∗ Wt I c (fun r => 68 + r) 6 1 1 8 1)
      ⊢ iprop(((Ow (F := F) c 56 ∗ RS I c 1 4 8 8 ∗ Wt I c (fun r => 68 + r) 6 1 1 8 3) -∗ K ⟨⟩)
        -∗ wp frame (wpE (defs₀ (F := F)) 𝒱₀ (c : Thread nD τ) none) Set.univ (k0_part43 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v20) K) := by
  rw [k0_part43_eq_skeleton]; unfold k0_part43_skel
  simp only [semSignalWord, semWaitWord, Prog.lift, Prog.bind_op, Prog.bind_ret, Prog.pure_eq_ret, wp_deviceId]
  iintro ⟨#HC, HO, HRS1_4_7, HWR1_1⟩ Hk
  iapply (rssend I c _ 1 7 4 8 (by omega) (by omega) (by omega) (dev56_eq c) _ _ rfl rfl) $$ [HO HRS1_4_7]
  · isplitr; · iexact HC
    isplitl [HO]; · iexact HO
    iexact HRS1_4_7
  iintro ⟨HO, HRS1_4_8⟩
  iapply (wait_step I c (fun r => 68 + r) 6 1 1 8 1 56 (by omega) (by decide) (by omega) (fun _ => by decide) rfl (amt10 _ _)) $$ [HO HWR1_1]
  · isplitr; · iexact HC
    isplitl [HO]; · iexact HO
    iexact HWR1_1
  iintro ⟨HO, HWR1_2⟩
  iapply (wait_step I c (fun r => 68 + r) 6 1 1 8 2 56 (by omega) (by decide) (by omega) (fun _ => by decide) rfl (amt10 _ _)) $$ [HO HWR1_2]
  · isplitr; · iexact HC
    isplitl [HO]; · iexact HO
    iexact HWR1_2
  iintro ⟨HO, HWR1_3⟩
  rw [wp_ret]; imodintro
  iapply Hk $$ [HO HRS1_4_8 HWR1_3]
  · isplitl [HO]; · iexact HO
    isplitl [HRS1_4_8]; · iexact HRS1_4_8
    iexact HWR1_3

theorem part44 (c : Dev nD) (v20 : BitVec 32) {K : PUnit → sProp 𝕄} :
    iprop(Ctx I ∗ Ow (F := F) c 56 ∗ Wt I c (fun r => 68 + r) 6 1 1 8 3)
      ⊢ iprop(((Ow (F := F) c 56 ∗ Wt I c (fun r => 68 + r) 6 1 1 8 6) -∗ K ⟨⟩)
        -∗ wp frame (wpE (defs₀ (F := F)) 𝒱₀ (c : Thread nD τ) none) Set.univ (k0_part44 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part44_eq_skeleton]; unfold k0_part44_skel
  simp only [semSignalWord, semWaitWord, Prog.lift, Prog.bind_op, Prog.bind_ret, Prog.pure_eq_ret, wp_deviceId]
  iintro ⟨#HC, HO, HWR1_3⟩ Hk
  iapply (wait_step I c (fun r => 68 + r) 6 1 1 8 3 56 (by omega) (by decide) (by omega) (fun _ => by decide) rfl (amt10 _ _)) $$ [HO HWR1_3]
  · isplitr; · iexact HC
    isplitl [HO]; · iexact HO
    iexact HWR1_3
  iintro ⟨HO, HWR1_4⟩
  iapply (wait_step I c (fun r => 68 + r) 6 1 1 8 4 56 (by omega) (by decide) (by omega) (fun _ => by decide) rfl (amt10 _ _)) $$ [HO HWR1_4]
  · isplitr; · iexact HC
    isplitl [HO]; · iexact HO
    iexact HWR1_4
  iintro ⟨HO, HWR1_5⟩
  iapply (wait_step I c (fun r => 68 + r) 6 1 1 8 5 56 (by omega) (by decide) (by omega) (fun _ => by decide) rfl (amt10 _ _)) $$ [HO HWR1_5]
  · isplitr; · iexact HC
    isplitl [HO]; · iexact HO
    iexact HWR1_5
  iintro ⟨HO, HWR1_6⟩
  rw [wp_ret]; imodintro
  iapply Hk $$ [HO HWR1_6]
  · isplitl [HO]; · iexact HO
    iexact HWR1_6

theorem part45 (c : Dev nD) (v20 : BitVec 32) (v1034 : FVec F S128x128 .f32) (hv1034 : v1034 = ownP I 1 (actC I 1) c) {K : (FVec F S128x128 .f32) → sProp 𝕄} :
    iprop(Ctx I ∗ Ow (F := F) c 56 ∗ Wt I c (fun r => 68 + r) 6 1 1 8 6 ∗ AG I c 1 8 ∗ poss (F := F) c 44 1 1 8)
      ⊢ iprop((∀ (v1279 : FVec F S128x128 .f32), ⌜v1279 = accC I 1 (actC I 1) c⌝ -∗ (Ow (F := F) c 56 ∗ rsL (F := F) c 1 ∗ rsP c (xr 1 8) fullShare (rsC I 1 (actC I 1) c) ∗ Wt I c (fun r => 44 + r) 0 1 1 8 2) -∗ K v1279)
        -∗ wp frame (wpE (defs₀ (F := F)) 𝒱₀ (c : Thread nD τ) none) Set.univ (k0_part45 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20 v1034) K) := by
  rw [k0_part45_eq_skeleton]; unfold k0_part45_skel
  simp only [semSignalWord, semWaitWord, Prog.lift, Prog.bind_op, Prog.bind_ret, Prog.pure_eq_ret, wp_deviceId]
  iintro ⟨#HC, HO, HWR1_6, HAG1_8, HP44_1_1_8⟩ Hk
  iapply (wait_step I c (fun r => 68 + r) 6 1 1 8 6 56 (by omega) (by decide) (by omega) (fun _ => by decide) rfl (amt10 _ _)) $$ [HO HWR1_6]
  · isplitr; · iexact HC
    isplitl [HO]; · iexact HO
    iexact HWR1_6
  iintro ⟨HO, HWR1_7⟩
  iapply (wait_step I c (fun r => 68 + r) 6 1 1 8 7 56 (by omega) (by decide) (by omega) (fun _ => by decide) rfl (amt10 _ _)) $$ [HO HWR1_7]
  · isplitr; · iexact HC
    isplitl [HO]; · iexact HO
    iexact HWR1_7
  iintro ⟨HO, HWR1_8⟩
  ihave ⟨HRSP1, HRSL1⟩ := (T_rs I c 6 1) $$ [HWR1_8]
  · iexact HWR1_8
  iapply (get_r c _ _) $$ [HRSP1]
  · iexact HRSP1
  iintro HRSP1
  ihave HWGS1_1 := (T_ags I c 1) $$ [HAG1_8 HP44_1_1_8]
  · isplitl [HAG1_8]; · iexact HAG1_8
    iexact HP44_1_1_8
  iapply (wait_step I c (fun r => 44 + r) 0 1 1 8 1 56 (by omega) (by decide) (by omega) (fun _ => by decide) rfl (amt8 _ _)) $$ [HO HWGS1_1]
  · isplitr; · iexact HC
    isplitl [HO]; · iexact HO
    iexact HWGS1_1
  iintro ⟨HO, HWGS1_2⟩
  subst hv1034
  rw [wp_ret]; imodintro
  iapply Hk $$ %_ [] [HO HRSL1 HRSP1 HWGS1_2]
  · ipureintro; rfl
  · isplitl [HO]; · iexact HO
    isplitl [HRSL1]; · iexact HRSL1
    isplitl [HRSP1]; · iexact HRSP1
    iexact HWGS1_2

theorem part46 (c : Dev nD) {K : PUnit → sProp 𝕄} :
    iprop(Ctx I ∗ Ow (F := F) c 56 ∗ Wt I c (fun r => 44 + r) 0 1 1 8 2)
      ⊢ iprop(((Ow (F := F) c 56 ∗ Wt I c (fun r => 44 + r) 0 1 1 8 6) -∗ K ⟨⟩)
        -∗ wp frame (wpE (defs₀ (F := F)) 𝒱₀ (c : Thread nD τ) none) Set.univ (k0_part46 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part46_eq_skeleton]; unfold k0_part46_skel
  simp only [semSignalWord, semWaitWord, Prog.lift, Prog.bind_op, Prog.bind_ret, Prog.pure_eq_ret, wp_deviceId]
  iintro ⟨#HC, HO, HWGS1_2⟩ Hk
  iapply (wait_step I c (fun r => 44 + r) 0 1 1 8 2 56 (by omega) (by decide) (by omega) (fun _ => by decide) rfl (amt8 _ _)) $$ [HO HWGS1_2]
  · isplitr; · iexact HC
    isplitl [HO]; · iexact HO
    iexact HWGS1_2
  iintro ⟨HO, HWGS1_3⟩
  iapply (wait_step I c (fun r => 44 + r) 0 1 1 8 3 56 (by omega) (by decide) (by omega) (fun _ => by decide) rfl (amt8 _ _)) $$ [HO HWGS1_3]
  · isplitr; · iexact HC
    isplitl [HO]; · iexact HO
    iexact HWGS1_3
  iintro ⟨HO, HWGS1_4⟩
  iapply (wait_step I c (fun r => 44 + r) 0 1 1 8 4 56 (by omega) (by decide) (by omega) (fun _ => by decide) rfl (amt8 _ _)) $$ [HO HWGS1_4]
  · isplitr; · iexact HC
    isplitl [HO]; · iexact HO
    iexact HWGS1_4
  iintro ⟨HO, HWGS1_5⟩
  iapply (wait_step I c (fun r => 44 + r) 0 1 1 8 5 56 (by omega) (by decide) (by omega) (fun _ => by decide) rfl (amt8 _ _)) $$ [HO HWGS1_5]
  · isplitr; · iexact HC
    isplitl [HO]; · iexact HO
    iexact HWGS1_5
  iintro ⟨HO, HWGS1_6⟩
  rw [wp_ret]; imodintro
  iapply Hk $$ [HO HWGS1_6]
  · isplitl [HO]; · iexact HO
    iexact HWGS1_6

theorem part47 (c : Dev nD) {K : PUnit → sProp 𝕄} :
    iprop(Ctx I ∗ Ow (F := F) c 56 ∗ Wt I c (fun r => 44 + r) 0 1 1 8 6 ∗ RS I c 1 1 4 4 ∗ RS I c 1 4 8 8 ∗ poss (F := F) c 60 1 1 8)
      ⊢ iprop(((Ow (F := F) c 56 ∗ Wt I c (fun r => 44 + r) 0 1 1 8 8 ∗ Wt I c (fun r => 60 + r) 0 1 1 8 3) -∗ K ⟨⟩)
        -∗ wp frame (wpE (defs₀ (F := F)) 𝒱₀ (c : Thread nD τ) none) Set.univ (k0_part47 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part47_eq_skeleton]; unfold k0_part47_skel
  simp only [semSignalWord, semWaitWord, Prog.lift, Prog.bind_op, Prog.bind_ret, Prog.pure_eq_ret, wp_deviceId]
  iintro ⟨#HC, HO, HWGS1_6, HRS1_1_4, HRS1_4_8, HP60_1_1_8⟩ Hk
  iapply (wait_step I c (fun r => 44 + r) 0 1 1 8 6 56 (by omega) (by decide) (by omega) (fun _ => by decide) rfl (amt8 _ _)) $$ [HO HWGS1_6]
  · isplitr; · iexact HC
    isplitl [HO]; · iexact HO
    iexact HWGS1_6
  iintro ⟨HO, HWGS1_7⟩
  iapply (wait_step I c (fun r => 44 + r) 0 1 1 8 7 56 (by omega) (by decide) (by omega) (fun _ => by decide) rfl (amt8 _ _)) $$ [HO HWGS1_7]
  · isplitr; · iexact HC
    isplitl [HO]; · iexact HO
    iexact HWGS1_7
  iintro ⟨HO, HWGS1_8⟩
  ihave HWRS1_1 := (T_rss I c 1) $$ [HRS1_1_4 HRS1_4_8 HP60_1_1_8]
  · isplitl [HRS1_1_4]; · iexact HRS1_1_4
    isplitl [HRS1_4_8]; · iexact HRS1_4_8
    iexact HP60_1_1_8
  iapply (wait_step I c (fun r => 60 + r) 0 1 1 8 1 56 (by omega) (by decide) (by omega) (fun _ => by decide) rfl (amt9 _ _)) $$ [HO HWRS1_1]
  · isplitr; · iexact HC
    isplitl [HO]; · iexact HO
    iexact HWRS1_1
  iintro ⟨HO, HWRS1_2⟩
  iapply (wait_step I c (fun r => 60 + r) 0 1 1 8 2 56 (by omega) (by decide) (by omega) (fun _ => by decide) rfl (amt9 _ _)) $$ [HO HWRS1_2]
  · isplitr; · iexact HC
    isplitl [HO]; · iexact HO
    iexact HWRS1_2
  iintro ⟨HO, HWRS1_3⟩
  rw [wp_ret]; imodintro
  iapply Hk $$ [HO HWGS1_8 HWRS1_3]
  · isplitl [HO]; · iexact HO
    isplitl [HWGS1_8]; · iexact HWGS1_8
    iexact HWRS1_3

theorem part48 (c : Dev nD) {K : PUnit → sProp 𝕄} :
    iprop(Ctx I ∗ Ow (F := F) c 56 ∗ Wt I c (fun r => 60 + r) 0 1 1 8 3)
      ⊢ iprop(((Ow (F := F) c 56 ∗ Wt I c (fun r => 60 + r) 0 1 1 8 7) -∗ K ⟨⟩)
        -∗ wp frame (wpE (defs₀ (F := F)) 𝒱₀ (c : Thread nD τ) none) Set.univ (k0_part48 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part48_eq_skeleton]; unfold k0_part48_skel
  simp only [semSignalWord, semWaitWord, Prog.lift, Prog.bind_op, Prog.bind_ret, Prog.pure_eq_ret, wp_deviceId]
  iintro ⟨#HC, HO, HWRS1_3⟩ Hk
  iapply (wait_step I c (fun r => 60 + r) 0 1 1 8 3 56 (by omega) (by decide) (by omega) (fun _ => by decide) rfl (amt9 _ _)) $$ [HO HWRS1_3]
  · isplitr; · iexact HC
    isplitl [HO]; · iexact HO
    iexact HWRS1_3
  iintro ⟨HO, HWRS1_4⟩
  iapply (wait_step I c (fun r => 60 + r) 0 1 1 8 4 56 (by omega) (by decide) (by omega) (fun _ => by decide) rfl (amt9 _ _)) $$ [HO HWRS1_4]
  · isplitr; · iexact HC
    isplitl [HO]; · iexact HO
    iexact HWRS1_4
  iintro ⟨HO, HWRS1_5⟩
  iapply (wait_step I c (fun r => 60 + r) 0 1 1 8 5 56 (by omega) (by decide) (by omega) (fun _ => by decide) rfl (amt9 _ _)) $$ [HO HWRS1_5]
  · isplitr; · iexact HC
    isplitl [HO]; · iexact HO
    iexact HWRS1_5
  iintro ⟨HO, HWRS1_6⟩
  iapply (wait_step I c (fun r => 60 + r) 0 1 1 8 6 56 (by omega) (by decide) (by omega) (fun _ => by decide) rfl (amt9 _ _)) $$ [HO HWRS1_6]
  · isplitr; · iexact HC
    isplitl [HO]; · iexact HO
    iexact HWRS1_6
  iintro ⟨HO, HWRS1_7⟩
  rw [wp_ret]; imodintro
  iapply Hk $$ [HO HWRS1_7]
  · isplitl [HO]; · iexact HO
    iexact HWRS1_7

theorem part49 (c : Dev nD) (v19 : BitVec 32) (v20 : BitVec 32) (v1279 : FVec F S128x128 .f32) (hv1279 : v1279 = accC I 1 (actC I 1) c) {K : (BitVec 32) → sProp 𝕄} :
    iprop(Ctx I ∗ Ow (F := F) c 56 ∗ Wt I c (fun r => 60 + r) 0 1 1 8 7 ∗ rsP c (xr 1 8) fullShare (rsC I 1 (actC I 1) c) ∗ rsL (F := F) c 1 ∗ poss (F := F) c 52 2 1 4 ∗ poss (F := F) c 52 2 4 8 ∗ Wt I c (fun r => 44 + r) 0 1 1 8 8 ∗ xqP c (xs 0) (sh 0) (xqC (actC I 1) c) ∗ xqP c (xs 0) (restSh 8) (xqC (actC I 1) c) ∗ ltoks (F := F) c 2)
      ⊢ iprop((∀ (v1385 : BitVec 32), (Ow (F := F) c 57 ∗ ptE (F := F) c (xr 1 4) ∗ ptE (F := F) c (xr 4 8) ∗ xqP c (xs 0) (sh 0) (xqC (actC I 2) c) ∗ xqP c (xs 0) (restSh 8) (xqC (actC I 2) c) ∗ Wt I c (fun r => 52 + r) 7 2 1 4 1 ∗ Wt I c (fun r => 52 + r) 7 2 4 8 4 ∗ Wt I c (fun r => 68 + r) 8 2 1 8 1 ∗ poss (F := F) c 44 2 1 8 ∗ poss (F := F) c 60 2 1 8 ∗ rsToks (F := F) c 2 1 4 ∗ rsToks (F := F) c 2 4 8 ∗ AG I c 2 2) -∗ K v1385)
        -∗ wp frame (wpE (defs₀ (F := F)) 𝒱₀ (c : Thread nD τ) none) Set.univ (k0_part49 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1279) K) := by
  rw [k0_part49_eq_skeleton]; unfold k0_part49_skel
  simp only [semSignalWord, semWaitWord, Prog.lift, Prog.bind_op, Prog.bind_ret, Prog.pure_eq_ret, wp_deviceId]
  iintro ⟨#HC, HO, HWRS1_7, HRSP1, HRSL1, HP52_2_1_4, HP52_2_4_8, HWGS1_8, HX0S1, HX0R1, HLTOK2⟩ Hk
  iapply (wait_step I c (fun r => 60 + r) 0 1 1 8 7 56 (by omega) (by decide) (by omega) (fun _ => by decide) rfl (amt9 _ _)) $$ [HO HWRS1_7]
  · isplitr; · iexact HC
    isplitl [HO]; · iexact HO
    iexact HWRS1_7
  iintro ⟨HO, HWRS1_8⟩
  ihave ⟨HXE0, HLAY2, HPTE1, HPTE4⟩ := (T_end' I c 1) $$ [HRSP1 HRSL1 HP52_2_1_4 HP52_2_4_8 HWGS1_8 HWRS1_8 HX0S1 HX0R1]
  · isplitl [HRSP1]; · iexact HRSP1
    isplitl [HRSL1]; · iexact HRSL1
    isplitl [HP52_2_1_4]; · iexact HP52_2_1_4
    isplitl [HP52_2_4_8]; · iexact HP52_2_4_8
    isplitl [HWGS1_8]; · iexact HWGS1_8
    isplitl [HWRS1_8]; · iexact HWRS1_8
    isplitl [HX0S1]; · iexact HX0S1
    iexact HX0R1
  iapply (dead_x0 c _) $$ [HXE0]
  · iexact HXE0
  iintro %v HXE0
  iapply (put_x0 c (actC I 2) _ (by subst hv1279; rfl)) $$ [HXE0]
  · iexact HXE0
  iintro HX0F2
  ihave ⟨HAG2_1, HX0S2, HX0R2, HWA2_1_1, HWA2_4_4, HWR2_1, HP44_2_1_8, HP60_2_1_8, HRT2_1, HRT2_4⟩ := (T_layer I c 2) $$ [HLAY2 HLTOK2 HX0F2]
  · isplitl [HLAY2]; · iexact HLAY2
    isplitl [HLTOK2]; · iexact HLTOK2
    iexact HX0F2
  iapply (agsend I c _ 2 1 (by omega) (by omega) (dev57_eq c) _ _ rfl rfl) $$ [HO HAG2_1]
  · isplitr; · iexact HC
    isplitl [HO]; · iexact HO
    iexact HAG2_1
  iintro ⟨HO, HAG2_2⟩
  rw [wp_ret]; imodintro
  iapply Hk $$ %_ [HO HPTE1 HPTE4 HX0S2 HX0R2 HWA2_1_1 HWA2_4_4 HWR2_1 HP44_2_1_8 HP60_2_1_8 HRT2_1 HRT2_4 HAG2_2]
  · isplitl [HO]; · iexact HO
    isplitl [HPTE1]; · iexact HPTE1
    isplitl [HPTE4]; · iexact HPTE4
    isplitl [HX0S2]; · iexact HX0S2
    isplitl [HX0R2]; · iexact HX0R2
    isplitl [HWA2_1_1]; · iexact HWA2_1_1
    isplitl [HWA2_4_4]; · iexact HWA2_4_4
    isplitl [HWR2_1]; · iexact HWR2_1
    isplitl [HP44_2_1_8]; · iexact HP44_2_1_8
    isplitl [HP60_2_1_8]; · iexact HP60_2_1_8
    isplitl [HRT2_1]; · iexact HRT2_1
    isplitl [HRT2_4]; · iexact HRT2_4
    iexact HAG2_2

end Cert.K
-- ==== Proof.Parts6.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part50 (c : Dev nD) (v19 : BitVec 32) (v20 : BitVec 32) (v1385 : BitVec 32) {K : PUnit → sProp 𝕄} :
    iprop(Ctx I ∗ Ow (F := F) c 57 ∗ AG I c 2 2)
      ⊢ iprop(((Ow (F := F) c 59 ∗ AG I c 2 4) -∗ K ⟨⟩)
        -∗ wp frame (wpE (defs₀ (F := F)) 𝒱₀ (c : Thread nD τ) none) Set.univ (k0_part50 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1385) K) := by
  rw [k0_part50_eq_skeleton]; unfold k0_part50_skel
  simp only [semSignalWord, semWaitWord, Prog.lift, Prog.bind_op, Prog.bind_ret, Prog.pure_eq_ret, wp_deviceId]
  iintro ⟨#HC, HO, HAG2_2⟩ Hk
  iapply (agsend I c _ 2 2 (by omega) (by omega) (dev58_eq c) _ _ rfl rfl) $$ [HO HAG2_2]
  · isplitr; · iexact HC
    isplitl [HO]; · iexact HO
    iexact HAG2_2
  iintro ⟨HO, HAG2_3⟩
  iapply (agsend I c _ 2 3 (by omega) (by omega) (dev59_eq c) _ _ rfl rfl) $$ [HO HAG2_3]
  · isplitr; · iexact HC
    isplitl [HO]; · iexact HO
    iexact HAG2_3
  iintro ⟨HO, HAG2_4⟩
  rw [wp_ret]; imodintro
  iapply Hk $$ [HO HAG2_4]
  · isplitl [HO]; · iexact HO
    iexact HAG2_4

theorem part51 (c : Dev nD) (v19 : BitVec 32) (v20 : BitVec 32) {K : PUnit → sProp 𝕄} :
    iprop(Ctx I ∗ Ow (F := F) c 59 ∗ AG I c 2 4)
      ⊢ iprop(((Ow (F := F) c 61 ∗ AG I c 2 6) -∗ K ⟨⟩)
        -∗ wp frame (wpE (defs₀ (F := F)) 𝒱₀ (c : Thread nD τ) none) Set.univ (k0_part51 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part51_eq_skeleton]; unfold k0_part51_skel
  simp only [semSignalWord, semWaitWord, Prog.lift, Prog.bind_op, Prog.bind_ret, Prog.pure_eq_ret, wp_deviceId]
  iintro ⟨#HC, HO, HAG2_4⟩ Hk
  iapply (agsend I c _ 2 4 (by omega) (by omega) (dev60_eq c) _ _ rfl rfl) $$ [HO HAG2_4]
  · isplitr; · iexact HC
    isplitl [HO]; · iexact HO
    iexact HAG2_4
  iintro ⟨HO, HAG2_5⟩
  iapply (agsend I c _ 2 5 (by omega) (by omega) (dev61_eq c) _ _ rfl rfl) $$ [HO HAG2_5]
  · isplitr; · iexact HC
    isplitl [HO]; · iexact HO
    iexact HAG2_5
  iintro ⟨HO, HAG2_6⟩
  rw [wp_ret]; imodintro
  iapply Hk $$ [HO HAG2_6]
  · isplitl [HO]; · iexact HO
    iexact HAG2_6

theorem part52 (c : Dev nD) (v19 : BitVec 32) (v20 : BitVec 32) {K : (Σ' (v1468 : BitVec 32), BitVec 32) → sProp 𝕄} :
    iprop(Ctx I ∗ Ow (F := F) c 61 ∗ AG I c 2 6)
      ⊢ iprop((∀ (v1468 : BitVec 32) (v1470 : BitVec 32), (Ow (F := F) c 63 ∗ AG I c 2 8) -∗ K ⟨v1468, v1470⟩)
        -∗ wp frame (wpE (defs₀ (F := F)) 𝒱₀ (c : Thread nD τ) none) Set.univ (k0_part52 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part52_eq_skeleton]; unfold k0_part52_skel
  simp only [semSignalWord, semWaitWord, Prog.lift, Prog.bind_op, Prog.bind_ret, Prog.pure_eq_ret, wp_deviceId]
  iintro ⟨#HC, HO, HAG2_6⟩ Hk
  iapply (agsend I c _ 2 6 (by omega) (by omega) (dev62_eq c) _ _ rfl rfl) $$ [HO HAG2_6]
  · isplitr; · iexact HC
    isplitl [HO]; · iexact HO
    iexact HAG2_6
  iintro ⟨HO, HAG2_7⟩
  iapply (agsend I c _ 2 7 (by omega) (by omega) (dev63_eq c) _ _ rfl rfl) $$ [HO HAG2_7]
  · isplitr; · iexact HC
    isplitl [HO]; · iexact HO
    iexact HAG2_7
  iintro ⟨HO, HAG2_8⟩
  rw [wp_ret]; imodintro
  iapply Hk $$ %_ %_ [HO HAG2_8]
  · isplitl [HO]; · iexact HO
    iexact HAG2_8

theorem part53 (c : Dev nD) (v19 : BitVec 32) (v20 : BitVec 32) (v1468 : BitVec 32) (v1470 : BitVec 32) {K : (BitVec 32) → sProp 𝕄} :
    iprop(Ctx I ∗ Ow (F := F) c 63 ∗ Wt I c (nW 2) 2 0 0 6 0)
      ⊢ iprop((∀ (v1504 : BitVec 32), (Ow (F := F) c 63 ∗ Wt I c (nW 2) 2 0 0 6 3) -∗ K v1504)
        -∗ wp frame (wpE (defs₀ (F := F)) 𝒱₀ (c : Thread nD τ) none) Set.univ (k0_part53 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1468 v1470) K) := by
  rw [k0_part53_eq_skeleton]; unfold k0_part53_skel
  simp only [semSignalWord, semWaitWord, Prog.lift, Prog.bind_op, Prog.bind_ret, Prog.pure_eq_ret, wp_deviceId]
  iintro ⟨#HC, HO, HWN2_0⟩ Hk
  iapply (wait_step I c (nW 2) 2 0 0 6 0 63 (by omega) (by decide) (by omega) (fun _ => by decide) rfl (amt11 _ _)) $$ [HO HWN2_0]
  · isplitr; · iexact HC
    isplitl [HO]; · iexact HO
    iexact HWN2_0
  iintro ⟨HO, HWN2_1⟩
  iapply (wait_step I c (nW 2) 2 0 0 6 1 63 (by omega) (by decide) (by omega) (fun _ => by decide) rfl (amt12 _ _)) $$ [HO HWN2_1]
  · isplitr; · iexact HC
    isplitl [HO]; · iexact HO
    iexact HWN2_1
  iintro ⟨HO, HWN2_2⟩
  iapply (wait_step I c (nW 2) 2 0 0 6 2 63 (by omega) (by decide) (by omega) (fun _ => by decide) rfl (amt11 _ _)) $$ [HO HWN2_2]
  · isplitr; · iexact HC
    isplitl [HO]; · iexact HO
    iexact HWN2_2
  iintro ⟨HO, HWN2_3⟩
  rw [wp_ret]; imodintro
  iapply Hk $$ %_ [HO HWN2_3]
  · isplitl [HO]; · iexact HO
    iexact HWN2_3

theorem part54 (c : Dev nD) (v19 : BitVec 32) (v20 : BitVec 32) (v1504 : BitVec 32) {K : PUnit → sProp 𝕄} :
    iprop(Ctx I ∗ Ow (F := F) c 63 ∗ Wt I c (nW 2) 2 0 0 6 3)
      ⊢ iprop(((Ow (F := F) c 63 ∗ Wt I c (nW 2) 2 0 0 6 6) -∗ K ⟨⟩)
        -∗ wp frame (wpE (defs₀ (F := F)) 𝒱₀ (c : Thread nD τ) none) Set.univ (k0_part54 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1504) K) := by
  rw [k0_part54_eq_skeleton]; unfold k0_part54_skel
  simp only [semSignalWord, semWaitWord, Prog.lift, Prog.bind_op, Prog.bind_ret, Prog.pure_eq_ret, wp_deviceId]
  iintro ⟨#HC, HO, HWN2_3⟩ Hk
  iapply (wait_step I c (nW 2) 2 0 0 6 3 63 (by omega) (by decide) (by omega) (fun _ => by decide) rfl (amt12 _ _)) $$ [HO HWN2_3]
  · isplitr; · iexact HC
    isplitl [HO]; · iexact HO
    iexact HWN2_3
  iintro ⟨HO, HWN2_4⟩
  iapply (wait_step I c (nW 2) 2 0 0 6 4 63 (by omega) (by decide) (by omega) (fun _ => by decide) rfl (amt11 _ _)) $$ [HO HWN2_4]
  · isplitr; · iexact HC
    isplitl [HO]; · iexact HO
    iexact HWN2_4
  iintro ⟨HO, HWN2_5⟩
  iapply (wait_step I c (nW 2) 2 0 0 6 5 63 (by omega) (by decide) (by omega) (fun _ => by decide) rfl (amt12 _ _)) $$ [HO HWN2_5]
  · isplitr; · iexact HC
    isplitl [HO]; · iexact HO
    iexact HWN2_5
  iintro ⟨HO, HWN2_6⟩
  rw [wp_ret]; imodintro
  iapply Hk $$ [HO HWN2_6]
  · isplitl [HO]; · iexact HO
    iexact HWN2_6

theorem part55 (c : Dev nD) (v20 : BitVec 32) {K : (Σ' (v1536 : FVec F S128x1024 .bf16) (v1538 : FVec F S1024x128 .bf16), FVec F S128x128 .f32) → sProp 𝕄} :
    iprop(Ctx I ∗ Ow (F := F) c 63 ∗ Wt I c (nW 2) 2 0 0 6 6 ∗ ownW I c 2 (sh 0) ∗ xqP c (xs 0) (sh 0) (xqC (actC I 2) c) ∗ Wt I c (fun r => 52 + r) 7 2 1 4 1)
      ⊢ iprop((∀ (v1536 : FVec F S128x1024 .bf16) (v1538 : FVec F S1024x128 .bf16) (v1545 : FVec F S128x128 .f32), ⌜v1536 = k0_pay9 (winL I 2 c)⌝ -∗ ⌜v1538 = k0_pay10 (woutL I 2 c)⌝ -∗ ⌜v1545 = ownP I 2 (actC I 2) c⌝ -∗ (Ow (F := F) c 63 ∗ wbag I c 2 ∗ wiP c (wl 2) (sh 0) (winC I c) ∗ woP c (wol 2) (sh 0) (woutC I c) ∗ xqP c (xs 0) (sh 0) (xqC (actC I 2) c) ∗ Wt I c (fun r => 52 + r) 7 2 1 4 3) -∗ K ⟨v1536, v1538, v1545⟩)
        -∗ wp frame (wpE (defs₀ (F := F)) 𝒱₀ (c : Thread nD τ) none) Set.univ (k0_part55 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part55_eq_skeleton]; unfold k0_part55_skel
  simp only [semSignalWord, semWaitWord, Prog.lift, Prog.bind_op, Prog.bind_ret, Prog.pure_eq_ret, wp_deviceId]
  iintro ⟨#HC, HO, HWN2_6, HOWN2, HX0S2, HWA2_1_1⟩ Hk
  ihave ⟨HWIN2, HWON2, HWBAG2⟩ := (T_Wl I c 2 (by omega)) $$ [HWN2_6 HOWN2]
  · isplitl [HWN2_6]; · iexact HWN2_6
    iexact HOWN2
  iapply (get_in I c 2 (by omega) (sh 0) _) $$ [HWIN2]
  · iexact HWIN2
  iintro HWIN2
  iapply (get_out I c 2 (by omega) (sh 0) _) $$ [HWON2]
  · iexact HWON2
  iintro HWON2
  iapply (get_x0 c (actC I 2) (sh 0) _) $$ [HX0S2]
  · iexact HX0S2
  iintro HX0S2
  iapply (wait_step I c (fun r => 52 + r) 7 2 1 4 1 63 (by omega) (by decide) (by omega) (fun _ => by decide) rfl (amt8 _ _)) $$ [HO HWA2_1_1]
  · isplitr; · iexact HC
    isplitl [HO]; · iexact HO
    iexact HWA2_1_1
  iintro ⟨HO, HWA2_1_2⟩
  iapply (wait_step I c (fun r => 52 + r) 7 2 1 4 2 63 (by omega) (by decide) (by omega) (fun _ => by decide) rfl (amt8 _ _)) $$ [HO HWA2_1_2]
  · isplitr; · iexact HC
    isplitl [HO]; · iexact HO
    iexact HWA2_1_2
  iintro ⟨HO, HWA2_1_3⟩
  rw [wp_ret]; imodintro
  iapply Hk $$ %_ %_ %_ [] [] [] [HO HWBAG2 HWIN2 HWON2 HX0S2 HWA2_1_3]
  · ipureintro; rfl
  · ipureintro; rfl
  · ipureintro; rfl
  · isplitl [HO]; · iexact HO
    isplitl [HWBAG2]; · iexact HWBAG2
    isplitl [HWIN2]; · iexact HWIN2
    isplitl [HWON2]; · iexact HWON2
    isplitl [HX0S2]; · iexact HX0S2
    iexact HWA2_1_3

theorem part56 (c : Dev nD) (v19 : BitVec 32) (v20 : BitVec 32) (v1536 : FVec F S128x1024 .bf16) (v1538 : FVec F S1024x128 .bf16) (hv1536 : v1536 = k0_pay9 (winL I 2 c)) (hv1538 : v1538 = k0_pay10 (woutL I 2 c)) {K : PUnit → sProp 𝕄} :
    iprop(Ctx I ∗ Ow (F := F) c 63 ∗ Wt I c (fun r => 52 + r) 7 2 1 4 3 ∗ ptE (F := F) c (xr 1 4))
      ⊢ iprop(((Ow (F := F) c 63 ∗ agL (F := F) c 2 1 4 ∗ xqP c (xr 1 4) fullShare (xqC (actC I 2) c) ∗ ptP c (xr 1 4) fullShare (partC I 2 (actC I 2) c)) -∗ K ⟨⟩)
        -∗ wp frame (wpE (defs₀ (F := F)) 𝒱₀ (c : Thread nD τ) none) Set.univ (k0_part56 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v19 v20 v1536 v1538) K) := by
  rw [k0_part56_eq_skeleton]; unfold k0_part56_skel
  simp only [semSignalWord, semWaitWord, Prog.lift, Prog.bind_op, Prog.bind_ret, Prog.pure_eq_ret, wp_deviceId]
  iintro ⟨#HC, HO, HWA2_1_3, HPTE1⟩ Hk
  iapply (wait_step I c (fun r => 52 + r) 7 2 1 4 3 63 (by omega) (by decide) (by omega) (fun _ => by decide) rfl (amt8 _ _)) $$ [HO HWA2_1_3]
  · isplitr; · iexact HC
    isplitl [HO]; · iexact HO
    iexact HWA2_1_3
  iintro ⟨HO, HWA2_1_4⟩
  ihave ⟨HXR2_1, HAGL2_1⟩ := (T_A I c 7 2 1 4 (by omega)) $$ [HWA2_1_4]
  · iexact HWA2_1_4
  iapply (get_xA c _ _) $$ [HXR2_1]
  · iexact HXR2_1
  iintro HXR2_1
  iapply (dead_pA c _) $$ [HPTE1]
  · iexact HPTE1
  iintro %v HPTE1
  iapply (put_pA I c 2 (actC I 2) _ (by subst hv1536; subst hv1538; rfl)) $$ [HPTE1]
  · iexact HPTE1
  iintro HPTF2_1
  rw [wp_ret]; imodintro
  iapply Hk $$ [HO HAGL2_1 HXR2_1 HPTF2_1]
  · isplitl [HO]; · iexact HO
    isplitl [HAGL2_1]; · iexact HAGL2_1
    isplitl [HXR2_1]; · iexact HXR2_1
    iexact HPTF2_1

theorem part57 (c : Dev nD) (v19 : BitVec 32) (v20 : BitVec 32) {K : PUnit → sProp 𝕄} :
    iprop(Ctx I ∗ Ow (F := F) c 63 ∗ ptP c (xr 1 4) fullShare (partC I 2 (actC I 2) c) ∗ xqP c (xr 1 4) fullShare (xqC (actC I 2) c) ∗ agL (F := F) c 2 1 4 ∗ rsToks (F := F) c 2 1 4)
      ⊢ iprop(((Ow (F := F) c 65 ∗ poss (F := F) c 52 3 1 4 ∗ xqP c (xr 1 4) fullShare (xqC (actC I 2) c) ∗ RS I c 2 1 4 3) -∗ K ⟨⟩)
        -∗ wp frame (wpE (defs₀ (F := F)) 𝒱₀ (c : Thread nD τ) none) Set.univ (k0_part57 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20) K) := by
  rw [k0_part57_eq_skeleton]; unfold k0_part57_skel
  simp only [semSignalWord, semWaitWord, Prog.lift, Prog.bind_op, Prog.bind_ret, Prog.pure_eq_ret, wp_deviceId]
  iintro ⟨#HC, HO, HPTF2_1, HXR2_1, HAGL2_1, HRT2_1⟩ Hk
  ihave ⟨HRS2_1_1, HP52_3_1_4, HXR2_1⟩ := (T_Blast' I c 1 4) $$ [HPTF2_1 HXR2_1 HAGL2_1 HRT2_1]
  · isplitl [HPTF2_1]; · iexact HPTF2_1
    isplitl [HXR2_1]; · iexact HXR2_1
    isplitl [HAGL2_1]; · iexact HAGL2_1
    iexact HRT2_1
  iapply (rssend I c _ 2 1 1 4 (by omega) (by omega) (by omega) (dev64_eq c) _ _ rfl rfl) $$ [HO HRS2_1_1]
  · isplitr; · iexact HC
    isplitl [HO]; · iexact HO
    iexact HRS2_1_1
  iintro ⟨HO, HRS2_1_2⟩
  iapply (rssend I c _ 2 2 1 4 (by omega) (by omega) (by omega) (dev65_eq c) _ _ rfl rfl) $$ [HO HRS2_1_2]
  · isplitr; · iexact HC
    isplitl [HO]; · iexact HO
    iexact HRS2_1_2
  iintro ⟨HO, HRS2_1_3⟩
  rw [wp_ret]; imodintro
  iapply Hk $$ [HO HP52_3_1_4 HXR2_1 HRS2_1_3]
  · isplitl [HO]; · iexact HO
    isplitl [HP52_3_1_4]; · iexact HP52_3_1_4
    isplitl [HXR2_1]; · iexact HXR2_1
    iexact HRS2_1_3

theorem part58 (c : Dev nD) (v20 : BitVec 32) {K : PUnit → sProp 𝕄} :
    iprop(Ctx I ∗ Ow (F := F) c 65 ∗ RS I c 2 1 4 3 ∗ Wt I c (fun r => 52 + r) 7 2 4 8 4)
      ⊢ iprop(((Ow (F := F) c 66 ∗ RS I c 2 1 4 4 ∗ Wt I c (fun r => 52 + r) 7 2 4 8 6) -∗ K ⟨⟩)
        -∗ wp frame (wpE (defs₀ (F := F)) 𝒱₀ (c : Thread nD τ) none) Set.univ (k0_part58 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v20) K) := by
  rw [k0_part58_eq_skeleton]; unfold k0_part58_skel
  simp only [semSignalWord, semWaitWord, Prog.lift, Prog.bind_op, Prog.bind_ret, Prog.pure_eq_ret, wp_deviceId]
  iintro ⟨#HC, HO, HRS2_1_3, HWA2_4_4⟩ Hk
  iapply (rssend I c _ 2 3 1 4 (by omega) (by omega) (by omega) (dev66_eq c) _ _ rfl rfl) $$ [HO HRS2_1_3]
  · isplitr; · iexact HC
    isplitl [HO]; · iexact HO
    iexact HRS2_1_3
  iintro ⟨HO, HRS2_1_4⟩
  iapply (wait_step I c (fun r => 52 + r) 7 2 4 8 4 66 (by omega) (by decide) (by omega) (fun _ => by decide) rfl (amt8 _ _)) $$ [HO HWA2_4_4]
  · isplitr; · iexact HC
    isplitl [HO]; · iexact HO
    iexact HWA2_4_4
  iintro ⟨HO, HWA2_4_5⟩
  iapply (wait_step I c (fun r => 52 + r) 7 2 4 8 5 66 (by omega) (by decide) (by omega) (fun _ => by decide) rfl (amt8 _ _)) $$ [HO HWA2_4_5]
  · isplitr; · iexact HC
    isplitl [HO]; · iexact HO
    iexact HWA2_4_5
  iintro ⟨HO, HWA2_4_6⟩
  rw [wp_ret]; imodintro
  iapply Hk $$ [HO HRS2_1_4 HWA2_4_6]
  · isplitl [HO]; · iexact HO
    isplitl [HRS2_1_4]; · iexact HRS2_1_4
    iexact HWA2_4_6

end Cert.K
-- ==== Proof.Parts7.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part59 (c : Dev nD) (v19 : BitVec 32) (v20 : BitVec 32) (v1536 : FVec F S128x1024 .bf16) (v1538 : FVec F S1024x128 .bf16) (hv1536 : v1536 = k0_pay9 (winL I 2 c)) (hv1538 : v1538 = k0_pay10 (woutL I 2 c)) {K : (BitVec 32) → sProp 𝕄} :
    iprop(Ctx I ∗ Ow (F := F) c 66 ∗ Wt I c (fun r => 52 + r) 7 2 4 8 6 ∗ ptE (F := F) c (xr 4 8))
      ⊢ iprop((∀ (v1675 : BitVec 32), (Ow (F := F) c 66 ∗ agL (F := F) c 2 4 8 ∗ xqP c (xr 4 8) fullShare (xqC (actC I 2) c) ∗ ptP c (xr 4 8) fullShare (partC I 2 (actC I 2) c)) -∗ K v1675)
        -∗ wp frame (wpE (defs₀ (F := F)) 𝒱₀ (c : Thread nD τ) none) Set.univ (k0_part59 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v19 v20 v1536 v1538) K) := by
  rw [k0_part59_eq_skeleton]; unfold k0_part59_skel
  simp only [semSignalWord, semWaitWord, Prog.lift, Prog.bind_op, Prog.bind_ret, Prog.pure_eq_ret, wp_deviceId]
  iintro ⟨#HC, HO, HWA2_4_6, HPTE4⟩ Hk
  iapply (wait_step I c (fun r => 52 + r) 7 2 4 8 6 66 (by omega) (by decide) (by omega) (fun _ => by decide) rfl (amt8 _ _)) $$ [HO HWA2_4_6]
  · isplitr; · iexact HC
    isplitl [HO]; · iexact HO
    iexact HWA2_4_6
  iintro ⟨HO, HWA2_4_7⟩
  iapply (wait_step I c (fun r => 52 + r) 7 2 4 8 7 66 (by omega) (by decide) (by omega) (fun _ => by decide) rfl (amt8 _ _)) $$ [HO HWA2_4_7]
  · isplitr; · iexact HC
    isplitl [HO]; · iexact HO
    iexact HWA2_4_7
  iintro ⟨HO, HWA2_4_8⟩
  ihave ⟨HXR2_4, HAGL2_4⟩ := (T_A I c 7 2 4 8 (by omega)) $$ [HWA2_4_8]
  · iexact HWA2_4_8
  iapply (get_xB c _ _) $$ [HXR2_4]
  · iexact HXR2_4
  iintro HXR2_4
  iapply (dead_pB c _) $$ [HPTE4]
  · iexact HPTE4
  iintro %v HPTE4
  iapply (put_pB I c 2 (actC I 2) _ (by subst hv1536; subst hv1538; rfl)) $$ [HPTE4]
  · iexact HPTE4
  iintro HPTF2_4
  rw [wp_ret]; imodintro
  iapply Hk $$ %_ [HO HAGL2_4 HXR2_4 HPTF2_4]
  · isplitl [HO]; · iexact HO
    isplitl [HAGL2_4]; · iexact HAGL2_4
    isplitl [HXR2_4]; · iexact HXR2_4
    iexact HPTF2_4

theorem part60 (c : Dev nD) (v19 : BitVec 32) (v20 : BitVec 32) (v1675 : BitVec 32) {K : (BitVec 32) → sProp 𝕄} :
    iprop(Ctx I ∗ Ow (F := F) c 66 ∗ ptP c (xr 4 8) fullShare (partC I 2 (actC I 2) c) ∗ xqP c (xr 4 8) fullShare (xqC (actC I 2) c) ∗ agL (F := F) c 2 4 8 ∗ rsToks (F := F) c 2 4 8)
      ⊢ iprop((∀ (v1705 : BitVec 32), (Ow (F := F) c 68 ∗ poss (F := F) c 52 3 4 8 ∗ xqP c (xr 4 8) fullShare (xqC (actC I 2) c) ∗ RS I c 2 4 8 6) -∗ K v1705)
        -∗ wp frame (wpE (defs₀ (F := F)) 𝒱₀ (c : Thread nD τ) none) Set.univ (k0_part60 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1675) K) := by
  rw [k0_part60_eq_skeleton]; unfold k0_part60_skel
  simp only [semSignalWord, semWaitWord, Prog.lift, Prog.bind_op, Prog.bind_ret, Prog.pure_eq_ret, wp_deviceId]
  iintro ⟨#HC, HO, HPTF2_4, HXR2_4, HAGL2_4, HRT2_4⟩ Hk
  ihave ⟨HRS2_4_4, HP52_3_4_8, HXR2_4⟩ := (T_Blast' I c 4 8) $$ [HPTF2_4 HXR2_4 HAGL2_4 HRT2_4]
  · isplitl [HPTF2_4]; · iexact HPTF2_4
    isplitl [HXR2_4]; · iexact HXR2_4
    isplitl [HAGL2_4]; · iexact HAGL2_4
    iexact HRT2_4
  iapply (rssend I c _ 2 4 4 8 (by omega) (by omega) (by omega) (dev67_eq c) _ _ rfl rfl) $$ [HO HRS2_4_4]
  · isplitr; · iexact HC
    isplitl [HO]; · iexact HO
    iexact HRS2_4_4
  iintro ⟨HO, HRS2_4_5⟩
  iapply (rssend I c _ 2 5 4 8 (by omega) (by omega) (by omega) (dev68_eq c) _ _ rfl rfl) $$ [HO HRS2_4_5]
  · isplitr; · iexact HC
    isplitl [HO]; · iexact HO
    iexact HRS2_4_5
  iintro ⟨HO, HRS2_4_6⟩
  rw [wp_ret]; imodintro
  iapply Hk $$ %_ [HO HP52_3_4_8 HXR2_4 HRS2_4_6]
  · isplitl [HO]; · iexact HO
    isplitl [HP52_3_4_8]; · iexact HP52_3_4_8
    isplitl [HXR2_4]; · iexact HXR2_4
    iexact HRS2_4_6

theorem part61 (c : Dev nD) (v19 : BitVec 32) (v20 : BitVec 32) (v1705 : BitVec 32) {K : PUnit → sProp 𝕄} :
    iprop(Ctx I ∗ Ow (F := F) c 68 ∗ RS I c 2 4 8 6)
      ⊢ iprop(((Ow (F := F) c 70 ∗ RS I c 2 4 8 8) -∗ K ⟨⟩)
        -∗ wp frame (wpE (defs₀ (F := F)) 𝒱₀ (c : Thread nD τ) none) Set.univ (k0_part61 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1705) K) := by
  rw [k0_part61_eq_skeleton]; unfold k0_part61_skel
  simp only [semSignalWord, semWaitWord, Prog.lift, Prog.bind_op, Prog.bind_ret, Prog.pure_eq_ret, wp_deviceId]
  iintro ⟨#HC, HO, HRS2_4_6⟩ Hk
  iapply (rssend I c _ 2 6 4 8 (by omega) (by omega) (by omega) (dev69_eq c) _ _ rfl rfl) $$ [HO HRS2_4_6]
  · isplitr; · iexact HC
    isplitl [HO]; · iexact HO
    iexact HRS2_4_6
  iintro ⟨HO, HRS2_4_7⟩
  iapply (rssend I c _ 2 7 4 8 (by omega) (by omega) (by omega) (dev70_eq c) _ _ rfl rfl) $$ [HO HRS2_4_7]
  · isplitr; · iexact HC
    isplitl [HO]; · iexact HO
    iexact HRS2_4_7
  iintro ⟨HO, HRS2_4_8⟩
  rw [wp_ret]; imodintro
  iapply Hk $$ [HO HRS2_4_8]
  · isplitl [HO]; · iexact HO
    iexact HRS2_4_8

theorem part62 (c : Dev nD) (v20 : BitVec 32) {K : PUnit → sProp 𝕄} :
    iprop(Ctx I ∗ Ow (F := F) c 70 ∗ Wt I c (fun r => 68 + r) 8 2 1 8 1)
      ⊢ iprop(((Ow (F := F) c 70 ∗ Wt I c (fun r => 68 + r) 8 2 1 8 4) -∗ K ⟨⟩)
        -∗ wp frame (wpE (defs₀ (F := F)) 𝒱₀ (c : Thread nD τ) none) Set.univ (k0_part62 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part62_eq_skeleton]; unfold k0_part62_skel
  simp only [semSignalWord, semWaitWord, Prog.lift, Prog.bind_op, Prog.bind_ret, Prog.pure_eq_ret, wp_deviceId]
  iintro ⟨#HC, HO, HWR2_1⟩ Hk
  iapply (wait_step I c (fun r => 68 + r) 8 2 1 8 1 70 (by omega) (by decide) (by omega) (fun _ => by decide) rfl (amt10 _ _)) $$ [HO HWR2_1]
  · isplitr; · iexact HC
    isplitl [HO]; · iexact HO
    iexact HWR2_1
  iintro ⟨HO, HWR2_2⟩
  iapply (wait_step I c (fun r => 68 + r) 8 2 1 8 2 70 (by omega) (by decide) (by omega) (fun _ => by decide) rfl (amt10 _ _)) $$ [HO HWR2_2]
  · isplitr; · iexact HC
    isplitl [HO]; · iexact HO
    iexact HWR2_2
  iintro ⟨HO, HWR2_3⟩
  iapply (wait_step I c (fun r => 68 + r) 8 2 1 8 3 70 (by omega) (by decide) (by omega) (fun _ => by decide) rfl (amt10 _ _)) $$ [HO HWR2_3]
  · isplitr; · iexact HC
    isplitl [HO]; · iexact HO
    iexact HWR2_3
  iintro ⟨HO, HWR2_4⟩
  rw [wp_ret]; imodintro
  iapply Hk $$ [HO HWR2_4]
  · isplitl [HO]; · iexact HO
    iexact HWR2_4

theorem part63 (c : Dev nD) (v20 : BitVec 32) {K : PUnit → sProp 𝕄} :
    iprop(Ctx I ∗ Ow (F := F) c 70 ∗ Wt I c (fun r => 68 + r) 8 2 1 8 4)
      ⊢ iprop(((Ow (F := F) c 70 ∗ Wt I c (fun r => 68 + r) 8 2 1 8 7) -∗ K ⟨⟩)
        -∗ wp frame (wpE (defs₀ (F := F)) 𝒱₀ (c : Thread nD τ) none) Set.univ (k0_part63 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v20) K) := by
  rw [k0_part63_eq_skeleton]; unfold k0_part63_skel
  simp only [semSignalWord, semWaitWord, Prog.lift, Prog.bind_op, Prog.bind_ret, Prog.pure_eq_ret, wp_deviceId]
  iintro ⟨#HC, HO, HWR2_4⟩ Hk
  iapply (wait_step I c (fun r => 68 + r) 8 2 1 8 4 70 (by omega) (by decide) (by omega) (fun _ => by decide) rfl (amt10 _ _)) $$ [HO HWR2_4]
  · isplitr; · iexact HC
    isplitl [HO]; · iexact HO
    iexact HWR2_4
  iintro ⟨HO, HWR2_5⟩
  iapply (wait_step I c (fun r => 68 + r) 8 2 1 8 5 70 (by omega) (by decide) (by omega) (fun _ => by decide) rfl (amt10 _ _)) $$ [HO HWR2_5]
  · isplitr; · iexact HC
    isplitl [HO]; · iexact HO
    iexact HWR2_5
  iintro ⟨HO, HWR2_6⟩
  iapply (wait_step I c (fun r => 68 + r) 8 2 1 8 6 70 (by omega) (by decide) (by omega) (fun _ => by decide) rfl (amt10 _ _)) $$ [HO HWR2_6]
  · isplitr; · iexact HC
    isplitl [HO]; · iexact HO
    iexact HWR2_6
  iintro ⟨HO, HWR2_7⟩
  rw [wp_ret]; imodintro
  iapply Hk $$ [HO HWR2_7]
  · isplitl [HO]; · iexact HO
    iexact HWR2_7

theorem part64 (c : Dev nD) (v1545 : FVec F S128x128 .f32) (hv1545 : v1545 = ownP I 2 (actC I 2) c) {K : (FVec F S128x128 .f32) → sProp 𝕄} :
    iprop(Ctx I ∗ Ow (F := F) c 70 ∗ Wt I c (fun r => 68 + r) 8 2 1 8 7 ∗ AG I c 2 8 ∗ poss (F := F) c 44 2 1 8)
      ⊢ iprop((∀ (v1790 : FVec F S128x128 .f32), ⌜v1790 = resC I c⌝ -∗ (Ow (F := F) c 70 ∗ rsL (F := F) c 2 ∗ rsP c (xr 1 8) fullShare (rsC I 2 (actC I 2) c) ∗ Wt I c (fun r => 44 + r) 0 2 1 8 4) -∗ K v1790)
        -∗ wp frame (wpE (defs₀ (F := F)) 𝒱₀ (c : Thread nD τ) none) Set.univ (k0_part64 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v1545) K) := by
  rw [k0_part64_eq_skeleton]; unfold k0_part64_skel
  simp only [semSignalWord, semWaitWord, Prog.lift, Prog.bind_op, Prog.bind_ret, Prog.pure_eq_ret, wp_deviceId]
  iintro ⟨#HC, HO, HWR2_7, HAG2_8, HP44_2_1_8⟩ Hk
  iapply (wait_step I c (fun r => 68 + r) 8 2 1 8 7 70 (by omega) (by decide) (by omega) (fun _ => by decide) rfl (amt10 _ _)) $$ [HO HWR2_7]
  · isplitr; · iexact HC
    isplitl [HO]; · iexact HO
    iexact HWR2_7
  iintro ⟨HO, HWR2_8⟩
  ihave ⟨HRSP2, HRSL2⟩ := (T_rs I c 8 2) $$ [HWR2_8]
  · iexact HWR2_8
  iapply (get_r c _ _) $$ [HRSP2]
  · iexact HRSP2
  iintro HRSP2
  ihave HWGS2_1 := (T_ags I c 2) $$ [HAG2_8 HP44_2_1_8]
  · isplitl [HAG2_8]; · iexact HAG2_8
    iexact HP44_2_1_8
  iapply (wait_step I c (fun r => 44 + r) 0 2 1 8 1 70 (by omega) (by decide) (by omega) (fun _ => by decide) rfl (amt8 _ _)) $$ [HO HWGS2_1]
  · isplitr; · iexact HC
    isplitl [HO]; · iexact HO
    iexact HWGS2_1
  iintro ⟨HO, HWGS2_2⟩
  iapply (wait_step I c (fun r => 44 + r) 0 2 1 8 2 70 (by omega) (by decide) (by omega) (fun _ => by decide) rfl (amt8 _ _)) $$ [HO HWGS2_2]
  · isplitr; · iexact HC
    isplitl [HO]; · iexact HO
    iexact HWGS2_2
  iintro ⟨HO, HWGS2_3⟩
  iapply (wait_step I c (fun r => 44 + r) 0 2 1 8 3 70 (by omega) (by decide) (by omega) (fun _ => by decide) rfl (amt8 _ _)) $$ [HO HWGS2_3]
  · isplitr; · iexact HC
    isplitl [HO]; · iexact HO
    iexact HWGS2_3
  iintro ⟨HO, HWGS2_4⟩
  subst hv1545
  rw [wp_ret]; imodintro
  iapply Hk $$ %_ [] [HO HRSL2 HRSP2 HWGS2_4]
  · ipureintro; rfl
  · isplitl [HO]; · iexact HO
    isplitl [HRSL2]; · iexact HRSL2
    isplitl [HRSP2]; · iexact HRSP2
    iexact HWGS2_4

theorem part65 (c : Dev nD) {K : PUnit → sProp 𝕄} :
    iprop(Ctx I ∗ Ow (F := F) c 70 ∗ Wt I c (fun r => 44 + r) 0 2 1 8 4)
      ⊢ iprop(((Ow (F := F) c 70 ∗ Wt I c (fun r => 44 + r) 0 2 1 8 7) -∗ K ⟨⟩)
        -∗ wp frame (wpE (defs₀ (F := F)) 𝒱₀ (c : Thread nD τ) none) Set.univ (k0_part65 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part65_eq_skeleton]; unfold k0_part65_skel
  simp only [semSignalWord, semWaitWord, Prog.lift, Prog.bind_op, Prog.bind_ret, Prog.pure_eq_ret, wp_deviceId]
  iintro ⟨#HC, HO, HWGS2_4⟩ Hk
  iapply (wait_step I c (fun r => 44 + r) 0 2 1 8 4 70 (by omega) (by decide) (by omega) (fun _ => by decide) rfl (amt8 _ _)) $$ [HO HWGS2_4]
  · isplitr; · iexact HC
    isplitl [HO]; · iexact HO
    iexact HWGS2_4
  iintro ⟨HO, HWGS2_5⟩
  iapply (wait_step I c (fun r => 44 + r) 0 2 1 8 5 70 (by omega) (by decide) (by omega) (fun _ => by decide) rfl (amt8 _ _)) $$ [HO HWGS2_5]
  · isplitr; · iexact HC
    isplitl [HO]; · iexact HO
    iexact HWGS2_5
  iintro ⟨HO, HWGS2_6⟩
  iapply (wait_step I c (fun r => 44 + r) 0 2 1 8 6 70 (by omega) (by decide) (by omega) (fun _ => by decide) rfl (amt8 _ _)) $$ [HO HWGS2_6]
  · isplitr; · iexact HC
    isplitl [HO]; · iexact HO
    iexact HWGS2_6
  iintro ⟨HO, HWGS2_7⟩
  rw [wp_ret]; imodintro
  iapply Hk $$ [HO HWGS2_7]
  · isplitl [HO]; · iexact HO
    iexact HWGS2_7

theorem part66 (c : Dev nD) {K : PUnit → sProp 𝕄} :
    iprop(Ctx I ∗ Ow (F := F) c 70 ∗ Wt I c (fun r => 44 + r) 0 2 1 8 7 ∗ RS I c 2 1 4 4 ∗ RS I c 2 4 8 8 ∗ poss (F := F) c 60 2 1 8)
      ⊢ iprop(((Ow (F := F) c 70 ∗ Wt I c (fun r => 44 + r) 0 2 1 8 8 ∗ Wt I c (fun r => 60 + r) 0 2 1 8 4) -∗ K ⟨⟩)
        -∗ wp frame (wpE (defs₀ (F := F)) 𝒱₀ (c : Thread nD τ) none) Set.univ (k0_part66 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part66_eq_skeleton]; unfold k0_part66_skel
  simp only [semSignalWord, semWaitWord, Prog.lift, Prog.bind_op, Prog.bind_ret, Prog.pure_eq_ret, wp_deviceId]
  iintro ⟨#HC, HO, HWGS2_7, HRS2_1_4, HRS2_4_8, HP60_2_1_8⟩ Hk
  iapply (wait_step I c (fun r => 44 + r) 0 2 1 8 7 70 (by omega) (by decide) (by omega) (fun _ => by decide) rfl (amt8 _ _)) $$ [HO HWGS2_7]
  · isplitr; · iexact HC
    isplitl [HO]; · iexact HO
    iexact HWGS2_7
  iintro ⟨HO, HWGS2_8⟩
  ihave HWRS2_1 := (T_rss I c 2) $$ [HRS2_1_4 HRS2_4_8 HP60_2_1_8]
  · isplitl [HRS2_1_4]; · iexact HRS2_1_4
    isplitl [HRS2_4_8]; · iexact HRS2_4_8
    iexact HP60_2_1_8
  iapply (wait_step I c (fun r => 60 + r) 0 2 1 8 1 70 (by omega) (by decide) (by omega) (fun _ => by decide) rfl (amt9 _ _)) $$ [HO HWRS2_1]
  · isplitr; · iexact HC
    isplitl [HO]; · iexact HO
    iexact HWRS2_1
  iintro ⟨HO, HWRS2_2⟩
  iapply (wait_step I c (fun r => 60 + r) 0 2 1 8 2 70 (by omega) (by decide) (by omega) (fun _ => by decide) rfl (amt9 _ _)) $$ [HO HWRS2_2]
  · isplitr; · iexact HC
    isplitl [HO]; · iexact HO
    iexact HWRS2_2
  iintro ⟨HO, HWRS2_3⟩
  iapply (wait_step I c (fun r => 60 + r) 0 2 1 8 3 70 (by omega) (by decide) (by omega) (fun _ => by decide) rfl (amt9 _ _)) $$ [HO HWRS2_3]
  · isplitr; · iexact HC
    isplitl [HO]; · iexact HO
    iexact HWRS2_3
  iintro ⟨HO, HWRS2_4⟩
  rw [wp_ret]; imodintro
  iapply Hk $$ [HO HWGS2_8 HWRS2_4]
  · isplitl [HO]; · iexact HO
    isplitl [HWGS2_8]; · iexact HWGS2_8
    iexact HWRS2_4

theorem part67 (c : Dev nD) (v1790 : FVec F S128x128 .f32) (hv1790 : v1790 = resC I c) {K : PUnit → sProp 𝕄} :
    iprop(Ctx I ∗ Ow (F := F) c 70 ∗ Wt I c (fun r => 60 + r) 0 2 1 8 4 ∗ (∃ f, ((c : Thread nD τ).loc cc0_stg7_0) ↦{fullShare} (f : S128x128.Idx → Elt F .f32)))
      ⊢ iprop(((Ow (F := F) c 70 ∗ Wt I c (fun r => 60 + r) 0 2 1 8 8 ∗ (((c : Thread nD τ).loc cc0_stg7_0) ↦{fullShare} (resC I c))) -∗ K ⟨⟩)
        -∗ wp frame (wpE (defs₀ (F := F)) 𝒱₀ (c : Thread nD τ) none) Set.univ (k0_part67 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 v1790) K) := by
  rw [k0_part67_eq_skeleton]; unfold k0_part67_skel
  simp only [semSignalWord, semWaitWord, Prog.lift, Prog.bind_op, Prog.bind_ret, Prog.pure_eq_ret, wp_deviceId]
  iintro ⟨#HC, HO, HWRS2_4, HOUTE⟩ Hk
  iapply (wait_step I c (fun r => 60 + r) 0 2 1 8 4 70 (by omega) (by decide) (by omega) (fun _ => by decide) rfl (amt9 _ _)) $$ [HO HWRS2_4]
  · isplitr; · iexact HC
    isplitl [HO]; · iexact HO
    iexact HWRS2_4
  iintro ⟨HO, HWRS2_5⟩
  iapply (wait_step I c (fun r => 60 + r) 0 2 1 8 5 70 (by omega) (by decide) (by omega) (fun _ => by decide) rfl (amt9 _ _)) $$ [HO HWRS2_5]
  · isplitr; · iexact HC
    isplitl [HO]; · iexact HO
    iexact HWRS2_5
  iintro ⟨HO, HWRS2_6⟩
  iapply (wait_step I c (fun r => 60 + r) 0 2 1 8 6 70 (by omega) (by decide) (by omega) (fun _ => by decide) rfl (amt9 _ _)) $$ [HO HWRS2_6]
  · isplitr; · iexact HC
    isplitl [HO]; · iexact HO
    iexact HWRS2_6
  iintro ⟨HO, HWRS2_7⟩
  iapply (wait_step I c (fun r => 60 + r) 0 2 1 8 7 70 (by omega) (by decide) (by omega) (fun _ => by decide) rfl (amt9 _ _)) $$ [HO HWRS2_7]
  · isplitr; · iexact HC
    isplitl [HO]; · iexact HO
    iexact HWRS2_7
  iintro ⟨HO, HWRS2_8⟩
  icases HOUTE with ⟨%f7, HOUTE⟩
  iapply (ld_7 c f7 _) $$ [HOUTE]
  · iexact HOUTE
  iintro HOUTE
  subst hv1790
  iapply (st_7 c f7 (resC I c) _) $$ [HOUTE]
  · iexact HOUTE
  iintro HOUT
  rw [wp_ret]; imodintro
  iapply Hk $$ [HO HWRS2_8 HOUT]
  · isplitl [HO]; · iexact HO
    isplitl [HWRS2_8]; · iexact HWRS2_8
    iexact HOUT

end Cert.K
-- ==== Proof.Parts8.lean ====
/- Pieces of the kernel, one after another. -/
module

public import proofs.«01_k».proof.Proof.Ready

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

theorem part68 (c : Dev nD) {K : PUnit → sProp 𝕄} :
    iprop(Ctx I ∗ Ow (F := F) c 70 ∗ WS I c 18 ∗ poss (F := F) c 8 0 0 18)
      ⊢ iprop(((Ow (F := F) c 70 ∗ Wt I c (fun i => 8 + i) 0 0 0 18 4) -∗ K ⟨⟩)
        -∗ wp frame (wpE (defs₀ (F := F)) 𝒱₀ (c : Thread nD τ) none) Set.univ (k0_part68 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c) K) := by
  rw [k0_part68_eq_skeleton]; unfold k0_part68_skel
  simp only [semSignalWord, semWaitWord, Prog.lift, Prog.bind_op, Prog.bind_ret, Prog.pure_eq_ret, wp_deviceId]
  iintro ⟨#HC, HO, HWS18, HP8_0_0_18⟩ Hk
  ihave HWWS0 := (T_wsend I c) $$ [HWS18 HP8_0_0_18]
  · isplitl [HWS18]; · iexact HWS18
    iexact HP8_0_0_18
  iapply (wait_step I c (fun i => 8 + i) 0 0 0 18 0 70 (by omega) (by decide) (by omega) (fun _ => by decide) rfl (amt11 _ _)) $$ [HO HWWS0]
  · isplitr; · iexact HC
    isplitl [HO]; · iexact HO
    iexact HWWS0
  iintro ⟨HO, HWWS1⟩
  iapply (wait_step I c (fun i => 8 + i) 0 0 0 18 1 70 (by omega) (by decide) (by omega) (fun _ => by decide) rfl (amt12 _ _)) $$ [HO HWWS1]
  · isplitr; · iexact HC
    isplitl [HO]; · iexact HO
    iexact HWWS1
  iintro ⟨HO, HWWS2⟩
  iapply (wait_step I c (fun i => 8 + i) 0 0 0 18 2 70 (by omega) (by decide) (by omega) (fun _ => by decide) rfl (amt11 _ _)) $$ [HO HWWS2]
  · isplitr; · iexact HC
    isplitl [HO]; · iexact HO
    iexact HWWS2
  iintro ⟨HO, HWWS3⟩
  iapply (wait_step I c (fun i => 8 + i) 0 0 0 18 3 70 (by omega) (by decide) (by omega) (fun _ => by decide) rfl (amt12 _ _)) $$ [HO HWWS3]
  · isplitr; · iexact HC
    isplitl [HO]; · iexact HO
    iexact HWWS3
  iintro ⟨HO, HWWS4⟩
  rw [wp_ret]; imodintro
  iapply Hk $$ [HO HWWS4]
  · isplitl [HO]; · iexact HO
    iexact HWWS4

theorem part69 (c : Dev nD) {K : PUnit → sProp 𝕄} :
    iprop(Ctx I ∗ Ow (F := F) c 70 ∗ Wt I c (fun i => 8 + i) 0 0 0 18 4)
      ⊢ iprop(((Ow (F := F) c 70 ∗ Wt I c (fun i => 8 + i) 0 0 0 18 8) -∗ K ⟨⟩)
        -∗ wp frame (wpE (defs₀ (F := F)) 𝒱₀ (c : Thread nD τ) none) Set.univ (k0_part69 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c) K) := by
  rw [k0_part69_eq_skeleton]; unfold k0_part69_skel
  simp only [semSignalWord, semWaitWord, Prog.lift, Prog.bind_op, Prog.bind_ret, Prog.pure_eq_ret, wp_deviceId]
  iintro ⟨#HC, HO, HWWS4⟩ Hk
  iapply (wait_step I c (fun i => 8 + i) 0 0 0 18 4 70 (by omega) (by decide) (by omega) (fun _ => by decide) rfl (amt11 _ _)) $$ [HO HWWS4]
  · isplitr; · iexact HC
    isplitl [HO]; · iexact HO
    iexact HWWS4
  iintro ⟨HO, HWWS5⟩
  iapply (wait_step I c (fun i => 8 + i) 0 0 0 18 5 70 (by omega) (by decide) (by omega) (fun _ => by decide) rfl (amt12 _ _)) $$ [HO HWWS5]
  · isplitr; · iexact HC
    isplitl [HO]; · iexact HO
    iexact HWWS5
  iintro ⟨HO, HWWS6⟩
  iapply (wait_step I c (fun i => 8 + i) 0 0 0 18 6 70 (by omega) (by decide) (by omega) (fun _ => by decide) rfl (amt11 _ _)) $$ [HO HWWS6]
  · isplitr; · iexact HC
    isplitl [HO]; · iexact HO
    iexact HWWS6
  iintro ⟨HO, HWWS7⟩
  iapply (wait_step I c (fun i => 8 + i) 0 0 0 18 7 70 (by omega) (by decide) (by omega) (fun _ => by decide) rfl (amt12 _ _)) $$ [HO HWWS7]
  · isplitr; · iexact HC
    isplitl [HO]; · iexact HO
    iexact HWWS7
  iintro ⟨HO, HWWS8⟩
  rw [wp_ret]; imodintro
  iapply Hk $$ [HO HWWS8]
  · isplitl [HO]; · iexact HO
    iexact HWWS8

theorem part70 (c : Dev nD) {K : PUnit → sProp 𝕄} :
    iprop(Ctx I ∗ Ow (F := F) c 70 ∗ Wt I c (fun i => 8 + i) 0 0 0 18 8)
      ⊢ iprop(((Ow (F := F) c 70 ∗ Wt I c (fun i => 8 + i) 0 0 0 18 13) -∗ K ⟨⟩)
        -∗ wp frame (wpE (defs₀ (F := F)) 𝒱₀ (c : Thread nD τ) none) Set.univ (k0_part70 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c) K) := by
  rw [k0_part70_eq_skeleton]; unfold k0_part70_skel
  simp only [semSignalWord, semWaitWord, Prog.lift, Prog.bind_op, Prog.bind_ret, Prog.pure_eq_ret, wp_deviceId]
  iintro ⟨#HC, HO, HWWS8⟩ Hk
  iapply (wait_step I c (fun i => 8 + i) 0 0 0 18 8 70 (by omega) (by decide) (by omega) (fun _ => by decide) rfl (amt11 _ _)) $$ [HO HWWS8]
  · isplitr; · iexact HC
    isplitl [HO]; · iexact HO
    iexact HWWS8
  iintro ⟨HO, HWWS9⟩
  iapply (wait_step I c (fun i => 8 + i) 0 0 0 18 9 70 (by omega) (by decide) (by omega) (fun _ => by decide) rfl (amt12 _ _)) $$ [HO HWWS9]
  · isplitr; · iexact HC
    isplitl [HO]; · iexact HO
    iexact HWWS9
  iintro ⟨HO, HWWS10⟩
  iapply (wait_step I c (fun i => 8 + i) 0 0 0 18 10 70 (by omega) (by decide) (by omega) (fun _ => by decide) rfl (amt11 _ _)) $$ [HO HWWS10]
  · isplitr; · iexact HC
    isplitl [HO]; · iexact HO
    iexact HWWS10
  iintro ⟨HO, HWWS11⟩
  iapply (wait_step I c (fun i => 8 + i) 0 0 0 18 11 70 (by omega) (by decide) (by omega) (fun _ => by decide) rfl (amt12 _ _)) $$ [HO HWWS11]
  · isplitr; · iexact HC
    isplitl [HO]; · iexact HO
    iexact HWWS11
  iintro ⟨HO, HWWS12⟩
  iapply (wait_step I c (fun i => 8 + i) 0 0 0 18 12 70 (by omega) (by decide) (by omega) (fun _ => by decide) rfl (amt11 _ _)) $$ [HO HWWS12]
  · isplitr; · iexact HC
    isplitl [HO]; · iexact HO
    iexact HWWS12
  iintro ⟨HO, HWWS13⟩
  rw [wp_ret]; imodintro
  iapply Hk $$ [HO HWWS13]
  · isplitl [HO]; · iexact HO
    iexact HWWS13

theorem part71 (c : Dev nD) {K : PUnit → sProp 𝕄} :
    iprop(Ctx I ∗ Ow (F := F) c 70 ∗ Wt I c (fun i => 8 + i) 0 0 0 18 13)
      ⊢ iprop(((Ow (F := F) c 70 ∗ Wt I c (fun i => 8 + i) 0 0 0 18 17) -∗ K ⟨⟩)
        -∗ wp frame (wpE (defs₀ (F := F)) 𝒱₀ (c : Thread nD τ) none) Set.univ (k0_part71 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c) K) := by
  rw [k0_part71_eq_skeleton]; unfold k0_part71_skel
  simp only [semSignalWord, semWaitWord, Prog.lift, Prog.bind_op, Prog.bind_ret, Prog.pure_eq_ret, wp_deviceId]
  iintro ⟨#HC, HO, HWWS13⟩ Hk
  iapply (wait_step I c (fun i => 8 + i) 0 0 0 18 13 70 (by omega) (by decide) (by omega) (fun _ => by decide) rfl (amt12 _ _)) $$ [HO HWWS13]
  · isplitr; · iexact HC
    isplitl [HO]; · iexact HO
    iexact HWWS13
  iintro ⟨HO, HWWS14⟩
  iapply (wait_step I c (fun i => 8 + i) 0 0 0 18 14 70 (by omega) (by decide) (by omega) (fun _ => by decide) rfl (amt11 _ _)) $$ [HO HWWS14]
  · isplitr; · iexact HC
    isplitl [HO]; · iexact HO
    iexact HWWS14
  iintro ⟨HO, HWWS15⟩
  iapply (wait_step I c (fun i => 8 + i) 0 0 0 18 15 70 (by omega) (by decide) (by omega) (fun _ => by decide) rfl (amt12 _ _)) $$ [HO HWWS15]
  · isplitr; · iexact HC
    isplitl [HO]; · iexact HO
    iexact HWWS15
  iintro ⟨HO, HWWS16⟩
  iapply (wait_step I c (fun i => 8 + i) 0 0 0 18 16 70 (by omega) (by decide) (by omega) (fun _ => by decide) rfl (amt11 _ _)) $$ [HO HWWS16]
  · isplitr; · iexact HC
    isplitl [HO]; · iexact HO
    iexact HWWS16
  iintro ⟨HO, HWWS17⟩
  rw [wp_ret]; imodintro
  iapply Hk $$ [HO HWWS17]
  · isplitl [HO]; · iexact HO
    iexact HWWS17

end Cert.K
-- ==== Proof.Chain.lean ====
/- The pieces put together. -/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

set_option maxRecDepth 4000

set_option maxHeartbeats 4000000 in
/-- The first 60 pieces: the barrier, the weights, two layers, and most of the third. -/
theorem part72 (c : Dev nD) {K : (Σ' (d0 : Dev nD) (v19 : BitVec 32) (v20 : BitVec 32) (v1545 : FVec F S128x128 .f32), BitVec 32) → sProp 𝕄} :
    iprop(Ctx I ∗ Ow (F := F) c 0 ∗ bigSep (Finset.Ico 0 10) (barRes (F := F) c) ∗ cred (tallyAt (barCell c) 1 10) ∗ atPos ER (barCell c) 0 (∅ : Finset ℕ) 0 ∗ (((c : Thread nD τ).loc cc0_stg1_0) ↦{fullShare} (I.wi 0 c)) ∗ wE (F := F) 0 (c.val / 8) c ∗ (((c : Thread nD τ).loc cc0_stg2_0) ↦{fullShare} (I.wo 0 c)) ∗ wE (F := F) 1 (c.val / 8) c ∗ (((c : Thread nD τ).loc cc0_stg3_0) ↦{fullShare} (I.wi 1 c)) ∗ wE (F := F) 2 (c.val / 8) c ∗ (((c : Thread nD τ).loc cc0_stg4_0) ↦{fullShare} (I.wo 1 c)) ∗ wE (F := F) 3 (c.val / 8) c ∗ (((c : Thread nD τ).loc cc0_stg5_0) ↦{fullShare} (I.wi 2 c)) ∗ wE (F := F) 4 (c.val / 8) c ∗ (((c : Thread nD τ).loc cc0_stg6_0) ↦{fullShare} (I.wo 2 c)) ∗ wE (F := F) 5 (c.val / 8) c ∗ wtok (F := F) c ∗ (((c : Thread nD τ).loc cc0_stg0_0) ↦{fullShare} (I.x c)) ∗ xqE (F := F) c (xs 0) ∗ poss (F := F) c 44 0 1 8 ∗ poss (F := F) c 52 0 1 8 ∗ poss (F := F) c 60 0 1 8 ∗ poss (F := F) c 68 0 1 8 ∗ bigSep (Finset.Ico 1 8) (fun r => iprop(∃ f, rsP (F := F) c (xs r) fullShare f)) ∗ ltoks (F := F) c 0 ∗ Wt I c (nW 0) 2 0 0 6 0 ∗ ptE (F := F) c (xr 1 4) ∗ ptE (F := F) c (xr 4 8) ∗ ltoks (F := F) c 1 ∗ Wt I c (nW 1) 2 0 0 6 0 ∗ ltoks (F := F) c 2 ∗ Wt I c (nW 2) 2 0 0 6 0)
      ⊢ iprop((∀ (v19 : BitVec 32) (v20 : BitVec 32) (v1545 : FVec F S128x128 .f32) (v1705 : BitVec 32), ⌜v1545 = ownP I 2 (actC I 2) c⌝ -∗ (Ow (F := F) c 68 ∗ bigSep (Finset.Ico 10 10) (barRes (F := F) c) ∗ atPos ER (barCell c) 1 (∅ : Finset ℕ) 0 ∗ (((c : Thread nD τ).loc cc0_stg1_0) ↦{fullShare} (I.wi 0 c)) ∗ (((c : Thread nD τ).loc cc0_stg2_0) ↦{fullShare} (I.wo 0 c)) ∗ (((c : Thread nD τ).loc cc0_stg3_0) ↦{fullShare} (I.wi 1 c)) ∗ (((c : Thread nD τ).loc cc0_stg4_0) ↦{fullShare} (I.wo 1 c)) ∗ (((c : Thread nD τ).loc cc0_stg5_0) ↦{fullShare} (I.wi 2 c)) ∗ (((c : Thread nD τ).loc cc0_stg6_0) ↦{fullShare} (I.wo 2 c)) ∗ bigSep (Finset.Ico 0 6) (fun k => wP I k (c.val / 8) c (restSh 4)) ∗ WS I c 18 ∗ (((c : Thread nD τ).loc cc0_stg0_0) ↦{fullShare} (I.x c)) ∗ wbag I c 0 ∗ wiP c (wl 0) (sh 0) (winC I c) ∗ woP c (wol 0) (sh 0) (woutC I c) ∗ wbag I c 1 ∗ wiP c (wl 1) (sh 0) (winC I c) ∗ woP c (wol 1) (sh 0) (woutC I c) ∗ xqP c (xs 0) (restSh 8) (xqC (actC I 2) c) ∗ Wt I c (fun r => 68 + r) 8 2 1 8 1 ∗ poss (F := F) c 44 2 1 8 ∗ poss (F := F) c 60 2 1 8 ∗ AG I c 2 8 ∗ wbag I c 2 ∗ wiP c (wl 2) (sh 0) (winC I c) ∗ woP c (wol 2) (sh 0) (woutC I c) ∗ xqP c (xs 0) (sh 0) (xqC (actC I 2) c) ∗ poss (F := F) c 52 3 1 4 ∗ xqP c (xr 1 4) fullShare (xqC (actC I 2) c) ∗ RS I c 2 1 4 4 ∗ poss (F := F) c 52 3 4 8 ∗ xqP c (xr 4 8) fullShare (xqC (actC I 2) c) ∗ RS I c 2 4 8 6) -∗ K ⟨c, v19, v20, v1545, v1705⟩)
        -∗ wp frame (wpE (defs₀ (F := F)) 𝒱₀ (c : Thread nD τ) none) Set.univ (k0_part72 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [k0_part72_eq_skeleton]; unfold k0_part72_skel
  iintro ⟨#HC, HO, HBAR0, HBCR, HBPOS0, HSTG1, HWE0, HSTG2, HWE1, HSTG3, HWE2, HSTG4, HWE3, HSTG5, HWE4, HSTG6, HWE5, HWTOK, HSTG0, HXE0, HP44_0_1_8, HP52_0_1_8, HP60_0_1_8, HP68_0_1_8, HRSLOTS, HLTOK0, HWN0_0, HPTE1, HPTE4, HLTOK1, HWN1_0, HLTOK2, HWN2_0⟩ Hk
  rw [wp_bind]
  iapply (part1 I c) $$ [HO HBAR0]
  · isplitr; · iexact HC
    isplitl [HO]; · iexact HO
    iexact HBAR0
  iintro %v19 %v20 %c8_i32_17 ⟨HO, HBAR2⟩
  try dsimp only
  rw [wp_bind]
  iapply (part2 I c _ _ _) $$ [HO HBAR2]
  · isplitr; · iexact HC
    isplitl [HO]; · iexact HO
    iexact HBAR2
  iintro %v61 %c1_i32_40 ⟨HO, HBAR6⟩
  try dsimp only
  rw [wp_bind]
  iapply (part3 I c _ _ _ _) $$ [HO HBAR6 HBCR HBPOS0 HSTG1 HWE0]
  · isplitr; · iexact HC
    isplitl [HO]; · iexact HO
    isplitl [HBAR6]; · iexact HBAR6
    isplitl [HBCR]; · iexact HBCR
    isplitl [HBPOS0]; · iexact HBPOS0
    isplitl [HSTG1]; · iexact HSTG1
    iexact HWE0
  iintro ⟨HO, HBAR10, HBPOS1, HBPAY, HSTG1, HWP0⟩
  try dsimp only
  rw [wp_bind]
  iapply (part4 I c _) $$ [HO HSTG2 HWE1 HSTG3 HWE2 HSTG4 HWE3 HSTG5 HWE4 HSTG6]
  · isplitr; · iexact HC
    isplitl [HO]; · iexact HO
    isplitl [HSTG2]; · iexact HSTG2
    isplitl [HWE1]; · iexact HWE1
    isplitl [HSTG3]; · iexact HSTG3
    isplitl [HWE2]; · iexact HWE2
    isplitl [HSTG4]; · iexact HSTG4
    isplitl [HWE3]; · iexact HWE3
    isplitl [HSTG5]; · iexact HSTG5
    isplitl [HWE4]; · iexact HWE4
    iexact HSTG6
  iintro %v123 %hv123 ⟨HO, HSTG2, HWP1, HSTG3, HWP2, HSTG4, HWP3, HSTG5, HWP4, HSTG6⟩
  try dsimp only
  rw [wp_bind]
  iapply (part5 I c _ _ _ hv123) $$ [HO HWE5 HWP0 HWP1 HWP2 HWP3 HWP4 HBPAY HWTOK]
  · isplitr; · iexact HC
    isplitl [HO]; · iexact HO
    isplitl [HWE5]; · iexact HWE5
    isplitl [HWP0]; · iexact HWP0
    isplitl [HWP1]; · iexact HWP1
    isplitl [HWP2]; · iexact HWP2
    isplitl [HWP3]; · iexact HWP3
    isplitl [HWP4]; · iexact HWP4
    isplitl [HBPAY]; · iexact HBPAY
    iexact HWTOK
  iintro %v133 %c256_i32_107 ⟨HO, HXQM, HOWN0, HOWN1, HOWN2, HWREST, HWS2⟩
  try dsimp only
  rw [wp_bind]
  iapply (part6 I c _ _ _) $$ [HO HWS2]
  · isplitr; · iexact HC
    isplitl [HO]; · iexact HO
    iexact HWS2
  iintro ⟨HO, HWS4⟩
  try dsimp only
  rw [wp_bind]
  iapply (part7 I c _ _ _) $$ [HO HWS4]
  · isplitr; · iexact HC
    isplitl [HO]; · iexact HO
    iexact HWS4
  iintro %v203 %v216 %c0_i32_161 ⟨HO, HWS7⟩
  try dsimp only
  rw [wp_bind]
  iapply (part8 I c _ _ _ _) $$ [HO HWS7]
  · isplitr; · iexact HC
    isplitl [HO]; · iexact HO
    iexact HWS7
  iintro ⟨HO, HWS10⟩
  try dsimp only
  rw [wp_bind]
  iapply (part9 I c _ _ _) $$ [HO HWS10]
  · isplitr; · iexact HC
    isplitl [HO]; · iexact HO
    iexact HWS10
  iintro %v273 ⟨HO, HWS12⟩
  try dsimp only
  rw [wp_bind]
  iapply (part10 I c _ _) $$ [HO HWS12]
  · isplitr; · iexact HC
    isplitl [HO]; · iexact HO
    iexact HWS12
  iintro ⟨HO, HWS15⟩
  try dsimp only
  rw [wp_bind]
  iapply (part11 I c _ _) $$ [HO HWS15 HSTG0 HXE0]
  · isplitr; · iexact HC
    isplitl [HO]; · iexact HO
    isplitl [HWS15]; · iexact HWS15
    isplitl [HSTG0]; · iexact HSTG0
    iexact HXE0
  iintro %v345 %hv345 ⟨HO, HWS18, HSTG0, HXE0⟩
  try dsimp only
  rw [wp_bind]
  iapply (part12 I c _ _ _ hv345) $$ [HO HXE0 HXQM HP44_0_1_8 HP52_0_1_8 HP60_0_1_8 HP68_0_1_8 HRSLOTS HLTOK0]
  · isplitr; · iexact HC
    isplitl [HO]; · iexact HO
    isplitl [HXE0]; · iexact HXE0
    isplitl [HXQM]; · iexact HXQM
    isplitl [HP44_0_1_8]; · iexact HP44_0_1_8
    isplitl [HP52_0_1_8]; · iexact HP52_0_1_8
    isplitl [HP60_0_1_8]; · iexact HP60_0_1_8
    isplitl [HP68_0_1_8]; · iexact HP68_0_1_8
    isplitl [HRSLOTS]; · iexact HRSLOTS
    iexact HLTOK0
  iintro %v374 %c3_i32_281 ⟨HO, HX0S0, HX0R0, HWA0_1_1, HWA0_4_4, HWR0_1, HP44_0_1_8, HP60_0_1_8, HRT0_1, HRT0_4, HAG0_3⟩
  try dsimp only
  rw [wp_bind]
  iapply (part13 I c _ _ _ _) $$ [HO HAG0_3]
  · isplitr; · iexact HC
    isplitl [HO]; · iexact HO
    iexact HAG0_3
  iintro %v405 ⟨HO, HAG0_5⟩
  try dsimp only
  rw [wp_bind]
  iapply (part14 I c _ _ _) $$ [HO HAG0_5]
  · isplitr; · iexact HC
    isplitl [HO]; · iexact HO
    iexact HAG0_5
  iintro %v433 ⟨HO, HAG0_7⟩
  try dsimp only
  rw [wp_bind]
  iapply (part15 I c _ _ _) $$ [HO HAG0_7 HWN0_0]
  · isplitr; · iexact HC
    isplitl [HO]; · iexact HO
    isplitl [HAG0_7]; · iexact HAG0_7
    iexact HWN0_0
  iintro ⟨HO, HAG0_8, HWN0_1⟩
  try dsimp only
  rw [wp_bind]
  iapply (part16 I c _ _) $$ [HO HWN0_1]
  · isplitr; · iexact HC
    isplitl [HO]; · iexact HO
    iexact HWN0_1
  iintro %v492 %v494 ⟨HO, HWN0_4⟩
  try dsimp only
  rw [wp_bind]
  iapply (part17 I c _ _) $$ [HO HWN0_4 HOWN0 HX0S0]
  · isplitr; · iexact HC
    isplitl [HO]; · iexact HO
    isplitl [HWN0_4]; · iexact HWN0_4
    isplitl [HOWN0]; · iexact HOWN0
    iexact HX0S0
  iintro %v514 %v516 %v522 %cst_421 %hv514 %hv516 %hv522 %hcst_421 ⟨HO, HWBAG0, HWIN0, HWON0, HX0S0⟩
  try dsimp only
  rw [wp_bind]
  iapply (part18 I c _ _ _ _ hv516 hv522 hcst_421) $$ [HO HWA0_1_1]
  · isplitr; · iexact HC
    isplitl [HO]; · iexact HO
    iexact HWA0_1_1
  iintro %v523 %hv523 ⟨HO, HWA0_1_4⟩
  try dsimp only
  rw [wp_bind]
  iapply (part19 I c _ _ _ _ hv514 hv516) $$ [HO HWA0_1_4 HPTE1 HRT0_1]
  · isplitr; · iexact HC
    isplitl [HO]; · iexact HO
    isplitl [HWA0_1_4]; · iexact HWA0_1_4
    isplitl [HPTE1]; · iexact HPTE1
    iexact HRT0_1
  iintro %v579 ⟨HO, HP52_1_1_4, HRS0_1_2⟩
  try dsimp only
  rw [wp_bind]
  iapply (part20 I c _ _ _) $$ [HO HRS0_1_2]
  · isplitr; · iexact HC
    isplitl [HO]; · iexact HO
    iexact HRS0_1_2
  iintro ⟨HO, HRS0_1_4⟩
  try dsimp only
  rw [wp_bind]
  iapply (part21 I c _) $$ [HO HWA0_4_4]
  · isplitr; · iexact HC
    isplitl [HO]; · iexact HO
    iexact HWA0_4_4
  iintro ⟨HO, HWA0_4_7⟩
  try dsimp only
  rw [wp_bind]
  iapply (part22 I c _ _ _ _ hv514 hv516) $$ [HO HWA0_4_7 HPTE4 HRT0_4]
  · isplitr; · iexact HC
    isplitl [HO]; · iexact HO
    isplitl [HWA0_4_7]; · iexact HWA0_4_7
    isplitl [HPTE4]; · iexact HPTE4
    iexact HRT0_4
  iintro %v664 ⟨HO, HP52_1_4_8, HRS0_4_5⟩
  try dsimp only
  rw [wp_bind]
  iapply (part23 I c _ _ _) $$ [HO HRS0_4_5]
  · isplitr; · iexact HC
    isplitl [HO]; · iexact HO
    iexact HRS0_4_5
  iintro %v694 ⟨HO, HRS0_4_7⟩
  try dsimp only
  rw [wp_bind]
  iapply (part24 I c _ _) $$ [HO HRS0_4_7 HWR0_1]
  · isplitr; · iexact HC
    isplitl [HO]; · iexact HO
    isplitl [HRS0_4_7]; · iexact HRS0_4_7
    iexact HWR0_1
  iintro ⟨HO, HRS0_4_8, HWR0_2⟩
  try dsimp only
  rw [wp_bind]
  iapply (part25 I c _) $$ [HO HWR0_2]
  · isplitr; · iexact HC
    isplitl [HO]; · iexact HO
    iexact HWR0_2
  iintro ⟨HO, HWR0_5⟩
  try dsimp only
  rw [wp_bind]
  iapply (part26 I c _ _ hv523) $$ [HO HWR0_5]
  · isplitr; · iexact HC
    isplitl [HO]; · iexact HO
    iexact HWR0_5
  iintro %v768 %hv768 ⟨HO, HRSL0, HRSP0⟩
  try dsimp only
  rw [wp_bind]
  iapply (part27 I c) $$ [HO HAG0_8 HP44_0_1_8]
  · isplitr; · iexact HC
    isplitl [HO]; · iexact HO
    isplitl [HAG0_8]; · iexact HAG0_8
    iexact HP44_0_1_8
  iintro ⟨HO, HWGS0_5⟩
  try dsimp only
  rw [wp_bind]
  iapply (part28 I c) $$ [HO HWGS0_5 HRS0_1_4 HRS0_4_8 HP60_0_1_8]
  · isplitr; · iexact HC
    isplitl [HO]; · iexact HO
    isplitl [HWGS0_5]; · iexact HWGS0_5
    isplitl [HRS0_1_4]; · iexact HRS0_1_4
    isplitl [HRS0_4_8]; · iexact HRS0_4_8
    iexact HP60_0_1_8
  iintro ⟨HO, HWGS0_8, HWRS0_2⟩
  try dsimp only
  rw [wp_bind]
  iapply (part29 I c) $$ [HO HWRS0_2]
  · isplitr; · iexact HC
    isplitl [HO]; · iexact HO
    iexact HWRS0_2
  iintro ⟨HO, HWRS0_5⟩
  try dsimp only
  rw [wp_bind]
  iapply (part30 I c _ _ _ hv768) $$ [HO HWRS0_5 HRSP0 HRSL0 HP52_1_1_4 HP52_1_4_8 HWGS0_8 HX0S0 HX0R0]
  · isplitr; · iexact HC
    isplitl [HO]; · iexact HO
    isplitl [HWRS0_5]; · iexact HWRS0_5
    isplitl [HRSP0]; · iexact HRSP0
    isplitl [HRSL0]; · iexact HRSL0
    isplitl [HP52_1_1_4]; · iexact HP52_1_1_4
    isplitl [HP52_1_4_8]; · iexact HP52_1_4_8
    isplitl [HWGS0_8]; · iexact HWGS0_8
    isplitl [HX0S0]; · iexact HX0S0
    iexact HX0R0
  iintro ⟨HO, HLAY1, HPTE1, HPTE4, HX0F1⟩
  try dsimp only
  rw [wp_bind]
  iapply (part31 I c _ _) $$ [HO HLAY1 HLTOK1 HX0F1]
  · isplitr; · iexact HC
    isplitl [HO]; · iexact HO
    isplitl [HLAY1]; · iexact HLAY1
    isplitl [HLTOK1]; · iexact HLTOK1
    iexact HX0F1
  iintro ⟨HO, HX0S1, HX0R1, HWA1_1_1, HWA1_4_4, HWR1_1, HP44_1_1_8, HP60_1_1_8, HRT1_1, HRT1_4, HAG1_3⟩
  try dsimp only
  rw [wp_bind]
  iapply (part32 I c _ _) $$ [HO HAG1_3]
  · isplitr; · iexact HC
    isplitl [HO]; · iexact HO
    iexact HAG1_3
  iintro ⟨HO, HAG1_5⟩
  try dsimp only
  rw [wp_bind]
  iapply (part33 I c _ _) $$ [HO HAG1_5]
  · isplitr; · iexact HC
    isplitl [HO]; · iexact HO
    iexact HAG1_5
  iintro %v955 %c1_i32_902 ⟨HO, HAG1_8⟩
  try dsimp only
  rw [wp_bind]
  iapply (part34 I c _ _ _ _) $$ [HO HWN1_0]
  · isplitr; · iexact HC
    isplitl [HO]; · iexact HO
    iexact HWN1_0
  iintro %v980 %v982 %c1_i32_932 ⟨HO, HWN1_2⟩
  try dsimp only
  rw [wp_bind]
  iapply (part35 I c _ _ _ _ _) $$ [HO HWN1_2]
  · isplitr; · iexact HC
    isplitl [HO]; · iexact HO
    iexact HWN1_2
  iintro %v1003 %v1005 %c256_i32_958 ⟨HO, HWN1_5⟩
  try dsimp only
  rw [wp_bind]
  iapply (part36 I c _ _ _ _) $$ [HO HWN1_5 HOWN1 HX0S1 HWA1_1_1]
  · isplitr; · iexact HC
    isplitl [HO]; · iexact HO
    isplitl [HWN1_5]; · iexact HWN1_5
    isplitl [HOWN1]; · iexact HOWN1
    isplitl [HX0S1]; · iexact HX0S1
    iexact HWA1_1_1
  iintro %v1025 %v1027 %v1034 %hv1025 %hv1027 %hv1034 ⟨HO, HWBAG1, HWIN1, HWON1, HX0S1, HWA1_1_2⟩
  try dsimp only
  rw [wp_bind]
  iapply (part37 I c _ _ _ hv1025 hv1027) $$ [HO HWA1_1_2 HPTE1]
  · isplitr; · iexact HC
    isplitl [HO]; · iexact HO
    isplitl [HWA1_1_2]; · iexact HWA1_1_2
    iexact HPTE1
  iintro ⟨HO, HAGL1_1, HXR1_1, HPTF1_1⟩
  try dsimp only
  rw [wp_bind]
  iapply (part38 I c _ _) $$ [HO HPTF1_1 HXR1_1 HAGL1_1 HRT1_1]
  · isplitr; · iexact HC
    isplitl [HO]; · iexact HO
    isplitl [HPTF1_1]; · iexact HPTF1_1
    isplitl [HXR1_1]; · iexact HXR1_1
    isplitl [HAGL1_1]; · iexact HAGL1_1
    iexact HRT1_1
  iintro ⟨HO, HP52_2_1_4, HRS1_1_3⟩
  try dsimp only
  rw [wp_bind]
  iapply (part39 I c _ _) $$ [HO HRS1_1_3 HWA1_4_4]
  · isplitr; · iexact HC
    isplitl [HO]; · iexact HO
    isplitl [HRS1_1_3]; · iexact HRS1_1_3
    iexact HWA1_4_4
  iintro ⟨HO, HRS1_1_4, HWA1_4_5⟩
  try dsimp only
  rw [wp_bind]
  iapply (part40 I c _ _ _ hv1025 hv1027) $$ [HO HWA1_4_5]
  · isplitr; · iexact HC
    isplitl [HO]; · iexact HO
    iexact HWA1_4_5
  iintro %v1155 %hv1155 ⟨HO, HAGL1_4, HXR1_4⟩
  try dsimp only
  rw [wp_bind]
  iapply (part41 I c _ _ _ hv1155) $$ [HO HPTE4 HXR1_4 HAGL1_4 HRT1_4]
  · isplitr; · iexact HC
    isplitl [HO]; · iexact HO
    isplitl [HPTE4]; · iexact HPTE4
    isplitl [HXR1_4]; · iexact HXR1_4
    isplitl [HAGL1_4]; · iexact HAGL1_4
    iexact HRT1_4
  iintro ⟨HO, HP52_2_4_8, HRS1_4_5⟩
  try dsimp only
  rw [wp_bind]
  iapply (part42 I c _ _) $$ [HO HRS1_4_5]
  · isplitr; · iexact HC
    isplitl [HO]; · iexact HO
    iexact HRS1_4_5
  iintro ⟨HO, HRS1_4_7⟩
  try dsimp only
  rw [wp_bind]
  iapply (part43 I c _) $$ [HO HRS1_4_7 HWR1_1]
  · isplitr; · iexact HC
    isplitl [HO]; · iexact HO
    isplitl [HRS1_4_7]; · iexact HRS1_4_7
    iexact HWR1_1
  iintro ⟨HO, HRS1_4_8, HWR1_3⟩
  try dsimp only
  rw [wp_bind]
  iapply (part44 I c _) $$ [HO HWR1_3]
  · isplitr; · iexact HC
    isplitl [HO]; · iexact HO
    iexact HWR1_3
  iintro ⟨HO, HWR1_6⟩
  try dsimp only
  rw [wp_bind]
  iapply (part45 I c _ _ hv1034) $$ [HO HWR1_6 HAG1_8 HP44_1_1_8]
  · isplitr; · iexact HC
    isplitl [HO]; · iexact HO
    isplitl [HWR1_6]; · iexact HWR1_6
    isplitl [HAG1_8]; · iexact HAG1_8
    iexact HP44_1_1_8
  iintro %v1279 %hv1279 ⟨HO, HRSL1, HRSP1, HWGS1_2⟩
  try dsimp only
  rw [wp_bind]
  iapply (part46 I c) $$ [HO HWGS1_2]
  · isplitr; · iexact HC
    isplitl [HO]; · iexact HO
    iexact HWGS1_2
  iintro ⟨HO, HWGS1_6⟩
  try dsimp only
  rw [wp_bind]
  iapply (part47 I c) $$ [HO HWGS1_6 HRS1_1_4 HRS1_4_8 HP60_1_1_8]
  · isplitr; · iexact HC
    isplitl [HO]; · iexact HO
    isplitl [HWGS1_6]; · iexact HWGS1_6
    isplitl [HRS1_1_4]; · iexact HRS1_1_4
    isplitl [HRS1_4_8]; · iexact HRS1_4_8
    iexact HP60_1_1_8
  iintro ⟨HO, HWGS1_8, HWRS1_3⟩
  try dsimp only
  rw [wp_bind]
  iapply (part48 I c) $$ [HO HWRS1_3]
  · isplitr; · iexact HC
    isplitl [HO]; · iexact HO
    iexact HWRS1_3
  iintro ⟨HO, HWRS1_7⟩
  try dsimp only
  rw [wp_bind]
  iapply (part49 I c _ _ _ hv1279) $$ [HO HWRS1_7 HRSP1 HRSL1 HP52_2_1_4 HP52_2_4_8 HWGS1_8 HX0S1 HX0R1 HLTOK2]
  · isplitr; · iexact HC
    isplitl [HO]; · iexact HO
    isplitl [HWRS1_7]; · iexact HWRS1_7
    isplitl [HRSP1]; · iexact HRSP1
    isplitl [HRSL1]; · iexact HRSL1
    isplitl [HP52_2_1_4]; · iexact HP52_2_1_4
    isplitl [HP52_2_4_8]; · iexact HP52_2_4_8
    isplitl [HWGS1_8]; · iexact HWGS1_8
    isplitl [HX0S1]; · iexact HX0S1
    isplitl [HX0R1]; · iexact HX0R1
    iexact HLTOK2
  iintro %v1385 ⟨HO, HPTE1, HPTE4, HX0S2, HX0R2, HWA2_1_1, HWA2_4_4, HWR2_1, HP44_2_1_8, HP60_2_1_8, HRT2_1, HRT2_4, HAG2_2⟩
  try dsimp only
  rw [wp_bind]
  iapply (part50 I c _ _ _) $$ [HO HAG2_2]
  · isplitr; · iexact HC
    isplitl [HO]; · iexact HO
    iexact HAG2_2
  iintro ⟨HO, HAG2_4⟩
  try dsimp only
  rw [wp_bind]
  iapply (part51 I c _ _) $$ [HO HAG2_4]
  · isplitr; · iexact HC
    isplitl [HO]; · iexact HO
    iexact HAG2_4
  iintro ⟨HO, HAG2_6⟩
  try dsimp only
  rw [wp_bind]
  iapply (part52 I c _ _) $$ [HO HAG2_6]
  · isplitr; · iexact HC
    isplitl [HO]; · iexact HO
    iexact HAG2_6
  iintro %v1468 %v1470 ⟨HO, HAG2_8⟩
  try dsimp only
  rw [wp_bind]
  iapply (part53 I c _ _ _ _) $$ [HO HWN2_0]
  · isplitr; · iexact HC
    isplitl [HO]; · iexact HO
    iexact HWN2_0
  iintro %v1504 ⟨HO, HWN2_3⟩
  try dsimp only
  rw [wp_bind]
  iapply (part54 I c _ _ _) $$ [HO HWN2_3]
  · isplitr; · iexact HC
    isplitl [HO]; · iexact HO
    iexact HWN2_3
  iintro ⟨HO, HWN2_6⟩
  try dsimp only
  rw [wp_bind]
  iapply (part55 I c _) $$ [HO HWN2_6 HOWN2 HX0S2 HWA2_1_1]
  · isplitr; · iexact HC
    isplitl [HO]; · iexact HO
    isplitl [HWN2_6]; · iexact HWN2_6
    isplitl [HOWN2]; · iexact HOWN2
    isplitl [HX0S2]; · iexact HX0S2
    iexact HWA2_1_1
  iintro %v1536 %v1538 %v1545 %hv1536 %hv1538 %hv1545 ⟨HO, HWBAG2, HWIN2, HWON2, HX0S2, HWA2_1_3⟩
  try dsimp only
  rw [wp_bind]
  iapply (part56 I c _ _ _ _ hv1536 hv1538) $$ [HO HWA2_1_3 HPTE1]
  · isplitr; · iexact HC
    isplitl [HO]; · iexact HO
    isplitl [HWA2_1_3]; · iexact HWA2_1_3
    iexact HPTE1
  iintro ⟨HO, HAGL2_1, HXR2_1, HPTF2_1⟩
  try dsimp only
  rw [wp_bind]
  iapply (part57 I c _ _) $$ [HO HPTF2_1 HXR2_1 HAGL2_1 HRT2_1]
  · isplitr; · iexact HC
    isplitl [HO]; · iexact HO
    isplitl [HPTF2_1]; · iexact HPTF2_1
    isplitl [HXR2_1]; · iexact HXR2_1
    isplitl [HAGL2_1]; · iexact HAGL2_1
    iexact HRT2_1
  iintro ⟨HO, HP52_3_1_4, HXR2_1, HRS2_1_3⟩
  try dsimp only
  rw [wp_bind]
  iapply (part58 I c _) $$ [HO HRS2_1_3 HWA2_4_4]
  · isplitr; · iexact HC
    isplitl [HO]; · iexact HO
    isplitl [HRS2_1_3]; · iexact HRS2_1_3
    iexact HWA2_4_4
  iintro ⟨HO, HRS2_1_4, HWA2_4_6⟩
  try dsimp only
  rw [wp_bind]
  iapply (part59 I c _ _ _ _ hv1536 hv1538) $$ [HO HWA2_4_6 HPTE4]
  · isplitr; · iexact HC
    isplitl [HO]; · iexact HO
    isplitl [HWA2_4_6]; · iexact HWA2_4_6
    iexact HPTE4
  iintro %v1675 ⟨HO, HAGL2_4, HXR2_4, HPTF2_4⟩
  try dsimp only
  rw [wp_bind]
  iapply (part60 I c _ _ _) $$ [HO HPTF2_4 HXR2_4 HAGL2_4 HRT2_4]
  · isplitr; · iexact HC
    isplitl [HO]; · iexact HO
    isplitl [HPTF2_4]; · iexact HPTF2_4
    isplitl [HXR2_4]; · iexact HXR2_4
    isplitl [HAGL2_4]; · iexact HAGL2_4
    iexact HRT2_4
  iintro %v1705 ⟨HO, HP52_3_4_8, HXR2_4, HRS2_4_6⟩
  try dsimp only
  rw [Prog.pure_eq_ret, wp_ret]; imodintro
  iapply Hk $$ %_ %_ %_ %_ [] [HO HBAR10 HBPOS1 HSTG1 HSTG2 HSTG3 HSTG4 HSTG5 HSTG6 HWREST HWS18 HSTG0 HWBAG0 HWIN0 HWON0 HWBAG1 HWIN1 HWON1 HX0R2 HWR2_1 HP44_2_1_8 HP60_2_1_8 HAG2_8 HWBAG2 HWIN2 HWON2 HX0S2 HP52_3_1_4 HXR2_1 HRS2_1_4 HP52_3_4_8 HXR2_4 HRS2_4_6]
  · ipureintro; exact hv1545
  · isplitl [HO]; · iexact HO
    isplitl [HBAR10]; · iexact HBAR10
    isplitl [HBPOS1]; · iexact HBPOS1
    isplitl [HSTG1]; · iexact HSTG1
    isplitl [HSTG2]; · iexact HSTG2
    isplitl [HSTG3]; · iexact HSTG3
    isplitl [HSTG4]; · iexact HSTG4
    isplitl [HSTG5]; · iexact HSTG5
    isplitl [HSTG6]; · iexact HSTG6
    isplitl [HWREST]; · iexact HWREST
    isplitl [HWS18]; · iexact HWS18
    isplitl [HSTG0]; · iexact HSTG0
    isplitl [HWBAG0]; · iexact HWBAG0
    isplitl [HWIN0]; · iexact HWIN0
    isplitl [HWON0]; · iexact HWON0
    isplitl [HWBAG1]; · iexact HWBAG1
    isplitl [HWIN1]; · iexact HWIN1
    isplitl [HWON1]; · iexact HWON1
    isplitl [HX0R2]; · iexact HX0R2
    isplitl [HWR2_1]; · iexact HWR2_1
    isplitl [HP44_2_1_8]; · iexact HP44_2_1_8
    isplitl [HP60_2_1_8]; · iexact HP60_2_1_8
    isplitl [HAG2_8]; · iexact HAG2_8
    isplitl [HWBAG2]; · iexact HWBAG2
    isplitl [HWIN2]; · iexact HWIN2
    isplitl [HWON2]; · iexact HWON2
    isplitl [HX0S2]; · iexact HX0S2
    isplitl [HP52_3_1_4]; · iexact HP52_3_1_4
    isplitl [HXR2_1]; · iexact HXR2_1
    isplitl [HRS2_1_4]; · iexact HRS2_1_4
    isplitl [HP52_3_4_8]; · iexact HP52_3_4_8
    isplitl [HXR2_4]; · iexact HXR2_4
    iexact HRS2_4_6

/-- The rest: the last layer's sums, the result, and the drains. -/
theorem part73 (c : Dev nD) (v19 : BitVec 32) (v20 : BitVec 32) (v1545 : FVec F S128x128 .f32) (v1705 : BitVec 32) (hv1545 : v1545 = ownP I 2 (actC I 2) c) {K : PUnit → sProp 𝕄} :
    iprop(Ctx I ∗ Ow (F := F) c 68 ∗ RS I c 2 4 8 6 ∗ Wt I c (fun r => 68 + r) 8 2 1 8 1 ∗ AG I c 2 8 ∗ poss (F := F) c 44 2 1 8 ∗ RS I c 2 1 4 4 ∗ poss (F := F) c 60 2 1 8 ∗ (∃ f, ((c : Thread nD τ).loc cc0_stg7_0) ↦{fullShare} (f : S128x128.Idx → Elt F .f32)) ∗ WS I c 18 ∗ poss (F := F) c 8 0 0 18 ∗ bigSep (Finset.Ico 0 3) (exTok (F := F) c))
      ⊢ iprop(((Ow (F := F) c 73 ∗ rsL (F := F) c 2 ∗ rsP c (xr 1 8) fullShare (rsC I 2 (actC I 2) c) ∗ Wt I c (fun r => 44 + r) 0 2 1 8 8 ∗ Wt I c (fun r => 60 + r) 0 2 1 8 8 ∗ (((c : Thread nD τ).loc cc0_stg7_0) ↦{fullShare} (resC I c)) ∗ Wt I c (fun i => 8 + i) 0 0 0 18 18 ∗ bigSep (Finset.Ico 3 3) (exTok (F := F) c)) -∗ K ⟨⟩)
        -∗ wp frame (wpE (defs₀ (F := F)) 𝒱₀ (c : Thread nD τ) none) Set.univ (k0_part73 (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0 c v19 v20 v1545 v1705) K) := by
  rw [k0_part73_eq_skeleton]; unfold k0_part73_skel
  iintro ⟨#HC, HO, HRS2_4_6, HWR2_1, HAG2_8, HP44_2_1_8, HRS2_1_4, HP60_2_1_8, HOUTE, HWS18, HP8_0_0_18, HEX0⟩ Hk
  rw [wp_bind]
  iapply (part61 I c _ _ _) $$ [HO HRS2_4_6]
  · isplitr; · iexact HC
    isplitl [HO]; · iexact HO
    iexact HRS2_4_6
  iintro ⟨HO, HRS2_4_8⟩
  try dsimp only
  rw [wp_bind]
  iapply (part62 I c _) $$ [HO HWR2_1]
  · isplitr; · iexact HC
    isplitl [HO]; · iexact HO
    iexact HWR2_1
  iintro ⟨HO, HWR2_4⟩
  try dsimp only
  rw [wp_bind]
  iapply (part63 I c _) $$ [HO HWR2_4]
  · isplitr; · iexact HC
    isplitl [HO]; · iexact HO
    iexact HWR2_4
  iintro ⟨HO, HWR2_7⟩
  try dsimp only
  rw [wp_bind]
  iapply (part64 I c _ hv1545) $$ [HO HWR2_7 HAG2_8 HP44_2_1_8]
  · isplitr; · iexact HC
    isplitl [HO]; · iexact HO
    isplitl [HWR2_7]; · iexact HWR2_7
    isplitl [HAG2_8]; · iexact HAG2_8
    iexact HP44_2_1_8
  iintro %v1790 %hv1790 ⟨HO, HRSL2, HRSP2, HWGS2_4⟩
  try dsimp only
  rw [wp_bind]
  iapply (part65 I c) $$ [HO HWGS2_4]
  · isplitr; · iexact HC
    isplitl [HO]; · iexact HO
    iexact HWGS2_4
  iintro ⟨HO, HWGS2_7⟩
  try dsimp only
  rw [wp_bind]
  iapply (part66 I c) $$ [HO HWGS2_7 HRS2_1_4 HRS2_4_8 HP60_2_1_8]
  · isplitr; · iexact HC
    isplitl [HO]; · iexact HO
    isplitl [HWGS2_7]; · iexact HWGS2_7
    isplitl [HRS2_1_4]; · iexact HRS2_1_4
    isplitl [HRS2_4_8]; · iexact HRS2_4_8
    iexact HP60_2_1_8
  iintro ⟨HO, HWGS2_8, HWRS2_4⟩
  try dsimp only
  rw [wp_bind]
  iapply (part67 I c _ hv1790) $$ [HO HWRS2_4 HOUTE]
  · isplitr; · iexact HC
    isplitl [HO]; · iexact HO
    isplitl [HWRS2_4]; · iexact HWRS2_4
    iexact HOUTE
  iintro ⟨HO, HWRS2_8, HOUT⟩
  try dsimp only
  rw [wp_bind]
  iapply (part68 I c) $$ [HO HWS18 HP8_0_0_18]
  · isplitr; · iexact HC
    isplitl [HO]; · iexact HO
    isplitl [HWS18]; · iexact HWS18
    iexact HP8_0_0_18
  iintro ⟨HO, HWWS4⟩
  try dsimp only
  rw [wp_bind]
  iapply (part69 I c) $$ [HO HWWS4]
  · isplitr; · iexact HC
    isplitl [HO]; · iexact HO
    iexact HWWS4
  iintro ⟨HO, HWWS8⟩
  try dsimp only
  rw [wp_bind]
  iapply (part70 I c) $$ [HO HWWS8]
  · isplitr; · iexact HC
    isplitl [HO]; · iexact HO
    iexact HWWS8
  iintro ⟨HO, HWWS13⟩
  try dsimp only
  rw [wp_bind]
  iapply (part71 I c) $$ [HO HWWS13]
  · isplitr; · iexact HC
    isplitl [HO]; · iexact HO
    iexact HWWS13
  iintro ⟨HO, HWWS17⟩
  try dsimp only
  simp only [semSignalWord, semWaitWord, Prog.lift, Prog.bind_op, Prog.bind_ret, Prog.pure_eq_ret, wp_deviceId]
  iapply (wait_step I c (fun i => 8 + i) 0 0 0 18 17 70 (by omega) (by decide) (by omega) (fun _ => by decide) rfl (amt12 _ _)) $$ [HO HWWS17]
  · isplitr; · iexact HC
    isplitl [HO]; · iexact HO
    iexact HWWS17
  iintro ⟨HO, HWWS18⟩
  iapply (exit_step I c _ 0 (by omega) ((dev71_eq c).trans rfl) rfl) $$ [HO HEX0]
  · isplitr; · iexact HC
    isplitl [HO]; · iexact HO
    iexact HEX0
  iintro ⟨HO, HEX1⟩
  iapply (exit_step I c _ 1 (by omega) ((dev72_eq c).trans rfl) rfl) $$ [HO HEX1]
  · isplitr; · iexact HC
    isplitl [HO]; · iexact HO
    iexact HEX1
  iintro ⟨HO, HEX2⟩
  iapply (exit_step I c _ 2 (by omega) ((dev73_eq c).trans rfl) rfl) $$ [HO HEX2]
  · isplitr; · iexact HC
    isplitl [HO]; · iexact HO
    iexact HEX2
  iintro ⟨HO, HEX3⟩
  rw [wp_ret]; imodintro
  iapply Hk $$ [HO HRSL2 HRSP2 HWGS2_8 HWRS2_8 HOUT HWWS18 HEX3]
  · isplitl [HO]; · iexact HO
    isplitl [HRSL2]; · iexact HRSL2
    isplitl [HRSP2]; · iexact HRSP2
    isplitl [HWGS2_8]; · iexact HWGS2_8
    isplitl [HWRS2_8]; · iexact HWRS2_8
    isplitl [HOUT]; · iexact HOUT
    isplitl [HWWS18]; · iexact HWWS18
    iexact HEX3

end Cert.K
-- ==== Proof.Body.lean ====
/- The whole body of the kernel on one device. -/
module

public import proofs.«01_k».proof.Proof.Chain

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-- What the body starts from, but for the records and the debt. -/
def bodyIn (c : Dev nD) : sProp 𝕄 :=
  iprop(bigSep (Finset.Ico 0 10) (barRes (F := F) c) ∗ cred (tallyAt (barCell c) 1 10) ∗ atPos ER (barCell c) 0 (∅ : Finset ℕ) 0 ∗ (((c : Thread nD τ).loc cc0_stg1_0) ↦{fullShare} (I.wi 0 c)) ∗ wE (F := F) 0 (c.val / 8) c ∗ (((c : Thread nD τ).loc cc0_stg2_0) ↦{fullShare} (I.wo 0 c)) ∗ wE (F := F) 1 (c.val / 8) c ∗ (((c : Thread nD τ).loc cc0_stg3_0) ↦{fullShare} (I.wi 1 c)) ∗ wE (F := F) 2 (c.val / 8) c ∗ (((c : Thread nD τ).loc cc0_stg4_0) ↦{fullShare} (I.wo 1 c)) ∗ wE (F := F) 3 (c.val / 8) c ∗ (((c : Thread nD τ).loc cc0_stg5_0) ↦{fullShare} (I.wi 2 c)) ∗ wE (F := F) 4 (c.val / 8) c ∗ (((c : Thread nD τ).loc cc0_stg6_0) ↦{fullShare} (I.wo 2 c)) ∗ wE (F := F) 5 (c.val / 8) c ∗ wtok (F := F) c ∗ (((c : Thread nD τ).loc cc0_stg0_0) ↦{fullShare} (I.x c)) ∗ xqE (F := F) c (xs 0) ∗ poss (F := F) c 44 0 1 8 ∗ poss (F := F) c 52 0 1 8 ∗ poss (F := F) c 60 0 1 8 ∗ poss (F := F) c 68 0 1 8 ∗ bigSep (Finset.Ico 1 8) (fun r => iprop(∃ f, rsP (F := F) c (xs r) fullShare f)) ∗ ltoks (F := F) c 0 ∗ Wt I c (nW 0) 2 0 0 6 0 ∗ ptE (F := F) c (xr 1 4) ∗ ptE (F := F) c (xr 4 8) ∗ ltoks (F := F) c 1 ∗ Wt I c (nW 1) 2 0 0 6 0 ∗ ltoks (F := F) c 2 ∗ Wt I c (nW 2) 2 0 0 6 0 ∗ (∃ f, ((c : Thread nD τ).loc cc0_stg7_0) ↦{fullShare} (f : S128x128.Idx → Elt F .f32)) ∗ poss (F := F) c 8 0 0 18 ∗ bigSep (Finset.Ico 0 3) (exTok (F := F) c) ∗ cred (tallyAt (exitCell c) 9 3) ∗ atPos ER (exitCell c) 0 (∅ : Finset ℕ) 0)
/-- What it ends with. -/
def bodyOut (c : Dev nD) : sProp 𝕄 :=
  iprop(Ow (F := F) c 73 ∗ (((c : Thread nD τ).loc cc0_stg0_0) ↦{fullShare} (I.x c)) ∗ (((c : Thread nD τ).loc cc0_stg1_0) ↦{fullShare} (I.wi 0 c)) ∗ (((c : Thread nD τ).loc cc0_stg2_0) ↦{fullShare} (I.wo 0 c)) ∗ (((c : Thread nD τ).loc cc0_stg3_0) ↦{fullShare} (I.wi 1 c)) ∗ (((c : Thread nD τ).loc cc0_stg4_0) ↦{fullShare} (I.wo 1 c)) ∗ (((c : Thread nD τ).loc cc0_stg5_0) ↦{fullShare} (I.wi 2 c)) ∗ (((c : Thread nD τ).loc cc0_stg6_0) ↦{fullShare} (I.wo 2 c)) ∗ (((c : Thread nD τ).loc cc0_stg7_0) ↦{fullShare} (resC I c)) ∗ xqP c (xs 0) fullShare (xqC (actC I 2) c) ∗ xqP c (xr 1 4) fullShare (xqC (actC I 2) c) ∗ xqP c (xr 4 8) fullShare (xqC (actC I 2) c) ∗ rsP c (xr 1 8) fullShare (rsC I 2 (actC I 2) c) ∗ ptP c (xr 1 8) fullShare (partC I 2 (actC I 2) c) ∗ wiP c Finset.univ fullShare (winC I c) ∗ woP c Finset.univ fullShare (woutC I c) ∗ atPos ER (barCell c) 1 (∅ : Finset ℕ) 0 ∗ atPos ER (exitCell c) 1 (∅ : Finset ℕ) 0 ∗ poss (F := F) c 8 1 0 18 ∗ bigSep (Finset.Ico 0 6) (fun t => ps (F := F) c (nW 0 t) 1) ∗ bigSep (Finset.Ico 0 6) (fun t => ps (F := F) c (nW 1 t) 1) ∗ bigSep (Finset.Ico 0 6) (fun t => ps (F := F) c (nW 2 t) 1) ∗ poss (F := F) c 44 3 1 8 ∗ poss (F := F) c 52 3 1 8 ∗ poss (F := F) c 60 3 1 8 ∗ poss (F := F) c 68 3 1 8)

set_option maxRecDepth 4000

set_option maxHeartbeats 1000000 in
/-- The body from its start to its end. -/
theorem body_run (c : Dev nD) {K : PUnit → sProp 𝕄} :
    iprop(Ctx I ∗ Ow (F := F) c 0 ∗ bodyIn I c)
      ⊢ iprop((bodyOut I c -∗ K ⟨⟩) -∗ wp frame (wpE (defs₀ (F := F)) 𝒱₀ (c : Thread nD τ) none) Set.univ (cc0_body (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  rw [cc0_body_eq_skeleton]; unfold cc0_body_skel bodyIn
  iintro ⟨#HC, HO, HBAR0, HBCR, HBPOS0, HSTG1, HWE0, HSTG2, HWE1, HSTG3, HWE2, HSTG4, HWE3, HSTG5, HWE4, HSTG6, HWE5, HWTOK, HSTG0, HXE0, HP44, HP52, HP60, HP68, HRS, HLT0, HWN0, HPT1, HPT4, HLT1, HWN1, HLT2, HWN2, HOUT, HP8, HEX, HECR, HEPOS⟩ Hk
  rw [wp_bind]
  iapply (part72 I c) $$ [HO HBAR0 HBCR HBPOS0 HSTG1 HWE0 HSTG2 HWE1 HSTG3 HWE2 HSTG4 HWE3 HSTG5 HWE4 HSTG6 HWE5 HWTOK HSTG0 HXE0 HP44 HP52 HP60 HP68 HRS HLT0 HWN0 HPT1 HPT4 HLT1 HWN1 HLT2 HWN2]
  · isplitr; · iexact HC
    isplitl [HO]; · iexact HO
    isplitl [HBAR0]; · iexact HBAR0
    isplitl [HBCR]; · iexact HBCR
    isplitl [HBPOS0]; · iexact HBPOS0
    isplitl [HSTG1]; · iexact HSTG1
    isplitl [HWE0]; · iexact HWE0
    isplitl [HSTG2]; · iexact HSTG2
    isplitl [HWE1]; · iexact HWE1
    isplitl [HSTG3]; · iexact HSTG3
    isplitl [HWE2]; · iexact HWE2
    isplitl [HSTG4]; · iexact HSTG4
    isplitl [HWE3]; · iexact HWE3
    isplitl [HSTG5]; · iexact HSTG5
    isplitl [HWE4]; · iexact HWE4
    isplitl [HSTG6]; · iexact HSTG6
    isplitl [HWE5]; · iexact HWE5
    isplitl [HWTOK]; · iexact HWTOK
    isplitl [HSTG0]; · iexact HSTG0
    isplitl [HXE0]; · iexact HXE0
    isplitl [HP44]; · iexact HP44
    isplitl [HP52]; · iexact HP52
    isplitl [HP60]; · iexact HP60
    isplitl [HP68]; · iexact HP68
    isplitl [HRS]; · iexact HRS
    isplitl [HLT0]; · iexact HLT0
    isplitl [HWN0]; · iexact HWN0
    isplitl [HPT1]; · iexact HPT1
    isplitl [HPT4]; · iexact HPT4
    isplitl [HLT1]; · iexact HLT1
    isplitl [HWN1]; · iexact HWN1
    isplitl [HLT2]; · iexact HLT2
    iexact HWN2
  iintro %v19 %v20 %v1545 %v1705 %hv ⟨HO, -, HBPOS1, HSTG1, HSTG2, HSTG3, HSTG4, HSTG5, HSTG6, HWREST, HWS18, HSTG0, HWB0, HWI0, HWO0, HWB1, HWI1, HWO1, HXR, HWR2, HP44, HP60, HAG2, HWB2, HWI2, HWO2, HX0, HP52a, HX1, HRS1, HP52b, HX4, HRS4⟩
  try dsimp only
  rw [wp_bind]
  iapply (part73 I c _ _ _ _ hv) $$ [HO HRS4 HWR2 HAG2 HP44 HRS1 HP60 HOUT HWS18 HP8 HEX]
  · isplitr; · iexact HC
    isplitl [HO]; · iexact HO
    isplitl [HRS4]; · iexact HRS4
    isplitl [HWR2]; · iexact HWR2
    isplitl [HAG2]; · iexact HAG2
    isplitl [HP44]; · iexact HP44
    isplitl [HRS1]; · iexact HRS1
    isplitl [HP60]; · iexact HP60
    isplitl [HOUT]; · iexact HOUT
    isplitl [HWS18]; · iexact HWS18
    isplitl [HP8]; · iexact HP8
    iexact HEX
  iintro ⟨HO, HRL, HR, HWG, HWH, HSTG7, HWW, -⟩
  try dsimp only
  iapply (exit_wait I c (by decide)) $$ [HO HECR HEPOS]
  · isplitr; · iexact HC
    isplitl [HO]; · iexact HO
    isplitl [HECR]; · iexact HECR
    iexact HEPOS
  iintro ⟨HO, HEPOS1⟩
  ihave ⟨HX0, HR, HPT, HP44, HP52, HP60, HP68⟩ := (T_fin I c) $$ [HR HRL HP52a HP52b HWG HWH HX0 HXR]
  · unfold layEnd
    isplitl [HR]; · iexact HR
    isplitl [HRL]; · iexact HRL
    isplitl [HP52a]; · iexact HP52a
    isplitl [HP52b]; · iexact HP52b
    isplitl [HWG]; · iexact HWG
    isplitl [HWH]; · iexact HWH
    isplitl [HX0]; · iexact HX0
    iexact HXR
  ihave ⟨HWI, HWO, HP8, HN0, HN1, HN2⟩ := (T_wfin I c) $$ [HWW HWREST HWB0 HWI0 HWO0 HWB1 HWI1 HWO1 HWB2 HWI2 HWO2]
  · isplitl [HWW]; · iexact HWW
    isplitl [HWREST]; · iexact HWREST
    unfold wHeld
    isplitl [HWB0 HWI0 HWO0]
    · isplitl [HWI0]; · iexact HWI0
      isplitl [HWO0]; · iexact HWO0
      iexact HWB0
    isplitl [HWB1 HWI1 HWO1]
    · isplitl [HWI1]; · iexact HWI1
      isplitl [HWO1]; · iexact HWO1
      iexact HWB1
    isplitl [HWI2]; · iexact HWI2
    isplitl [HWO2]; · iexact HWO2
    iexact HWB2
  rw [show (Prog.bind (Prog.ret PUnit.unit) fun _ => (pure PUnit.unit : Prog (TpuEff nD τ sig (Elt F) Λ₀ .tc) PUnit)) = Prog.ret PUnit.unit from rfl, wp_ret]; imodintro
  iapply Hk
  unfold bodyOut
  isplitl [HO]; · iexact HO
  isplitl [HSTG0]; · iexact HSTG0
  isplitl [HSTG1]; · iexact HSTG1
  isplitl [HSTG2]; · iexact HSTG2
  isplitl [HSTG3]; · iexact HSTG3
  isplitl [HSTG4]; · iexact HSTG4
  isplitl [HSTG5]; · iexact HSTG5
  isplitl [HSTG6]; · iexact HSTG6
  isplitl [HSTG7]; · iexact HSTG7
  isplitl [HX0]; · iexact HX0
  isplitl [HX1]; · iexact HX1
  isplitl [HX4]; · iexact HX4
  isplitl [HR]; · iexact HR
  isplitl [HPT]; · iexact HPT
  isplitl [HWI]; · iexact HWI
  isplitl [HWO]; · iexact HWO
  isplitl [HBPOS1]; · iexact HBPOS1
  isplitl [HEPOS1]; · iexact HEPOS1
  isplitl [HP8]; · iexact HP8
  isplitl [HN0]; · iexact HN0
  isplitl [HN1]; · iexact HN1
  isplitl [HN2]; · iexact HN2
  isplitl [HP44]; · iexact HP44
  isplitl [HP52]; · iexact HP52
  isplitl [HP60]; · iexact HP60
  iexact HP68

end Cert.K

end
-- ==== Proof.Begin.lean ====
/- The tokens, credits and positions a device starts with, sorted; the slots of its buffers, split and rejoined. -/
module

public import proofs.«01_k».proof.Proof.Body

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## Conjunctions over ranges -/

omit [FloatOps F] in
theorem finIco {n : ℕ} (A : Fin n → sProp 𝕄) (B : ℕ → sProp 𝕄) (h : ∀ k : Fin n, A k = B k.val) :
    bigSep Finset.univ A = bigSep (Finset.Ico 0 n) B := by
  have e : Finset.Ico 0 n = (Finset.univ : Finset (Fin n)).map ⟨Fin.val, Fin.val_injective⟩ := by
    ext x
    simp only [Finset.mem_Ico, Finset.mem_map, Finset.mem_univ, true_and, Function.Embedding.coeFn_mk]
    exact ⟨fun hx => ⟨⟨x, hx.2⟩, rfl⟩, fun ⟨k, e⟩ => e ▸ ⟨Nat.zero_le _, k.isLt⟩⟩
  rw [e, bigSep_map]
  exact bigSep_congr fun k _ => h k
omit [FloatOps F] in
theorem icoAt (A : ℕ → sProp 𝕄) (a b k a' b' : ℕ) (ha : a' = a + k) (hb : b' = b + k) :
    bigSep (Finset.Ico a' b') A = bigSep (Finset.Ico a b) (fun i => A (k + i)) := by
  subst ha; subst hb
  rw [icoShift]
  exact bcongr fun r _ => by rw [Nat.add_comm]
omit [FloatOps F] in
/-- The payments, kind by kind. -/
theorem payKinds (A : ℕ → sProp 𝕄) : bigSep (Finset.Ico 0 73) A
    = iprop(bigSep (Finset.Ico 0 10) A ∗ bigSep (Finset.Ico 0 18) (fun i => A (10 + i))
      ∗ (bigSep (Finset.Ico 1 8) (fun r => A (27 + 14 * 0 + r)) ∗ bigSep (Finset.Ico 1 8) (fun r => A (34 + 14 * 0 + r)))
      ∗ (bigSep (Finset.Ico 1 8) (fun r => A (27 + 14 * 1 + r)) ∗ bigSep (Finset.Ico 1 8) (fun r => A (34 + 14 * 1 + r)))
      ∗ (bigSep (Finset.Ico 1 8) (fun r => A (27 + 14 * 2 + r)) ∗ bigSep (Finset.Ico 1 8) (fun r => A (34 + 14 * 2 + r)))
      ∗ bigSep (Finset.Ico 0 3) (fun j => A (70 + j))) := by
  rw [icoSplit A (show 0 ≤ 10 by omega) (show 10 ≤ 73 by omega), icoSplit A (show 10 ≤ 28 by omega) (show 28 ≤ 73 by omega),
    icoSplit A (show 28 ≤ 42 by omega) (show 42 ≤ 73 by omega), icoSplit A (show 28 ≤ 35 by omega) (show 35 ≤ 42 by omega),
    icoSplit A (show 42 ≤ 56 by omega) (show 56 ≤ 73 by omega), icoSplit A (show 42 ≤ 49 by omega) (show 49 ≤ 56 by omega),
    icoSplit A (show 56 ≤ 70 by omega) (show 70 ≤ 73 by omega), icoSplit A (show 56 ≤ 63 by omega) (show 63 ≤ 70 by omega),
    icoAt A 0 18 10 10 28 rfl rfl, icoAt A 1 8 27 28 35 rfl rfl, icoAt A 1 8 34 35 42 rfl rfl, icoAt A 1 8 41 42 49 rfl rfl, icoAt A 1 8 48 49 56 rfl rfl,
    icoAt A 1 8 55 56 63 rfl rfl, icoAt A 1 8 62 63 70 rfl rfl, icoAt A 0 3 70 70 73 rfl rfl]
omit [FloatOps F] in
/-- The own completions, kind by kind. -/
theorem sendKinds (A : ℕ → sProp 𝕄) : bigSep (Finset.Ico 0 60) A
    = iprop(bigSep (Finset.Ico 0 18) A
      ∗ (bigSep (Finset.Ico 1 8) (fun r => A (17 + 7 * 0 + r)) ∗ bigSep (Finset.Ico 1 8) (fun r => A (17 + 7 * 1 + r)) ∗ bigSep (Finset.Ico 1 8) (fun r => A (17 + 7 * 2 + r)))
      ∗ (bigSep (Finset.Ico 1 8) (fun r => A (38 + 7 * 0 + r)) ∗ bigSep (Finset.Ico 1 8) (fun r => A (38 + 7 * 1 + r)) ∗ bigSep (Finset.Ico 1 8) (fun r => A (38 + 7 * 2 + r)))) := by
  rw [icoSplit A (show 0 ≤ 18 by omega) (show 18 ≤ 60 by omega), icoSplit A (show 18 ≤ 39 by omega) (show 39 ≤ 60 by omega),
    icoSplit A (show 18 ≤ 25 by omega) (show 25 ≤ 39 by omega), icoSplit A (show 25 ≤ 32 by omega) (show 32 ≤ 39 by omega),
    icoSplit A (show 39 ≤ 46 by omega) (show 46 ≤ 60 by omega), icoSplit A (show 46 ≤ 53 by omega) (show 53 ≤ 60 by omega),
    icoAt A 1 8 17 18 25 rfl rfl, icoAt A 1 8 24 25 32 rfl rfl, icoAt A 1 8 31 32 39 rfl rfl,
    icoAt A 1 8 38 39 46 rfl rfl, icoAt A 1 8 45 46 53 rfl rfl, icoAt A 1 8 52 53 60 rfl rfl]
omit [FloatOps F] in
/-- The weight receptions, layer by layer. -/
theorem nwSort (A : ℕ → sProp 𝕄) : bigSep (Finset.Ico 26 44) A
    = iprop(bigSep (Finset.Ico 0 6) (fun t => A (nW 0 t)) ∗ bigSep (Finset.Ico 0 6) (fun t => A (nW 1 t)) ∗ bigSep (Finset.Ico 0 6) (fun t => A (nW 2 t))) := by
  have hi (l : ℕ) : Set.InjOn (nW l) (Finset.Ico 0 6 : Finset ℕ) := fun a _ b _ h => by
    have h : 26 + (6 * (a / 2) + 2 * l + a % 2) = 26 + (6 * (b / 2) + 2 * l + b % 2) := h
    omega
  rw [show Finset.Ico 26 44 = (Finset.Ico 0 6).image (nW 0) ∪ ((Finset.Ico 0 6).image (nW 1) ∪ (Finset.Ico 0 6).image (nW 2)) by decide,
    bigSep_union (by decide), bigSep_union (by decide), bigSep_image_of_injOn (hi 0), bigSep_image_of_injOn (hi 1), bigSep_image_of_injOn (hi 2)]
  rfl
omit [FloatOps F] in
/-- The positions of the DMA semaphores, kind by kind; the first of each eight is not used. -/
theorem posKinds (A : ℕ → sProp 𝕄) : bigSep (Finset.Ico 8 76) A
    = iprop(bigSep (Finset.Ico 0 18) (fun i => A (8 + i))
      ∗ (bigSep (Finset.Ico 0 6) (fun t => A (nW 0 t)) ∗ bigSep (Finset.Ico 0 6) (fun t => A (nW 1 t)) ∗ bigSep (Finset.Ico 0 6) (fun t => A (nW 2 t)))
      ∗ (A 44 ∗ bigSep (Finset.Ico 1 8) (fun r => A (44 + r))) ∗ (A 52 ∗ bigSep (Finset.Ico 1 8) (fun r => A (52 + r)))
      ∗ (A 60 ∗ bigSep (Finset.Ico 1 8) (fun r => A (60 + r))) ∗ (A 68 ∗ bigSep (Finset.Ico 1 8) (fun r => A (68 + r)))) := by
  rw [icoSplit A (show 8 ≤ 26 by omega) (show 26 ≤ 76 by omega), icoSplit A (show 26 ≤ 44 by omega) (show 44 ≤ 76 by omega),
    icoSplit A (show 44 ≤ 52 by omega) (show 52 ≤ 76 by omega), icoSplit A (show 52 ≤ 60 by omega) (show 60 ≤ 76 by omega),
    icoSplit A (show 60 ≤ 68 by omega) (show 68 ≤ 76 by omega), nwSort A,
    bigSep_Ico_succ_bot (show 44 < 52 by omega), bigSep_Ico_succ_bot (show 52 < 60 by omega), bigSep_Ico_succ_bot (show 60 < 68 by omega), bigSep_Ico_succ_bot (show 68 < 76 by omega),
    icoAt A 0 18 8 8 26 rfl rfl, icoAt A 1 8 44 (44 + 1) 52 rfl rfl, icoAt A 1 8 52 (52 + 1) 60 rfl rfl, icoAt A 1 8 60 (60 + 1) 68 rfl rfl, icoAt A 1 8 68 (68 + 1) 76 rfl rfl]

/-! ## Tokens, credits, positions -/

/-- The round and the duty of payment `j`. -/
def pround (j : ℕ) : ℕ := if j < 28 then 0 else if j < 70 then (j - 28) / 14 else 0
def pduty (j : ℕ) : ℕ := if j < 10 then j else if j < 70 then 0 else j - 70
/-- The semaphore and the round of own completion `i`. -/
def snum (i : ℕ) : ℕ := if i < 18 then 8 + i else if i < 39 then 44 + ((i - 18) % 7 + 1) else 60 + ((i - 39) % 7 + 1)
def sround (i : ℕ) : ℕ := if i < 18 then 0 else if i < 39 then (i - 18) / 7 else (i - 39) / 7

/-- The token of payment `j`, held by the device that pays. -/
def payTok (c : Dev nD) (j : ℕ) : sProp 𝕄 := dutyTok ER ((peer c j : Thread nD τ), psem j) (pround j) (pduty j)
/-- The credit of the payment `j` that device `c` receives. -/
def payCr (c : Dev nD) (j : ℕ) : sProp 𝕄 := cred (tallyAt ((c : Thread nD τ), psem j) (pstage j) (pamt j))
/-- The token of own completion `i`. -/
def sendTok (c : Dev nD) (i : ℕ) : sProp 𝕄 := dutyTok ER (dcell c (snum i)) (sround i) 0
/-- The position at each own cell. -/
def posAt (c : Dev nD) (k : Fin 70) : sProp 𝕄 := atPos ER (kcell (c, k)) 0 (∅ : Finset ℕ) 0

omit [FloatOps F] in
theorem payTok_bar (c : Dev nD) (j : ℕ) (h : j < 10) : payTok (F := F) c j = dutyTok ER (barCell (peer c j)) 0 j := by
  unfold payTok psem pround pduty; rw [if_pos h, if_pos (by omega), if_pos h]
omit [FloatOps F] in
theorem payTok_w (c : Dev nD) (i : ℕ) (h : i < 18) : payTok (F := F) c (10 + i) = dutyTok ER (dcell (col c (i / 6 + 1)) (26 + i)) 0 0 := by
  unfold payTok; rw [peer_w c i h, psem_w i h]; unfold pround pduty; rw [if_pos (by omega), if_neg (by omega), if_pos (by omega)]
omit [FloatOps F] in
theorem payTok_ag (c : Dev nD) (l r : ℕ) (hl : l < 3) (h : 1 ≤ r ∧ r < 8) : payTok (F := F) c (27 + 14 * l + r) = dutyTok ER (dcell (row c r) (52 + r)) l 0 := by
  unfold payTok; rw [peer_ag c l r hl h, psem_ag l r hl h]; unfold pround pduty
  rw [if_neg (by omega), if_pos (by omega), if_neg (by omega), if_pos (by omega), show (27 + 14 * l + r - 28) / 14 = l by omega]
omit [FloatOps F] in
theorem payTok_rs (c : Dev nD) (l r : ℕ) (hl : l < 3) (h : 1 ≤ r ∧ r < 8) : payTok (F := F) c (34 + 14 * l + r) = dutyTok ER (dcell (row c (8 - r)) (68 + r)) l 0 := by
  unfold payTok; rw [peer_rs c l r hl h, psem_rs l r hl h]; unfold pround pduty
  rw [if_neg (by omega), if_pos (by omega), if_neg (by omega), if_pos (by omega), show (34 + 14 * l + r - 28) / 14 = l by omega]
omit [FloatOps F] in
theorem payTok_exit (c : Dev nD) (j : ℕ) (h : j < 3) : payTok (F := F) c (70 + j) = exTok (F := F) c j := by
  unfold payTok exTok pround pduty peer psem
  rw [if_neg (by omega), if_neg (by omega), if_neg (by omega), if_neg (by omega), if_neg (by omega), if_neg (by omega), if_neg (by omega),
    if_neg (by omega), if_neg (by omega), if_neg (by omega), if_neg (by omega), show 70 + j - 69 = j + 1 by omega, show 70 + j - 70 = j by omega]
omit [FloatOps F] in
theorem payCr_bar (c : Dev nD) (j : ℕ) (h : j < 10) : payCr (F := F) c j = cred (tallyAt (barCell c) 1 1) := by
  unfold payCr psem pstage pamt; rw [if_pos h, if_pos h, if_pos h]
omit [FloatOps F] in
theorem payCr_w (c : Dev nD) (i : ℕ) (h : i < 18) : payCr (F := F) c (10 + i) = cred (tallyAt (dcell c (26 + i)) 2 (amtDma (26 + i))) := by
  unfold payCr; rw [psem_w i h, pamt_w i h, amt_lo (by omega)]; unfold pstage; rw [if_neg (by omega), if_pos (by omega)]
omit [FloatOps F] in
theorem payCr_ag (c : Dev nD) (l r : ℕ) (hl : l < 3) (h : 1 ≤ r ∧ r < 8) : payCr (F := F) c (27 + 14 * l + r) = cred (tallyAt (dcell c (52 + r)) (3 + 2 * l) 1024) := by
  unfold payCr; rw [psem_ag l r hl h, pamt_x _ (by omega)]; unfold pstage
  rw [if_neg (by omega), if_neg (by omega), if_pos (by omega), if_pos (by omega), show (27 + 14 * l + r - 28) / 14 = l by omega]
omit [FloatOps F] in
theorem payCr_rs (c : Dev nD) (l r : ℕ) (hl : l < 3) (h : 1 ≤ r ∧ r < 8) : payCr (F := F) c (34 + 14 * l + r) = cred (tallyAt (dcell c (68 + r)) (4 + 2 * l) 1024) := by
  unfold payCr; rw [psem_rs l r hl h, pamt_x _ (by omega)]; unfold pstage
  rw [if_neg (by omega), if_neg (by omega), if_pos (by omega), if_neg (by omega), show (34 + 14 * l + r - 28) / 14 = l by omega]
omit [FloatOps F] in
theorem payCr_exit (c : Dev nD) (j : ℕ) (h : j < 3) : payCr (F := F) c (70 + j) = cred (tallyAt (exitCell c) 9 1) := by
  unfold payCr psem pstage pamt
  rw [if_neg (by omega), if_neg (by omega), if_neg (by omega), if_neg (by omega), if_neg (by omega), if_neg (by omega), if_neg (by omega), if_neg (by omega), if_neg (by omega)]
omit [FloatOps F] in
theorem sendTok_w (c : Dev nD) (i : ℕ) (h : i < 18) : sendTok (F := F) c i = dutyTok ER (dcell c (8 + i)) 0 0 := by
  unfold sendTok snum sround; rw [if_pos h, if_pos h]
omit [FloatOps F] in
theorem sendTok_ag (c : Dev nD) (l r : ℕ) (hl : l < 3) (h : 1 ≤ r ∧ r < 8) : sendTok (F := F) c (17 + 7 * l + r) = dutyTok ER (dcell c (44 + r)) l 0 := by
  unfold sendTok snum sround
  rw [if_neg (by omega), if_pos (by omega), if_neg (by omega), if_pos (by omega), show (17 + 7 * l + r - 18) / 7 = l by omega, show (17 + 7 * l + r - 18) % 7 + 1 = r by omega]
omit [FloatOps F] in
theorem sendTok_rs (c : Dev nD) (l r : ℕ) (hl : l < 3) (h : 1 ≤ r ∧ r < 8) : sendTok (F := F) c (38 + 7 * l + r) = dutyTok ER (dcell c (60 + r)) l 0 := by
  unfold sendTok snum sround
  rw [if_neg (by omega), if_neg (by omega), if_neg (by omega), if_neg (by omega), show (38 + 7 * l + r - 39) / 7 = l by omega, show (38 + 7 * l + r - 39) % 7 + 1 = r by omega]

omit [FloatOps F] in
theorem cred_rep (g : GSem nD τ sig) (ι n : ℕ) : bigSep (Finset.Ico 0 n) (fun _ => (cred (tallyAt g ι 1) : sProp 𝕄)) = cred (tallyAt g ι n) := by
  induction n with
  | zero => rw [Finset.Ico_self, bigSep_empty, tallyAt_zero, cred_zero]; rfl
  | succ n ih => rw [bigSep_Ico_succ_top (Nat.zero_le _), ih, Nat.add_comm n 1, ← tallyAt_add]; exact (biEq (cred_add _ _).1 (cred_add _ _).2).symm

omit [FloatOps F] in
theorem ltoks_eq (c : Dev nD) (l : ℕ) (hl : l < 3) : ltoks (F := F) c l
    = iprop((bigSep (Finset.Ico 1 8) (fun r => sendTok c (17 + 7 * l + r)) ∗ bigSep (Finset.Ico 1 8) (fun r => payTok c (27 + 14 * l + r)))
      ∗ (bigSep (Finset.Ico 1 8) (fun r => sendTok c (38 + 7 * l + r)) ∗ bigSep (Finset.Ico 1 8) (fun r => payTok c (34 + 14 * l + r)))
      ∗ bigSep (Finset.Ico 1 8) (fun r => payCr c (27 + 14 * l + r)) ∗ bigSep (Finset.Ico 1 8) (fun r => payCr c (34 + 14 * l + r))) := by
  unfold ltoks ltok
  rw [← bigSep_sep', ← bigSep_sep', ← bigSep_sep', ← bigSep_sep', ← bigSep_sep']
  exact bcongr fun r hr => by
    rw [sendTok_ag c l r hl hr, payTok_ag c l r hl hr, sendTok_rs c l r hl hr, payTok_rs c l r hl hr, payCr_ag c l r hl hr, payCr_rs c l r hl hr]

omit [FloatOps F] in
theorem posAt_eq (c : Dev nD) : bigSep Finset.univ (posAt (F := F) c)
    = iprop(atPos ER (barCell c) 0 (∅ : Finset ℕ) 0 ∗ atPos ER (exitCell c) 0 (∅ : Finset ℕ) 0 ∗ bigSep (Finset.Ico 8 76) (fun n => ps (F := F) c n 0)) := by
  rw [finIco (posAt (F := F) c) (fun i => if i = 0 then atPos ER (barCell c) 0 (∅ : Finset ℕ) 0 else if i = 1 then atPos ER (exitCell c) 0 (∅ : Finset ℕ) 0 else ps (F := F) c (6 + i) 0)
    (fun k => by
      unfold posAt kcell ksem
      split_ifs
      · rfl
      · rfl
      · rw [Nat.add_comm 6]),
    bigSep_Ico_succ_bot (show 0 < 70 by omega), bigSep_Ico_succ_bot (show 0 + 1 < 70 by omega), if_pos rfl, if_neg (by omega), if_pos rfl,
    icoAt (fun n => ps (F := F) c n 0) 2 70 6 8 76 rfl rfl]
  refine congrArg (fun X : sProp 𝕄 => iprop(atPos ER (barCell c) 0 (∅ : Finset ℕ) 0 ∗ atPos ER (exitCell c) 0 (∅ : Finset ℕ) 0 ∗ X)) ?_
  exact bcongr fun r hr => by rw [if_neg (by omega), if_neg (by omega)]

/-- What a device starts with besides the records: tokens, credits, positions. -/
def kit (c : Dev nD) : sProp 𝕄 :=
  iprop(bigSep (Finset.Ico 0 73) (payTok (F := F) c) ∗ bigSep (Finset.Ico 0 73) (payCr (F := F) c) ∗ bigSep (Finset.Ico 0 60) (sendTok (F := F) c) ∗ bigSep Finset.univ (posAt (F := F) c))

/-- The four completions of the unused first slots. -/
def idle (c : Dev nD) : sProp 𝕄 := iprop(ps (F := F) c 44 0 ∗ ps (F := F) c 52 0 ∗ ps (F := F) c 60 0 ∗ ps (F := F) c 68 0)

theorem kit_sort (c : Dev nD) : kit (F := F) c ⊢ iprop(bigSep (Finset.Ico 0 10) (fun j => dutyTok ER (barCell (peer c j)) 0 j)
    ∗ cred (tallyAt (barCell c) 1 10) ∗ atPos ER (barCell c) 0 (∅ : Finset ℕ) 0 ∗ wtok (F := F) c
    ∗ (poss (F := F) c 44 0 1 8 ∗ poss (F := F) c 52 0 1 8 ∗ poss (F := F) c 60 0 1 8 ∗ poss (F := F) c 68 0 1 8)
    ∗ (ltoks (F := F) c 0 ∗ ltoks (F := F) c 1 ∗ ltoks (F := F) c 2)
    ∗ (Wt I c (nW 0) 2 0 0 6 0 ∗ Wt I c (nW 1) 2 0 0 6 0 ∗ Wt I c (nW 2) 2 0 0 6 0)
    ∗ poss (F := F) c 8 0 0 18 ∗ bigSep (Finset.Ico 0 3) (exTok (F := F) c) ∗ cred (tallyAt (exitCell c) 9 3) ∗ atPos ER (exitCell c) 0 (∅ : Finset ℕ) 0 ∗ idle (F := F) c) := by
  have hb : bigSep (Finset.Ico 0 10) (payTok (F := F) c) = bigSep (Finset.Ico 0 10) (fun j => dutyTok ER (barCell (peer c j)) 0 j) :=
    bcongr fun j hj => payTok_bar c j hj.2
  have hbc : bigSep (Finset.Ico 0 10) (payCr (F := F) c) = cred (tallyAt (barCell c) 1 10) := by
    rw [← cred_rep]; exact bcongr fun j hj => payCr_bar c j hj.2
  have hec : bigSep (Finset.Ico 0 3) (fun j => payCr (F := F) c (70 + j)) = cred (tallyAt (exitCell c) 9 3) := by
    rw [← cred_rep]; exact bcongr fun j hj => payCr_exit c j hj.2
  have het : bigSep (Finset.Ico 0 3) (fun j => payTok (F := F) c (70 + j)) = bigSep (Finset.Ico 0 3) (exTok (F := F) c) :=
    bcongr fun j hj => payTok_exit c j hj.2
  have hw : wtok (F := F) c = iprop(bigSep (Finset.Ico 0 18) (sendTok (F := F) c) ∗ bigSep (Finset.Ico 0 18) (fun i => payTok (F := F) c (10 + i))) := by
    unfold wtok
    rw [← bigSep_sep']
    exact bcongr fun i hi => by rw [sendTok_w c i hi.2, payTok_w c i hi.2]
  have hwc : bigSep (Finset.Ico 0 18) (fun i => payCr (F := F) c (10 + i)) = bigSep (Finset.Ico 26 44) (fun n => cred (tallyAt (dcell c n) 2 (amtDma n))) := by
    rw [icoAt (fun n => (cred (tallyAt (dcell c n) 2 (amtDma n)) : sProp 𝕄)) 0 18 26 26 44 rfl rfl]
    exact bcongr fun i hi => payCr_w c i hi.2
  have hwt (l : ℕ) : iprop(bigSep (Finset.Ico 0 6) (fun t => cred (tallyAt (dcell c (nW l t)) 2 (amtDma (nW l t)))) ∗ bigSep (Finset.Ico 0 6) (fun t => ps (F := F) c (nW l t) 0))
      ⊢ Wt I c (nW l) 2 0 0 6 0 := by
    rw [← bigSep_sep']
    exact fam_start
  unfold kit idle
  rw [payKinds, payKinds, sendKinds, posAt_eq, posKinds, hb, hbc, hec, het, hw, hwc, nwSort, ltoks_eq c 0 (by omega), ltoks_eq c 1 (by omega), ltoks_eq c 2 (by omega)]
  iintro ⟨⟨TB, TW, ⟨TA0, TR0⟩, ⟨TA1, TR1⟩, ⟨TA2, TR2⟩, TE⟩, ⟨CB, ⟨CW0, CW1, CW2⟩, ⟨CA0, CR0⟩, ⟨CA1, CR1⟩, ⟨CA2, CR2⟩, CE⟩,
    ⟨SW, ⟨SA0, SA1, SA2⟩, SR0, SR1, SR2⟩, PB, PE, P8, ⟨PW0, PW1, PW2⟩, ⟨I44, P44⟩, ⟨I52, P52⟩, ⟨I60, P60⟩, I68, P68⟩
  isplitl [TB]; · iexact TB
  isplitl [CB]; · iexact CB
  isplitl [PB]; · iexact PB
  isplitl [SW TW]
  · isplitl [SW]; · iexact SW
    iexact TW
  isplitl [P44 P52 P60 P68]
  · unfold poss
    isplitl [P44]; · iexact P44
    isplitl [P52]; · iexact P52
    isplitl [P60]; · iexact P60
    iexact P68
  isplitl [TA0 TR0 CA0 CR0 SA0 SR0 TA1 TR1 CA1 CR1 SA1 SR1 TA2 TR2 CA2 CR2 SA2 SR2]
  · isplitl [TA0 TR0 CA0 CR0 SA0 SR0]
    · isplitl [SA0 TA0]
      · isplitl [SA0]; · iexact SA0
        iexact TA0
      isplitl [SR0 TR0]
      · isplitl [SR0]; · iexact SR0
        iexact TR0
      isplitl [CA0]; · iexact CA0
      iexact CR0
    isplitl [TA1 TR1 CA1 CR1 SA1 SR1]
    · isplitl [SA1 TA1]
      · isplitl [SA1]; · iexact SA1
        iexact TA1
      isplitl [SR1 TR1]
      · isplitl [SR1]; · iexact SR1
        iexact TR1
      isplitl [CA1]; · iexact CA1
      iexact CR1
    isplitl [SA2 TA2]
    · isplitl [SA2]; · iexact SA2
      iexact TA2
    isplitl [SR2 TR2]
    · isplitl [SR2]; · iexact SR2
      iexact TR2
    isplitl [CA2]; · iexact CA2
    iexact CR2
  isplitl [CW0 PW0 CW1 PW1 CW2 PW2]
  · isplitl [CW0 PW0]
    · iapply (hwt 0)
      isplitl [CW0]; · iexact CW0
      iexact PW0
    isplitl [CW1 PW1]
    · iapply (hwt 1)
      isplitl [CW1]; · iexact CW1
      iexact PW1
    iapply (hwt 2)
    isplitl [CW2]; · iexact CW2
    iexact PW2
  isplitl [P8]; · unfold poss; iexact P8
  isplitl [TE]; · iexact TE
  isplitl [CE]; · iexact CE
  isplitl [PE]; · iexact PE
  isplitl [I44]; · iexact I44
  isplitl [I52]; · iexact I52
  isplitl [I60]; · iexact I60
  iexact I68

end Cert.K

end
-- ==== Proof.Ends.lean ====
/- The buffers of a device split at its start and rejoined at its end; its semaphores closed. -/
module

public import proofs.«01_k».proof.Proof.Begin

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## The buffers at the start -/

theorem xr_all : (Finset.univ : Finset S8x128x128.Idx) = xr 0 8 := by
  ext i
  have hi : (i 0).val < 8 := (i 0).isLt
  simp only [Finset.mem_univ, mem_xr, true_iff]
  exact ⟨Nat.zero_le _, hi⟩
theorem xr_cut : (Finset.univ : Finset S8x128x128.Idx) = xs 0 ∪ xr 1 8 := by
  ext i
  have hi : (i 0).val < 8 := (i 0).isLt
  simp only [Finset.mem_univ, Finset.mem_union, mem_xs, mem_xr, true_iff]
  omega
theorem xr_disj : Disjoint (xs 0) (xr 1 8) := Finset.disjoint_left.mpr fun i h h' => by
  rw [mem_xs] at h; rw [mem_xr] at h'; omega

/-- Column block `q` of the input-side weights, row block `q` of the output-side weights, of all layers. -/
def wiq (q : ℕ) : Finset S3x128x1024.Idx := Finset.univ.filter fun i => (i 2).val / 256 = q
def woq (q : ℕ) : Finset S3x1024x128.Idx := Finset.univ.filter fun i => (i 1).val / 256 = q

theorem turn {a x : ℕ} (hx : x < 4) : ∃ m, (0 ≤ m ∧ m < 4) ∧ x = (a + m) % 4 := ⟨(x + 4 - a % 4) % 4, ⟨Nat.zero_le _, by omega⟩, by omega⟩

omit [FloatOps F] in
theorem wi_whole (c : Dev nD) (a : ℕ) (f) : wiP (F := F) c Finset.univ fullShare f
    = bigSep (Finset.Ico 0 4) (fun m => bigSep (Finset.Ico 0 3) (fun l => wiP (F := F) c (ws l ((a + m) % 4)) fullShare f)) := by
  have h1 : (Finset.univ : Finset S3x128x1024.Idx) = (Finset.Ico 0 4).biUnion (fun m => wiq ((a + m) % 4)) := by
    ext i
    have hi : (i 2).val < 1024 := (i 2).isLt
    simp only [Finset.mem_biUnion, Finset.mem_Ico, Finset.mem_univ, true_iff, wiq, Finset.mem_filter, true_and]
    exact turn (by omega)
  have h2 (q : ℕ) : wiq q = (Finset.Ico 0 3).biUnion (fun l => ws l q) := by
    ext i
    have hi : (i 0).val < 3 := (i 0).isLt
    simp only [Finset.mem_biUnion, Finset.mem_Ico, wiq, Finset.mem_filter, Finset.mem_univ, true_and, mem_ws]
    exact ⟨fun h => ⟨_, ⟨Nat.zero_le _, hi⟩, rfl, h⟩, fun ⟨_, _, _, h⟩ => h⟩
  unfold wiP
  rw [h1, pointsTo_biUnion _ _ (fun t ht t' ht' hne => Finset.disjoint_left.mpr fun i hi hi' => hne (by
    have e := (Finset.mem_filter.mp hi).2.symm.trans (Finset.mem_filter.mp hi').2
    have := Finset.mem_Ico.mp ht; have := Finset.mem_Ico.mp ht'
    omega))]
  exact bcongr fun m _ => by
    rw [h2]
    exact pointsTo_biUnion _ _ (fun t _ t' _ hne => Finset.disjoint_left.mpr fun i hi hi' => hne ((mem_ws.mp hi).1.symm.trans (mem_ws.mp hi').1))
omit [FloatOps F] in
theorem wo_whole (c : Dev nD) (a : ℕ) (f) : woP (F := F) c Finset.univ fullShare f
    = bigSep (Finset.Ico 0 4) (fun m => bigSep (Finset.Ico 0 3) (fun l => woP (F := F) c (wos l ((a + m) % 4)) fullShare f)) := by
  have h1 : (Finset.univ : Finset S3x1024x128.Idx) = (Finset.Ico 0 4).biUnion (fun m => woq ((a + m) % 4)) := by
    ext i
    have hi : (i 1).val < 1024 := (i 1).isLt
    simp only [Finset.mem_biUnion, Finset.mem_Ico, Finset.mem_univ, true_iff, woq, Finset.mem_filter, true_and]
    exact turn (by omega)
  have h2 (q : ℕ) : woq q = (Finset.Ico 0 3).biUnion (fun l => wos l q) := by
    ext i
    have hi : (i 0).val < 3 := (i 0).isLt
    simp only [Finset.mem_biUnion, Finset.mem_Ico, woq, Finset.mem_filter, Finset.mem_univ, true_and, mem_wos]
    exact ⟨fun h => ⟨_, ⟨Nat.zero_le _, hi⟩, rfl, h⟩, fun ⟨_, _, _, h⟩ => h⟩
  unfold woP
  rw [h1, pointsTo_biUnion _ _ (fun t ht t' ht' hne => Finset.disjoint_left.mpr fun i hi hi' => hne (by
    have e := (Finset.mem_filter.mp hi).2.symm.trans (Finset.mem_filter.mp hi').2
    have := Finset.mem_Ico.mp ht; have := Finset.mem_Ico.mp ht'
    omega))]
  exact bcongr fun m _ => by
    rw [h2]
    exact pointsTo_biUnion _ _ (fun t _ t' _ hne => Finset.disjoint_left.mpr fun i hi hi' => hne ((mem_wos.mp hi).1.symm.trans (mem_wos.mp hi').1))

omit [FloatOps F] in
theorem ico3 (A : ℕ → sProp 𝕄) : bigSep (Finset.Ico 0 3) A = iprop(A 0 ∗ A 1 ∗ A 2) := by
  rw [bigSep_Ico_succ_bot (by omega), bigSep_Ico_succ_bot (by omega), bigSep_Ico_one 2]

omit [FloatOps F] in
theorem ico4 (A : ℕ → sProp 𝕄) : bigSep (Finset.Ico 0 4) A = iprop(A 0 ∗ A 1 ∗ A 2 ∗ A 3) := by
  rw [bigSep_Ico_succ_bot (by omega), bigSep_Ico_succ_bot (by omega), bigSep_Ico_succ_bot (by omega), bigSep_Ico_one 3]

theorem wE_all (c : Dev nD) (f g) : iprop(wiP (F := F) c Finset.univ fullShare f ∗ woP (F := F) c Finset.univ fullShare g)
    ⊢ bigSep (Finset.Ico 0 4) (fun m => bigSep (Finset.Ico 0 6) (fun k => wE (F := F) k ((c.val / 8 + m) % 4) c)) := by
  rw [wi_whole c (c.val / 8), wo_whole c (c.val / 8), ← bigSep_sep']
  refine bmono fun m _ => ?_
  rw [ico3, ico3, ico6, wE_even (by decide), wE_odd (by decide), wE_even (by decide), wE_odd (by decide), wE_even (by decide), wE_odd (by decide)]
  iintro ⟨⟨I0, I1, I2⟩, O0, O1, O2⟩
  isplitl [I0]; · iexists f; iexact I0
  isplitl [O0]; · iexists g; iexact O0
  isplitl [I1]; · iexists f; iexact I1
  isplitl [O1]; · iexists g; iexact O1
  isplitl [I2]; · iexists f; iexact I2
  iexists g; iexact O2

/-- The two slots no transfer uses. -/
def spare (c : Dev nD) : sProp 𝕄 := iprop((∃ f, ptP (F := F) c (xs 0) fullShare f) ∗ (∃ f, rsP (F := F) c (xs 0) fullShare f))
/-- All the buffers of a device, holding anything. -/
def bufs (c : Dev nD) : sProp 𝕄 :=
  iprop((∃ f, xqP (F := F) c Finset.univ fullShare f) ∗ (∃ f, ptP (F := F) c Finset.univ fullShare f) ∗ (∃ f, rsP (F := F) c Finset.univ fullShare f)
    ∗ (∃ f, wiP (F := F) c Finset.univ fullShare f) ∗ (∃ f, woP (F := F) c Finset.univ fullShare f))

theorem barPay_row (c : Dev nD) (j : ℕ) (h : j < 7) : barPay (F := F) (peer c j) j = iprop(∃ f, xqP (F := F) c (xs (7 - j)) fullShare f) := by
  unfold barPay peer
  rw [if_pos h, if_pos h, row_row c (j + 1) (7 - j) (by omega)]
theorem barPay_col (c : Dev nD) (j : ℕ) (h : 7 ≤ j ∧ j < 10) :
    barPay (F := F) (peer c j) j = bigSep (Finset.Ico 0 6) (fun k => wE (F := F) k ((c.val / 8 + (j - 6)) % 4) c) := by
  unfold barPay peer
  rw [if_neg (by omega), if_neg (by omega), if_pos h.2, col_col c (j - 6) (10 - j) (by omega), col_row_of, Finset.range_eq_Ico]

theorem bufs_open (c : Dev nD) : bufs (F := F) c ⊢ iprop(bigSep (Finset.Ico 0 10) (fun j => barPay (F := F) (peer c j) j)
    ∗ bigSep (Finset.Ico 0 6) (fun k => wE (F := F) k (c.val / 8) c) ∗ xqE (F := F) c (xs 0)
    ∗ bigSep (Finset.Ico 1 8) (fun r => iprop(∃ f, rsP (F := F) c (xs r) fullShare f)) ∗ ptE (F := F) c (xr 1 4) ∗ ptE (F := F) c (xr 4 8) ∗ spare (F := F) c) := by
  have hq : (c.val / 8 + 0) % 4 = c.val / 8 := by have := c.isLt; have : nD = 32 := rfl; omega
  have hr : bigSep (Finset.Ico 0 7) (fun j => barPay (F := F) (peer c j) j) = bigSep (Finset.Ico 1 8) (fun r => iprop(∃ f, xqP (F := F) c (xs r) fullShare f)) := by
    rw [← rev7]; exact bcongr fun j hj => barPay_row c j hj.2
  have he (f) : bigSep (Finset.Ico 1 8) (fun r => xqP (F := F) c (xs r) fullShare f) ⊢ bigSep (Finset.Ico 1 8) (fun r => iprop(∃ f, xqP (F := F) c (xs r) fullShare f)) :=
    bmono fun r _ => by iintro H; iexists f; iexact H
  have her (f) : bigSep (Finset.Ico 1 8) (fun r => rsP (F := F) c (xs r) fullShare f) ⊢ bigSep (Finset.Ico 1 8) (fun r => iprop(∃ f, rsP (F := F) c (xs r) fullShare f)) :=
    bmono fun r _ => by iintro H; iexists f; iexact H
  rw [icoSplit _ (show 0 ≤ 7 by omega) (show 7 ≤ 10 by omega), hr,
    bigSep_Ico_succ_bot (show 7 < 10 by omega), bigSep_Ico_succ_bot (show 7 + 1 < 10 by omega), bigSep_Ico_one 9,
    barPay_col c 7 (by omega), barPay_col c (7 + 1) (by omega), barPay_col c 9 (by omega)]
  unfold bufs xqE ptE spare
  iintro ⟨⟨%fx, HX⟩, ⟨%fp, HP⟩, ⟨%fr, HR⟩, ⟨%fi, HI⟩, %fo, HO⟩
  ihave HX := (Entails.of_eq (by rw [xr_all, xq_slots, bigSep_Ico_succ_bot (show 0 < 8 by omega)] :
    xqP (F := F) c Finset.univ fullShare fx = iprop(xqP c (xs 0) fullShare fx ∗ bigSep (Finset.Ico 1 8) (fun r => xqP (F := F) c (xs r) fullShare fx)))) $$ HX
  ihave HR := (Entails.of_eq (by rw [xr_all, rs_slots, bigSep_Ico_succ_bot (show 0 < 8 by omega)] :
    rsP (F := F) c Finset.univ fullShare fr = iprop(rsP c (xs 0) fullShare fr ∗ bigSep (Finset.Ico 1 8) (fun r => rsP (F := F) c (xs r) fullShare fr)))) $$ HR
  ihave HP := (Entails.of_eq (by rw [xr_all, pt_slots, bigSep_Ico_succ_bot (show 0 < 8 by omega), icoSplit _ (show 0 + 1 ≤ 4 by omega) (show 4 ≤ 8 by omega), ← pt_slots, ← pt_slots] :
    ptP (F := F) c Finset.univ fullShare fp = iprop(ptP c (xs 0) fullShare fp ∗ ptP (F := F) c (xr 1 4) fullShare fp ∗ ptP (F := F) c (xr 4 8) fullShare fp))) $$ HP
  icases HX with ⟨HX0, HX⟩
  icases HR with ⟨HR0, HR⟩
  icases HP with ⟨HP0, HP1, HP4⟩
  ihave HW := (wE_all c fi fo) $$ [HI HO]
  · isplitl [HI]; · iexact HI
    iexact HO
  ihave ⟨W0, W1, W2, W3⟩ := (Entails.of_eq (by rw [ico4, hq] :
    bigSep (Finset.Ico 0 4) (fun m => bigSep (Finset.Ico 0 6) (fun k => wE (F := F) k ((c.val / 8 + m) % 4) c))
      = iprop(bigSep (Finset.Ico 0 6) (fun k => wE (F := F) k (c.val / 8) c) ∗ bigSep (Finset.Ico 0 6) (fun k => wE (F := F) k ((c.val / 8 + 1) % 4) c)
        ∗ bigSep (Finset.Ico 0 6) (fun k => wE (F := F) k ((c.val / 8 + 2) % 4) c) ∗ bigSep (Finset.Ico 0 6) (fun k => wE (F := F) k ((c.val / 8 + 3) % 4) c)))) $$ HW
  isplitl [HX W1 W2 W3]
  · isplitl [HX]; · iapply (he fx); iexact HX
    isplitl [W1]; · iexact W1
    isplitl [W2]; · iexact W2
    iexact W3
  isplitl [W0]; · iexact W0
  isplitl [HX0]; · iexists fx; iexact HX0
  isplitl [HR]; · iapply (her fr); iexact HR
  isplitl [HP1]; · iexists fp; iexact HP1
  isplitl [HP4]; · iexists fp; iexact HP4
  isplitl [HP0]; · iexists fp; iexact HP0
  iexists fr; iexact HR0

/-! ## The buffers at the end -/

omit [FloatOps F] in
theorem xq_close (c : Dev nD) (f) : iprop(xqP (F := F) c (xs 0) fullShare f ∗ xqP (F := F) c (xr 1 4) fullShare f ∗ xqP (F := F) c (xr 4 8) fullShare f)
    ⊢ iprop(∃ f, xqP (F := F) c Finset.univ fullShare f) := by
  have h : xqP (F := F) c Finset.univ fullShare f = iprop(xqP c (xs 0) fullShare f ∗ xqP (F := F) c (xr 1 4) fullShare f ∗ xqP (F := F) c (xr 4 8) fullShare f) := by
    rw [xr_all, xq_slots, bigSep_Ico_succ_bot (show 0 < 8 by omega), icoSplit _ (show 0 + 1 ≤ 4 by omega) (show 4 ≤ 8 by omega), ← xq_slots, ← xq_slots]
  rw [← h]
  iintro H; iexists f; iexact H
omit [FloatOps F] in
theorem pt_close (c : Dev nD) (f g) : iprop(ptP (F := F) c (xs 0) fullShare f ∗ ptP (F := F) c (xr 1 8) fullShare g)
    ⊢ iprop(∃ f, ptP (F := F) c Finset.univ fullShare f) := by
  unfold ptP
  rw [xr_cut]
  iintro H
  iexists _
  iapply (pointsTo_join xr_disj) $$ H
omit [FloatOps F] in
theorem rs_close (c : Dev nD) (f g) : iprop(rsP (F := F) c (xs 0) fullShare f ∗ rsP (F := F) c (xr 1 8) fullShare g)
    ⊢ iprop(∃ f, rsP (F := F) c Finset.univ fullShare f) := by
  unfold rsP
  rw [xr_cut]
  iintro H
  iexists _
  iapply (pointsTo_join xr_disj) $$ H

/-! ## The semaphores at the end -/

/-- The rounds of DMA semaphore `n`. -/
def rnd (n : ℕ) : ℕ := if n < 44 then 1 else if (n - 44) % 8 = 0 then 0 else 3

theorem close_dma (c : Dev nD) (n : ℕ) (h : 8 ≤ n ∧ n < 76) : iprop(Ctx I ∗ ps (F := F) c n (rnd n)) ⊢ |={Set.univ}=> (semVal (dcell c n) 0 : sProp 𝕄) := by
  have hc := ctx_dma I c n h
  unfold ps
  iintro ⟨#HC, HP⟩
  ihave ⟨⟨%κ, #HI⟩, -⟩ := hc $$ HC
  imod (Rounds.cell_close ER (Rd I) (Set.mem_univ κ) (fun h => h) (R := rnd n)
    (duties_later I c n (rnd n) (by unfold rnd; split_ifs <;> omega) h.2)) $$ [HP] with H
  · isplitr; · iexact HI
    iexact HP
  imodintro
  iexact H
theorem close_bar (c : Dev nD) : iprop(Ctx I ∗ atPos ER (barCell c) 1 (∅ : Finset ℕ) 0) ⊢ |={Set.univ}=> (semVal (barCell c) 0 : sProp 𝕄) := by
  iintro ⟨#HC, HP⟩
  ihave ⟨⟨%κ, #HI⟩, -⟩ := (ctx_bar I c) $$ HC
  imod (Rounds.cell_close ER (Rd I) (Set.mem_univ κ) (fun h => h) (R := 1) (duties_later_reg I c barS)) $$ [HP] with H
  · isplitr; · iexact HI
    iexact HP
  imodintro
  iexact H
theorem close_exit (c : Dev nD) : iprop(Ctx I ∗ atPos ER (exitCell c) 1 (∅ : Finset ℕ) 0) ⊢ |={Set.univ}=> (semVal (exitCell c) 0 : sProp 𝕄) := by
  iintro ⟨#HC, HP⟩
  ihave ⟨⟨%κ, #HI⟩, -⟩ := (ctx_exit I c) $$ HC
  imod (Rounds.cell_close ER (Rd I) (Set.mem_univ κ) (fun h => h) (R := 1) (duties_later_reg I c exitS)) $$ [HP] with H
  · isplitr; · iexact HI
    iexact HP
  imodintro
  iexact H
theorem close_dmas (c : Dev nD) : iprop(Ctx I ∗ bigSep (Finset.Ico 8 76) (fun n => ps (F := F) c n (rnd n)))
    ⊢ |={Set.univ}=> (bigSep (Finset.Ico 8 76) (fun n => semVal (dcell c n) 0) : sProp 𝕄) := by
  have h1 : iprop(Ctx I ∗ bigSep (Finset.Ico 8 76) (fun n => ps (F := F) c n (rnd n))) ⊢ bigSep (Finset.Ico 8 76) (fun n => iprop(Ctx I ∗ ps (F := F) c n (rnd n))) := by
    rw [bigSep_sep']
    exact sep_mono_left (BI.bigSep_of_persistent _ _)
  exact (h1.trans (bmono fun n hn => close_dma I c n (Finset.mem_Ico.mp hn))).trans (bigSep_fupd _ _)

/-- The semaphores' values at the end. -/
def zeros (c : Dev nD) : sProp 𝕄 :=
  iprop(semVal (barCell c) 0 ∗ semVal (exitCell c) 0 ∗ bigSep (Finset.Ico 8 76) (fun n => semVal (dcell c n) 0))

/-- The window buffers at the end. -/
def stagesOut (c : Dev nD) : sProp 𝕄 :=
  iprop((((c : Thread nD τ).loc cc0_stg0_0) ↦{fullShare} (I.x c)) ∗ (((c : Thread nD τ).loc cc0_stg1_0) ↦{fullShare} (I.wi 0 c)) ∗ (((c : Thread nD τ).loc cc0_stg2_0) ↦{fullShare} (I.wo 0 c)) ∗ (((c : Thread nD τ).loc cc0_stg3_0) ↦{fullShare} (I.wi 1 c)) ∗ (((c : Thread nD τ).loc cc0_stg4_0) ↦{fullShare} (I.wo 1 c)) ∗ (((c : Thread nD τ).loc cc0_stg5_0) ↦{fullShare} (I.wi 2 c)) ∗ (((c : Thread nD τ).loc cc0_stg6_0) ↦{fullShare} (I.wo 2 c)) ∗ (((c : Thread nD τ).loc cc0_stg7_0) ↦{fullShare} (resC I c)))

theorem finish (c : Dev nD) : iprop(Ctx I ∗ bodyOut I c ∗ spare (F := F) c ∗ idle (F := F) c)
    ⊢ |={Set.univ}=> iprop(Ow (F := F) c 73 ∗ stagesOut I c ∗ bufs (F := F) c ∗ zeros (F := F) c) := by
  have hr1 (n : ℕ) (h : n < 44) : rnd n = 1 := if_pos h
  have hr3 (b r : ℕ) (hb : 44 ≤ b ∧ (b - 44) % 8 = 0) (hr : 1 ≤ r ∧ r < 8) : rnd (b + r) = 3 := by
    unfold rnd; rw [if_neg (by omega), if_neg (by omega)]
  have hp (b : ℕ) (hb : 44 ≤ b ∧ (b - 44) % 8 = 0) : poss (F := F) c b 3 1 8 = bigSep (Finset.Ico 1 8) (fun r => ps (F := F) c (b + r) (rnd (b + r))) := by
    unfold poss; exact bcongr fun r hr => by rw [hr3 b r hb hr]
  have h8 : poss (F := F) c 8 1 0 18 = bigSep (Finset.Ico 0 18) (fun i => ps (F := F) c (8 + i) (rnd (8 + i))) := by
    unfold poss; exact bcongr fun r hr => by rw [hr1 _ (by omega)]
  have hn (l : ℕ) (hl : l < 3) : bigSep (Finset.Ico 0 6) (fun t => ps (F := F) c (nW l t) 1) = bigSep (Finset.Ico 0 6) (fun t => ps (F := F) c (nW l t) (rnd (nW l t))) :=
    bcongr fun t ht => by rw [hr1 (nW l t) (show 26 + (6 * (t / 2) + 2 * l + t % 2) < 44 by omega)]
  unfold bodyOut spare idle
  rw [hp 44 (by omega), hp 52 (by omega), hp 60 (by omega), hp 68 (by omega), h8, hn 0 (by omega), hn 1 (by omega), hn 2 (by omega)]
  iintro ⟨#HC, ⟨HO, S0, S1, S2, S3, S4, S5, S6, S7, HX0, HX1, HX4, HR, HPT, HWI, HWO, HB, HE, P8, N0, N1, N2, P44, P52, P60, P68⟩, ⟨⟨%fp, HPT0⟩, %fr, HR0⟩, I44, I52, I60, I68⟩
  imod (close_bar I c) $$ [HB] with HB
  · isplitr; · iexact HC
    iexact HB
  imod (close_exit I c) $$ [HE] with HE
  · isplitr; · iexact HC
    iexact HE
  imod (close_dmas I c) $$ [P8 N0 N1 N2 P44 P52 P60 P68 I44 I52 I60 I68] with HD
  · isplitr; · iexact HC
    iapply (Entails.of_eq (posKinds (fun n => ps (F := F) c n (rnd n))).symm)
    isplitl [P8]; · iexact P8
    isplitl [N0 N1 N2]
    · isplitl [N0]; · iexact N0
      isplitl [N1]; · iexact N1
      iexact N2
    isplitl [P44 I44]
    · isplitl [I44]; · iexact I44
      iexact P44
    isplitl [P52 I52]
    · isplitl [I52]; · iexact I52
      iexact P52
    isplitl [P60 I60]
    · isplitl [I60]; · iexact I60
      iexact P60
    isplitl [I68]; · iexact I68
    iexact P68
  imodintro
  isplitl [HO]; · iexact HO
  isplitl [S0 S1 S2 S3 S4 S5 S6 S7]
  · unfold stagesOut
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HX0 HX1 HX4 HPT0 HPT HR0 HR HWI HWO]
  · unfold bufs
    isplitl [HX0 HX1 HX4]
    · iapply (xq_close c (xqC (actC I 2) c))
      isplitl [HX0]; · iexact HX0
      isplitl [HX1]; · iexact HX1
      iexact HX4
    isplitl [HPT0 HPT]
    · iapply (pt_close c fp (partC I 2 (actC I 2) c))
      isplitl [HPT0]; · iexact HPT0
      iexact HPT
    isplitl [HR0 HR]
    · iapply (rs_close c fr (rsC I 2 (actC I 2) c))
      isplitl [HR0]; · iexact HR0
      iexact HR
    isplitl [HWI]; · iexists (winC I c); iexact HWI
    iexists (woutC I c); iexact HWO
  unfold zeros
  isplitl [HB]; · iexact HB
  isplitl [HE]; · iexact HE
  iexact HD

/-! ## From start to end -/

/-- The window buffers at the start. -/
def stagesIn (c : Dev nD) : sProp 𝕄 :=
  iprop((((c : Thread nD τ).loc cc0_stg0_0) ↦{fullShare} (I.x c)) ∗ (((c : Thread nD τ).loc cc0_stg1_0) ↦{fullShare} (I.wi 0 c)) ∗ (((c : Thread nD τ).loc cc0_stg2_0) ↦{fullShare} (I.wo 0 c)) ∗ (((c : Thread nD τ).loc cc0_stg3_0) ↦{fullShare} (I.wi 1 c)) ∗ (((c : Thread nD τ).loc cc0_stg4_0) ↦{fullShare} (I.wo 1 c)) ∗ (((c : Thread nD τ).loc cc0_stg5_0) ↦{fullShare} (I.wi 2 c)) ∗ (((c : Thread nD τ).loc cc0_stg6_0) ↦{fullShare} (I.wo 2 c)) ∗ (∃ f, ((c : Thread nD τ).loc cc0_stg7_0) ↦{fullShare} (f : S128x128.Idx → Elt F .f32)))

theorem gather_in (c : Dev nD) : iprop(kit (F := F) c ∗ bufs (F := F) c ∗ stagesIn I c) ⊢ iprop(bodyIn I c ∗ spare (F := F) c ∗ idle (F := F) c) := by
  have hb : iprop(bigSep (Finset.Ico 0 10) (fun j => dutyTok ER (barCell (peer c j)) 0 j) ∗ bigSep (Finset.Ico 0 10) (fun j => barPay (F := F) (peer c j) j))
      ⊢ bigSep (Finset.Ico 0 10) (barRes (F := F) c) := by
    rw [← bigSep_sep']; exact bmono fun j _ => by unfold barRes; exact BI.BIBase.Entails.rfl
  unfold stagesIn bodyIn
  iintro ⟨HK, HB, S0, S1, S2, S3, S4, S5, S6, S7⟩
  ihave ⟨TB, CB, PB, TW, ⟨P44, P52, P60, P68⟩, ⟨L0, L1, L2⟩, ⟨W0, W1, W2⟩, P8, TE, CE, PE, HI⟩ := (kit_sort I c) $$ HK
  ihave ⟨HP, HE, HX, HR, HPA, HPB, HS⟩ := (bufs_open c) $$ HB
  ihave ⟨E0, E1, E2, E3, E4, E5⟩ := (Entails.of_eq (ico6 (fun k => wE (F := F) k (c.val / 8) c))) $$ HE
  isplitr [HS HI]
  · isplitl [TB HP]
    · iapply hb
      isplitl [TB]; · iexact TB
      iexact HP
    isplitl [CB]; · iexact CB
    isplitl [PB]; · iexact PB
    isplitl [S1]; · iexact S1
    isplitl [E0]; · iexact E0
    isplitl [S2]; · iexact S2
    isplitl [E1]; · iexact E1
    isplitl [S3]; · iexact S3
    isplitl [E2]; · iexact E2
    isplitl [S4]; · iexact S4
    isplitl [E3]; · iexact E3
    isplitl [S5]; · iexact S5
    isplitl [E4]; · iexact E4
    isplitl [S6]; · iexact S6
    isplitl [E5]; · iexact E5
    isplitl [TW]; · iexact TW
    isplitl [S0]; · iexact S0
    isplitl [HX]; · iexact HX
    isplitl [P44]; · iexact P44
    isplitl [P52]; · iexact P52
    isplitl [P60]; · iexact P60
    isplitl [P68]; · iexact P68
    isplitl [HR]; · iexact HR
    isplitl [L0]; · iexact L0
    isplitl [W0]; · iexact W0
    isplitl [HPA]; · iexact HPA
    isplitl [HPB]; · iexact HPB
    isplitl [L1]; · iexact L1
    isplitl [W1]; · iexact W1
    isplitl [L2]; · iexact L2
    isplitl [W2]; · iexact W2
    isplitl [S7]; · iexact S7
    isplitl [P8]; · iexact P8
    isplitl [TE]; · iexact TE
    isplitl [CE]; · iexact CE
    iexact PE
  isplitl [HS]; · iexact HS
  iexact HI

/-- The body, with the resources as the launch deals them. -/
theorem body_all (c : Dev nD) {K : PUnit → sProp 𝕄} :
    iprop(Ctx I ∗ Ow (F := F) c 0 ∗ kit (F := F) c ∗ bufs (F := F) c ∗ stagesIn I c)
      ⊢ iprop(((Ow (F := F) c 73 ∗ stagesOut I c ∗ bufs (F := F) c ∗ zeros (F := F) c) -∗ K ⟨⟩)
        -∗ wp frame (wpE (defs₀ (F := F)) 𝒱₀ (c : Thread nD τ) none) Set.univ (cc0_body (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) K) := by
  iintro ⟨#HC, HO, HK⟩ Hk
  ihave ⟨HB, HS, HI⟩ := (gather_in I c) $$ HK
  iapply wp_fupd
  iapply (body_run I c) $$ [HO HB]
  · isplitr; · iexact HC
    isplitl [HO]; · iexact HO
    iexact HB
  iintro HB
  imod (finish I c) $$ [HB HS HI] with H
  · isplitr; · iexact HC
    isplitl [HB]; · iexact HB
    isplitl [HS]; · iexact HS
    iexact HI
  imodintro
  iapply Hk
  iexact H

end Cert.K

end
-- ==== Proof.Deal.lean ====
/- What the launch deals each device: the cells, the tokens of the duties it pays, the credits it waits with. -/
module

public import proofs.«01_k».proof.Proof.Ends
public import Idealize.ShloMosaic.Lib.Pipeline.Launch

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## The payments as cells and duties -/

theorem row_inj (r : ℕ) : Function.Injective (fun c : Dev nD => row c r) := fun c d h => by
  have e := congrArg Fin.val h
  apply Fin.ext
  simp only [row_val] at e
  omega
theorem col_inj (r : ℕ) : Function.Injective (fun c : Dev nD => col c r) := fun c d h => by
  have e := congrArg Fin.val h
  apply Fin.ext
  have := c.isLt; have := d.isLt; have : nD = 32 := rfl
  simp only [col_val] at e
  omega
theorem peer_inj (j : ℕ) : Function.Injective (fun c : Dev nD => peer c j) := by
  unfold peer
  split_ifs
  · exact row_inj _
  · exact col_inj _
  · exact col_inj _
  · exact row_inj _
  · exact row_inj _
  · exact col_inj _

/-- The semaphore of number `n`: the barrier, the exit, or a DMA semaphore. -/
def semN (n : ℕ) : SemLoc sig := if n = 0 then .reg barS else if n = 1 then .reg exitS else .dma (dq n)
theorem semN_inj {m n : ℕ} (hm : m < 76) (hn : n < 76) (h : semN m = semN n) : m = n := by
  unfold semN at h
  split_ifs at h
  all_goals first
    | omega
    | exact absurd (SemLoc.reg.inj h) bar_ne_exit
    | exact absurd (SemLoc.reg.inj h).symm bar_ne_exit
    | exact dq_inj hm hn (SemLoc.dma.inj h)
    | cases h

/-- The 133 duties of a device, the payments and then the own completions, as semaphore number, round and duty. -/
def tnum (n : ℕ) : ℕ :=
  if n < 10 then 0 else if n < 28 then 26 + (n - 10)
  else if n < 70 then (if (n - 28) % 14 < 7 then 52 + ((n - 28) % 14 + 1) else 68 + ((n - 28) % 14 - 6)) else if n < 73 then 1 else snum (n - 73)
def tround (n : ℕ) : ℕ := if n < 73 then pround n else sround (n - 73)
def tduty (n : ℕ) : ℕ := if n < 73 then pduty n else 0
def tdev (c : Dev nD) (n : ℕ) : Dev nD := if n < 73 then peer c n else c

theorem tkey_inj : ∀ i j : Fin 133, tnum i = tnum j → tround i = tround j → tduty i = tduty j → i = j := by decide +kernel
theorem tnum_lt : ∀ i : Fin 133, tnum i < 76 := by decide +kernel
theorem tdev_inj (n : ℕ) : Function.Injective (fun c : Dev nD => tdev c n) := by
  unfold tdev; split_ifs
  · exact peer_inj n
  · exact fun _ _ h => h

def tokOf (x : Dev nD × Fin 133) : GSem nD τ sig × ℕ × ℕ := (((tdev x.1 x.2.val : Thread nD τ), semN (tnum x.2.val)), tround x.2.val, tduty x.2.val)
theorem tokOf_injective : Function.Injective tokOf := by
  rintro ⟨c, i⟩ ⟨d, j⟩ h
  have h1 : semN (tnum i.val) = semN (tnum j.val) := congrArg (fun x : GSem nD τ sig × ℕ × ℕ => x.1.2) h
  have h2 : tdev c i.val = tdev d j.val := congrArg (fun x : GSem nD τ sig × ℕ × ℕ => x.1.1.1) h
  have hij : i = j := tkey_inj i j (semN_inj (tnum_lt i) (tnum_lt j) h1) (congrArg (fun x : GSem nD τ sig × ℕ × ℕ => x.2.1) h) (congrArg (fun x : GSem nD τ sig × ℕ × ℕ => x.2.2) h)
  subst hij
  exact congrArg (·, i) (tdev_inj i.val h2)

theorem psem_tnum (j : ℕ) (h : j < 73) : psem j = semN (tnum j) := by
  unfold psem tnum
  split_ifs <;> first | (exfalso; omega) | rfl | (unfold semN; rw [if_neg (by omega), if_neg (by omega)])
theorem snum_tnum (i : ℕ) (h : i < 60) : tnum (73 + i) = snum i := by
  unfold tnum
  rw [if_neg (by omega), if_neg (by omega), if_neg (by omega), if_neg (by omega), Nat.add_sub_cancel_left]
theorem snum_range (i : ℕ) (h : i < 60) : 8 ≤ snum i := by
  unfold snum; split_ifs <;> omega

/-! ## The cells -/

theorem ksem_semN (k : Fin 70) : ksem k = semN (if k.val < 2 then k.val else k.val + 6) := by
  unfold ksem semN
  split_ifs <;> first | rfl | omega
theorem kcell_injective : Function.Injective (kcell : Dev nD × Fin 70 → GSem nD τ sig) := by
  rintro ⟨c, k⟩ ⟨d, j⟩ h
  have h1 : ksem k = ksem j := congrArg (fun g : GSem nD τ sig => g.2) h
  have h2 : c = d := congrArg (fun g : GSem nD τ sig => g.1.1) h
  rw [ksem_semN, ksem_semN] at h1
  have hk := k.isLt; have hj := j.isLt
  have h3 := semN_inj (by split_ifs <;> omega) (by split_ifs <;> omega) h1
  have : k = j := Fin.ext (by split_ifs at h3 <;> omega)
  subst this; subst h2; rfl

def theCells : Finset (GSem nD τ sig) := Finset.univ.map ⟨kcell, kcell_injective⟩
def theToks : Finset (GSem nD τ sig × ℕ × ℕ) := Finset.univ.map ⟨tokOf, tokOf_injective⟩

/-- What the launch element deals device `c`. -/
def G (c : Dev nD) : sProp 𝕄 :=
  iprop((bigSep Finset.univ fun k : Fin 70 => roundState ER (Rd I) (kcell (c, k)) 0)
    ∗ (bigSep Finset.univ fun k : Fin 70 => reached ER (kcell (c, k)) 0) ∗ bigSep Finset.univ (posAt (F := F) c)
    ∗ bigSep (Finset.Ico 0 73) (payTok (F := F) c) ∗ bigSep (Finset.Ico 0 60) (sendTok (F := F) c))

omit [FloatOps F] in
theorem toks_of (c : Dev nD) : (bigSep Finset.univ fun n : Fin 133 => (dutyTok ER (tokOf (c, n)).1 (tokOf (c, n)).2.1 (tokOf (c, n)).2.2 : sProp 𝕄))
    = iprop(bigSep (Finset.Ico 0 73) (payTok (F := F) c) ∗ bigSep (Finset.Ico 0 60) (sendTok (F := F) c)) := by
  have hp : bigSep (Finset.Ico 0 73) (fun n => (dutyTok ER ((tdev c n : Thread nD τ), semN (tnum n)) (tround n) (tduty n) : sProp 𝕄)) = bigSep (Finset.Ico 0 73) (payTok (F := F) c) :=
    bcongr fun j hj => by
      unfold payTok tdev tround tduty
      rw [if_pos hj.2, if_pos hj.2, if_pos hj.2, psem_tnum j hj.2]
  have hs : bigSep (Finset.Ico 0 60) (fun i => (dutyTok ER ((tdev c (73 + i) : Thread nD τ), semN (tnum (73 + i))) (tround (73 + i)) (tduty (73 + i)) : sProp 𝕄))
      = bigSep (Finset.Ico 0 60) (sendTok (F := F) c) :=
    bcongr fun i hi => by
      have hs := snum_range i hi.2
      unfold sendTok tdev tround tduty
      rw [if_neg (by omega), if_neg (by omega), if_neg (by omega), snum_tnum i hi.2, Nat.add_sub_cancel_left]
      unfold semN
      rw [if_neg (by omega), if_neg (by omega)]
  rw [finIco (fun n : Fin 133 => (dutyTok ER (tokOf (c, n)).1 (tokOf (c, n)).2.1 (tokOf (c, n)).2.2 : sProp 𝕄)) (fun n => dutyTok ER ((tdev c n : Thread nD τ), semN (tnum n)) (tround n) (tduty n)) (fun _ => rfl),
    icoSplit _ (show 0 ≤ 73 by omega) (show 73 ≤ 133 by omega), icoAt _ 0 60 73 73 133 rfl rfl, hp, hs]

theorem fund_cells : BI.own (ER (initOf theCells theToks)) ⊢ (|==> bigSep Finset.univ (G I) : sProp 𝕄) := by
  have hX (Φ : GSem nD τ sig → sProp 𝕄) : bigSep theCells Φ = bigSep Finset.univ fun c : Dev nD => bigSep Finset.univ fun k : Fin 70 => Φ (kcell (c, k)) := by
    unfold theCells; rw [bigSep_map, bigSep_univ_prod]; rfl
  have hT : bigSep theToks (fun x => (dutyTok ER x.1 x.2.1 x.2.2 : sProp 𝕄))
      = bigSep Finset.univ fun c : Dev nD => iprop(bigSep (Finset.Ico 0 73) (payTok (F := F) c) ∗ bigSep (Finset.Ico 0 60) (sendTok (F := F) c)) := by
    unfold theToks; rw [bigSep_map, bigSep_univ_prod]
    exact bigSep_congr fun c _ => toks_of c
  iintro HX
  imod (Rounds.fund ER (Rd I) theCells theToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave ⟨Hp, Hs⟩ := (Entails.of_eq (bigSep_sep' Finset.univ (fun c : Dev nD => bigSep (Finset.Ico 0 73) (payTok (F := F) c)) (fun c => bigSep (Finset.Ico 0 60) (sendTok (F := F) c)))) $$ Htok
  unfold G; simp only [bigSep_sep']
  isplitl [Hst]; · iexact Hst
  isplitl [Hr]; · iexact Hr
  isplitl [Hat]; · iexact Hat
  isplitl [Hp]; · iexact Hp
  iexact Hs

/-! ## The semaphores at launch -/

/-- The kernel's own scoped semaphores: the exit and the DMA semaphores 8 to 75. -/
def osem (k : Fin 69) : SemLoc sig := if k.val = 0 then .reg exitS else .dma (dq (k.val + 7))

omit [FloatOps F] in
theorem ownSems0_eq (c : Dev nD) : (Pipeline.ownSems0 (Ix := ℕ) (Name := ℕ) (U := UU) (Lvl := ℕ) (Val := Elt F) (τ := τ) osem c : sProp 𝕄)
    = iprop(semVal (exitCell c) 0 ∗ bigSep (Finset.Ico 8 76) (fun n => semVal (dcell c n) 0)) := by
  unfold Pipeline.ownSems0
  rw [finIco (fun k : Fin 69 => (semVal ((c : Thread nD τ), osem k) 0 : sProp 𝕄)) (fun i => semVal ((c : Thread nD τ), if i = 0 then .reg exitS else .dma (dq (i + 7))) 0) (fun _ => rfl),
    bigSep_Ico_succ_bot (show 0 < 69 by omega), if_pos rfl, icoAt (fun n => semVal (dcell c n) 0) 1 69 7 8 76 rfl rfl]
  refine congrArg (fun X : sProp 𝕄 => iprop(semVal (exitCell c) 0 ∗ X)) ?_
  exact bcongr fun i hi => by rw [if_neg (by omega), Nat.add_comm]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem kcells0_eq (c : Dev nD) : (bigSep Finset.univ fun k : Fin 70 => (semVal (kcell (c, k)) 0 : sProp 𝕄)) = zeros (F := F) c := by
  unfold zeros
  rw [finIco (fun k : Fin 70 => (semVal (kcell (c, k)) 0 : sProp 𝕄)) (fun i => semVal ((c : Thread nD τ), if i = 0 then .reg barS else if i = 1 then .reg exitS else .dma (dq (i + 6))) 0) (fun _ => rfl),
    bigSep_Ico_succ_bot (show 0 < 70 by omega), bigSep_Ico_succ_bot (show 0 + 1 < 70 by omega), if_pos rfl, if_neg (by omega), if_pos rfl,
    icoAt (fun n => semVal (dcell c n) 0) 2 70 6 8 76 rfl rfl]
  refine congrArg (fun X : sProp 𝕄 => iprop(semVal (barCell c) 0 ∗ semVal (exitCell c) 0 ∗ X)) ?_
  exact bcongr fun i hi => by rw [if_neg (by omega), if_neg (by omega), Nat.add_comm]

/-! ## The records -/

/-- Every cell's invariant under some name, and that each has reached its first round. -/
def recs : sProp 𝕄 := bigSep Finset.univ fun ck : Dev nD × Fin 70 => iprop((∃ κ, cellInv ER (Rd I) κ (kcell ck)) ∗ reached ER (kcell ck) 0)
instance recs_persistent : BI.Persistent (recs I) := by unfold recs; infer_instance
/-- What stays with device `c` alone. -/
def lin (c : Dev nD) : sProp 𝕄 :=
  iprop(bigSep Finset.univ (posAt (F := F) c) ∗ bigSep (Finset.Ico 0 73) (payTok (F := F) c) ∗ bigSep (Finset.Ico 0 60) (sendTok (F := F) c))
def G' (c : Dev nD) : sProp 𝕄 := iprop(recs I ∗ lin (F := F) c)

theorem core_alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k => iprop((∃ κ : ℕ, cellInv ER (Rd I) κ (kcell (c, k))) ∗ reached ER (kcell (c, k)) 0)) ∗ lin (F := F) c) := by
  have ha : iprop((bigSep Finset.univ fun k : Fin 70 => semVal (kcell (c, k)) 0) ∗ bigSep Finset.univ fun k : Fin 70 => roundState ER (Rd I) (kcell (c, k)) 0)
      ⊢ (|={Set.univ}=> bigSep Finset.univ fun k => iprop(∃ κ : ℕ, cellInv ER (Rd I) κ (kcell (c, k))) : sProp 𝕄) := by
    rw [← bigSep_sep']
    exact (bigSep_mono fun k _ => (Rounds.body_intro ER (Rd I) (kcell (c, k))).trans inv_alloc).trans (bigSep_fupd _ _)
  unfold G lin
  rw [ownSems0_eq, unscopedSems0_eq]
  iintro ⟨⟨HE, HD⟩, HB, Hst, Hr, Hat, Hp, Hs⟩
  ihave Hv := (Entails.of_eq (kcells0_eq (F := F) c).symm) $$ [HE HD HB]
  · unfold zeros
    isplitl [HB]; · iexact HB
    isplitl [HE]; · iexact HE
    iexact HD
  imod ha $$ [Hv Hst] with Hinv
  · isplitl [Hv]; · iexact Hv
    iexact Hst
  imodintro
  isplitl [Hinv Hr]
  · iapply (Entails.of_eq (bigSep_sep' Finset.univ (fun k : Fin 70 => iprop(∃ κ : ℕ, cellInv ER (Rd I) κ (kcell (c, k)))) (fun k => (reached ER (kcell (c, k)) 0 : sProp 𝕄))).symm)
    isplitl [Hinv]; · iexact Hinv
    iexact Hr
  isplitl [Hat]; · iexact Hat
  isplitl [Hp]; · iexact Hp
  iexact Hs

theorem share_recs : (bigSep Finset.univ fun c : Dev nD => iprop((bigSep Finset.univ fun k => iprop((∃ κ : ℕ, cellInv ER (Rd I) κ (kcell (c, k))) ∗ reached ER (kcell (c, k)) 0)) ∗ lin (F := F) c) : sProp 𝕄)
    ⊢ bigSep Finset.univ (G' I) := by
  have hp : iprop(recs I ∗ bigSep Finset.univ fun c : Dev nD => lin (F := F) c) ⊢ bigSep Finset.univ (G' I) := by
    have e : bigSep Finset.univ (G' I) = iprop((bigSep Finset.univ fun _ : Dev nD => recs I) ∗ bigSep Finset.univ fun c : Dev nD => lin (F := F) c) := bigSep_sep' _ _ _
    rw [e]
    exact sep_mono_left (BI.bigSep_of_persistent Finset.univ (recs I))
  rw [bigSep_sep', ← bigSep_univ_prod (fun ck : Dev nD × Fin 70 => iprop((∃ κ : ℕ, cellInv ER (Rd I) κ (kcell ck)) ∗ reached ER (kcell ck) 0))]
  exact hp

/-- All devices' semaphores and launch elements at once give every device the records and what is its own. -/
theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (share_recs I))

/-! ## The credits -/

omit [FloatOps F] in
theorem creds (c : Dev nD) : (Pipeline.launchCred (fun d => owed d 0) c : sProp 𝕄) ⊢ bigSep (Finset.Ico 0 73) (payCr (F := F) c) := by
  have e : (Pipeline.launchCred (fun d => owed d 0) c : sProp 𝕄)
      = bigSep (Finset.Ico 0 73) fun j => Pipeline.launchCred (fun d => tallyAt ((peer d j : Thread nD τ), psem j) (pstage j) (pamt j)) c :=
    Pipeline.launchCred_sum (Finset.Ico 0 73) (fun j d => tallyAt ((peer d j : Thread nD τ), psem j) (pstage j) (pamt j)) c
  rw [e]
  exact bmono fun j _ => by
    let σ : Dev nD ≃ Dev nD := Equiv.ofBijective _ (Finite.injective_iff_bijective.mp (peer_inj j))
    exact Pipeline.launchCred_tallyAt (psem j) (fun d => peer d j) σ.symm (fun c => σ.apply_symm_apply c) (fun d => σ.symm_apply_apply d) (pstage j) (pamt j) c

end Cert.K

end
-- ==== Proof.Run.lean ====
/- The run of the whole program: the body at the region's one point, the launch, and what every final state holds. -/
module

public import proofs.«01_k».proof.Proof.Deal
public import proofs.«01_k».proof.Proof.Gen.KernelIdeal.Launch
public import proofs.«01_k».proof.Proof.Gen.KernelIdeal.Points
public import Idealize.ShloMosaic.Lib.Pipeline.Kit
public import Idealize.ShloMosaic.Lib.Pipeline.CollectiveSegs
public import Idealize.ShloMosaic.Lib.Tactic

@[expose] public section

noncomputable section

namespace Cert.K

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The region's data -/

/-- The state at launch: any memory, every counter zero, any generator registers. -/
def sInit : MemSt nD τ sig (Elt F) := ⟨m, fun _ => 0, ρ⟩

/-- The kernel's arguments as the launch memory holds them. -/
def inp : Inp F where
  x c := (win0_0.blk t0_0).view.read (Elt F) (m ((c : Thread nD τ).loc main_arg0))
  wi l c := match l with
    | 0 => (win0_1.blk t0_0).view.read (Elt F) (m ((c : Thread nD τ).loc main_arg1))
    | 1 => (win0_3.blk t0_0).view.read (Elt F) (m ((c : Thread nD τ).loc main_arg2))
    | _ => (win0_5.blk t0_0).view.read (Elt F) (m ((c : Thread nD τ).loc main_arg3))
  wo l c := match l with
    | 0 => (win0_2.blk t0_0).view.read (Elt F) (m ((c : Thread nD τ).loc main_arg4))
    | 1 => (win0_4.blk t0_0).view.read (Elt F) (m ((c : Thread nD τ).loc main_arg5))
    | _ => (win0_6.blk t0_0).view.read (Elt F) (m ((c : Thread nD τ).loc main_arg6))

/-- What a device holds beside its windows before the body and after it. -/
def pre (c : Dev nD) : sProp 𝕄 := iprop(Ctx (inp m) ∗ kit (F := F) c)
def Φ₀ (c : Dev nD) : sProp 𝕄 := iprop(pre m c ∗ bufs (F := F) c)
def Φ₁ (c : Dev nD) : sProp 𝕄 := iprop(bufs (F := F) c ∗ zeros (F := F) c)

def dats (_ : Fin 1) (c : Dev nD) : Dat τ (Elt F) ℕ ℕ UU ℕ cfg0 c where
  A w := (sInit m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => resC (inp m) c
  Φ t := match t with
    | ⟨0, _⟩ => Φ₀ m c
    | ⟨_ + 1, _⟩ => Φ₁ (F := F) c
  q _ := fullShare
  owed t := match t with
    | ⟨0, _⟩ => owed c 0
    | ⟨_ + 1, _⟩ => 0

/-! ## The body at the one point -/

omit [FloatOps F] in
theorem whole_owns (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's buffer at given contents. -/
abbrev wbuf (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 100000 in
def bodyPre (c : Dev nD) : sProp 𝕄 :=
  iprop(Φ₀ m c ∗ (dats m ρ 0 c).owesAt 0 t0_0.castSucc
    ∗ (∃ d, wbuf c cc0_stg0_0 ((dats m ρ 0 c).before (0 : Fin 8) t0_0 d))
    ∗ (∃ d, wbuf c cc0_stg1_0 ((dats m ρ 0 c).before (1 : Fin 8) t0_0 d))
    ∗ (∃ d, wbuf c cc0_stg2_0 ((dats m ρ 0 c).before (2 : Fin 8) t0_0 d))
    ∗ (∃ d, wbuf c cc0_stg3_0 ((dats m ρ 0 c).before (3 : Fin 8) t0_0 d))
    ∗ (∃ d, wbuf c cc0_stg4_0 ((dats m ρ 0 c).before (4 : Fin 8) t0_0 d))
    ∗ (∃ d, wbuf c cc0_stg5_0 ((dats m ρ 0 c).before (5 : Fin 8) t0_0 d))
    ∗ (∃ d, wbuf c cc0_stg6_0 ((dats m ρ 0 c).before (6 : Fin 8) t0_0 d))
    ∗ (∃ d, wbuf c cc0_stg7_0 ((dats m ρ 0 c).before (7 : Fin 8) t0_0 d)))
def bodyPost (c : Dev nD) : sProp 𝕄 :=
  iprop(Φ₁ (F := F) c ∗ (dats m ρ 0 c).owesAt 0 t0_0.succ
    ∗ wbuf c cc0_stg0_0 ((inp m).x c)
    ∗ wbuf c cc0_stg1_0 ((inp m).wi 0 c)
    ∗ wbuf c cc0_stg2_0 ((inp m).wo 0 c)
    ∗ wbuf c cc0_stg3_0 ((inp m).wi 1 c)
    ∗ wbuf c cc0_stg4_0 ((inp m).wo 1 c)
    ∗ wbuf c cc0_stg5_0 ((inp m).wi 2 c)
    ∗ wbuf c cc0_stg6_0 ((inp m).wo 2 c)
    ∗ wbuf c cc0_stg7_0 (resC (inp m) c))

theorem fetch_0 : (cfg0.win (0 : Fin 8)).fetch t0_0 = true := rfl
theorem before_0 (c : Dev nD) (d) : (dats m ρ 0 c).before (0 : Fin 8) t0_0 d = (inp m).x c := by
  unfold Dat.before; rw [if_pos fetch_0]; rfl
theorem fetch_1 : (cfg0.win (1 : Fin 8)).fetch t0_0 = true := rfl
theorem before_1 (c : Dev nD) (d) : (dats m ρ 0 c).before (1 : Fin 8) t0_0 d = (inp m).wi 0 c := by
  unfold Dat.before; rw [if_pos fetch_1]; rfl
theorem fetch_2 : (cfg0.win (2 : Fin 8)).fetch t0_0 = true := rfl
theorem before_2 (c : Dev nD) (d) : (dats m ρ 0 c).before (2 : Fin 8) t0_0 d = (inp m).wo 0 c := by
  unfold Dat.before; rw [if_pos fetch_2]; rfl
theorem fetch_3 : (cfg0.win (3 : Fin 8)).fetch t0_0 = true := rfl
theorem before_3 (c : Dev nD) (d) : (dats m ρ 0 c).before (3 : Fin 8) t0_0 d = (inp m).wi 1 c := by
  unfold Dat.before; rw [if_pos fetch_3]; rfl
theorem fetch_4 : (cfg0.win (4 : Fin 8)).fetch t0_0 = true := rfl
theorem before_4 (c : Dev nD) (d) : (dats m ρ 0 c).before (4 : Fin 8) t0_0 d = (inp m).wo 1 c := by
  unfold Dat.before; rw [if_pos fetch_4]; rfl
theorem fetch_5 : (cfg0.win (5 : Fin 8)).fetch t0_0 = true := rfl
theorem before_5 (c : Dev nD) (d) : (dats m ρ 0 c).before (5 : Fin 8) t0_0 d = (inp m).wi 2 c := by
  unfold Dat.before; rw [if_pos fetch_5]; rfl
theorem fetch_6 : (cfg0.win (6 : Fin 8)).fetch t0_0 = true := rfl
theorem before_6 (c : Dev nD) (d) : (dats m ρ 0 c).before (6 : Fin 8) t0_0 d = (inp m).wo 2 c := by
  unfold Dat.before; rw [if_pos fetch_6]; rfl

theorem sound_body (c : Dev nD) : bodyPre m ρ c
    ⊢ wp frame (wpE (defs₀ (F := F)) 𝒱₀ (c : Thread nD τ) none) Set.univ (cc0_body (F := F) M0 H0 M1 H1 M2 H2 M3 H3 M4 H4 M5 H5 M6 H6 M7 H7 M8 H8 M9 H9 M10 H10 M11 H11 M12 H12 cc0_scratch5 cc0_scratch6 cc0_scratch7 cc0_scratch8 cc0_scratch9 cc0_scratch10 cc0_scoped0) (fun _ => bodyPost m ρ c) := by
  unfold bodyPre Φ₀ pre
  iintro ⟨⟨⟨#HC, HK⟩, HB⟩, Ho, ⟨%d0, %g0, %h0, S0⟩, ⟨%d1, %g1, %h1, S1⟩, ⟨%d2, %g2, %h2, S2⟩, ⟨%d3, %g3, %h3, S3⟩, ⟨%d4, %g4, %h4, S4⟩, ⟨%d5, %g5, %h5, S5⟩, ⟨%d6, %g6, %h6, S6⟩, ⟨%d7, %g7, %h7, S7⟩⟩
  rw [before_0] at h0; subst h0
  rw [before_1] at h1; subst h1
  rw [before_2] at h2; subst h2
  rw [before_3] at h3; subst h3
  rw [before_4] at h4; subst h4
  rw [before_5] at h5; subst h5
  rw [before_6] at h6; subst h6
  unfold Dat.owesAt Pipeline.owesWithin
  icases Ho with ⟨%W, %hW, HO⟩
  iapply (body_all (inp m) c) $$ [HK HB HO S0 S1 S2 S3 S4 S5 S6 S7]
  · isplitr; · iexact HC
    isplitl [HO]
    · unfold Ow; iexists W; iexact HO
    isplitl [HK]; · iexact HK
    isplitl [HB]; · iexact HB
    unfold stagesIn
    isplitl [S0]; · iexact S0
    isplitl [S1]; · iexact S1
    isplitl [S2]; · iexact S2
    isplitl [S3]; · iexact S3
    isplitl [S4]; · iexact S4
    isplitl [S5]; · iexact S5
    isplitl [S6]; · iexact S6
    iexists g7; iexact S7
  unfold Ow stagesOut
  iintro ⟨⟨%W', HO⟩, ⟨S0, S1, S2, S3, S4, S5, S6, S7⟩, HB, HZ⟩
  ihave HO := (Entails.of_eq (congrArg (fun o => (owes (c : Thread nD τ) o W' : sProp 𝕄)) (owed_end c))) $$ HO
  unfold bodyPost Φ₁
  isplitl [HB HZ]
  · isplitl [HB]; · iexact HB
    iexact HZ
  isplitl [HO]
  · unfold Dat.owesAt Pipeline.owesWithin
    iexists W'
    isplitr; · ipureintro; exact fun _ _ => Or.inl trivial
    iexact HO
  isplitl [S0]
  · iexists _; isplitr; · (ipureintro; rfl)
    iexact S0
  isplitl [S1]
  · iexists _; isplitr; · (ipureintro; rfl)
    iexact S1
  isplitl [S2]
  · iexists _; isplitr; · (ipureintro; rfl)
    iexact S2
  isplitl [S3]
  · iexists _; isplitr; · (ipureintro; rfl)
    iexact S3
  isplitl [S4]
  · iexists _; isplitr; · (ipureintro; rfl)
    iexact S4
  isplitl [S5]
  · iexists _; isplitr; · (ipureintro; rfl)
    iexact S5
  isplitl [S6]
  · iexists _; isplitr; · (ipureintro; rfl)
    iexact S6
  iexists _; isplitr; · (ipureintro; rfl)
  iexact S7

set_option maxRecDepth 100000 in
theorem body_obligation (c : Dev nD) : BodyObligation (dats m ρ 0 c) (defs₀ (F := F)) 𝒱₀ 0 Set.univ := fun t => by
  rw [fin_N0 t]
  rw [bigSep_W0, bigSep_W0]
  simp only [whole_owns]
  exact sound_body m ρ c

/-! ## The launch -/

theorem ownSemFacts : Pipeline.OwnSemFacts cfg0.spec osem := by decide +kernel
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf theCells theToks)

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (inp m) c)
      ⊢ |={Set.univ}=> iprop(pre m c ∗ emp) := by
  unfold G' lin pre kit Ctx recs
  iintro ⟨-, Hlev, Hcr, -, HR, Hat, Hp, Hs⟩
  ihave Hc := (creds (F := F) c) $$ Hcr
  imodintro
  isplitl
  · isplitl [HR Hlev]
    · isplitl [HR]; · iexact HR
      iexact Hlev
    isplitl [Hp]; · iexact Hp
    isplitl [Hc]; · iexact Hc
    isplitl [Hs]; · iexact Hs
    iexact Hat
  · iempintro

theorem phi0_intro (c : Dev nD) :
    iprop(pre m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ zeros bufs
  iintro ⟨Hr, HB, HE, HD⟩
  isplitl [HB]; · iexact HB
  isplitl [HE HD]
  · isplitl [HE]; · iexact HE
    iexact HD
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | n, ht⟩
    · exact mayWait c _ 0 0 (by omega) (fun _ => by decide)
    · have h := mayWait (F := F) c (.dma ((cfg0.win w).sem s)) 0 73 (by omega) (fun h => absurd h (by omega))
      rw [owed_end] at h
      exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution ends, with each device's arrays at the contents computed
    here and every counter at zero. -/
theorem run_main : θ_run defs (onTc (τ := τ) (main (F := F))) (sInit m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_cells (inp m)) $$ HX with HG
      imodintro
      isplitl [HP] <;> iassumption)
    (hglob := glob (inp m))
    (hA := fun _ _ => rfl) (hpf := fun _ k => k.elim0)
    (X := pre m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.K

end
-- ==== Proof.Frames.lean ====
/- The frames: what the runs leave unchanged, and every counter back at zero. -/
module

public import proofs.«01_k».proof.Defs
public import proofs.«01_k».proof.Proof.Gen.Kernel
public import proofs.«01_k».proof.Proof.Run
public import proofs.«01_k».proof.Proof.Gen.ReferenceIdeal.Run

@[expose] public section

noncomputable section

namespace Cert.K

open Cert.KernelIdeal Cert.KernelIdeal.Gen
open Idealize.ShloMosaic
open Idealize.ShloMosaic.TcCoe
open Idealize.SL.Sem
open Idealize.ShloMosaic.Pipeline (Dat Cfg Window)

/-! ## The kernel -/

section
variable {F : FTy → Type} [FloatOps F] (m : (ℓ : Loc nD τ sig) → Buf (Elt F) ℓ) (ρ : Dev nD → PrngReg)

/-- A window that is only read leaves its array as it was. -/
theorem final_in (c : Dev nD) (w : Fin cfg0.W) (hw : (cfg0.win w).isOut = false) :
    finalA m ρ c w = m ((cfg0.win w).arr.view.loc (c : Thread nD τ)) := (dats m ρ 0 c).arrAt_in w hw _

/-- What the run says of the arguments' arrays. -/
theorem kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c 0).trans (final_in m ρ c 0 rfl), (h c 1).trans (final_in m ρ c 1 rfl), (h c 3).trans (final_in m ρ c 3 rfl), (h c 5).trans (final_in m ρ c 5 rfl),
    (h c 2).trans (final_in m ρ c 2 rfl), (h c 4).trans (final_in m ρ c 4 rfl), (h c 6).trans (final_in m ρ c 6 rfl)⟩

/-- The frame at any float values. -/
theorem frame_any : θ_run Cert.KernelIdeal.defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun _ h => ⟨kept m ρ h.1, h.2⟩) (run_main m ρ)

end

theorem frame_kernelIdeal : Cert.quiescent_KernelIdeal := fun m ρ _ => frame_any (F := Ideal) m ρ

/-- The two printed programs have one table of bodies. -/
theorem defs_kernel : Cert.Kernel.defs (F := Bits) = Cert.KernelIdeal.defs (F := Bits) := by sl_kernel_rfl

/-- The two printed programs have one launch. -/
theorem main_kernel : Cert.Kernel.main (F := Bits) = Cert.KernelIdeal.main (F := Bits) := by sl_kernel_rfl

theorem frame_kernel : Cert.quiescent_Kernel := fun m ρ _ => by
  have h := frame_any (F := Bits) m ρ
  rw [← defs_kernel, ← main_kernel] at h
  exact h

/-! ## The reference -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.K

end
-- ==== Proof.Sums.lean ====
/- What one device computes in one layer over the reals, read element by element. -/
module

public import proofs.«01_k».proof.Proof.Sched
public import Idealize.ShloMosaic.Lib.Pointwise

@[expose] public section

noncomputable section

open scoped BigOperators

namespace Cert.K

open Cert.KernelIdeal Cert.KernelIdeal.Gen
open Idealize.ShloMosaic

set_option maxRecDepth 16384

variable (I : Inp Ideal)

/-- The sum, over the hidden units whose weights `W` and `O` hold, of a row `y` of activations. -/
def part (W : Fin 128 → Fin 1024 → EReal) (O : Fin 1024 → Fin 128 → EReal) (y : Fin 128 → EReal) (j : Fin 128) : EReal :=
  ∑ k : Fin 1024, max (∑ q : Fin 128, y q * W q k) 0 * O k j

theorem own_apply (l : ℕ) (X : Dev nD → Vec Ideal S1x128x128 .bf16) (c : Dev nD) (i j : Fin 128) :
    ownP I l X c (ix2 i j) = part (fun q k => winL I l c (ix3 (0 : Fin 1) q k)) (fun k j => woutL I l c (ix3 (0 : Fin 1) k j))
      (fun q => X c (ix3 (0 : Fin 1) i q)) j := by
  unfold ownP part
  pointwise [k0_pay12, k0_pay11, k0_pay10, k0_pay9]

theorem partA_apply (l : ℕ) (X : Dev nD → Vec Ideal S1x128x128 .bf16) (c : Dev nD) (s : Fin 3) (i j : Fin 128) :
    partA I l X c (ix3 s i j) = part (fun q k => winL I l c (ix3 (0 : Fin 1) q k)) (fun k j => woutL I l c (ix3 (0 : Fin 1) k j))
      (fun q => slotsC 1 3 (xqC X c) (ix3 s i q)) j := by
  unfold partA part
  pointwise [k0_pay13, k0_pay10, k0_pay9]

theorem partB_apply (l : ℕ) (X : Dev nD → Vec Ideal S1x128x128 .bf16) (c : Dev nD) (s : Fin 4) (i j : Fin 128) :
    partB I l X c (ix3 s i j) = part (fun q k => winL I l c (ix3 (0 : Fin 1) q k)) (fun k j => woutL I l c (ix3 (0 : Fin 1) k j))
      (fun q => slotsC 4 4 (xqC X c) (ix3 s i q)) j := by
  unfold partB part
  pointwise [k0_pay14, k0_pay10, k0_pay9]

theorem acc_apply (l : ℕ) (X : Dev nD → Vec Ideal S1x128x128 .bf16) (c : Dev nD) (i j : Fin 128) :
    accC I l X c (ix2 i j) = ownP I l X c (ix2 i j) + ∑ s : Fin 7, slotsC 1 7 (rsC I l X c) (ix3 s i j) := by
  unfold accC
  pointwise [k0_pay15]

theorem act_zero (c : Dev nD) (i j : Fin 128) : actC I 0 c (ix3 (0 : Fin 1) i j) = I.x c (ix2 i j) := by
  show k0_pay8 (I.x c) (ix3 (0 : Fin 1) i j) = _
  pointwise [k0_pay8]

theorem act_succ (l : ℕ) (c : Dev nD) (i j : Fin 128) :
    actC I (l + 1) c (ix3 (0 : Fin 1) i j) = accC I l (actC I l) c (ix2 i j) := by
  show k0_pay16 (accC I l (actC I l) c) (ix3 (0 : Fin 1) i j) = _
  pointwise [k0_pay16]

/-- The weights a device gathers, by the device they come from. -/
theorem win_apply (l : ℕ) (hl : l < 3) (c : Dev nD) (q : Fin 128) (k : Fin 1024) :
    winL I l c (ix3 (0 : Fin 1) q k) = I.wi l (colDev c (k.val / 256)) (ix2 q (⟨k.val % 256, Nat.mod_lt _ (by decide)⟩ : Fin 256)) := by
  show k0_pay1 (I.wi (l % 3) (colDev c (k.val / 256))) (ix3 (0 : Fin 1) q (⟨k.val % 256, Nat.mod_lt _ (by decide)⟩ : Fin 256)) = _
  rw [Nat.mod_eq_of_lt hl]
  pointwise [k0_pay1]

theorem wout_apply (l : ℕ) (hl : l < 3) (c : Dev nD) (k : Fin 1024) (j : Fin 128) :
    woutL I l c (ix3 (0 : Fin 1) k j) = I.wo l (colDev c (k.val / 256)) (ix2 (⟨k.val % 256, Nat.mod_lt _ (by decide)⟩ : Fin 256) j) := by
  show k0_pay2 (I.wo (l % 3) (colDev c (k.val / 256))) (ix3 (0 : Fin 1) (⟨k.val % 256, Nat.mod_lt _ (by decide)⟩ : Fin 256) j) = _
  rw [Nat.mod_eq_of_lt hl]
  pointwise [k0_pay2]

/-! ## One layer of one device -/

/-- What device `d` adds, in layer `l`, to element `j` of the sum over a row `y` of activations. -/
def share (l : ℕ) (d : Dev nD) (y : Fin 128 → EReal) (j : Fin 128) : EReal :=
  part (fun q k => winL I l d (ix3 (0 : Fin 1) q k)) (fun k j => woutL I l d (ix3 (0 : Fin 1) k j)) y j

theorem xq_slot (X : Dev nD → Vec Ideal S1x128x128 .bf16) (c : Dev nD) (a n s : ℕ) (h : a + s < 8) (hs : s < n) (i q : Fin 128) :
    slotsC a n (xqC X (row c (a + s))) (ix3 (⟨s, hs⟩ : Fin n) i q) = X c (ix3 (0 : Fin 1) i q) := by
  show X (row (row c (a + s)) (8 - (a + s) % 8)) (ValueIdx.ix3 (0 : Fin 1) i q) = _
  rw [Nat.mod_eq_of_lt h, row_row c (a + s) (8 - (a + s)) (by omega)]
  rfl

/-- The partial sum that device `c` receives from the device `s + 1` places after it. -/
theorem rs_slot (l : ℕ) (X : Dev nD → Vec Ideal S1x128x128 .bf16) (c : Dev nD) (s : Fin 7) (i j : Fin 128) :
    slotsC 1 7 (rsC I l X c) (ix3 s i j) = share I l (row c (s.val + 1)) (fun q => X c (ix3 (0 : Fin 1) i q)) j := by
  have h8 : (1 + s.val) % 8 = s.val + 1 := by have := s.isLt; omega
  show partC I l X (row c ((1 + s.val) % 8)) (ValueIdx.ix3 (⟨(1 + s.val) % 8, _⟩ : Fin 8) i j) = _
  unfold partC
  by_cases h : s.val < 3
  · rw [if_pos (show (1 + s.val) % 8 < 4 by omega)]
    show partA I l X (row c ((1 + s.val) % 8)) (ix3 (⟨((1 + s.val) % 8 - 1) % 3, _⟩ : Fin 3) i j) = _
    have e : (⟨((1 + s.val) % 8 - 1) % 3, Nat.mod_lt _ (by decide)⟩ : Fin 3) = ⟨s.val, h⟩ := Fin.ext (by show ((1 + s.val) % 8 - 1) % 3 = s.val; omega)
    rw [e, partA_apply, h8, Nat.add_comm s.val 1]
    unfold share
    congr 1
    funext q
    exact xq_slot X c 1 3 s.val (by omega) h i q
  · have hs : s.val - 3 < 4 := by have := s.isLt; omega
    rw [if_neg (show ¬ (1 + s.val) % 8 < 4 by omega)]
    show partB I l X (row c ((1 + s.val) % 8)) (ix3 (⟨((1 + s.val) % 8 - 4) % 4, _⟩ : Fin 4) i j) = _
    have e : (⟨((1 + s.val) % 8 - 4) % 4, Nat.mod_lt _ (by decide)⟩ : Fin 4) = ⟨s.val - 3, hs⟩ := Fin.ext (by show ((1 + s.val) % 8 - 4) % 4 = s.val - 3; have := s.isLt; omega)
    have e' : s.val + 1 = 4 + (s.val - 3) := by omega
    rw [e, partB_apply, h8, e']
    unfold share
    congr 1
    funext q
    exact xq_slot X c 4 4 (s.val - 3) (by omega) hs i q

/-- A device's sum of one layer adds up the shares of its row's eight devices. -/
theorem acc_row (l : ℕ) (X : Dev nD → Vec Ideal S1x128x128 .bf16) (c : Dev nD) (i j : Fin 128) :
    accC I l X c (ix2 i j) = ∑ r : Fin 8, share I l (row c r.val) (fun q => X c (ix3 (0 : Fin 1) i q)) j := by
  have e : share I l c (fun q => X c (ix3 (0 : Fin 1) i q)) j = share I l (row c ((0 : Fin 8) : ℕ)) (fun q => X c (ix3 (0 : Fin 1) i q)) j :=
    congrArg (fun d => share I l d (fun q => X c (ix3 (0 : Fin 1) i q)) j) (row_zero c).symm
  rw [acc_apply, own_apply, Fin.sum_univ_succ (fun r : Fin 8 => share I l (row c r.val) (fun q => X c (ix3 (0 : Fin 1) i q)) j)]
  exact congrArg₂ (· + ·) e (Finset.sum_congr rfl fun s _ => rs_slot I l X c s i j)

/-! ## The blocks of the whole arrays -/

/-- Every device's arguments are its blocks of whole arrays: rows of the activations, columns of the input-side
    weights, rows of the output-side weights. -/
structure Blocks (XX : (⟨2, ![4096, 128]⟩ : Shape).Idx → EReal) (WI : ℕ → (⟨2, ![128, 8192]⟩ : Shape).Idx → EReal)
    (WO : ℕ → (⟨2, ![8192, 128]⟩ : Shape).Idx → EReal) : Prop where
  x : ∀ (d : Dev nD) (i q : Fin 128) (n : Fin 4096), n.val = 128 * d.val + i.val → I.x d (ix2 i q) = XX (ix2 n q)
  wi : ∀ (l : ℕ) (d : Dev nD) (q : Fin 128) (t : Fin 256) (k : Fin 8192), l < 3 → k.val = 256 * d.val + t.val → I.wi l d (ix2 q t) = WI l (ix2 q k)
  wo : ∀ (l : ℕ) (d : Dev nD) (t : Fin 256) (j : Fin 128) (k : Fin 8192), l < 3 → k.val = 256 * d.val + t.val → I.wo l d (ix2 t j) = WO l (ix2 k j)

/-- Hidden unit `k` of those that the device `r` places after `c` in its row holds, among all. -/
def unitOf (c : Dev nD) (p : Fin 8 × Fin 1024) : Fin 8192 :=
  ⟨256 * (8 * (p.2.val / 256) + (c.val % 8 + p.1.val) % 8) + p.2.val % 256, by have := p.2.isLt; omega⟩

theorem unitOf_bijective (c : Dev nD) : Function.Bijective (unitOf c) := by
  refine (Fintype.bijective_iff_injective_and_card _).2 ⟨?_, by simp⟩
  rintro ⟨r, k⟩ ⟨r', k'⟩ h
  have h' := congrArg Fin.val h
  simp only [unitOf] at h'
  have := r.isLt; have := r'.isLt; have := k.isLt; have := k'.isLt
  have hk : k.val = k'.val := by omega
  have hr : r.val = r'.val := by omega
  exact Prod.ext (Fin.ext hr) (Fin.ext hk)

/-- One layer on whole arrays. -/
def layer (W : (⟨2, ![128, 8192]⟩ : Shape).Idx → EReal) (O : (⟨2, ![8192, 128]⟩ : Shape).Idx → EReal)
    (x : (⟨2, ![4096, 128]⟩ : Shape).Idx → EReal) : (⟨2, ![4096, 128]⟩ : Shape).Idx → EReal :=
  fun i => ∑ k : Fin 8192, max (∑ q : Fin 128, x (ix2 (i 0) q) * W (ix2 q k)) 0 * O (ix2 k (i 1))

section
variable {XX : (⟨2, ![4096, 128]⟩ : Shape).Idx → EReal} {WI : ℕ → (⟨2, ![128, 8192]⟩ : Shape).Idx → EReal}
  {WO : ℕ → (⟨2, ![8192, 128]⟩ : Shape).Idx → EReal}

theorem share_sum (B : Blocks I XX WI WO) (l : ℕ) (hl : l < 3) (c : Dev nD) (r : Fin 8) (y : Fin 128 → EReal) (j : Fin 128) :
    share I l (row c r.val) y j
      = ∑ k : Fin 1024, max (∑ q : Fin 128, y q * WI l (ix2 q (unitOf c (r, k)))) 0 * WO l (ix2 (unitOf c (r, k)) j) := by
  unfold share part
  refine Finset.sum_congr rfl fun k _ => ?_
  have hv : (unitOf c (r, k)).val = 256 * (colDev (row c r.val) (k.val / 256)).val + k.val % 256 := by
    show 256 * (8 * (k.val / 256) + (c.val % 8 + r.val) % 8) + k.val % 256
      = 256 * (8 * (k.val / 256 % 4) + (8 * (c.val / 8) + (c.val % 8 + r.val) % 8) % 8) + k.val % 256
    have := k.isLt; omega
  have hI : ∀ q : Fin 128, winL I l (row c r.val) (ix3 (0 : Fin 1) q k) = WI l (ix2 q (unitOf c (r, k))) := fun q =>
    (win_apply I l hl _ q k).trans (B.wi l _ q _ _ hl hv)
  have hO : woutL I l (row c r.val) (ix3 (0 : Fin 1) k j) = WO l (ix2 (unitOf c (r, k)) j) :=
    (wout_apply I l hl _ k j).trans (B.wo l _ _ j _ hl hv)
  simp only [hI, hO]

/-- If the activations that a device holds are its rows of the whole, so is what it makes of them. -/
theorem acc_layer (B : Blocks I XX WI WO) (l : ℕ) (hl : l < 3) (X : Dev nD → Vec Ideal S1x128x128 .bf16) (Y : (⟨2, ![4096, 128]⟩ : Shape).Idx → EReal)
    (c : Dev nD) (i j : Fin 128) (n : Fin 4096) (hX : ∀ q : Fin 128, X c (ix3 (0 : Fin 1) i q) = Y (ix2 n q)) :
    accC I l X c (ix2 i j) = layer (WI l) (WO l) Y (ix2 n j) := by
  rw [acc_row]
  simp only [share_sum I B l hl, hX]
  rw [← Fintype.sum_prod_type' (f := fun r k => max (∑ q : Fin 128, Y (ix2 n q) * WI l (ix2 q (unitOf c (r, k)))) 0 * WO l (ix2 (unitOf c (r, k)) j))]
  exact Fintype.sum_bijective (unitOf c) (unitOf_bijective c) _ _ fun _ => rfl

/-- The activations entering layer `l`, of the whole. -/
def whole (XX : (⟨2, ![4096, 128]⟩ : Shape).Idx → EReal) (WI : ℕ → (⟨2, ![128, 8192]⟩ : Shape).Idx → EReal)
    (WO : ℕ → (⟨2, ![8192, 128]⟩ : Shape).Idx → EReal) : ℕ → (⟨2, ![4096, 128]⟩ : Shape).Idx → EReal
  | 0 => XX
  | l + 1 => layer (WI l) (WO l) (whole XX WI WO l)

theorem act_whole (B : Blocks I XX WI WO) (c : Dev nD) (i : Fin 128) (n : Fin 4096) (hn : n.val = 128 * c.val + i.val) :
    ∀ l, l ≤ 3 → ∀ j : Fin 128, actC I l c (ix3 (0 : Fin 1) i j) = whole XX WI WO l (ix2 n j)
  | 0, _, j => (act_zero I c i j).trans (B.x c i j n hn)
  | l + 1, hl, j => (act_succ I l c i j).trans
      (acc_layer I B l (by omega) (actC I l) (whole XX WI WO l) c i j n fun q => act_whole B c i n hn l (by omega) q)

/-- The kernel's result on a device: its rows of the third layer's. -/
theorem res_whole (B : Blocks I XX WI WO) (c : Dev nD) (i j : Fin 128) (n : Fin 4096) (hn : n.val = 128 * c.val + i.val) :
    resC I c (ix2 i j) = whole XX WI WO 3 (ix2 n j) :=
  acc_layer I B 2 (by omega) (actC I 2) (whole XX WI WO 2) c i j n fun q => act_whole I B c i n hn 2 (by omega) q

end

end Cert.K

end
-- ==== Proof.Value.lean ====
/- The kernel's result array over the reals, device by device, and the reference's. -/
module

public import proofs.«01_k».proof.Proof.Sums
public import proofs.«01_k».proof.Proof.Frames
public import proofs.«01_k».proof.Proof.Gen.ReferenceIdeal.Run
public import Idealize.ShloMosaic.Lib.Pipeline.Value
public import Idealize.ShloMosaic.Lib.Layout

@[expose] public section

noncomputable section

open scoped BigOperators

namespace Cert.K

open Cert.KernelIdeal Cert.KernelIdeal.Gen
open Idealize.ShloMosaic
open Idealize.ShloMosaic.TcCoe
open Idealize.SL.Sem
open Idealize.ShloMosaic.Pipeline (Dat Cfg Window)

/-! ## The windows are whole arrays -/

section
variable {F : FTy → Type} [FloatOps F]

omit [FloatOps F] in
theorem read_win0 (f : main_arg0.ty.Contents (Elt F)) : (win0_0.blk t0_0).view.read (Elt F) f = f :=
  Memref.read_access_unit_zero (Elt F) main_arg0 (funext fun a => Nat.zero_mul _) _ f
omit [FloatOps F] in
theorem read_win1 (f : main_arg1.ty.Contents (Elt F)) : (win0_1.blk t0_0).view.read (Elt F) f = f :=
  Memref.read_access_unit_zero (Elt F) main_arg1 (funext fun a => Nat.zero_mul _) _ f
omit [FloatOps F] in
theorem read_win2 (f : main_arg4.ty.Contents (Elt F)) : (win0_2.blk t0_0).view.read (Elt F) f = f :=
  Memref.read_access_unit_zero (Elt F) main_arg4 (funext fun a => Nat.zero_mul _) _ f
omit [FloatOps F] in
theorem read_win3 (f : main_arg2.ty.Contents (Elt F)) : (win0_3.blk t0_0).view.read (Elt F) f = f :=
  Memref.read_access_unit_zero (Elt F) main_arg2 (funext fun a => Nat.zero_mul _) _ f
omit [FloatOps F] in
theorem read_win4 (f : main_arg5.ty.Contents (Elt F)) : (win0_4.blk t0_0).view.read (Elt F) f = f :=
  Memref.read_access_unit_zero (Elt F) main_arg5 (funext fun a => Nat.zero_mul _) _ f
omit [FloatOps F] in
theorem read_win5 (f : main_arg3.ty.Contents (Elt F)) : (win0_5.blk t0_0).view.read (Elt F) f = f :=
  Memref.read_access_unit_zero (Elt F) main_arg3 (funext fun a => Nat.zero_mul _) _ f
omit [FloatOps F] in
theorem read_win6 (f : main_arg6.ty.Contents (Elt F)) : (win0_6.blk t0_0).view.read (Elt F) f = f :=
  Memref.read_access_unit_zero (Elt F) main_arg6 (funext fun a => Nat.zero_mul _) _ f
omit [FloatOps F] in
theorem read_win7 (f : main_v1.ty.Contents (Elt F)) : (win0_7.blk t0_0).view.read (Elt F) f = f :=
  Memref.read_access_unit_zero (Elt F) main_v1 (funext fun a => Nat.zero_mul _) _ f

omit [FloatOps F] in
theorem set_win7 (i : main_v1.ty.Idx) : i ∈ (win0_7.blk t0_0).view.set := by
  show i ∈ ((View.whole main_v1).slice (win0_7.rect t0_0)).set
  rw [View.set_slice_whole, Rect.mem_set_unit]
  intro a
  have h := (i a).isLt
  exact ⟨by show 0 * _ ≤ _; omega, by show _ < 0 * _ + _; rw [Nat.zero_mul, Nat.zero_add]; exact h⟩

variable (m : (ℓ : Loc nD τ sig) → Buf (Elt F) ℓ) (ρ : Dev nD → PrngReg)

theorem point_eq (t : Fin cfg0.N) : t = t0_0 := Fin.ext (by have h := t.isLt; have : cfg0.N = 1 := N_0; show t.val = 0; omega)

/-- The result array ends holding what the body leaves in its window. -/
theorem final_out (c : Dev nD) : finalA m ρ c 7 = resC (inp m) c :=
  (dats m ρ 0 c).arrAt_eq_of_cover 7 (resC (inp m) c)
    (fun t _ => by
      obtain rfl := point_eq t
      show (cfg0.win 7).cut (grid0.coords t0_0) ((dats m ρ 0 c).after 7 t0_0) = _
      exact (read_win7 (resC (inp m) c)).symm)
    fun i => ⟨t0_0, flush0_7 t0_0, set_win7 i⟩

/-- What the run says of the result array. -/
theorem result_eq {r : PUnit × MemSt nD τ sig (Elt F)} (h : QC m ρ r) (c : Dev nD) :
    r.2.mem ((c.tc : Thread nD τ).loc main_v1) = resC (inp m) c := (h c 7).trans (final_out m ρ c)

end

/-! ## The arguments as blocks -/

section
variable (m : (ℓ : Loc nD τ sig) → Buf (Elt Ideal) ℓ)

/-- Layer `l`'s array among three. -/
def pick {α : Type} (a b c : α) (l : ℕ) : α := match l with
  | 0 => a
  | 1 => b
  | _ => c

theorem cols_apply (d : Dev nD) (A : (⟨2, ![128, 8192]⟩ : Shape).Idx → EReal) (q : Fin 128) (t : Fin 256) (k : Fin 8192) (h : k.val = 256 * d.val + t.val) :
    Layout.block ⟨2, ![128, 256]⟩ ⟨2, ![128, 8192]⟩ 1 32 d A (by decide) (ix2 q t) = A (ix2 q k) := by
  refine congrArg A (funext fun a => Fin.ext ?_)
  match a with
  | ⟨0, _⟩ => rfl
  | ⟨1, _⟩ => show d.val * 256 + t.val = k.val; omega

theorem rows_apply (d : Dev nD) (A : (⟨2, ![8192, 128]⟩ : Shape).Idx → EReal) (t : Fin 256) (j : Fin 128) (k : Fin 8192) (h : k.val = 256 * d.val + t.val) :
    Layout.block ⟨2, ![256, 128]⟩ ⟨2, ![8192, 128]⟩ 0 32 d A (by decide) (ix2 t j) = A (ix2 k j) := by
  refine congrArg A (funext fun a => Fin.ext ?_)
  match a with
  | ⟨0, _⟩ => show d.val * 256 + t.val = k.val; omega
  | ⟨1, _⟩ => rfl

theorem acts_apply (d : Dev nD) (A : (⟨2, ![4096, 128]⟩ : Shape).Idx → EReal) (i q : Fin 128) (n : Fin 4096) (h : n.val = 128 * d.val + i.val) :
    Layout.block ⟨2, ![128, 128]⟩ ⟨2, ![4096, 128]⟩ 0 32 d A (by decide) (ix2 i q) = A (ix2 n q) := by
  refine congrArg A (funext fun a => Fin.ext ?_)
  match a with
  | ⟨0, _⟩ => show d.val * 128 + i.val = n.val; omega
  | ⟨1, _⟩ => rfl

variable (A0 : (⟨2, ![4096, 128]⟩ : Shape).Idx → EReal) (A1 A2 A3 : (⟨2, ![128, 8192]⟩ : Shape).Idx → EReal)
  (A4 A5 A6 : (⟨2, ![8192, 128]⟩ : Shape).Idx → EReal)

/-- The launch memory holds blocks of whole arrays. -/
structure Holds : Prop where
  a0 : ∀ c : Dev nD, m ((c : Thread nD τ).loc main_arg0) = Layout.block ⟨2, ![128, 128]⟩ ⟨2, ![4096, 128]⟩ 0 32 c A0
  a1 : ∀ c : Dev nD, m ((c : Thread nD τ).loc main_arg1) = Layout.block ⟨2, ![128, 256]⟩ ⟨2, ![128, 8192]⟩ 1 32 c A1
  a2 : ∀ c : Dev nD, m ((c : Thread nD τ).loc main_arg2) = Layout.block ⟨2, ![128, 256]⟩ ⟨2, ![128, 8192]⟩ 1 32 c A2
  a3 : ∀ c : Dev nD, m ((c : Thread nD τ).loc main_arg3) = Layout.block ⟨2, ![128, 256]⟩ ⟨2, ![128, 8192]⟩ 1 32 c A3
  a4 : ∀ c : Dev nD, m ((c : Thread nD τ).loc main_arg4) = Layout.block ⟨2, ![256, 128]⟩ ⟨2, ![8192, 128]⟩ 0 32 c A4
  a5 : ∀ c : Dev nD, m ((c : Thread nD τ).loc main_arg5) = Layout.block ⟨2, ![256, 128]⟩ ⟨2, ![8192, 128]⟩ 0 32 c A5
  a6 : ∀ c : Dev nD, m ((c : Thread nD τ).loc main_arg6) = Layout.block ⟨2, ![256, 128]⟩ ⟨2, ![8192, 128]⟩ 0 32 c A6

variable {m A0 A1 A2 A3 A4 A5 A6}

theorem blocks_inp (H : Holds m A0 A1 A2 A3 A4 A5 A6) : Blocks (inp m) A0 (pick A1 A2 A3) (pick A4 A5 A6) where
  x d i q n h := by
    show (win0_0.blk t0_0).view.read (Elt Ideal) (m ((d : Thread nD τ).loc main_arg0)) (ix2 i q) = _
    rw [read_win0, H.a0]; exact acts_apply d A0 i q n h
  wi l d q t k hl h := by
    match l, hl with
    | 0, _ =>
      show (win0_1.blk t0_0).view.read (Elt Ideal) (m ((d : Thread nD τ).loc main_arg1)) (ix2 q t) = _
      rw [read_win1, H.a1]; exact cols_apply d A1 q t k h
    | 1, _ =>
      show (win0_3.blk t0_0).view.read (Elt Ideal) (m ((d : Thread nD τ).loc main_arg2)) (ix2 q t) = _
      rw [read_win3, H.a2]; exact cols_apply d A2 q t k h
    | 2, _ =>
      show (win0_5.blk t0_0).view.read (Elt Ideal) (m ((d : Thread nD τ).loc main_arg3)) (ix2 q t) = _
      rw [read_win5, H.a3]; exact cols_apply d A3 q t k h
  wo l d t j k hl h := by
    match l, hl with
    | 0, _ =>
      show (win0_2.blk t0_0).view.read (Elt Ideal) (m ((d : Thread nD τ).loc main_arg4)) (ix2 t j) = _
      rw [read_win2, H.a4]; exact rows_apply d A4 t j k h
    | 1, _ =>
      show (win0_4.blk t0_0).view.read (Elt Ideal) (m ((d : Thread nD τ).loc main_arg5)) (ix2 t j) = _
      rw [read_win4, H.a5]; exact rows_apply d A5 t j k h
    | 2, _ =>
      show (win0_6.blk t0_0).view.read (Elt Ideal) (m ((d : Thread nD τ).loc main_arg6)) (ix2 t j) = _
      rw [read_win6, H.a6]; exact rows_apply d A6 t j k h

/-- A device's result is its block of the three layers on the whole arrays. -/
theorem res_block (H : Holds m A0 A1 A2 A3 A4 A5 A6) (c : Dev nD) :
    resC (inp m) c = Layout.block ⟨2, ![128, 128]⟩ ⟨2, ![4096, 128]⟩ 0 32 c (layer A3 A6 (layer A2 A5 (layer A1 A4 A0))) := by
  funext y
  obtain ⟨i, j, rfl⟩ : ∃ (i j : Fin 128), y = ix2 i j := ⟨y 0, y 1, eq_ix2 y⟩
  have hn : 128 * c.val + i.val < 4096 := by have := c.isLt; have : nD = 32 := rfl; omega
  exact (res_whole (inp m) (blocks_inp H) c i j ⟨128 * c.val + i.val, hn⟩ rfl).trans
    (acts_apply c _ i j ⟨128 * c.val + i.val, hn⟩ rfl).symm

end

/-! ## The reference -/

/-- One layer of the reference's text. -/
theorem ref_layer (x : FVec Ideal Cert.ReferenceIdeal.S4096x128 .f32) (W : FVec Ideal Cert.ReferenceIdeal.S128x8192 .f32) (O : FVec Ideal Cert.ReferenceIdeal.S8192x128 .f32) :
    Host.dotGeneral Cert.ReferenceIdeal.dot_S4096x8192_S8192x128_S4096x128_1_0_0_1_n_n none
      (maximumf (Host.dotGeneral Cert.ReferenceIdeal.dot_S4096x128_S128x8192_S4096x8192_1_0_0_1_n_n none x W)
        (broadcastInDim Cert.ReferenceIdeal.S4096x8192 ![] Cert.ReferenceIdeal.Facts₀.bcast_S_S4096x8192 (constant Cert.ReferenceIdeal.S_ .f32 0x00000000#32))) O
      = layer W O x := by
  funext i
  unfold layer
  pointwise

end Cert.K

end
-- ==== Proof.Agree.lean ====
/- The kernel computes the reference over the reals. -/
module

public import proofs.«01_k».proof.Proof.Value

@[expose] public section

noncomputable section

namespace Cert.K

open Cert.KernelIdeal Cert.KernelIdeal.Gen
open Idealize.ShloMosaic
open Idealize.ShloMosaic.TcCoe
open Idealize.SL.Sem

/-- The reference's text, three layers deep. -/
theorem ref_layers (x : FVec Ideal Cert.ReferenceIdeal.S4096x128 .f32) (W₀ W₁ W₂ : FVec Ideal Cert.ReferenceIdeal.S128x8192 .f32)
    (O₀ O₁ O₂ : FVec Ideal Cert.ReferenceIdeal.S8192x128 .f32) (B : FVec Ideal Cert.ReferenceIdeal.S4096x8192 .f32)
    (hB : B = broadcastInDim Cert.ReferenceIdeal.S4096x8192 ![] Cert.ReferenceIdeal.Facts₀.bcast_S_S4096x8192 (constant Cert.ReferenceIdeal.S_ .f32 0x00000000#32)) :
    Host.dotGeneral Cert.ReferenceIdeal.dot_S4096x8192_S8192x128_S4096x128_1_0_0_1_n_n none
      (maximumf (Host.dotGeneral Cert.ReferenceIdeal.dot_S4096x128_S128x8192_S4096x8192_1_0_0_1_n_n none
        (Host.dotGeneral Cert.ReferenceIdeal.dot_S4096x8192_S8192x128_S4096x128_1_0_0_1_n_n none
          (maximumf (Host.dotGeneral Cert.ReferenceIdeal.dot_S4096x128_S128x8192_S4096x8192_1_0_0_1_n_n none
            (Host.dotGeneral Cert.ReferenceIdeal.dot_S4096x8192_S8192x128_S4096x128_1_0_0_1_n_n none
              (maximumf (Host.dotGeneral Cert.ReferenceIdeal.dot_S4096x128_S128x8192_S4096x8192_1_0_0_1_n_n none x W₀) B) O₀) W₁) B) O₁) W₂) B) O₂
      = layer W₂ O₂ (layer W₁ O₁ (layer W₀ O₀ x)) := by
  subst hB
  rw [ref_layer, ref_layer, ref_layer]

theorem algebraic : Cert.algebraic_KernelIdeal_ReferenceIdeal := fun m g m' g' _ h =>
  ⟨_, (θ_run Cert.KernelIdeal.defs _ _).mono
      (fun _ q c => ⟨(result_eq m g q.1 c).trans (res_block
        { a0 := fun c => (h c).1, a1 := fun c => (h c).2.1, a2 := fun c => (h c).2.2.1, a3 := fun c => (h c).2.2.2.1,
          a4 := fun c => (h c).2.2.2.2.1, a5 := fun c => (h c).2.2.2.2.2.1, a6 := fun c => (h c).2.2.2.2.2.2 } c), kept m g q.1 c⟩)
      (run_main m g),
    (θ_run Cert.ReferenceIdeal.defs _ _).mono
      (fun _ q => ⟨(q 0).1.trans (ref_layers _ _ _ _ _ _ _ _ rfl), (q 0).2⟩)
      (Cert.ReferenceIdeal.Value.run (F := Ideal) m' g')⟩

end Cert.K

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.K.frame_kernel, Cert.K.frame_kernelIdeal, Cert.K.frame_reference, trivial, Cert.K.algebraic⟩

end Cert.Proof

end
